-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_smooth_gates [hPre_smooth_gates : Cert.Pre_smooth_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_smooth_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_smooth_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_smooth_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_smooth_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_smooth_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_smooth_gates [hPre_smooth_gates : Cert.Pre_smooth_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_smooth_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_smooth_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_smooth_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_smooth_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_smooth_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_step [hPre_finite_step : Cert.Pre_finite_step.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_step.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_step [hPre_finite_step : Cert.Pre_finite_step.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_step.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_smooth_gates [hKernel2Ideal : Cert.Kernel2Ideal.Facts] [hPre_smooth_gates : Cert.Pre_smooth_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_smooth_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_smooth_gates [hReference2Ideal : Cert.Reference2Ideal.Facts] [hPre_smooth_gates : Cert.Pre_smooth_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_smooth_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_finite_step [hKernel4Ideal : Cert.Kernel4Ideal.Facts] [hPre_finite_step : Cert.Pre_finite_step.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_step m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_finite_step [hReference4Ideal : Cert.Reference4Ideal.Facts] [hPre_finite_step : Cert.Pre_finite_step.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_step m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_smooth_gates [hKernel2Ideal : Cert.Kernel2Ideal.Facts] [hReference2Ideal : Cert.Reference2Ideal.Facts] [hPre_smooth_gates : Cert.Pre_smooth_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_smooth_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v181) = v0 c
          ∧ r.2.mem ((c.tc : Thread Cert.Reference2Ideal.nD Cert.Reference2Ideal.τ).loc Cert.Reference2Ideal.main_v182) = v1 c
          ∧ r.2.mem ((c.tc : Thread Cert.Reference2Ideal.nD Cert.Reference2Ideal.τ).loc Cert.Reference2Ideal.main_v183) = v2 c
          ∧ r.2.mem ((c.tc : Thread Cert.Reference2Ideal.nD Cert.Reference2Ideal.τ).loc Cert.Reference2Ideal.main_v185) = v3 c
          ∧ r.2.mem ((c.tc : Thread Cert.Reference2Ideal.nD Cert.Reference2Ideal.τ).loc Cert.Reference2Ideal.main_v187) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_step [hKernel4Ideal : Cert.Kernel4Ideal.Facts] [hReference4Ideal : Cert.Reference4Ideal.Facts] [hPre_finite_step : Cert.Pre_finite_step.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_step m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)) (v5 : (c : Dev Cert.Kernel4Ideal.nD) → Buf (Elt Ideal) ((c.tc : Thread Cert.Kernel4Ideal.nD Cert.Kernel4Ideal.τ).loc Cert.Kernel4Ideal.main_v9_5)) (v6 : (c : Dev Cert.Kernel4Ideal.nD) → Buf (Elt Ideal) ((c.tc : Thread Cert.Kernel4Ideal.nD Cert.Kernel4Ideal.τ).loc Cert.Kernel4Ideal.main_v9_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_v9_5) = v5 c
          ∧ r.2.mem ((c.tc : Thread Cert.Kernel4Ideal.nD Cert.Kernel4Ideal.τ).loc Cert.Kernel4Ideal.main_v9_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v208) = v0 c
          ∧ r.2.mem ((c.tc : Thread Cert.Reference4Ideal.nD Cert.Reference4Ideal.τ).loc Cert.Reference4Ideal.main_v209) = v1 c
          ∧ r.2.mem ((c.tc : Thread Cert.Reference4Ideal.nD Cert.Reference4Ideal.τ).loc Cert.Reference4Ideal.main_v210) = v2 c
          ∧ r.2.mem ((c.tc : Thread Cert.Reference4Ideal.nD Cert.Reference4Ideal.τ).loc Cert.Reference4Ideal.main_v211) = v3 c
          ∧ r.2.mem ((c.tc : Thread Cert.Reference4Ideal.nD Cert.Reference4Ideal.τ).loc Cert.Reference4Ideal.main_v212) = v4 c
          ∧ r.2.mem ((c.tc : Thread Cert.Reference4Ideal.nD Cert.Reference4Ideal.τ).loc Cert.Reference4Ideal.main_v213) = v5 c
          ∧ r.2.mem ((c.tc : Thread Cert.Reference4Ideal.nD Cert.Reference4Ideal.τ).loc Cert.Reference4Ideal.main_v214) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_v74) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v256) = v0 c
          ∧ r.2.mem ((c.tc : Thread Cert.Reference7Ideal.nD Cert.Reference7Ideal.τ).loc Cert.Reference7Ideal.main_v282) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_v36) = v1 c
          ∧ r.2.mem ((c.tc : Thread Cert.Reference9Ideal.nD Cert.Reference9Ideal.τ).loc Cert.Reference9Ideal.main_v17) = v2 c
          ∧ r.2.mem ((c.tc : Thread Cert.Reference9Ideal.nD Cert.Reference9Ideal.τ).loc Cert.Reference9Ideal.main_v23) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v14)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)) (v4 : (c : Dev Cert.Kernel11Ideal.nD) → Buf (Elt Ideal) ((c.tc : Thread Cert.Kernel11Ideal.nD Cert.Kernel11Ideal.τ).loc Cert.Kernel11Ideal.main_v1_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_v1_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v8) = v3 c
          ∧ r.2.mem ((c.tc : Thread Cert.Reference11Ideal.nD Cert.Reference11Ideal.τ).loc Cert.Reference11Ideal.main_v3) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v31)) (v1 : (c : Dev Cert.Kernel12Ideal.nD) → Buf (Elt Ideal) ((c.tc : Thread Cert.Kernel12Ideal.nD Cert.Kernel12Ideal.τ).loc Cert.Kernel12Ideal.main_v33)) (v2 : (c : Dev Cert.Kernel12Ideal.nD) → Buf (Elt Ideal) ((c.tc : Thread Cert.Kernel12Ideal.nD Cert.Kernel12Ideal.τ).loc Cert.Kernel12Ideal.main_v36)) (v3 : (c : Dev Cert.Kernel12Ideal.nD) → Buf (Elt Ideal) ((c.tc : Thread Cert.Kernel12Ideal.nD Cert.Kernel12Ideal.τ).loc Cert.Kernel12Ideal.main_v38)) (v4 : (c : Dev Cert.Kernel12Ideal.nD) → Buf (Elt Ideal) ((c.tc : Thread Cert.Kernel12Ideal.nD Cert.Kernel12Ideal.τ).loc Cert.Kernel12Ideal.main_v41)) (v5 : (c : Dev Cert.Kernel12Ideal.nD) → Buf (Elt Ideal) ((c.tc : Thread Cert.Kernel12Ideal.nD Cert.Kernel12Ideal.τ).loc Cert.Kernel12Ideal.main_v43)) (v6 : (c : Dev Cert.Kernel12Ideal.nD) → Buf (Elt Ideal) ((c.tc : Thread Cert.Kernel12Ideal.nD Cert.Kernel12Ideal.τ).loc Cert.Kernel12Ideal.main_v46)) (v7 : (c : Dev Cert.Kernel12Ideal.nD) → Buf (Elt Ideal) ((c.tc : Thread Cert.Kernel12Ideal.nD Cert.Kernel12Ideal.τ).loc Cert.Kernel12Ideal.main_v48)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v31) = v0 c
          ∧ r.2.mem ((c.tc : Thread Cert.Kernel12Ideal.nD Cert.Kernel12Ideal.τ).loc Cert.Kernel12Ideal.main_v33) = v1 c
          ∧ r.2.mem ((c.tc : Thread Cert.Kernel12Ideal.nD Cert.Kernel12Ideal.τ).loc Cert.Kernel12Ideal.main_v36) = v2 c
          ∧ r.2.mem ((c.tc : Thread Cert.Kernel12Ideal.nD Cert.Kernel12Ideal.τ).loc Cert.Kernel12Ideal.main_v38) = v3 c
          ∧ r.2.mem ((c.tc : Thread Cert.Kernel12Ideal.nD Cert.Kernel12Ideal.τ).loc Cert.Kernel12Ideal.main_v41) = v4 c
          ∧ r.2.mem ((c.tc : Thread Cert.Kernel12Ideal.nD Cert.Kernel12Ideal.τ).loc Cert.Kernel12Ideal.main_v43) = v5 c
          ∧ r.2.mem ((c.tc : Thread Cert.Kernel12Ideal.nD Cert.Kernel12Ideal.τ).loc Cert.Kernel12Ideal.main_v46) = v6 c
          ∧ r.2.mem ((c.tc : Thread Cert.Kernel12Ideal.nD Cert.Kernel12Ideal.τ).loc Cert.Kernel12Ideal.main_v48) = v7 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v1) = v1 c
          ∧ r.2.mem ((c.tc : Thread Cert.Reference12Ideal.nD Cert.Reference12Ideal.τ).loc Cert.Reference12Ideal.main_v25) = v2 c
          ∧ r.2.mem ((c.tc : Thread Cert.Reference12Ideal.nD Cert.Reference12Ideal.τ).loc Cert.Reference12Ideal.main_v49) = v3 c
          ∧ r.2.mem ((c.tc : Thread Cert.Reference12Ideal.nD Cert.Reference12Ideal.τ).loc Cert.Reference12Ideal.main_v6) = v4 c
          ∧ r.2.mem ((c.tc : Thread Cert.Reference12Ideal.nD Cert.Reference12Ideal.τ).loc Cert.Reference12Ideal.main_v30) = v5 c
          ∧ r.2.mem ((c.tc : Thread Cert.Reference12Ideal.nD Cert.Reference12Ideal.τ).loc Cert.Reference12Ideal.main_v12) = v6 c
          ∧ r.2.mem ((c.tc : Thread Cert.Reference12Ideal.nD Cert.Reference12Ideal.τ).loc Cert.Reference12Ideal.main_v36) = v7 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v21) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_smooth_gates : Cert.Pre_smooth_gates.Facts) (hPre_finite_step : Cert.Pre_finite_step.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_smooth_gates (hKernel2Ideal := hKernel2Ideal) (hPre_smooth_gates := hPre_smooth_gates)
    ∧ quiescent_Reference2Ideal (hReference2Ideal := hReference2Ideal)
    ∧ quiescent_Reference2Ideal_pre_smooth_gates (hReference2Ideal := hReference2Ideal) (hPre_smooth_gates := hPre_smooth_gates)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_step (hKernel4Ideal := hKernel4Ideal) (hPre_finite_step := hPre_finite_step)
    ∧ quiescent_Reference4Ideal (hReference4Ideal := hReference4Ideal)
    ∧ quiescent_Reference4Ideal_pre_finite_step (hReference4Ideal := hReference4Ideal) (hPre_finite_step := hPre_finite_step)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_smooth_gates (hKernel2Ideal := hKernel2Ideal) (hReference2Ideal := hReference2Ideal) (hPre_smooth_gates := hPre_smooth_gates)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_step (hKernel4Ideal := hKernel4Ideal) (hReference4Ideal := hReference4Ideal) (hPre_finite_step := hPre_finite_step)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_step.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1024x256 : Shape := ⟨2, ![1024, 256]⟩
abbrev S256x1024 : Shape := ⟨2, ![256, 1024]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x64 .f32) (main_arg1 : FVec F S16x64 .f32) (main_arg2 : FVec F S16 .f32) (main_arg3 : FVec F S16x64x16 .f32) (main_arg4 : FVec F S16x64x16 .f32) (main_arg5 : FVec F S16x16x64 .f32) (main_arg6 : FVec F S16x16x64 .f32) (main_arg7 : FVec F S16x64 .f32) (main_arg8 : FVec F S16x64 .f32) (main_arg9 : FVec F S1024x256 .f32) (main_arg10 : FVec F S1024x256 .f32) (main_arg11 : FVec F S256x1024 .f32) (main_arg12 : FVec F S256x1024 .f32) : IVec S16 1 :=
  let main_v0 : FVec F S16 .f32 := Host.absf main_arg2
  let main_cst : FVec F S_ .f32 := constant S_ .f32 0x7F800000#32
  let main_v1 : FVec F S16 .f32 := broadcastInDim S16 ![] bcast_S_S16 main_cst
  let main_v2 : IVec S16 1 := cmpf .olt main_v0 main_v1
  main_v2
-- ==== Pre_smooth_gates.lean ====
abbrev S4096x768 : Shape := ⟨2, ![4096, 768]⟩
abbrev S4096x4 : Shape := ⟨2, ![4096, 4]⟩
abbrev S4x768 : Shape := ⟨2, ![4, 768]⟩
abbrev S4 : Shape := ⟨1, ![4]⟩
abbrev S4096x256 : Shape := ⟨2, ![4096, 256]⟩
abbrev S_ : Shape := ⟨0, ![]⟩
abbrev S1x4 : Shape := ⟨2, ![1, 4]⟩

class Facts : Prop where
  bcast_S_S4096x4 : S_.BroadcastsInDim S4096x4 (![] : Fin 0 → Fin S4096x4.rank)
  bcast_S_S4 : S_.BroadcastsInDim S4 (![] : Fin 0 → Fin S4.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)

variable [Facts]

def fn {F : FTy → Type} [FloatOps F] (main_arg0 : FVec F S4096x768 .f32) (main_arg1 : FVec F S4096x4 .f32) (main_arg2 : FVec F S4096x4 .f32) (main_arg3 : FVec F S4x768 .f32) (main_arg4 : FVec F S4 .f32) (main_arg5 : FVec F S4 .f32) (main_arg6 : FVec F S4096x256 .f32) (main_arg7 : FVec F S4096x256 .f32) (main_arg8 : FVec F S4096x256 .f32) (main_arg9 : FVec F S4096x4 .f32) (main_arg10 : FVec F S4096x4 .f32) : IVec S4096x4 1 × IVec S4 1 × IVec S4 1 × IVec S4096x4 1 × IVec S4096x4 1 :=
  let main_v0 : FVec F S4096x4 .f32 := Host.absf main_arg1
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_v3 : FVec F S4 .f32 := Host.absf main_arg4
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  let main_v6 : FVec F S4 .f32 := Host.absf main_arg5
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S4096x4 .f32 := Host.absf main_arg9
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_v12 : FVec F S1x4 .f32 := broadcastInDim S1x4 ![1] bcast_S4_S1x4_1 main_arg5
  let main_v13 : FVec F S4096x4 .f32 := broadcastInDim S4096x4 ![0, 1] bcast_S1x4_S4096x4_0_1 main_v12
  let main_v14 : FVec F S4096x4 .f32 := addf main_arg1 main_v13
  let main_cst_3 : FVec F S_ .f32 := constant S_ .f32 0x00000000#32
  let main_v15 : FVec F S4096x4 .f32 := broadcastInDim S4096x4 ![] bcast_S_S4096x4 main_cst_3
  let main_v16 : IVec S4096x4 1 := cmpf .une main_v14 main_v15
  (main_v2, main_v5, main_v8, main_v11, main_v16)
-- ==== Kernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1024, .f32⟩
  | .hbm, ⟨54, _⟩ => ⟨S1x4096x1024, .f32⟩
  | .hbm, ⟨55, _⟩ => ⟨S_, .f32⟩
  | .hbm, ⟨56, _⟩ => ⟨S1x4096, .f32⟩
  | .hbm, ⟨57, _⟩ => ⟨S1x4096x1, .f32⟩
  | .hbm, ⟨58, _⟩ => ⟨S1x4096x1024, .f32⟩
  | .hbm, ⟨59, _⟩ => ⟨S1x4096x1024, .f32⟩
  | .hbm, ⟨60, _⟩ => ⟨S1x4096x1, .f32⟩
  | .hbm, ⟨61, _⟩ => ⟨S_, .f32⟩
  | .hbm, ⟨62, _⟩ => ⟨S1x4096x1, .f32⟩
  | .hbm, ⟨63, _⟩ => ⟨S1x4096x1, .f32⟩
  | .hbm, ⟨64, _⟩ => ⟨S_, .f32⟩
  | .hbm, ⟨65, _⟩ => ⟨S4096, .f32⟩
  | .hbm, ⟨66, _⟩ => ⟨S1x4096, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S4096x1024, .f32⟩
  | .hbm, ⟨73, _⟩ => ⟨S1x1024, .f32⟩
  | .hbm, ⟨74, _⟩ => ⟨S1x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel2.lean ====
abbrev S4096x768 : Shape := ⟨2, ![4096, 768]⟩
abbrev S4096x4 : Shape := ⟨2, ![4096, 4]⟩
abbrev S4x768 : Shape := ⟨2, ![4, 768]⟩
abbrev S4 : Shape := ⟨1, ![4]⟩
abbrev S4096x256 : Shape := ⟨2, ![4096, 256]⟩
abbrev S_ : Shape := ⟨0, ![]⟩
abbrev S8x768 : Shape := ⟨2, ![8, 768]⟩
abbrev S1x4 : Shape := ⟨2, ![1, 4]⟩
abbrev S1x128 : Shape := ⟨2, ![1, 128]⟩
abbrev S4096x120 : Shape := ⟨2, ![4096, 120]⟩
abbrev S4096x2304 : Shape := ⟨2, ![4096, 2304]⟩
abbrev S4096x3456 : Shape := ⟨2, ![4096, 3456]⟩
abbrev S4096x128 : Shape := ⟨2, ![4096, 128]⟩
abbrev S512x768 : Shape := ⟨2, ![512, 768]⟩
abbrev S512x128 : Shape := ⟨2, ![512, 128]⟩
abbrev S512x256 : Shape := ⟨2, ![512, 256]⟩
abbrev S520x768 : Shape := ⟨2, ![520, 768]⟩
abbrev S515x768 : Shape := ⟨2, ![515, 768]⟩
abbrev S5x768 : Shape := ⟨2, ![5, 768]⟩
abbrev S1x768 : Shape := ⟨2, ![1, 768]⟩
abbrev S514x768 : Shape := ⟨2, ![514, 768]⟩
abbrev S6x768 : Shape := ⟨2, ![6, 768]⟩
abbrev S513x768 : Shape := ⟨2, ![513, 768]⟩
abbrev S7x768 : Shape := ⟨2, ![7, 768]⟩
abbrev S512x64 : Shape := ⟨2, ![512, 64]⟩
abbrev S512 : Shape := ⟨1, ![512]⟩
abbrev S512x1 : Shape := ⟨2, ![512, 1]⟩
abbrev S512x512 : Shape := ⟨2, ![512, 512]⟩
abbrev S128 : Shape := ⟨1, ![128]⟩
abbrev S512x192 : Shape := ⟨2, ![512, 192]⟩
abbrev S768 : Shape := ⟨1, ![768]⟩
abbrev S504x768 : Shape := ⟨2, ![504, 768]⟩

abbrev nBuf : Space → Nat
  | .hbm => 35
  | .vmem => 25
  | .smem => 0
  | _ => 0

abbrev bufTy : (tb : Table) → Fin (tcTables nBuf tb) → BufTy
  | .hbm, ⟨0, _⟩ => ⟨S4096x768, .f32⟩
  | .hbm, ⟨1, _⟩ => ⟨S4096x4, .f32⟩
  | .hbm, ⟨2, _⟩ => ⟨S4096x4, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x4, .f32⟩
  | .hbm, ⟨10, _⟩ => ⟨S4096x4, .f32⟩
  | .hbm, ⟨11, _⟩ => ⟨S_, .i32⟩
  | .hbm, ⟨12, _⟩ => ⟨S_, .f32⟩
  | .hbm, ⟨13, _⟩ => ⟨S8x768, .f32⟩
  | .hbm, ⟨14, _⟩ => ⟨S1x4, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x4, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S4096x120, .f32⟩
  | .hbm, ⟨24, _⟩ => ⟨S_, .f32⟩
  | .hbm, ⟨25, _⟩ => ⟨S4096x2304, .f32⟩
  | .hbm, ⟨26, _⟩ => ⟨S_, .f32⟩
  | .hbm, ⟨27, _⟩ => ⟨S4096x256, .f32⟩
  | .hbm, ⟨28, _⟩ => ⟨S4096x3456, .f32⟩
  | .hbm, ⟨29, _⟩ => ⟨S4096x128, .f32⟩
  | .hbm, ⟨30, _⟩ => ⟨S4096x768, .bf16⟩
  | .hbm, ⟨31, _⟩ => ⟨S4096x128, .bf16⟩
  | .hbm, ⟨32, _⟩ => ⟨S8x768, .f32⟩
  | .hbm, ⟨33, _⟩ => ⟨S1x128, .f32⟩
  | .hbm, ⟨34, _⟩ => ⟨S1x128, .f32⟩
  | .local _ .vmem, ⟨0, _⟩ => ⟨S512x768, .f32⟩
  | .local _ .vmem, ⟨1, _⟩ => ⟨S512x768, .f32⟩
  | .local _ .vmem, ⟨2, _⟩ => ⟨S8x768, .f32⟩
  | .local _ .vmem, ⟨3, _⟩ => ⟨S8x768, .f32⟩
  | .local _ .vmem, ⟨4, _⟩ => ⟨S512x128, .f32⟩
  | .local _ .vmem, ⟨5, _⟩ => ⟨S512x128, .f32⟩
  | .local _ .vmem, ⟨6, _⟩ => ⟨S8x768, .f32⟩
  | .local _ .vmem, ⟨7, _⟩ => ⟨S1x128, .f32⟩
  | .local _ .vmem, ⟨8, _⟩ => ⟨S1x128, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x128, .f32⟩
  | .local _ .vmem, ⟨16, _⟩ => ⟨S512x128, .f32⟩
  | .local _ .vmem, ⟨17, _⟩ => ⟨S512x768, .bf16⟩
  | .local _ .vmem, ⟨18, _⟩ => ⟨S512x768, .bf16⟩
  | .local _ .vmem, ⟨19, _⟩ => ⟨S512x128, .bf16⟩
  | .local _ .vmem, ⟨20, _⟩ => ⟨S512x128, .bf16⟩
  | .local _ .vmem, ⟨21, _⟩ => ⟨S8x768, .f32⟩
  | .local _ .vmem, ⟨22, _⟩ => ⟨S1x128, .f32⟩
  | .local _ .vmem, ⟨23, _⟩ => ⟨S1x128, .f32⟩
  | .local _ .vmem, ⟨24, _⟩ => ⟨S8x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_cst_3 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev main_v10_3 : Ref sig .tc := ⟨.hbm, 33, rfl⟩
abbrev main_v10_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c26_i32 : BitVec 32 := 26#32
  let c0_i32 : BitVec 32 := 0#32
  ![v0.toNat, c26_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S4096x768 : Shape := ⟨2, ![4096, 768]⟩
abbrev S4096x4 : Shape := ⟨2, ![4096, 4]⟩
abbrev S4x768 : Shape := ⟨2, ![4, 768]⟩
abbrev S4 : Shape := ⟨1, ![4]⟩
abbrev S4096x256 : Shape := ⟨2, ![4096, 256]⟩
abbrev S_ : Shape := ⟨0, ![]⟩
abbrev S3x768 : Shape := ⟨2, ![3, 768]⟩
abbrev S4099x768 : Shape := ⟨2, ![4099, 768]⟩
abbrev S1x768 : Shape := ⟨2, ![1, 768]⟩
abbrev S768 : Shape := ⟨1, ![768]⟩
abbrev S4096x4x64 : Shape := ⟨3, ![4096, 4, 64]⟩
abbrev S4096x4x1 : Shape := ⟨3, ![4096, 4, 1]⟩
abbrev S1x4 : Shape := ⟨2, ![1, 4]⟩
abbrev S64x64x4 : Shape := ⟨3, ![64, 64, 4]⟩
abbrev S4096x120 : Shape := ⟨2, ![4096, 120]⟩
abbrev S4096x128 : Shape := ⟨2, ![4096, 128]⟩
abbrev S8x768 : Shape := ⟨2, ![8, 768]⟩
abbrev S1x128 : Shape := ⟨2, ![1, 128]⟩

abbrev nBuf : Space → Nat
  | .hbm => 310
  | .vmem => 0
  | .smem => 0
  | _ => 0

abbrev hbmTy0_0 (i : Nat) : BufTy := match i % 128 with
  | 0 => ⟨S4096x768, .f32⟩
  | 1 => ⟨S4096x4, .f32⟩
  | 2 => ⟨S4096x4, .f32⟩
  | 3 => ⟨S4x768, .f32⟩
  | 4 => ⟨S4, .f32⟩
  | 5 => ⟨S4, .f32⟩
  | 6 => ⟨S4096x256, .f32⟩
  | 7 => ⟨S4096x256, .f32⟩
  | 8 => ⟨S4096x256, .f32⟩
  | 9 => ⟨S4096x4, .f32⟩
  | 10 => ⟨S4096x4, .f32⟩
  | 11 => ⟨S_, .f32⟩
  | 12 => ⟨S3x768, .f32⟩
  | 13 => ⟨S4099x768, .f32⟩
  | 14 => ⟨S_, .f32⟩
  | 15 => ⟨S3x768, .f32⟩
  | 16 => ⟨S1x768, .f32⟩
  | 17 => ⟨S768, .f32⟩
  | 18 => ⟨S4096x768, .f32⟩
  | 19 => ⟨S1x768, .f32⟩
  | 20 => ⟨S4096x768, .f32⟩
  | 21 => ⟨S4096x768, .f32⟩
  | 22 => ⟨S1x768, .f32⟩
  | 23 => ⟨S768, .f32⟩
  | 24 => ⟨S4096x768, .f32⟩
  | 25 => ⟨S1x768, .f32⟩
  | 26 => ⟨S4096x768, .f32⟩
  | 27 => ⟨S4096x768, .f32⟩
  | 28 => ⟨S4096x768, .f32⟩
  | 29 => ⟨S1x768, .f32⟩
  | 30 => ⟨S768, .f32⟩
  | 31 => ⟨S4096x768, .f32⟩
  | 32 => ⟨S1x768, .f32⟩
  | 33 => ⟨S4096x768, .f32⟩
  | 34 => ⟨S4096x768, .f32⟩
  | 35 => ⟨S4096x768, .f32⟩
  | 36 => ⟨S1x768, .f32⟩
  | 37 => ⟨S768, .f32⟩
  | 38 => ⟨S4096x768, .f32⟩
  | 39 => ⟨S1x768, .f32⟩
  | 40 => ⟨S4096x768, .f32⟩
  | 41 => ⟨S4096x768, .f32⟩
  | 42 => ⟨S4096x768, .f32⟩
  | 43 => ⟨S4096x768, .f32⟩
  | 44 => ⟨S4096x768, .f32⟩
  | 45 => ⟨S_, .f32⟩
  | 46 => ⟨S4096x768, .f32⟩
  | 47 => ⟨S4096x768, .f32⟩
  | 48 => ⟨S_, .f32⟩
  | 49 => ⟨S4096x768, .f32⟩
  | 50 => ⟨S4096x768, .f32⟩
  | 51 => ⟨S_, .f32⟩
  | 52 => ⟨S4096x768, .f32⟩
  | 53 => ⟨S4096x768, .f32⟩
  | 54 => ⟨S4096x768, .f32⟩
  | 55 => ⟨S4096x768, .f32⟩
  | 56 => ⟨S4096x256, .f32⟩
  | 57 => ⟨S4096x256, .f32⟩
  | 58 => ⟨S4096x256, .f32⟩
  | 59 => ⟨S4096x4x64, .f32⟩
  | 60 => ⟨S4096x4x64, .f32⟩
  | 61 => ⟨S4096x4x64, .f32⟩
  | 62 => ⟨S_, .f32⟩
  | 63 => ⟨S4096x4, .f32⟩
  | 64 => ⟨S4096x4x1, .f32⟩
  | 65 => ⟨S_, .f32⟩
  | 66 => ⟨S4096x4x1, .f32⟩
  | 67 => ⟨S4096x4x1, .f32⟩
  | 68 => ⟨S4096x4x1, .f32⟩
  | 69 => ⟨S4096x4x1, .f32⟩
  | 70 => ⟨S_, .f32⟩
  | 71 => ⟨S4096x4x1, .f32⟩
  | 72 => ⟨S4096x4x1, .f32⟩
  | 73 => ⟨S4096x4x64, .f32⟩
  | 74 => ⟨S4096x4x64, .f32⟩
  | 75 => ⟨S_, .f32⟩
  | 76 => ⟨S4096x4x64, .f32⟩
  | 77 => ⟨S4096x4x64, .f32⟩
  | 78 => ⟨S4096x4x64, .f32⟩
  | 79 => ⟨S_, .f32⟩
  | 80 => ⟨S4096x4, .f32⟩
  | 81 => ⟨S4096x4x1, .f32⟩
  | 82 => ⟨S_, .f32⟩
  | 83 => ⟨S4096x4x1, .f32⟩
  | 84 => ⟨S4096x4x1, .f32⟩
  | 85 => ⟨S4096x4x1, .f32⟩
  | 86 => ⟨S4096x4x1, .f32⟩
  | 87 => ⟨S_, .f32⟩
  | 88 => ⟨S4096x4x1, .f32⟩
  | 89 => ⟨S4096x4x1, .f32⟩
  | 90 => ⟨S4096x4x64, .f32⟩
  | 91 => ⟨S4096x4x64, .f32⟩
  | 92 => ⟨S4096x4, .f32⟩
  | 93 => ⟨S4096x4, .f32⟩
  | 94 => ⟨S_, .f32⟩
  | 95 => ⟨S4096x4, .f32⟩
  | 96 => ⟨S4096x4, .f32⟩
  | 97 => ⟨S_, .f32⟩
  | 98 => ⟨S4096x4, .f32⟩
  | 99 => ⟨S4096x4, .f32⟩
  | 100 => ⟨S_, .f32⟩
  | 101 => ⟨S4096x4, .f32⟩
  | 102 => ⟨S4096x4, .f32⟩
  | 103 => ⟨S4096x4, .f32⟩
  | 104 => ⟨S4, .f32⟩
  | 105 => ⟨S4, .f32⟩
  | 106 => ⟨S1x4, .f32⟩
  | 107 => ⟨S4096x4, .f32⟩
  | 108 => ⟨S4096x4, .f32⟩
  | 109 => ⟨S_, .f32⟩
  | 110 => ⟨S4096x4, .f32⟩
  | 111 => ⟨S4096x4, .f32⟩
  | 112 => ⟨S4096x4, .f32⟩
  | 113 => ⟨S4096x4, .f32⟩
  | 114 => ⟨S4096x4, .i1⟩
  | 115 => ⟨S4096x4, .f32⟩
  | 116 => ⟨S4096x4, .f32⟩
  | 117 => ⟨S4096x4, .f32⟩
  | 118 => ⟨S4096x4, .f32⟩
  | 119 => ⟨S4096x4, .f32⟩
  | 120 => ⟨S4096x4, .f32⟩
  | 121 => ⟨S4096x4, .f32⟩
  | 122 => ⟨S4096x4, .f32⟩
  | 123 => ⟨S_, .f32⟩
  | 124 => ⟨S4096x4, .f32⟩
  | 125 => ⟨S4096x4, .i1⟩
  | 126 => ⟨S_, .f32⟩
  | 127 => ⟨S4096x4, .f32⟩
  | _ => ⟨S4096x768, .f32⟩

abbrev hbmTy0_1 (i : Nat) : BufTy := match i % 128 with
  | 0 => ⟨S4096x4, .f32⟩
  | 1 => ⟨S_, .f32⟩
  | 2 => ⟨S4096x4, .f32⟩
  | 3 => ⟨S4096x4, .i1⟩
  | 4 => ⟨S_, .f32⟩
  | 5 => ⟨S4096x4, .f32⟩
  | 6 => ⟨S4096x4, .f32⟩
  | 7 => ⟨S4096x4, .f32⟩
  | 8 => ⟨S4096x4, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S_, .f32⟩
  | 16 => ⟨S4096x4, .f32⟩
  | 17 => ⟨S4096x4, .i1⟩
  | 18 => ⟨S_, .f32⟩
  | 19 => ⟨S4096x4, .f32⟩
  | 20 => ⟨S4096x4, .f32⟩
  | 21 => ⟨S4096x4, .f32⟩
  | 22 => ⟨S4096x4, .f32⟩
  | 23 => ⟨S4096x4, .f32⟩
  | 24 => ⟨S_, .f32⟩
  | 25 => ⟨S4096x4, .f32⟩
  | 26 => ⟨S4096x4, .f32⟩
  | 27 => ⟨S1x4, .f32⟩
  | 28 => ⟨S4096x4, .f32⟩
  | 29 => ⟨S4096x4, .f32⟩
  | 30 => ⟨S64x64x4, .f32⟩
  | 31 => ⟨S_, .f32⟩
  | 32 => ⟨S_, .f32⟩
  | 33 => ⟨S64x64x4, .f32⟩
  | 34 => ⟨S4096x4, .f32⟩
  | 35 => ⟨S4096x256, .f32⟩
  | 36 => ⟨S4096x256, .f32⟩
  | 37 => ⟨S4096x4x64, .f32⟩
  | 38 => ⟨S4096x4x64, .f32⟩
  | 39 => ⟨S64x64x4, .f32⟩
  | 40 => ⟨S_, .f32⟩
  | 41 => ⟨S_, .f32⟩
  | 42 => ⟨S64x64x4, .f32⟩
  | 43 => ⟨S4096x4, .f32⟩
  | 44 => ⟨S4096x4, .f32⟩
  | 45 => ⟨S4096x4, .f32⟩
  | 46 => ⟨S4096x4, .f32⟩
  | 47 => ⟨S_, .f32⟩
  | 48 => ⟨S4, .f32⟩
  | 49 => ⟨S1x4, .f32⟩
  | 50 => ⟨S_, .f32⟩
  | 51 => ⟨S4, .f32⟩
  | 52 => ⟨S4096x4, .f32⟩
  | 53 => ⟨S_, .f32⟩
  | 54 => ⟨S4, .f32⟩
  | 55 => ⟨S1x4, .f32⟩
  | 56 => ⟨S_, .f32⟩
  | 57 => ⟨S4, .f32⟩
  | 58 => ⟨S4, .f32⟩
  | 59 => ⟨S4, .f32⟩
  | 60 => ⟨S4096x4, .f32⟩
  | 61 => ⟨S4096x4x64, .f32⟩
  | 62 => ⟨S_, .f32⟩
  | 63 => ⟨S4096x4, .f32⟩
  | 64 => ⟨S4096x4x1, .f32⟩
  | 65 => ⟨S4096x4x64, .f32⟩
  | 66 => ⟨S4096x4x64, .f32⟩
  | 67 => ⟨S4096x4x1, .f32⟩
  | 68 => ⟨S_, .f32⟩
  | 69 => ⟨S4096x4, .f32⟩
  | 70 => ⟨S4096x4x64, .f32⟩
  | 71 => ⟨S4096x4x64, .f32⟩
  | 72 => ⟨S4096x4x64, .f32⟩
  | 73 => ⟨S4096x4x64, .f32⟩
  | 74 => ⟨S4096x4x64, .f32⟩
  | 75 => ⟨S_, .f32⟩
  | 76 => ⟨S4096x4x64, .f32⟩
  | 77 => ⟨S4096x4x64, .f32⟩
  | 78 => ⟨S4096x4x64, .f32⟩
  | 79 => ⟨S_, .f32⟩
  | 80 => ⟨S4096x4, .f32⟩
  | 81 => ⟨S4096x4x1, .f32⟩
  | 82 => ⟨S4096x4x64, .f32⟩
  | 83 => ⟨S4096x4x64, .f32⟩
  | 84 => ⟨S4096x4x1, .f32⟩
  | 85 => ⟨S_, .f32⟩
  | 86 => ⟨S4096x4, .f32⟩
  | 87 => ⟨S4096x4x64, .f32⟩
  | 88 => ⟨S4096x4x64, .f32⟩
  | 89 => ⟨S4096x4x64, .f32⟩
  | 90 => ⟨S4096x4x64, .f32⟩
  | 91 => ⟨S4096x4x64, .f32⟩
  | 92 => ⟨S4096x256, .f32⟩
  | 93 => ⟨S4096x256, .f32⟩
  | 94 => ⟨S_, .f32⟩
  | 95 => ⟨S4096x768, .f32⟩
  | 96 => ⟨S_, .f32⟩
  | 97 => ⟨S4096x768, .f32⟩
  | 98 => ⟨S4096x768, .f32⟩
  | 99 => ⟨S_, .f32⟩
  | 100 => ⟨S4096x768, .f32⟩
  | 101 => ⟨S4096x768, .f32⟩
  | 102 => ⟨S4096x768, .f32⟩
  | 103 => ⟨S4096x768, .f32⟩
  | 104 => ⟨S4096x768, .f32⟩
  | 105 => ⟨S4096x768, .f32⟩
  | 106 => ⟨S4096x768, .f32⟩
  | 107 => ⟨S4096x768, .f32⟩
  | 108 => ⟨S4096x768, .f32⟩
  | 109 => ⟨S_, .f32⟩
  | 110 => ⟨S768, .f32⟩
  | 111 => ⟨S1x768, .f32⟩
  | 112 => ⟨S_, .f32⟩
  | 113 => ⟨S768, .f32⟩
  | 114 => ⟨S_, .f32⟩
  | 115 => ⟨S4099x768, .f32⟩
  | 116 => ⟨S1x768, .f32⟩
  | 117 => ⟨S_, .f32⟩
  | 118 => ⟨S4x768, .f32⟩
  | 119 => ⟨S4096x768, .f32⟩
  | 120 => ⟨S4096x768, .f32⟩
  | 121 => ⟨S4096x768, .f32⟩
  | 122 => ⟨S_, .f32⟩
  | 123 => ⟨S768, .f32⟩
  | 124 => ⟨S1x768, .f32⟩
  | 125 => ⟨S_, .f32⟩
  | 126 => ⟨S768, .f32⟩
  | 127 => ⟨S_, .f32⟩
  | _ => ⟨S4096x768, .f32⟩

abbrev hbmTy0_2 (i : Nat) : BufTy := match i % 128 with
  | 0 => ⟨S4099x768, .f32⟩
  | 1 => ⟨S4099x768, .f32⟩
  | 2 => ⟨S1x768, .f32⟩
  | 3 => ⟨S_, .f32⟩
  | 4 => ⟨S4x768, .f32⟩
  | 5 => ⟨S4x768, .f32⟩
  | 6 => ⟨S4096x768, .f32⟩
  | 7 => ⟨S4096x768, .f32⟩
  | 8 => ⟨S4096x768, .f32⟩
  | 9 => ⟨S_, .f32⟩
  | 10 => ⟨S768, .f32⟩
  | 11 => ⟨S1x768, .f32⟩
  | 12 => ⟨S_, .f32⟩
  | 13 => ⟨S768, .f32⟩
  | 14 => ⟨S_, .f32⟩
  | 15 => ⟨S4099x768, .f32⟩
  | 16 => ⟨S4099x768, .f32⟩
  | 17 => ⟨S1x768, .f32⟩
  | 18 => ⟨S_, .f32⟩
  | 19 => ⟨S4x768, .f32⟩
  | 20 => ⟨S4x768, .f32⟩
  | 21 => ⟨S4096x768, .f32⟩
  | 22 => ⟨S4096x768, .f32⟩
  | 23 => ⟨S4096x768, .f32⟩
  | 24 => ⟨S_, .f32⟩
  | 25 => ⟨S768, .f32⟩
  | 26 => ⟨S1x768, .f32⟩
  | 27 => ⟨S_, .f32⟩
  | 28 => ⟨S768, .f32⟩
  | 29 => ⟨S_, .f32⟩
  | 30 => ⟨S4099x768, .f32⟩
  | 31 => ⟨S4099x768, .f32⟩
  | 32 => ⟨S1x768, .f32⟩
  | 33 => ⟨S_, .f32⟩
  | 34 => ⟨S4x768, .f32⟩
  | 35 => ⟨S4x768, .f32⟩
  | 36 => ⟨S3x768, .f32⟩
  | 37 => ⟨S4096x768, .f32⟩
  | 38 => ⟨S_, .f32⟩
  | 39 => ⟨S4096x120, .f32⟩
  | 40 => ⟨S4096x128, .f32⟩
  | 41 => ⟨S4096x768, .bf16⟩
  | 42 => ⟨S4096x128, .bf16⟩
  | 43 => ⟨S_, .i32⟩
  | 44 => ⟨S_, .f32⟩
  | 45 => ⟨S8x768, .f32⟩
  | 46 => ⟨S1x4, .f32⟩
  | 47 => ⟨S_, .i32⟩
  | 48 => ⟨S_, .f32⟩
  | 49 => ⟨S1x128, .f32⟩
  | 50 => ⟨S1x4, .f32⟩
  | 51 => ⟨S_, .i32⟩
  | 52 => ⟨S_, .f32⟩
  | 53 => ⟨S1x128, .f32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v30_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v30_1 : Ref sig .tc := ⟨.hbm, 54, rfl⟩
abbrev main_v30_0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_v38 : Ref sig .tc := ⟨.hbm, 64, rfl⟩
abbrev main_cst_2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_8 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_cst_10 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_v7 : Ref sig .tc := ⟨.hbm, 117, rfl⟩
abbrev main_call1_v8 : Ref sig .tc := ⟨.hbm, 118, rfl⟩
abbrev main_call1_v9 : Ref sig .tc := ⟨.hbm, 119, rfl⟩
abbrev main_call1_v10 : Ref sig .tc := ⟨.hbm, 120, rfl⟩
abbrev main_call1_v11 : Ref sig .tc := ⟨.hbm, 121, rfl⟩
abbrev main_v74_0 : Ref sig .tc := ⟨.hbm, 122, rfl⟩
abbrev main_call1_cst_0 : Ref sig .tc := ⟨.hbm, 123, rfl⟩
abbrev main_call1_v13 : Ref sig .tc := ⟨.hbm, 124, rfl⟩
abbrev main_call1_v14 : Ref sig .tc := ⟨.hbm, 125, rfl⟩
abbrev main_call1_cst_1 : Ref sig .tc := ⟨.hbm, 126, rfl⟩
abbrev main_call1_v15 : Ref sig .tc := ⟨.hbm, 127, rfl⟩
abbrev main_call1_v16 : Ref sig .tc := ⟨.hbm, 128, rfl⟩
abbrev main_call1_cst_2 : Ref sig .tc := ⟨.hbm, 129, rfl⟩
abbrev main_call1_v17 : Ref sig .tc := ⟨.hbm, 130, rfl⟩
abbrev main_call1_v18 : Ref sig .tc := ⟨.hbm, 131, rfl⟩
abbrev main_call1_cst_3 : Ref sig .tc := ⟨.hbm, 132, rfl⟩
abbrev main_call1_v19 : Ref sig .tc := ⟨.hbm, 133, rfl⟩
abbrev main_call1_v20 : Ref sig .tc := ⟨.hbm, 134, rfl⟩
abbrev main_call1_v21 : Ref sig .tc := ⟨.hbm, 135, rfl⟩
abbrev main_v74_1 : Ref sig .tc := ⟨.hbm, 136, rfl⟩
abbrev main_call1_cst_4 : Ref sig .tc := ⟨.hbm, 137, rfl⟩
abbrev main_call1_cst_5 : Ref sig .tc := ⟨.hbm, 138, rfl⟩
abbrev main_call1_v23 : Ref sig .tc := ⟨.hbm, 139, rfl⟩
abbrev main_call1_cst_6 : Ref sig .tc := ⟨.hbm, 140, rfl⟩
abbrev main_call1_cst_7 : Ref sig .tc := ⟨.hbm, 141, rfl⟩
abbrev main_call1_v24 : Ref sig .tc := ⟨.hbm, 142, rfl⟩
abbrev main_call1_cst_8 : Ref sig .tc := ⟨.hbm, 143, rfl⟩
abbrev main_call1_v25 : Ref sig .tc := ⟨.hbm, 144, rfl⟩
abbrev main_call1_v26 : Ref sig .tc := ⟨.hbm, 145, rfl⟩
abbrev main_call1_cst_9 : Ref sig .tc := ⟨.hbm, 146, rfl⟩
abbrev main_call1_v27 : Ref sig .tc := ⟨.hbm, 147, rfl⟩
abbrev main_call1_v28 : Ref sig .tc := ⟨.hbm, 148, rfl⟩
abbrev main_call1_v29 : Ref sig .tc := ⟨.hbm, 149, rfl⟩
abbrev main_call1_v30 : Ref sig .tc := ⟨.hbm, 150, rfl⟩
abbrev main_call1_v31 : Ref sig .tc := ⟨.hbm, 151, rfl⟩
abbrev main_call1_cst_10 : Ref sig .tc := ⟨.hbm, 152, rfl⟩
abbrev main_call1_v32 : Ref sig .tc := ⟨.hbm, 153, rfl⟩
abbrev main_v74_2 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_call2_call0_cst : Ref sig .tc := ⟨.hbm, 159, rfl⟩
abbrev main_call2_call0_v0 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_call3_call0_cst : Ref sig .tc := ⟨.hbm, 168, rfl⟩
abbrev main_call3_call0_v0 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_cst_11 : Ref sig .tc := ⟨.hbm, 175, rfl⟩
abbrev main_v91 : Ref sig .tc := ⟨.hbm, 176, rfl⟩
abbrev main_v92 : Ref sig .tc := ⟨.hbm, 177, rfl⟩
abbrev main_cst_12 : Ref sig .tc := ⟨.hbm, 178, rfl⟩
abbrev main_v93 : Ref sig .tc := ⟨.hbm, 179, rfl⟩
abbrev main_v94 : Ref sig .tc := ⟨.hbm, 180, rfl⟩
abbrev main_cst_13 : Ref sig .tc := ⟨.hbm, 181, rfl⟩
abbrev main_v95 : Ref sig .tc := ⟨.hbm, 182, rfl⟩
abbrev main_v96 : Ref sig .tc := ⟨.hbm, 183, rfl⟩
abbrev main_cst_14 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_cst_15 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_cst_16 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_cst_17 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_cst_18 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_cst_19 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_cst_20 : Ref sig .tc := ⟨.hbm, 222, rfl⟩
abbrev main_v129 : Ref sig .tc := ⟨.hbm, 223, rfl⟩
abbrev main_cst_21 : Ref sig .tc := ⟨.hbm, 224, rfl⟩
abbrev main_v130 : Ref sig .tc := ⟨.hbm, 225, rfl⟩
abbrev main_v131 : Ref sig .tc := ⟨.hbm, 226, rfl⟩
abbrev main_cst_22 : Ref sig .tc := ⟨.hbm, 227, rfl⟩
abbrev main_v132 : Ref sig .tc := ⟨.hbm, 228, rfl⟩
abbrev main_v133 : Ref sig .tc := ⟨.hbm, 229, rfl⟩
abbrev main_call5_v0 : Ref sig .tc := ⟨.hbm, 230, rfl⟩
abbrev main_call5_v1 : Ref sig .tc := ⟨.hbm, 231, rfl⟩
abbrev main_call5_v2 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩
abbrev main_cst_23 : Ref sig .tc := ⟨.hbm, 237, rfl⟩
abbrev main_v138 : Ref sig .tc := ⟨.hbm, 238, rfl⟩
abbrev main_v139 : Ref sig .tc := ⟨.hbm, 239, rfl⟩
abbrev main_cst_24 : Ref sig .tc := ⟨.hbm, 240, rfl⟩
abbrev main_v140 : Ref sig .tc := ⟨.hbm, 241, rfl⟩
abbrev main_cst_25 : Ref sig .tc := ⟨.hbm, 242, rfl⟩
abbrev main_v141 : Ref sig .tc := ⟨.hbm, 243, rfl⟩
abbrev main_v142 : Ref sig .tc := ⟨.hbm, 244, rfl⟩
abbrev main_cst_26 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_cst_27 : Ref sig .tc := ⟨.hbm, 250, rfl⟩
abbrev main_v147 : Ref sig .tc := ⟨.hbm, 251, rfl⟩
abbrev main_v148 : Ref sig .tc := ⟨.hbm, 252, rfl⟩
abbrev main_cst_28 : Ref sig .tc := ⟨.hbm, 253, rfl⟩
abbrev main_v149 : Ref sig .tc := ⟨.hbm, 254, rfl⟩
abbrev main_cst_29 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_cst_30 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_cst_31 : Ref sig .tc := ⟨.hbm, 265, rfl⟩
abbrev main_v158 : Ref sig .tc := ⟨.hbm, 266, rfl⟩
abbrev main_v159 : Ref sig .tc := ⟨.hbm, 267, rfl⟩
abbrev main_cst_32 : Ref sig .tc := ⟨.hbm, 268, rfl⟩
abbrev main_v160 : Ref sig .tc := ⟨.hbm, 269, rfl⟩
abbrev main_cst_33 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_cst_34 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_cst_35 : Ref sig .tc := ⟨.hbm, 280, rfl⟩
abbrev main_v169 : Ref sig .tc := ⟨.hbm, 281, rfl⟩
abbrev main_v170 : Ref sig .tc := ⟨.hbm, 282, rfl⟩
abbrev main_cst_36 : Ref sig .tc := ⟨.hbm, 283, rfl⟩
abbrev main_v171 : Ref sig .tc := ⟨.hbm, 284, rfl⟩
abbrev main_cst_37 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_cst_38 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_39 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_c : Ref sig .tc := ⟨.hbm, 299, rfl⟩
abbrev main_call6_v0 : Ref sig .tc := ⟨.hbm, 300, rfl⟩
abbrev main_v183 : Ref sig .tc := ⟨.hbm, 301, rfl⟩
abbrev main_v184 : Ref sig .tc := ⟨.hbm, 302, rfl⟩
abbrev main_c_40 : Ref sig .tc := ⟨.hbm, 303, rfl⟩
abbrev main_call7_v0 : Ref sig .tc := ⟨.hbm, 304, rfl⟩
abbrev main_v185 : Ref sig .tc := ⟨.hbm, 305, rfl⟩
abbrev main_v186 : Ref sig .tc := ⟨.hbm, 306, rfl⟩
abbrev main_c_41 : Ref sig .tc := ⟨.hbm, 307, rfl⟩
abbrev main_call8_v0 : Ref sig .tc := ⟨.hbm, 308, rfl⟩
abbrev main_v187 : Ref sig .tc := ⟨.hbm, 309, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x3336 : Shape := ⟨2, ![1024, 3336]⟩
abbrev S4096x3336 : Shape := ⟨2, ![4096, 3336]⟩
abbrev S1024x3072 : Shape := ⟨2, ![1024, 3072]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩
abbrev S4096x768 : Shape := ⟨2, ![4096, 768]⟩
abbrev S4096x512 : Shape := ⟨2, ![4096, 512]⟩
abbrev S4096x256 : Shape := ⟨2, ![4096, 256]⟩
abbrev S4096x8 : Shape := ⟨2, ![4096, 8]⟩
abbrev S4096x120 : Shape := ⟨2, ![4096, 120]⟩
abbrev S4096x128 : Shape := ⟨2, ![4096, 128]⟩
abbrev S1x1024 : Shape := ⟨2, ![1, 1024]⟩
abbrev S512x768 : Shape := ⟨2, ![512, 768]⟩
abbrev S512x512 : Shape := ⟨2, ![512, 512]⟩
abbrev S512x1024 : Shape := ⟨2, ![512, 1024]⟩
abbrev S512x256 : Shape := ⟨2, ![512, 256]⟩
abbrev S512x128 : Shape := ⟨2, ![512, 128]⟩
abbrev S512x3456 : Shape := ⟨2, ![512, 3456]⟩
abbrev S512 : Shape := ⟨1, ![512]⟩
abbrev S512x1 : Shape := ⟨2, ![512, 1]⟩

abbrev nBuf : Space → Nat
  | .hbm => 30
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x3336, .f32⟩
  | .hbm, ⟨4, _⟩ => ⟨S4096x1024, .f32⟩
  | .hbm, ⟨5, _⟩ => ⟨S1024x3072, .f32⟩
  | .hbm, ⟨6, _⟩ => ⟨S1024x256, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x3456, .f32⟩
  | .hbm, ⟨11, _⟩ => ⟨S4096x768, .f32⟩
  | .hbm, ⟨12, _⟩ => ⟨S4096x512, .f32⟩
  | .hbm, ⟨13, _⟩ => ⟨S4096x1024, .f32⟩
  | .hbm, ⟨14, _⟩ => ⟨S4096x768, .f32⟩
  | .hbm, ⟨15, _⟩ => ⟨S4096x256, .f32⟩
  | .hbm, ⟨16, _⟩ => ⟨S4096x8, .f32⟩
  | .hbm, ⟨17, _⟩ => ⟨S_, .f32⟩
  | .hbm, ⟨18, _⟩ => ⟨S4096x120, .f32⟩
  | .hbm, ⟨19, _⟩ => ⟨S4096x128, .f32⟩
  | .hbm, ⟨20, _⟩ => ⟨S4096x768, .bf16⟩
  | .hbm, ⟨21, _⟩ => ⟨S4096x512, .bf16⟩
  | .hbm, ⟨22, _⟩ => ⟨S4096x1024, .bf16⟩
  | .hbm, ⟨23, _⟩ => ⟨S4096x768, .bf16⟩
  | .hbm, ⟨24, _⟩ => ⟨S4096x256, .bf16⟩
  | .hbm, ⟨25, _⟩ => ⟨S4096x128, .bf16⟩
  | .hbm, ⟨26, _⟩ => ⟨S1024x3456, .bf16⟩
  | .hbm, ⟨27, _⟩ => ⟨S1x1024, .f32⟩
  | .hbm, ⟨28, _⟩ => ⟨S4096x1024, .f32⟩
  | .hbm, ⟨29, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x768, .bf16⟩
  | .local _ .vmem, ⟨7, _⟩ => ⟨S512x768, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S1024x3456, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4096x1024 : Shape := ⟨2, ![4096, 1024]⟩
abbrev S1024 : Shape := ⟨1, ![1024]⟩
abbrev S1024x3336 : Shape := ⟨2, ![1024, 3336]⟩
abbrev S4096x3336 : Shape := ⟨2, ![4096, 3336]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x3336, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3336, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1024x256 : Shape := ⟨2, ![1024, 256]⟩
abbrev S256x1024 : Shape := ⟨2, ![256, 1024]⟩
abbrev S1x1024 : Shape := ⟨2, ![1, 1024]⟩
abbrev S1x16 : Shape := ⟨2, ![1, 16]⟩
abbrev S1024x16 : Shape := ⟨2, ![1024, 16]⟩
abbrev S256x64 : Shape := ⟨2, ![256, 64]⟩
abbrev S16x1024 : Shape := ⟨2, ![16, 1024]⟩
abbrev S8x16 : Shape := ⟨2, ![8, 16]⟩
abbrev S8x1024 : Shape := ⟨2, ![8, 1024]⟩
abbrev S1024x1024 : Shape := ⟨2, ![1024, 1024]⟩
abbrev S1024x8 : Shape := ⟨2, ![1024, 8]⟩
abbrev S1024x1 : Shape := ⟨2, ![1024, 1]⟩
abbrev S16x256 : Shape := ⟨2, ![16, 256]⟩
abbrev S64x1024 : Shape := ⟨2, ![64, 1024]⟩
abbrev S1024 : Shape := ⟨1, ![1024]⟩
abbrev S1024x2 : Shape := ⟨2, ![1024, 2]⟩
abbrev S1024x6 : Shape := ⟨2, ![1024, 6]⟩
abbrev S1024x7 : Shape := ⟨2, ![1024, 7]⟩
abbrev S7x1024 : Shape := ⟨2, ![7, 1024]⟩

abbrev nBuf : Space → Nat
  | .hbm => 29
  | .vmem => 20
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S16x64, .f32⟩
  | .hbm, ⟨8, _⟩ => ⟨S16x64, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S256x1024, .f32⟩
  | .hbm, ⟨13, _⟩ => ⟨S1x1024, .f32⟩
  | .hbm, ⟨14, _⟩ => ⟨S1x1024, .f32⟩
  | .hbm, ⟨15, _⟩ => ⟨S1x16, .f32⟩
  | .hbm, ⟨16, _⟩ => ⟨S1024x16, .f32⟩
  | .hbm, ⟨17, _⟩ => ⟨S1024x16, .f32⟩
  | .hbm, ⟨18, _⟩ => ⟨S256x64, .f32⟩
  | .hbm, ⟨19, _⟩ => ⟨S256x64, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x16, .f32⟩
  | .hbm, ⟨25, _⟩ => ⟨S1024x16, .f32⟩
  | .hbm, ⟨26, _⟩ => ⟨S1024x16, .f32⟩
  | .hbm, ⟨27, _⟩ => ⟨S256x64, .f32⟩
  | .hbm, ⟨28, _⟩ => ⟨S256x64, .f32⟩
  | .local _ .vmem, ⟨0, _⟩ => ⟨S1x1024, .f32⟩
  | .local _ .vmem, ⟨1, _⟩ => ⟨S1x1024, .f32⟩
  | .local _ .vmem, ⟨2, _⟩ => ⟨S1x16, .f32⟩
  | .local _ .vmem, ⟨3, _⟩ => ⟨S1024x16, .f32⟩
  | .local _ .vmem, ⟨4, _⟩ => ⟨S1024x16, .f32⟩
  | .local _ .vmem, ⟨5, _⟩ => ⟨S256x64, .f32⟩
  | .local _ .vmem, ⟨6, _⟩ => ⟨S256x64, .f32⟩
  | .local _ .vmem, ⟨7, _⟩ => ⟨S1x1024, .f32⟩
  | .local _ .vmem, ⟨8, _⟩ => ⟨S1x1024, .f32⟩
  | .local _ .vmem, ⟨9, _⟩ => ⟨S1024x256, .f32⟩
  | .local _ .vmem, ⟨10, _⟩ => ⟨S1024x256, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x16, .f32⟩
  | .local _ .vmem, ⟨16, _⟩ => ⟨S1024x16, .f32⟩
  | .local _ .vmem, ⟨17, _⟩ => ⟨S1024x16, .f32⟩
  | .local _ .vmem, ⟨18, _⟩ => ⟨S256x64, .f32⟩
  | .local _ .vmem, ⟨19, _⟩ => ⟨S256x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Reference4Ideal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1024x256 : Shape := ⟨2, ![1024, 256]⟩
abbrev S256x1024 : Shape := ⟨2, ![256, 1024]⟩
abbrev S_ : Shape := ⟨0, ![]⟩
abbrev S16x1 : Shape := ⟨2, ![16, 1]⟩
abbrev S16x64x1 : Shape := ⟨3, ![16, 64, 1]⟩
abbrev S16x16 : Shape := ⟨2, ![16, 16]⟩
abbrev S16x64x1x16 : Shape := ⟨4, ![16, 64, 1, 16]⟩
abbrev S16x1x16x1 : Shape := ⟨4, ![16, 1, 16, 1]⟩
abbrev S16x64x16x16 : Shape := ⟨4, ![16, 64, 16, 16]⟩
abbrev S16x16x1x64 : Shape := ⟨4, ![16, 16, 1, 64]⟩
abbrev S16x16x16x64 : Shape := ⟨4, ![16, 16, 16, 64]⟩
abbrev S1x1024 : Shape := ⟨2, ![1, 1024]⟩
abbrev S1x16 : Shape := ⟨2, ![1, 16]⟩
abbrev S1024x16 : Shape := ⟨2, ![1024, 16]⟩
abbrev S256x64 : Shape := ⟨2, ![256, 64]⟩

abbrev nBuf : Space → Nat
  | .hbm => 259
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x16x64, .f32⟩
  | 6 => ⟨S16x16x64, .f32⟩
  | 7 => ⟨S16x64, .f32⟩
  | 8 => ⟨S16x64, .f32⟩
  | 9 => ⟨S1024x256, .f32⟩
  | 10 => ⟨S1024x256, .f32⟩
  | 11 => ⟨S256x1024, .f32⟩
  | 12 => ⟨S256x1024, .f32⟩
  | 13 => ⟨S_, .f32⟩
  | 14 => ⟨S16x64, .f32⟩
  | 15 => ⟨S16x64, .f32⟩
  | 16 => ⟨S_, .f32⟩
  | 17 => ⟨S16x64, .f32⟩
  | 18 => ⟨S16x64, .i1⟩
  | 19 => ⟨S_, .f32⟩
  | 20 => ⟨S16x64, .f32⟩
  | 21 => ⟨S16x64, .i1⟩
  | 22 => ⟨S_, .f32⟩
  | 23 => ⟨S16x64, .f32⟩
  | 24 => ⟨S_, .f32⟩
  | 25 => ⟨S16x64, .f32⟩
  | 26 => ⟨S_, .f32⟩
  | 27 => ⟨S16x64, .f32⟩
  | 28 => ⟨S16x64, .f32⟩
  | 29 => ⟨S16x64, .f32⟩
  | 30 => ⟨S16, .f32⟩
  | 31 => ⟨S16x1, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S16x64, .f32⟩
  | 41 => ⟨S16x64, .f32⟩
  | 42 => ⟨S16x64, .f32⟩
  | 43 => ⟨S16x64, .f32⟩
  | 44 => ⟨S16x64, .f32⟩
  | 45 => ⟨S16x64, .f32⟩
  | 46 => ⟨S16x64, .f32⟩
  | 47 => ⟨S16x64, .f32⟩
  | 48 => ⟨S_, .f32⟩
  | 49 => ⟨S16x64, .f32⟩
  | 50 => ⟨S16x64, .f32⟩
  | 51 => ⟨S16x64, .f32⟩
  | 52 => ⟨S16x64, .f32⟩
  | 53 => ⟨S16x64, .f32⟩
  | 54 => ⟨S16x64, .f32⟩
  | 55 => ⟨S16x64, .f32⟩
  | 56 => ⟨S_, .f32⟩
  | 57 => ⟨S16x64, .f32⟩
  | 58 => ⟨S16x64, .f32⟩
  | 59 => ⟨S16x64, .f32⟩
  | 60 => ⟨S_, .f32⟩
  | 61 => ⟨S16x64, .f32⟩
  | 62 => ⟨S16x64, .f32⟩
  | 63 => ⟨S16x64, .f32⟩
  | 64 => ⟨S16x64, .f32⟩
  | 65 => ⟨S16x64, .f32⟩
  | 66 => ⟨S16x64, .f32⟩
  | 67 => ⟨S_, .f32⟩
  | 68 => ⟨S16x64, .f32⟩
  | 69 => ⟨S16x64, .f32⟩
  | 70 => ⟨S16x64x1, .f32⟩
  | 71 => ⟨S16x64x16, .f32⟩
  | 72 => ⟨S16x64x16, .f32⟩
  | 73 => ⟨S16x64x1, .f32⟩
  | 74 => ⟨S16x64x16, .f32⟩
  | 75 => ⟨S16x64x16, .f32⟩
  | 76 => ⟨S16x64x16, .f32⟩
  | 77 => ⟨S16x64x1, .f32⟩
  | 78 => ⟨S16x64x16, .f32⟩
  | 79 => ⟨S16x64x16, .f32⟩
  | 80 => ⟨S16x64x1, .f32⟩
  | 81 => ⟨S16x64x16, .f32⟩
  | 82 => ⟨S16x64x16, .f32⟩
  | 83 => ⟨S16x64x16, .f32⟩
  | 84 => ⟨S16x16, .i32⟩
  | 85 => ⟨S16x16, .i32⟩
  | 86 => ⟨S_, .i32⟩
  | 87 => ⟨S16x16, .i32⟩
  | 88 => ⟨S16x16, .i32⟩
  | 89 => ⟨S16x16, .i1⟩
  | 90 => ⟨S16x16, .f32⟩
  | 91 => ⟨S16x64x1x16, .f32⟩
  | 92 => ⟨S16x1x16x1, .f32⟩
  | 93 => ⟨S16x64x16x16, .f32⟩
  | 94 => ⟨S16x64x16x16, .f32⟩
  | 95 => ⟨S16x64x16x16, .f32⟩
  | 96 => ⟨S1024x256, .f32⟩
  | 97 => ⟨S16x64x1x16, .f32⟩
  | 98 => ⟨S16x1x16x1, .f32⟩
  | 99 => ⟨S16x64x16x16, .f32⟩
  | 100 => ⟨S16x64x16x16, .f32⟩
  | 101 => ⟨S16x64x16x16, .f32⟩
  | 102 => ⟨S1024x256, .f32⟩
  | 103 => ⟨S16x16x1x64, .f32⟩
  | 104 => ⟨S16x1x16x1, .f32⟩
  | 105 => ⟨S16x16x16x64, .f32⟩
  | 106 => ⟨S16x16x16x64, .f32⟩
  | 107 => ⟨S16x16x16x64, .f32⟩
  | 108 => ⟨S256x1024, .f32⟩
  | 109 => ⟨S16x16x1x64, .f32⟩
  | 110 => ⟨S16x1x16x1, .f32⟩
  | 111 => ⟨S16x16x16x64, .f32⟩
  | 112 => ⟨S16x16x16x64, .f32⟩
  | 113 => ⟨S16x16x16x64, .f32⟩
  | 114 => ⟨S256x1024, .f32⟩
  | 115 => ⟨S16x16x16x64, .f32⟩
  | 116 => ⟨S16x16x16x64, .f32⟩
  | 117 => ⟨S16x16x16x64, .f32⟩
  | 118 => ⟨S_, .f32⟩
  | 119 => ⟨S16x16x64, .f32⟩
  | 120 => ⟨S16x16x1x64, .f32⟩
  | 121 => ⟨S_, .f32⟩
  | 122 => ⟨S16x16x64, .f32⟩
  | 123 => ⟨S16x16x16x64, .f32⟩
  | 124 => ⟨S16x16x16x64, .f32⟩
  | 125 => ⟨S16x16x16x64, .f32⟩
  | 126 => ⟨S_, .f32⟩
  | 127 => ⟨S16x16x64, .f32⟩
  | _ => ⟨S16x64, .f32⟩

abbrev hbmTy0_1 (i : Nat) : BufTy := match i % 128 with
  | 0 => ⟨S16x16x1x64, .f32⟩
  | 1 => ⟨S_, .f32⟩
  | 2 => ⟨S16x16x64, .f32⟩
  | 3 => ⟨S16x64x16x16, .f32⟩
  | 4 => ⟨S16x64x16x16, .f32⟩
  | 5 => ⟨S16x64x16x16, .f32⟩
  | 6 => ⟨S_, .f32⟩
  | 7 => ⟨S16x64x16, .f32⟩
  | 8 => ⟨S16x64x1x16, .f32⟩
  | 9 => ⟨S_, .f32⟩
  | 10 => ⟨S16x64x16, .f32⟩
  | 11 => ⟨S16x64x16x16, .f32⟩
  | 12 => ⟨S16x64x16x16, .f32⟩
  | 13 => ⟨S16x64x16x16, .f32⟩
  | 14 => ⟨S_, .f32⟩
  | 15 => ⟨S16x64x16, .f32⟩
  | 16 => ⟨S16x64x1x16, .f32⟩
  | 17 => ⟨S_, .f32⟩
  | 18 => ⟨S16x64x16, .f32⟩
  | 19 => ⟨S16x64x16, .f32⟩
  | 20 => ⟨S16x64x16, .f32⟩
  | 21 => ⟨S16x64x16, .f32⟩
  | 22 => ⟨S_, .f32⟩
  | 23 => ⟨S16x64, .f32⟩
  | 24 => ⟨S16x64x1, .f32⟩
  | 25 => ⟨S_, .f32⟩
  | 26 => ⟨S16x64, .f32⟩
  | 27 => ⟨S16x64x16, .f32⟩
  | 28 => ⟨S16x64x16, .f32⟩
  | 29 => ⟨S16x64x16, .f32⟩
  | 30 => ⟨S_, .f32⟩
  | 31 => ⟨S16x64, .f32⟩
  | 32 => ⟨S16x64x1, .f32⟩
  | 33 => ⟨S_, .f32⟩
  | 34 => ⟨S16x64, .f32⟩
  | 35 => ⟨S16x64x16, .f32⟩
  | 36 => ⟨S16x64x16, .f32⟩
  | 37 => ⟨S16x64x16, .f32⟩
  | 38 => ⟨S16x64x16, .f32⟩
  | 39 => ⟨S16x64x16, .f32⟩
  | 40 => ⟨S_, .f32⟩
  | 41 => ⟨S16x64, .f32⟩
  | 42 => ⟨S16x64x1, .f32⟩
  | 43 => ⟨S_, .f32⟩
  | 44 => ⟨S16x64, .f32⟩
  | 45 => ⟨S16x64, .f32⟩
  | 46 => ⟨S16x64x16, .f32⟩
  | 47 => ⟨S16x64x16, .f32⟩
  | 48 => ⟨S16x64x16, .f32⟩
  | 49 => ⟨S16x64x16, .f32⟩
  | 50 => ⟨S_, .f32⟩
  | 51 => ⟨S16x64, .f32⟩
  | 52 => ⟨S16x64x1, .f32⟩
  | 53 => ⟨S_, .f32⟩
  | 54 => ⟨S16x64, .f32⟩
  | 55 => ⟨S16x64, .f32⟩
  | 56 => ⟨S16x64, .f32⟩
  | 57 => ⟨S16x64, .f32⟩
  | 58 => ⟨S16x64, .f32⟩
  | 59 => ⟨S16x64, .f32⟩
  | 60 => ⟨S16x64, .f32⟩
  | 61 => ⟨S16x64, .f32⟩
  | 62 => ⟨S16x64, .f32⟩
  | 63 => ⟨S16x64, .f32⟩
  | 64 => ⟨S16x64, .f32⟩
  | 65 => ⟨S16x64, .f32⟩
  | 66 => ⟨S16x64, .f32⟩
  | 67 => ⟨S16x64, .f32⟩
  | 68 => ⟨S16x64, .f32⟩
  | 69 => ⟨S16x64, .f32⟩
  | 70 => ⟨S16x64, .f32⟩
  | 71 => ⟨S16x64, .f32⟩
  | 72 => ⟨S16x64, .f32⟩
  | 73 => ⟨S16x64, .f32⟩
  | 74 => ⟨S16x64, .f32⟩
  | 75 => ⟨S16x64, .f32⟩
  | 76 => ⟨S16x64, .f32⟩
  | 77 => ⟨S16x64, .f32⟩
  | 78 => ⟨S16x64, .f32⟩
  | 79 => ⟨S16x64, .f32⟩
  | 80 => ⟨S16x64, .f32⟩
  | 81 => ⟨S16x64, .f32⟩
  | 82 => ⟨S16x64, .f32⟩
  | 83 => ⟨S16x64, .f32⟩
  | 84 => ⟨S16x64, .f32⟩
  | 85 => ⟨S16x64, .f32⟩
  | 86 => ⟨S16x64, .f32⟩
  | 87 => ⟨S16x64, .f32⟩
  | 88 => ⟨S16x64, .f32⟩
  | 89 => ⟨S16x64, .f32⟩
  | 90 => ⟨S16x64, .f32⟩
  | 91 => ⟨S16x64, .f32⟩
  | 92 => ⟨S_, .f32⟩
  | 93 => ⟨S16, .f32⟩
  | 94 => ⟨S16x1, .f32⟩
  | 95 => ⟨S16x64, .f32⟩
  | 96 => ⟨S16x64, .f32⟩
  | 97 => ⟨S16x64, .f32⟩
  | 98 => ⟨S16x64, .f32⟩
  | 99 => ⟨S16x64, .f32⟩
  | 100 => ⟨S16x64, .f32⟩
  | 101 => ⟨S16x64, .f32⟩
  | 102 => ⟨S16x64, .f32⟩
  | 103 => ⟨S16x64, .f32⟩
  | 104 => ⟨S_, .f32⟩
  | 105 => ⟨S16, .f32⟩
  | 106 => ⟨S16x1, .f32⟩
  | 107 => ⟨S16x1, .f32⟩
  | 108 => ⟨S16x64, .f32⟩
  | 109 => ⟨S16x64, .f32⟩
  | 110 => ⟨S16x64, .f32⟩
  | 111 => ⟨S16x64, .f32⟩
  | 112 => ⟨S16x64, .f32⟩
  | 113 => ⟨S_, .f32⟩
  | 114 => ⟨S16, .f32⟩
  | 115 => ⟨S16x1, .f32⟩
  | 116 => ⟨S16x1, .f32⟩
  | 117 => ⟨S16x64, .f32⟩
  | 118 => ⟨S16x64, .f32⟩
  | 119 => ⟨S16x64, .f32⟩
  | 120 => ⟨S_, .f32⟩
  | 121 => ⟨S16, .f32⟩
  | 122 => ⟨S16, .f32⟩
  | 123 => ⟨S16x64, .f32⟩
  | 124 => ⟨S1x1024, .f32⟩
  | 125 => ⟨S1x1024, .f32⟩
  | 126 => ⟨S1x16, .f32⟩
  | 127 => ⟨S1024x16, .f32⟩
  | _ => ⟨S16x64, .f32⟩

abbrev hbmTy0_2 (i : Nat) : BufTy := match i % 128 with
  | 0 => ⟨S1024x16, .f32⟩
  | 1 => ⟨S256x64, .f32⟩
  | 2 => ⟨S256x64, .f32⟩
  | _ => ⟨S16x64, .f32⟩

abbrev hbmTy (i : Nat) : BufTy := match i / 128 with
  | 0 => hbmTy0_0 i
  | 1 => hbmTy0_1 i
  | 2 => hbmTy0_2 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_cst_4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_9 : Ref sig .tc := ⟨.hbm, 118, rfl⟩
abbrev main_v94 : Ref sig .tc := ⟨.hbm, 119, rfl⟩
abbrev main_v95 : Ref sig .tc := ⟨.hbm, 120, rfl⟩
abbrev main_cst_10 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_11 : Ref sig .tc := ⟨.hbm, 126, rfl⟩
abbrev main_v100 : Ref sig .tc := ⟨.hbm, 127, rfl⟩
abbrev main_v101 : Ref sig .tc := ⟨.hbm, 128, rfl⟩
abbrev main_cst_12 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_13 : Ref sig .tc := ⟨.hbm, 134, rfl⟩
abbrev main_v106 : Ref sig .tc := ⟨.hbm, 135, rfl⟩
abbrev main_v107 : Ref sig .tc := ⟨.hbm, 136, rfl⟩
abbrev main_cst_14 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_15 : Ref sig .tc := ⟨.hbm, 142, rfl⟩
abbrev main_v112 : Ref sig .tc := ⟨.hbm, 143, rfl⟩
abbrev main_v113 : Ref sig .tc := ⟨.hbm, 144, rfl⟩
abbrev main_cst_16 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_17 : Ref sig .tc := ⟨.hbm, 150, rfl⟩
abbrev main_v118 : Ref sig .tc := ⟨.hbm, 151, rfl⟩
abbrev main_v119 : Ref sig .tc := ⟨.hbm, 152, rfl⟩
abbrev main_cst_18 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_19 : Ref sig .tc := ⟨.hbm, 158, rfl⟩
abbrev main_v124 : Ref sig .tc := ⟨.hbm, 159, rfl⟩
abbrev main_v125 : Ref sig .tc := ⟨.hbm, 160, rfl⟩
abbrev main_cst_20 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_21 : Ref sig .tc := ⟨.hbm, 168, rfl⟩
abbrev main_v132 : Ref sig .tc := ⟨.hbm, 169, rfl⟩
abbrev main_v133 : Ref sig .tc := ⟨.hbm, 170, rfl⟩
abbrev main_cst_22 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_23 : Ref sig .tc := ⟨.hbm, 178, rfl⟩
abbrev main_v140 : Ref sig .tc := ⟨.hbm, 179, rfl⟩
abbrev main_v141 : Ref sig .tc := ⟨.hbm, 180, rfl⟩
abbrev main_cst_24 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_cst_25 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_cst_26 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_cst_27 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_28 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩

abbrev nD : Nat := 1
abbrev τ : Topo := Topo.v7x

variable {F : FTy → Type} [FloatOps F]
-- ==== Kernel5.lean ====
abbrev S4096x768 : Shape := ⟨2, ![4096, 768]⟩
abbrev S4096x4 : Shape := ⟨2, ![4096, 4]⟩
abbrev S4x768 : Shape := ⟨2, ![4, 768]⟩
abbrev S4 : Shape := ⟨1, ![4]⟩
abbrev S_ : Shape := ⟨0, ![]⟩
abbrev S8x768 : Shape := ⟨2, ![8, 768]⟩
abbrev S1x4 : Shape := ⟨2, ![1, 4]⟩
abbrev S1x128 : Shape := ⟨2, ![1, 128]⟩
abbrev S4096x2304 : Shape := ⟨2, ![4096, 2304]⟩
abbrev S4096x256 : Shape := ⟨2, ![4096, 256]⟩
abbrev S4096x120 : Shape := ⟨2, ![4096, 120]⟩
abbrev S4096x3456 : Shape := ⟨2, ![4096, 3456]⟩
abbrev S4096x128 : Shape := ⟨2, ![4096, 128]⟩
abbrev S512x768 : Shape := ⟨2, ![512, 768]⟩
abbrev S512x128 : Shape := ⟨2, ![512, 128]⟩
abbrev S512x256 : Shape := ⟨2, ![512, 256]⟩
abbrev S520x768 : Shape := ⟨2, ![520, 768]⟩
abbrev S515x768 : Shape := ⟨2, ![515, 768]⟩
abbrev S5x768 : Shape := ⟨2, ![5, 768]⟩
abbrev S1x768 : Shape := ⟨2, ![1, 768]⟩
abbrev S514x768 : Shape := ⟨2, ![514, 768]⟩
abbrev S6x768 : Shape := ⟨2, ![6, 768]⟩
abbrev S513x768 : Shape := ⟨2, ![513, 768]⟩
abbrev S7x768 : Shape := ⟨2, ![7, 768]⟩
abbrev S512x64 : Shape := ⟨2, ![512, 64]⟩
abbrev S512 : Shape := ⟨1, ![512]⟩
abbrev S512x1 : Shape := ⟨2, ![512, 1]⟩
abbrev S512x512 : Shape := ⟨2, ![512, 512]⟩

abbrev nBuf : Space → Nat
  | .hbm => 28
  | .vmem => 17
  | .smem => 0
  | _ => 0

abbrev bufTy : (tb : Table) → Fin (tcTables nBuf tb) → BufTy
  | .hbm, ⟨0, _⟩ => ⟨S4096x768, .f32⟩
  | .hbm, ⟨1, _⟩ => ⟨S4096x4, .f32⟩
  | .hbm, ⟨2, _⟩ => ⟨S4096x4, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S_, .i32⟩
  | .hbm, ⟨7, _⟩ => ⟨S_, .f32⟩
  | .hbm, ⟨8, _⟩ => ⟨S8x768, .f32⟩
  | .hbm, ⟨9, _⟩ => ⟨S1x4, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S1x4, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S4096x2304, .f32⟩
  | .hbm, ⟨19, _⟩ => ⟨S_, .f32⟩
  | .hbm, ⟨20, _⟩ => ⟨S4096x256, .f32⟩
  | .hbm, ⟨21, _⟩ => ⟨S_, .f32⟩
  | .hbm, ⟨22, _⟩ => ⟨S4096x120, .f32⟩
  | .hbm, ⟨23, _⟩ => ⟨S4096x3456, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x128, .f32⟩
  | .local _ .vmem, ⟨0, _⟩ => ⟨S512x768, .f32⟩
  | .local _ .vmem, ⟨1, _⟩ => ⟨S512x768, .f32⟩
  | .local _ .vmem, ⟨2, _⟩ => ⟨S8x768, .f32⟩
  | .local _ .vmem, ⟨3, _⟩ => ⟨S8x768, .f32⟩
  | .local _ .vmem, ⟨4, _⟩ => ⟨S512x128, .f32⟩
  | .local _ .vmem, ⟨5, _⟩ => ⟨S512x128, .f32⟩
  | .local _ .vmem, ⟨6, _⟩ => ⟨S8x768, .f32⟩
  | .local _ .vmem, ⟨7, _⟩ => ⟨S1x128, .f32⟩
  | .local _ .vmem, ⟨8, _⟩ => ⟨S1x128, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x128, .f32⟩
  | .local _ .vmem, ⟨16, _⟩ => ⟨S512x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4096x768 : Shape := ⟨2, ![4096, 768]⟩
abbrev S4096x4 : Shape := ⟨2, ![4096, 4]⟩
abbrev S4x768 : Shape := ⟨2, ![4, 768]⟩
abbrev S4 : Shape := ⟨1, ![4]⟩
abbrev S_ : Shape := ⟨0, ![]⟩
abbrev S3x768 : Shape := ⟨2, ![3, 768]⟩
abbrev S4099x768 : Shape := ⟨2, ![4099, 768]⟩
abbrev S1x768 : Shape := ⟨2, ![1, 768]⟩
abbrev S768 : Shape := ⟨1, ![768]⟩
abbrev S4096x256 : Shape := ⟨2, ![4096, 256]⟩
abbrev S4096x4x64 : Shape := ⟨3, ![4096, 4, 64]⟩
abbrev S4096x4x1 : Shape := ⟨3, ![4096, 4, 1]⟩
abbrev S1x4 : Shape := ⟨2, ![1, 4]⟩
abbrev S64x64x4 : Shape := ⟨3, ![64, 64, 4]⟩
abbrev S4096x120 : Shape := ⟨2, ![4096, 120]⟩
abbrev S4096x128 : Shape := ⟨2, ![4096, 128]⟩

abbrev nBuf : Space → Nat
  | .hbm => 113
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x4, .f32⟩
  | .hbm, ⟨2, _⟩ => ⟨S4096x4, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S3x768, .f32⟩
  | .hbm, ⟨8, _⟩ => ⟨S4099x768, .f32⟩
  | .hbm, ⟨9, _⟩ => ⟨S1x768, .f32⟩
  | .hbm, ⟨10, _⟩ => ⟨S768, .f32⟩
  | .hbm, ⟨11, _⟩ => ⟨S4096x768, .f32⟩
  | .hbm, ⟨12, _⟩ => ⟨S1x768, .f32⟩
  | .hbm, ⟨13, _⟩ => ⟨S4096x768, .f32⟩
  | .hbm, ⟨14, _⟩ => ⟨S4096x768, .f32⟩
  | .hbm, ⟨15, _⟩ => ⟨S1x768, .f32⟩
  | .hbm, ⟨16, _⟩ => ⟨S768, .f32⟩
  | .hbm, ⟨17, _⟩ => ⟨S4096x768, .f32⟩
  | .hbm, ⟨18, _⟩ => ⟨S1x768, .f32⟩
  | .hbm, ⟨19, _⟩ => ⟨S4096x768, .f32⟩
  | .hbm, ⟨20, _⟩ => ⟨S4096x768, .f32⟩
  | .hbm, ⟨21, _⟩ => ⟨S4096x768, .f32⟩
  | .hbm, ⟨22, _⟩ => ⟨S1x768, .f32⟩
  | .hbm, ⟨23, _⟩ => ⟨S768, .f32⟩
  | .hbm, ⟨24, _⟩ => ⟨S4096x768, .f32⟩
  | .hbm, ⟨25, _⟩ => ⟨S1x768, .f32⟩
  | .hbm, ⟨26, _⟩ => ⟨S4096x768, .f32⟩
  | .hbm, ⟨27, _⟩ => ⟨S4096x768, .f32⟩
  | .hbm, ⟨28, _⟩ => ⟨S4096x768, .f32⟩
  | .hbm, ⟨29, _⟩ => ⟨S1x768, .f32⟩
  | .hbm, ⟨30, _⟩ => ⟨S768, .f32⟩
  | .hbm, ⟨31, _⟩ => ⟨S4096x768, .f32⟩
  | .hbm, ⟨32, _⟩ => ⟨S1x768, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S4096x768, .f32⟩
  | .hbm, ⟨37, _⟩ => ⟨S4096x768, .f32⟩
  | .hbm, ⟨38, _⟩ => ⟨S_, .f32⟩
  | .hbm, ⟨39, _⟩ => ⟨S4096x768, .f32⟩
  | .hbm, ⟨40, _⟩ => ⟨S4096x768, .f32⟩
  | .hbm, ⟨41, _⟩ => ⟨S_, .f32⟩
  | .hbm, ⟨42, _⟩ => ⟨S4096x768, .f32⟩
  | .hbm, ⟨43, _⟩ => ⟨S4096x768, .f32⟩
  | .hbm, ⟨44, _⟩ => ⟨S4096x768, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x4x64, .f32⟩
  | .hbm, ⟨49, _⟩ => ⟨S4096x4x64, .f32⟩
  | .hbm, ⟨50, _⟩ => ⟨S4096x4x64, .f32⟩
  | .hbm, ⟨51, _⟩ => ⟨S_, .f32⟩
  | .hbm, ⟨52, _⟩ => ⟨S4096x4, .f32⟩
  | .hbm, ⟨53, _⟩ => ⟨S4096x4x1, .f32⟩
  | .hbm, ⟨54, _⟩ => ⟨S_, .f32⟩
  | .hbm, ⟨55, _⟩ => ⟨S4096x4x1, .f32⟩
  | .hbm, ⟨56, _⟩ => ⟨S4096x4x1, .f32⟩
  | .hbm, ⟨57, _⟩ => ⟨S4096x4x1, .f32⟩
  | .hbm, ⟨58, _⟩ => ⟨S4096x4x64, .f32⟩
  | .hbm, ⟨59, _⟩ => ⟨S4096x4x64, .f32⟩
  | .hbm, ⟨60, _⟩ => ⟨S_, .f32⟩
  | .hbm, ⟨61, _⟩ => ⟨S4096x4x64, .f32⟩
  | .hbm, ⟨62, _⟩ => ⟨S4096x4x64, .f32⟩
  | .hbm, ⟨63, _⟩ => ⟨S4096x4x64, .f32⟩
  | .hbm, ⟨64, _⟩ => ⟨S_, .f32⟩
  | .hbm, ⟨65, _⟩ => ⟨S4096x4, .f32⟩
  | .hbm, ⟨66, _⟩ => ⟨S4096x4x1, .f32⟩
  | .hbm, ⟨67, _⟩ => ⟨S_, .f32⟩
  | .hbm, ⟨68, _⟩ => ⟨S4096x4x1, .f32⟩
  | .hbm, ⟨69, _⟩ => ⟨S4096x4x1, .f32⟩
  | .hbm, ⟨70, _⟩ => ⟨S4096x4x1, .f32⟩
  | .hbm, ⟨71, _⟩ => ⟨S4096x4x64, .f32⟩
  | .hbm, ⟨72, _⟩ => ⟨S4096x4x64, .f32⟩
  | .hbm, ⟨73, _⟩ => ⟨S4096x4, .f32⟩
  | .hbm, ⟨74, _⟩ => ⟨S4096x4, .f32⟩
  | .hbm, ⟨75, _⟩ => ⟨S_, .f32⟩
  | .hbm, ⟨76, _⟩ => ⟨S4096x4, .f32⟩
  | .hbm, ⟨77, _⟩ => ⟨S4096x4, .f32⟩
  | .hbm, ⟨78, _⟩ => ⟨S_, .f32⟩
  | .hbm, ⟨79, _⟩ => ⟨S4096x4, .f32⟩
  | .hbm, ⟨80, _⟩ => ⟨S4096x4, .f32⟩
  | .hbm, ⟨81, _⟩ => ⟨S4, .f32⟩
  | .hbm, ⟨82, _⟩ => ⟨S4, .f32⟩
  | .hbm, ⟨83, _⟩ => ⟨S1x4, .f32⟩
  | .hbm, ⟨84, _⟩ => ⟨S4096x4, .f32⟩
  | .hbm, ⟨85, _⟩ => ⟨S4096x4, .f32⟩
  | .hbm, ⟨86, _⟩ => ⟨S_, .f32⟩
  | .hbm, ⟨87, _⟩ => ⟨S4096x4, .f32⟩
  | .hbm, ⟨88, _⟩ => ⟨S4096x4, .f32⟩
  | .hbm, ⟨89, _⟩ => ⟨S4096x4, .f32⟩
  | .hbm, ⟨90, _⟩ => ⟨S4096x4, .f32⟩
  | .hbm, ⟨91, _⟩ => ⟨S4096x4, .i1⟩
  | .hbm, ⟨92, _⟩ => ⟨S4096x4, .f32⟩
  | .hbm, ⟨93, _⟩ => ⟨S4096x4, .f32⟩
  | .hbm, ⟨94, _⟩ => ⟨S4096x4, .f32⟩
  | .hbm, ⟨95, _⟩ => ⟨S4096x4, .f32⟩
  | .hbm, ⟨96, _⟩ => ⟨S4096x4, .f32⟩
  | .hbm, ⟨97, _⟩ => ⟨S4096x4, .f32⟩
  | .hbm, ⟨98, _⟩ => ⟨S4096x4, .f32⟩
  | .hbm, ⟨99, _⟩ => ⟨S4096x4, .f32⟩
  | .hbm, ⟨100, _⟩ => ⟨S1x4, .f32⟩
  | .hbm, ⟨101, _⟩ => ⟨S4096x4, .f32⟩
  | .hbm, ⟨102, _⟩ => ⟨S4096x4, .f32⟩
  | .hbm, ⟨103, _⟩ => ⟨S64x64x4, .f32⟩
  | .hbm, ⟨104, _⟩ => ⟨S_, .f32⟩
  | .hbm, ⟨105, _⟩ => ⟨S_, .f32⟩
  | .hbm, ⟨106, _⟩ => ⟨S64x64x4, .f32⟩
  | .hbm, ⟨107, _⟩ => ⟨S4096x4, .f32⟩
  | .hbm, ⟨108, _⟩ => ⟨S4096x256, .f32⟩
  | .hbm, ⟨109, _⟩ => ⟨S4096x256, .f32⟩
  | .hbm, ⟨110, _⟩ => ⟨S_, .f32⟩
  | .hbm, ⟨111, _⟩ => ⟨S4096x120, .f32⟩
  | .hbm, ⟨112, _⟩ => ⟨S4096x128, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_0 : Ref sig .tc := ⟨.hbm, 51, rfl⟩
abbrev main_v36 : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_2 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call2_call0_cst : Ref sig .tc := ⟨.hbm, 104, rfl⟩
abbrev main_call2_call0_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_7 : Ref sig .tc := ⟨.hbm, 110, rfl⟩
abbrev main_v73 : Ref sig .tc := ⟨.hbm, 111, rfl⟩
abbrev main_v74 : Ref sig .tc := ⟨.hbm, 112, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x3336 : Shape := ⟨2, ![1024, 3336]⟩
abbrev S1024x3072 : Shape := ⟨2, ![1024, 3072]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩
abbrev S1x1024 : Shape := ⟨2, ![1, 1024]⟩
abbrev S4096x3456 : Shape := ⟨2, ![4096, 3456]⟩
abbrev S512x1024 : Shape := ⟨2, ![512, 1024]⟩
abbrev S512x3456 : Shape := ⟨2, ![512, 3456]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S1024x3072, .f32⟩
  | .hbm, ⟨4, _⟩ => ⟨S1024x256, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x3456, .f32⟩
  | .hbm, ⟨9, _⟩ => ⟨S1x1024, .f32⟩
  | .hbm, ⟨10, _⟩ => ⟨S1024x3456, .bf16⟩
  | .hbm, ⟨11, _⟩ => ⟨S4096x3456, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x3456, .f32⟩
  | .local _ .vmem, ⟨5, _⟩ => ⟨S512x3456, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1024 : Shape := ⟨1, ![1024]⟩
abbrev S1024x3336 : Shape := ⟨2, ![1024, 3336]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3336 : Shape := ⟨2, ![4096, 3336]⟩
abbrev S4096x3072 : Shape := ⟨2, ![4096, 3072]⟩
abbrev S4096x256 : Shape := ⟨2, ![4096, 256]⟩
abbrev S4096x8 : Shape := ⟨2, ![4096, 8]⟩
abbrev S4096x120 : Shape := ⟨2, ![4096, 120]⟩
abbrev S4096x3456 : Shape := ⟨2, ![4096, 3456]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3336, .f32⟩
  | .hbm, ⟨20, _⟩ => ⟨S4096x3072, .f32⟩
  | .hbm, ⟨21, _⟩ => ⟨S4096x256, .f32⟩
  | .hbm, ⟨22, _⟩ => ⟨S4096x8, .f32⟩
  | .hbm, ⟨23, _⟩ => ⟨S_, .f32⟩
  | .hbm, ⟨24, _⟩ => ⟨S4096x120, .f32⟩
  | .hbm, ⟨25, _⟩ => ⟨S4096x3456, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel7.lean ====
abbrev S4096x256 : Shape := ⟨2, ![4096, 256]⟩
abbrev S31x256 : Shape := ⟨2, ![31, 256]⟩
abbrev S256 : Shape := ⟨1, ![256]⟩
abbrev S256x256 : Shape := ⟨2, ![256, 256]⟩
abbrev S3x256 : Shape := ⟨2, ![3, 256]⟩
abbrev S_ : Shape := ⟨0, ![]⟩
abbrev S32x256 : Shape := ⟨2, ![32, 256]⟩
abbrev S1x256 : Shape := ⟨2, ![1, 256]⟩
abbrev S8x256 : Shape := ⟨2, ![8, 256]⟩
abbrev S4096x512 : Shape := ⟨2, ![4096, 512]⟩
abbrev S4096x1152 : Shape := ⟨2, ![4096, 1152]⟩
abbrev S4096x3456 : Shape := ⟨2, ![4096, 3456]⟩
abbrev S512x256 : Shape := ⟨2, ![512, 256]⟩
abbrev S544x256 : Shape := ⟨2, ![544, 256]⟩
abbrev S542x256 : Shape := ⟨2, ![542, 256]⟩
abbrev S2x256 : Shape := ⟨2, ![2, 256]⟩
abbrev S541x256 : Shape := ⟨2, ![541, 256]⟩
abbrev S540x256 : Shape := ⟨2, ![540, 256]⟩
abbrev S4x256 : Shape := ⟨2, ![4, 256]⟩
abbrev S539x256 : Shape := ⟨2, ![539, 256]⟩
abbrev S5x256 : Shape := ⟨2, ![5, 256]⟩
abbrev S538x256 : Shape := ⟨2, ![538, 256]⟩
abbrev S6x256 : Shape := ⟨2, ![6, 256]⟩
abbrev S537x256 : Shape := ⟨2, ![537, 256]⟩
abbrev S7x256 : Shape := ⟨2, ![7, 256]⟩
abbrev S536x256 : Shape := ⟨2, ![536, 256]⟩
abbrev S535x256 : Shape := ⟨2, ![535, 256]⟩
abbrev S9x256 : Shape := ⟨2, ![9, 256]⟩
abbrev S534x256 : Shape := ⟨2, ![534, 256]⟩
abbrev S10x256 : Shape := ⟨2, ![10, 256]⟩
abbrev S533x256 : Shape := ⟨2, ![533, 256]⟩
abbrev S11x256 : Shape := ⟨2, ![11, 256]⟩
abbrev S532x256 : Shape := ⟨2, ![532, 256]⟩
abbrev S12x256 : Shape := ⟨2, ![12, 256]⟩
abbrev S531x256 : Shape := ⟨2, ![531, 256]⟩
abbrev S13x256 : Shape := ⟨2, ![13, 256]⟩
abbrev S530x256 : Shape := ⟨2, ![530, 256]⟩
abbrev S14x256 : Shape := ⟨2, ![14, 256]⟩
abbrev S529x256 : Shape := ⟨2, ![529, 256]⟩
abbrev S15x256 : Shape := ⟨2, ![15, 256]⟩
abbrev S528x256 : Shape := ⟨2, ![528, 256]⟩
abbrev S16x256 : Shape := ⟨2, ![16, 256]⟩
abbrev S527x256 : Shape := ⟨2, ![527, 256]⟩
abbrev S17x256 : Shape := ⟨2, ![17, 256]⟩
abbrev S526x256 : Shape := ⟨2, ![526, 256]⟩
abbrev S18x256 : Shape := ⟨2, ![18, 256]⟩
abbrev S525x256 : Shape := ⟨2, ![525, 256]⟩
abbrev S19x256 : Shape := ⟨2, ![19, 256]⟩
abbrev S524x256 : Shape := ⟨2, ![524, 256]⟩
abbrev S20x256 : Shape := ⟨2, ![20, 256]⟩
abbrev S523x256 : Shape := ⟨2, ![523, 256]⟩
abbrev S21x256 : Shape := ⟨2, ![21, 256]⟩
abbrev S522x256 : Shape := ⟨2, ![522, 256]⟩
abbrev S22x256 : Shape := ⟨2, ![22, 256]⟩
abbrev S521x256 : Shape := ⟨2, ![521, 256]⟩
abbrev S23x256 : Shape := ⟨2, ![23, 256]⟩
abbrev S520x256 : Shape := ⟨2, ![520, 256]⟩
abbrev S24x256 : Shape := ⟨2, ![24, 256]⟩
abbrev S519x256 : Shape := ⟨2, ![519, 256]⟩
abbrev S25x256 : Shape := ⟨2, ![25, 256]⟩
abbrev S518x256 : Shape := ⟨2, ![518, 256]⟩
abbrev S26x256 : Shape := ⟨2, ![26, 256]⟩
abbrev S517x256 : Shape := ⟨2, ![517, 256]⟩
abbrev S27x256 : Shape := ⟨2, ![27, 256]⟩
abbrev S516x256 : Shape := ⟨2, ![516, 256]⟩
abbrev S28x256 : Shape := ⟨2, ![28, 256]⟩
abbrev S515x256 : Shape := ⟨2, ![515, 256]⟩
abbrev S29x256 : Shape := ⟨2, ![29, 256]⟩
abbrev S514x256 : Shape := ⟨2, ![514, 256]⟩
abbrev S30x256 : Shape := ⟨2, ![30, 256]⟩
abbrev S513x256 : Shape := ⟨2, ![513, 256]⟩
abbrev S512 : Shape := ⟨1, ![512]⟩
abbrev S512x1 : Shape := ⟨2, ![512, 1]⟩

abbrev nBuf : Space → Nat
  | .hbm => 32
  | .vmem => 33
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S31x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S3x256, .f32⟩
  | .hbm, ⟨14, _⟩ => ⟨S_, .i32⟩
  | .hbm, ⟨15, _⟩ => ⟨S_, .f32⟩
  | .hbm, ⟨16, _⟩ => ⟨S32x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S256x256, .bf16⟩
  | .hbm, ⟨21, _⟩ => ⟨S1x256, .f32⟩
  | .hbm, ⟨22, _⟩ => ⟨S_, .i32⟩
  | .hbm, ⟨23, _⟩ => ⟨S_, .f32⟩
  | .hbm, ⟨24, _⟩ => ⟨S8x256, .f32⟩
  | .hbm, ⟨25, _⟩ => ⟨S_, .f32⟩
  | .hbm, ⟨26, _⟩ => ⟨S4096x512, .f32⟩
  | .hbm, ⟨27, _⟩ => ⟨S_, .f32⟩
  | .hbm, ⟨28, _⟩ => ⟨S4096x1152, .f32⟩
  | .hbm, ⟨29, _⟩ => ⟨S4096x3456, .f32⟩
  | .hbm, ⟨30, _⟩ => ⟨S4096x256, .f32⟩
  | .hbm, ⟨31, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S8x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference7Ideal.lean ====
abbrev S4096x256 : Shape := ⟨2, ![4096, 256]⟩
abbrev S31x256 : Shape := ⟨2, ![31, 256]⟩
abbrev S256 : Shape := ⟨1, ![256]⟩
abbrev S256x256 : Shape := ⟨2, ![256, 256]⟩
abbrev S3x256 : Shape := ⟨2, ![3, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S4096 : Shape := ⟨1, ![4096]⟩
abbrev S4096x1 : Shape := ⟨2, ![4096, 1]⟩
abbrev S2x256 : Shape := ⟨2, ![2, 256]⟩
abbrev S4098x256 : Shape := ⟨2, ![4098, 256]⟩

abbrev nBuf : Space → Nat
  | .hbm => 330
  | .vmem => 0
  | .smem => 0
  | _ => 0

abbrev hbmTy0_0 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S31x256, .f32⟩
  | 8 => ⟨S256, .f32⟩
  | 9 => ⟨S256, .f32⟩
  | 10 => ⟨S256, .f32⟩
  | 11 => ⟨S256x256, .f32⟩
  | 12 => ⟨S256, .f32⟩
  | 13 => ⟨S3x256, .f32⟩
  | 14 => ⟨S4096x256, .f32⟩
  | 15 => ⟨S4096x256, .f32⟩
  | 16 => ⟨S_, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S4096x256, .f32⟩
  | 23 => ⟨S_, .f32⟩
  | 24 => ⟨S30x256, .f32⟩
  | 25 => ⟨S4126x256, .f32⟩
  | 26 => ⟨S1x256, .f32⟩
  | 27 => ⟨S256, .f32⟩
  | 28 => ⟨S4096x256, .f32⟩
  | 29 => ⟨S1x256, .f32⟩
  | 30 => ⟨S4096x256, .f32⟩
  | 31 => ⟨S4096x256, .f32⟩
  | 32 => ⟨S1x256, .f32⟩
  | 33 => ⟨S256, .f32⟩
  | 34 => ⟨S4096x256, .f32⟩
  | 35 => ⟨S1x256, .f32⟩
  | 36 => ⟨S4096x256, .f32⟩
  | 37 => ⟨S4096x256, .f32⟩
  | 38 => ⟨S4096x256, .f32⟩
  | 39 => ⟨S1x256, .f32⟩
  | 40 => ⟨S256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S1x256, .f32⟩
  | 47 => ⟨S256, .f32⟩
  | 48 => ⟨S4096x256, .f32⟩
  | 49 => ⟨S1x256, .f32⟩
  | 50 => ⟨S4096x256, .f32⟩
  | 51 => ⟨S4096x256, .f32⟩
  | 52 => ⟨S4096x256, .f32⟩
  | 53 => ⟨S1x256, .f32⟩
  | 54 => ⟨S256, .f32⟩
  | 55 => ⟨S4096x256, .f32⟩
  | 56 => ⟨S1x256, .f32⟩
  | 57 => ⟨S4096x256, .f32⟩
  | 58 => ⟨S4096x256, .f32⟩
  | 59 => ⟨S4096x256, .f32⟩
  | 60 => ⟨S1x256, .f32⟩
  | 61 => ⟨S256, .f32⟩
  | 62 => ⟨S4096x256, .f32⟩
  | 63 => ⟨S1x256, .f32⟩
  | 64 => ⟨S4096x256, .f32⟩
  | 65 => ⟨S4096x256, .f32⟩
  | 66 => ⟨S4096x256, .f32⟩
  | 67 => ⟨S1x256, .f32⟩
  | 68 => ⟨S256, .f32⟩
  | 69 => ⟨S4096x256, .f32⟩
  | 70 => ⟨S1x256, .f32⟩
  | 71 => ⟨S4096x256, .f32⟩
  | 72 => ⟨S4096x256, .f32⟩
  | 73 => ⟨S4096x256, .f32⟩
  | 74 => ⟨S1x256, .f32⟩
  | 75 => ⟨S256, .f32⟩
  | 76 => ⟨S4096x256, .f32⟩
  | 77 => ⟨S1x256, .f32⟩
  | 78 => ⟨S4096x256, .f32⟩
  | 79 => ⟨S4096x256, .f32⟩
  | 80 => ⟨S4096x256, .f32⟩
  | 81 => ⟨S1x256, .f32⟩
  | 82 => ⟨S256, .f32⟩
  | 83 => ⟨S4096x256, .f32⟩
  | 84 => ⟨S1x256, .f32⟩
  | 85 => ⟨S4096x256, .f32⟩
  | 86 => ⟨S4096x256, .f32⟩
  | 87 => ⟨S4096x256, .f32⟩
  | 88 => ⟨S1x256, .f32⟩
  | 89 => ⟨S256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S1x256, .f32⟩
  | 96 => ⟨S256, .f32⟩
  | 97 => ⟨S4096x256, .f32⟩
  | 98 => ⟨S1x256, .f32⟩
  | 99 => ⟨S4096x256, .f32⟩
  | 100 => ⟨S4096x256, .f32⟩
  | 101 => ⟨S4096x256, .f32⟩
  | 102 => ⟨S1x256, .f32⟩
  | 103 => ⟨S256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S1x256, .f32⟩
  | 110 => ⟨S256, .f32⟩
  | 111 => ⟨S4096x256, .f32⟩
  | 112 => ⟨S1x256, .f32⟩
  | 113 => ⟨S4096x256, .f32⟩
  | 114 => ⟨S4096x256, .f32⟩
  | 115 => ⟨S4096x256, .f32⟩
  | 116 => ⟨S1x256, .f32⟩
  | 117 => ⟨S256, .f32⟩
  | 118 => ⟨S4096x256, .f32⟩
  | 119 => ⟨S1x256, .f32⟩
  | 120 => ⟨S4096x256, .f32⟩
  | 121 => ⟨S4096x256, .f32⟩
  | 122 => ⟨S4096x256, .f32⟩
  | 123 => ⟨S1x256, .f32⟩
  | 124 => ⟨S256, .f32⟩
  | 125 => ⟨S4096x256, .f32⟩
  | 126 => ⟨S1x256, .f32⟩
  | 127 => ⟨S4096x256, .f32⟩
  | _ => ⟨S4096x256, .f32⟩

abbrev hbmTy0_1 (i : Nat) : BufTy := match i % 128 with
  | 0 => ⟨S4096x256, .f32⟩
  | 1 => ⟨S4096x256, .f32⟩
  | 2 => ⟨S1x256, .f32⟩
  | 3 => ⟨S256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S1x256, .f32⟩
  | 10 => ⟨S256, .f32⟩
  | 11 => ⟨S4096x256, .f32⟩
  | 12 => ⟨S1x256, .f32⟩
  | 13 => ⟨S4096x256, .f32⟩
  | 14 => ⟨S4096x256, .f32⟩
  | 15 => ⟨S4096x256, .f32⟩
  | 16 => ⟨S1x256, .f32⟩
  | 17 => ⟨S256, .f32⟩
  | 18 => ⟨S4096x256, .f32⟩
  | 19 => ⟨S1x256, .f32⟩
  | 20 => ⟨S4096x256, .f32⟩
  | 21 => ⟨S4096x256, .f32⟩
  | 22 => ⟨S4096x256, .f32⟩
  | 23 => ⟨S1x256, .f32⟩
  | 24 => ⟨S256, .f32⟩
  | 25 => ⟨S4096x256, .f32⟩
  | 26 => ⟨S1x256, .f32⟩
  | 27 => ⟨S4096x256, .f32⟩
  | 28 => ⟨S4096x256, .f32⟩
  | 29 => ⟨S4096x256, .f32⟩
  | 30 => ⟨S1x256, .f32⟩
  | 31 => ⟨S256, .f32⟩
  | 32 => ⟨S4096x256, .f32⟩
  | 33 => ⟨S1x256, .f32⟩
  | 34 => ⟨S4096x256, .f32⟩
  | 35 => ⟨S4096x256, .f32⟩
  | 36 => ⟨S4096x256, .f32⟩
  | 37 => ⟨S1x256, .f32⟩
  | 38 => ⟨S256, .f32⟩
  | 39 => ⟨S4096x256, .f32⟩
  | 40 => ⟨S1x256, .f32⟩
  | 41 => ⟨S4096x256, .f32⟩
  | 42 => ⟨S4096x256, .f32⟩
  | 43 => ⟨S4096x256, .f32⟩
  | 44 => ⟨S1x256, .f32⟩
  | 45 => ⟨S256, .f32⟩
  | 46 => ⟨S4096x256, .f32⟩
  | 47 => ⟨S1x256, .f32⟩
  | 48 => ⟨S4096x256, .f32⟩
  | 49 => ⟨S4096x256, .f32⟩
  | 50 => ⟨S4096x256, .f32⟩
  | 51 => ⟨S1x256, .f32⟩
  | 52 => ⟨S256, .f32⟩
  | 53 => ⟨S4096x256, .f32⟩
  | 54 => ⟨S1x256, .f32⟩
  | 55 => ⟨S4096x256, .f32⟩
  | 56 => ⟨S4096x256, .f32⟩
  | 57 => ⟨S4096x256, .f32⟩
  | 58 => ⟨S1x256, .f32⟩
  | 59 => ⟨S256, .f32⟩
  | 60 => ⟨S4096x256, .f32⟩
  | 61 => ⟨S1x256, .f32⟩
  | 62 => ⟨S4096x256, .f32⟩
  | 63 => ⟨S4096x256, .f32⟩
  | 64 => ⟨S4096x256, .f32⟩
  | 65 => ⟨S1x256, .f32⟩
  | 66 => ⟨S256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S1x256, .f32⟩
  | 73 => ⟨S256, .f32⟩
  | 74 => ⟨S4096x256, .f32⟩
  | 75 => ⟨S1x256, .f32⟩
  | 76 => ⟨S4096x256, .f32⟩
  | 77 => ⟨S4096x256, .f32⟩
  | 78 => ⟨S4096x256, .f32⟩
  | 79 => ⟨S1x256, .f32⟩
  | 80 => ⟨S256, .f32⟩
  | 81 => ⟨S4096x256, .f32⟩
  | 82 => ⟨S1x256, .f32⟩
  | 83 => ⟨S4096x256, .f32⟩
  | 84 => ⟨S4096x256, .f32⟩
  | 85 => ⟨S4096x256, .f32⟩
  | 86 => ⟨S1x256, .f32⟩
  | 87 => ⟨S256, .f32⟩
  | 88 => ⟨S4096x256, .f32⟩
  | 89 => ⟨S1x256, .f32⟩
  | 90 => ⟨S4096x256, .f32⟩
  | 91 => ⟨S4096x256, .f32⟩
  | 92 => ⟨S4096x256, .f32⟩
  | 93 => ⟨S1x256, .f32⟩
  | 94 => ⟨S256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S1x256, .f32⟩
  | 101 => ⟨S256, .f32⟩
  | 102 => ⟨S4096x256, .f32⟩
  | 103 => ⟨S1x256, .f32⟩
  | 104 => ⟨S4096x256, .f32⟩
  | 105 => ⟨S4096x256, .f32⟩
  | 106 => ⟨S4096x256, .f32⟩
  | 107 => ⟨S1x256, .f32⟩
  | 108 => ⟨S256, .f32⟩
  | 109 => ⟨S4096x256, .f32⟩
  | 110 => ⟨S1x256, .f32⟩
  | 111 => ⟨S4096x256, .f32⟩
  | 112 => ⟨S4096x256, .f32⟩
  | 113 => ⟨S4096x256, .f32⟩
  | 114 => ⟨S1x256, .f32⟩
  | 115 => ⟨S4096x256, .f32⟩
  | 116 => ⟨S4096x256, .f32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S4096x256, .f32⟩
  | 124 => ⟨S4096x256, .f32⟩
  | 125 => ⟨S4096x256, .f32⟩
  | 126 => ⟨S_, .f32⟩
  | 127 => ⟨S4096, .f32⟩
  | _ => ⟨S4096x256, .f32⟩

abbrev hbmTy0_2 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096x1, .f32⟩
  | 6 => ⟨S4096x1, .f32⟩
  | 7 => ⟨S4096x1, .f32⟩
  | 8 => ⟨S4096x256, .f32⟩
  | 9 => ⟨S4096x256, .f32⟩
  | 10 => ⟨S1x256, .f32⟩
  | 11 => ⟨S4096x256, .f32⟩
  | 12 => ⟨S4096x256, .f32⟩
  | 13 => ⟨S1x256, .f32⟩
  | 14 => ⟨S4096x256, .f32⟩
  | 15 => ⟨S4096x256, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S_, .f32⟩
  | 22 => ⟨S4096x256, .f32⟩
  | 23 => ⟨S4096x256, .f32⟩
  | 24 => ⟨S4096x256, .f32⟩
  | 25 => ⟨S4096x256, .f32⟩
  | 26 => ⟨S1x256, .f32⟩
  | 27 => ⟨S4096x256, .f32⟩
  | 28 => ⟨S4096x256, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S4096x256, .f32⟩
  | 38 => ⟨S4096x256, .f32⟩
  | 39 => ⟨S4096x256, .f32⟩
  | 40 => ⟨S_, .f32⟩
  | 41 => ⟨S2x256, .f32⟩
  | 42 => ⟨S4098x256, .f32⟩
  | 43 => ⟨S1x256, .f32⟩
  | 44 => ⟨S256, .f32⟩
  | 45 => ⟨S4096x256, .f32⟩
  | 46 => ⟨S1x256, .f32⟩
  | 47 => ⟨S4096x256, .f32⟩
  | 48 => ⟨S4096x256, .f32⟩
  | 49 => ⟨S1x256, .f32⟩
  | 50 => ⟨S256, .f32⟩
  | 51 => ⟨S4096x256, .f32⟩
  | 52 => ⟨S1x256, .f32⟩
  | 53 => ⟨S4096x256, .f32⟩
  | 54 => ⟨S4096x256, .f32⟩
  | 55 => ⟨S4096x256, .f32⟩
  | 56 => ⟨S1x256, .f32⟩
  | 57 => ⟨S256, .f32⟩
  | 58 => ⟨S4096x256, .f32⟩
  | 59 => ⟨S1x256, .f32⟩
  | 60 => ⟨S4096x256, .f32⟩
  | 61 => ⟨S4096x256, .f32⟩
  | 62 => ⟨S4096x256, .f32⟩
  | 63 => ⟨S4096x256, .f32⟩
  | 64 => ⟨S4096x256, .f32⟩
  | 65 => ⟨S4096x256, .f32⟩
  | 66 => ⟨S_, .f32⟩
  | 67 => ⟨S4096x256, .f32⟩
  | 68 => ⟨S4096x256, .f32⟩
  | 69 => ⟨S_, .f32⟩
  | 70 => ⟨S4096x256, .f32⟩
  | 71 => ⟨S4096x256, .f32⟩
  | 72 => ⟨S4096x256, .f32⟩
  | 73 => ⟨S4096x256, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_cst_2 : Ref sig .tc := ⟨.hbm, 245, rfl⟩
abbrev main_v228 : Ref sig .tc := ⟨.hbm, 246, rfl⟩
abbrev main_v229 : Ref sig .tc := ⟨.hbm, 247, rfl⟩
abbrev main_cst_3 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_cst_4 : Ref sig .tc := ⟨.hbm, 254, rfl⟩
abbrev main_v235 : Ref sig .tc := ⟨.hbm, 255, rfl⟩
abbrev main_v236 : Ref sig .tc := ⟨.hbm, 256, rfl⟩
abbrev main_cst_5 : Ref sig .tc := ⟨.hbm, 257, rfl⟩
abbrev main_v237 : Ref sig .tc := ⟨.hbm, 258, rfl⟩
abbrev main_v238 : Ref sig .tc := ⟨.hbm, 259, rfl⟩
abbrev main_cst_6 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_call1_v0 : Ref sig .tc := ⟨.hbm, 285, rfl⟩
abbrev main_call1_v1 : Ref sig .tc := ⟨.hbm, 286, rfl⟩
abbrev main_call1_cst : Ref sig .tc := ⟨.hbm, 287, rfl⟩
abbrev main_call1_v2 : Ref sig .tc := ⟨.hbm, 288, rfl⟩
abbrev main_call1_v3 : Ref sig .tc := ⟨.hbm, 289, rfl⟩
abbrev main_call1_cst_0 : Ref sig .tc := ⟨.hbm, 290, rfl⟩
abbrev main_call1_v4 : Ref sig .tc := ⟨.hbm, 291, rfl⟩
abbrev main_call1_v5 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_cst_7 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_call2_v0 : Ref sig .tc := ⟨.hbm, 320, rfl⟩
abbrev main_call2_v1 : Ref sig .tc := ⟨.hbm, 321, rfl⟩
abbrev main_call2_cst : Ref sig .tc := ⟨.hbm, 322, rfl⟩
abbrev main_call2_v2 : Ref sig .tc := ⟨.hbm, 323, rfl⟩
abbrev main_call2_v3 : Ref sig .tc := ⟨.hbm, 324, rfl⟩
abbrev main_call2_cst_0 : Ref sig .tc := ⟨.hbm, 325, rfl⟩
abbrev main_call2_v4 : Ref sig .tc := ⟨.hbm, 326, rfl⟩
abbrev main_call2_v5 : Ref sig .tc := ⟨.hbm, 327, rfl⟩
abbrev main_v281 : Ref sig .tc := ⟨.hbm, 328, rfl⟩
abbrev main_v282 : Ref sig .tc := ⟨.hbm, 329, rfl⟩

abbrev nD : Nat := 1
abbrev τ : Topo := Topo.v7x

variable {F : FTy → Type} [FloatOps F]
-- ==== Kernel8.lean ====
abbrev S4096x1024 : Shape := ⟨2, ![4096, 1024]⟩
abbrev S4096x256 : Shape := ⟨2, ![4096, 256]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S1024x1024, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x1024 : Shape := ⟨2, ![4096, 1024]⟩
abbrev S4096x256 : Shape := ⟨2, ![4096, 256]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Kernel9.lean ====
abbrev S8x1024x417 : Shape := ⟨3, ![8, 1024, 417]⟩
abbrev S4x1024x417 : Shape := ⟨3, ![4, 1024, 417]⟩
abbrev S8x256x417 : Shape := ⟨3, ![8, 256, 417]⟩
abbrev S1x256x417 : Shape := ⟨3, ![1, 256, 417]⟩
abbrev S256x417 : Shape := ⟨2, ![256, 417]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x417, .bf16⟩
  | .hbm, ⟨1, _⟩ => ⟨S8x1024x417, .bf16⟩
  | .hbm, ⟨2, _⟩ => ⟨S8x1024x417, .bf16⟩
  | .hbm, ⟨3, _⟩ => ⟨S8x1024x417, .bf16⟩
  | .hbm, ⟨4, _⟩ => ⟨S4x1024x417, .f32⟩
  | .hbm, ⟨5, _⟩ => ⟨S4x1024x417, .f32⟩
  | .hbm, ⟨6, _⟩ => ⟨S4x1024x417, .f32⟩
  | .hbm, ⟨7, _⟩ => ⟨S4x1024x417, .f32⟩
  | .hbm, ⟨8, _⟩ => ⟨S4x1024x417, .f32⟩
  | .hbm, ⟨9, _⟩ => ⟨S4x1024x417, .f32⟩
  | .hbm, ⟨10, _⟩ => ⟨S4x1024x417, .f32⟩
  | .local _ .vmem, ⟨0, _⟩ => ⟨S8x256x417, .bf16⟩
  | .local _ .vmem, ⟨1, _⟩ => ⟨S8x256x417, .bf16⟩
  | .local _ .vmem, ⟨2, _⟩ => ⟨S8x256x417, .bf16⟩
  | .local _ .vmem, ⟨3, _⟩ => ⟨S8x256x417, .bf16⟩
  | .local _ .vmem, ⟨4, _⟩ => ⟨S8x256x417, .bf16⟩
  | .local _ .vmem, ⟨5, _⟩ => ⟨S8x256x417, .bf16⟩
  | .local _ .vmem, ⟨6, _⟩ => ⟨S8x256x417, .bf16⟩
  | .local _ .vmem, ⟨7, _⟩ => ⟨S8x256x417, .bf16⟩
  | .local _ .vmem, ⟨8, _⟩ => ⟨S1x256x417, .f32⟩
  | .local _ .vmem, ⟨9, _⟩ => ⟨S1x256x417, .f32⟩
  | .local _ .vmem, ⟨10, _⟩ => ⟨S1x256x417, .f32⟩
  | .local _ .vmem, ⟨11, _⟩ => ⟨S1x256x417, .f32⟩
  | .local _ .vmem, ⟨12, _⟩ => ⟨S1x256x417, .f32⟩
  | .local _ .vmem, ⟨13, _⟩ => ⟨S1x256x417, .f32⟩
  | .local _ .vmem, ⟨14, _⟩ => ⟨S1x256x417, .f32⟩
  | .local _ .vmem, ⟨15, _⟩ => ⟨S1x256x417, .f32⟩
  | .local _ .vmem, ⟨16, _⟩ => ⟨S1x256x417, .f32⟩
  | .local _ .vmem, ⟨17, _⟩ => ⟨S1x256x417, .f32⟩
  | .local _ .vmem, ⟨18, _⟩ => ⟨S1x256x417, .f32⟩
  | .local _ .vmem, ⟨19, _⟩ => ⟨S1x256x417, .f32⟩
  | .local _ .vmem, ⟨20, _⟩ => ⟨S1x256x417, .f32⟩
  | .local _ .vmem, ⟨21, _⟩ => ⟨S1x256x417, .f32⟩
  | _, _ => ⟨S8x1024x417, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x417 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x417 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x417 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x417 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x417 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x417 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x417 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x417 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x417 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x417 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x417 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S8x1024x417 : Shape := ⟨3, ![8, 1024, 417]⟩
abbrev S4x1024x417 : Shape := ⟨3, ![4, 1024, 417]⟩
abbrev S_ : Shape := ⟨0, ![]⟩
abbrev S1024x417 : Shape := ⟨2, ![1024, 417]⟩
abbrev S1x1024x417 : Shape := ⟨3, ![1, 1024, 417]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x417, .bf16⟩
  | .hbm, ⟨1, _⟩ => ⟨S8x1024x417, .bf16⟩
  | .hbm, ⟨2, _⟩ => ⟨S8x1024x417, .bf16⟩
  | .hbm, ⟨3, _⟩ => ⟨S8x1024x417, .bf16⟩
  | .hbm, ⟨4, _⟩ => ⟨S4x1024x417, .f32⟩
  | .hbm, ⟨5, _⟩ => ⟨S4x1024x417, .f32⟩
  | .hbm, ⟨6, _⟩ => ⟨S4x1024x417, .f32⟩
  | .hbm, ⟨7, _⟩ => ⟨S8x1024x417, .f32⟩
  | .hbm, ⟨8, _⟩ => ⟨S_, .f32⟩
  | .hbm, ⟨9, _⟩ => ⟨S1024x417, .f32⟩
  | .hbm, ⟨10, _⟩ => ⟨S8x1024x417, .f32⟩
  | .hbm, ⟨11, _⟩ => ⟨S_, .f32⟩
  | .hbm, ⟨12, _⟩ => ⟨S1024x417, .f32⟩
  | .hbm, ⟨13, _⟩ => ⟨S8x1024x417, .f32⟩
  | .hbm, ⟨14, _⟩ => ⟨S_, .f32⟩
  | .hbm, ⟨15, _⟩ => ⟨S1024x417, .f32⟩
  | .hbm, ⟨16, _⟩ => ⟨S8x1024x417, .f32⟩
  | .hbm, ⟨17, _⟩ => ⟨S_, .f32⟩
  | .hbm, ⟨18, _⟩ => ⟨S1024x417, .f32⟩
  | .hbm, ⟨19, _⟩ => ⟨S1x1024x417, .f32⟩
  | .hbm, ⟨20, _⟩ => ⟨S1x1024x417, .f32⟩
  | .hbm, ⟨21, _⟩ => ⟨S1x1024x417, .f32⟩
  | .hbm, ⟨22, _⟩ => ⟨S1x1024x417, .f32⟩
  | .hbm, ⟨23, _⟩ => ⟨S4x1024x417, .f32⟩
  | .hbm, ⟨24, _⟩ => ⟨S_, .f32⟩
  | .hbm, ⟨25, _⟩ => ⟨S4x1024x417, .f32⟩
  | .hbm, ⟨26, _⟩ => ⟨S4x1024x417, .f32⟩
  | .hbm, ⟨27, _⟩ => ⟨S_, .f32⟩
  | .hbm, ⟨28, _⟩ => ⟨S4x1024x417, .f32⟩
  | .hbm, ⟨29, _⟩ => ⟨S4x1024x417, .f32⟩
  | .hbm, ⟨30, _⟩ => ⟨S4x1024x417, .f32⟩
  | .hbm, ⟨31, _⟩ => ⟨S_, .f32⟩
  | .hbm, ⟨32, _⟩ => ⟨S4x1024x417, .f32⟩
  | .hbm, ⟨33, _⟩ => ⟨S4x1024x417, .f32⟩
  | .hbm, ⟨34, _⟩ => ⟨S4x1024x417, .f32⟩
  | .hbm, ⟨35, _⟩ => ⟨S_, .f32⟩
  | .hbm, ⟨36, _⟩ => ⟨S4x1024x417, .f32⟩
  | .hbm, ⟨37, _⟩ => ⟨S4x1024x417, .f32⟩
  | .hbm, ⟨38, _⟩ => ⟨S4x1024x417, .f32⟩
  | .hbm, ⟨39, _⟩ => ⟨S_, .f32⟩
  | .hbm, ⟨40, _⟩ => ⟨S4x1024x417, .f32⟩
  | .hbm, ⟨41, _⟩ => ⟨S4x1024x417, .f32⟩
  | .hbm, ⟨42, _⟩ => ⟨S_, .f32⟩
  | .hbm, ⟨43, _⟩ => ⟨S4x1024x417, .f32⟩
  | .hbm, ⟨44, _⟩ => ⟨S4x1024x417, .f32⟩
  | .hbm, ⟨45, _⟩ => ⟨S4x1024x417, .f32⟩
  | .hbm, ⟨46, _⟩ => ⟨S_, .f32⟩
  | .hbm, ⟨47, _⟩ => ⟨S4x1024x417, .f32⟩
  | .hbm, ⟨48, _⟩ => ⟨S4x1024x417, .f32⟩
  | .hbm, ⟨49, _⟩ => ⟨S4x1024x417, .f32⟩
  | .hbm, ⟨50, _⟩ => ⟨S_, .f32⟩
  | .hbm, ⟨51, _⟩ => ⟨S4x1024x417, .f32⟩
  | .hbm, ⟨52, _⟩ => ⟨S4x1024x417, .f32⟩
  | .hbm, ⟨53, _⟩ => ⟨S4x1024x417, .f32⟩
  | .hbm, ⟨54, _⟩ => ⟨S_, .f32⟩
  | .hbm, ⟨55, _⟩ => ⟨S4x1024x417, .f32⟩
  | .hbm, ⟨56, _⟩ => ⟨S4x1024x417, .f32⟩
  | _, _ => ⟨S8x1024x417, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel10.lean ====
abbrev S4096x1024 : Shape := ⟨2, ![4096, 1024]⟩
abbrev S4096x3336 : Shape := ⟨2, ![4096, 3336]⟩
abbrev S4096x768 : Shape := ⟨2, ![4096, 768]⟩
abbrev S4096x512 : Shape := ⟨2, ![4096, 512]⟩
abbrev S4096x256 : Shape := ⟨2, ![4096, 256]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩
abbrev S1024x3456 : Shape := ⟨2, ![1024, 3456]⟩
abbrev S512x1024 : Shape := ⟨2, ![512, 1024]⟩
abbrev S512x768 : Shape := ⟨2, ![512, 768]⟩
abbrev S512x512 : Shape := ⟨2, ![512, 512]⟩
abbrev S512x256 : Shape := ⟨2, ![512, 256]⟩
abbrev S512x128 : Shape := ⟨2, ![512, 128]⟩
abbrev S1024x768 : Shape := ⟨2, ![1024, 768]⟩
abbrev S1024x512 : Shape := ⟨2, ![1024, 512]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x3336, .f32⟩
  | .hbm, ⟨2, _⟩ => ⟨S4096x768, .f32⟩
  | .hbm, ⟨3, _⟩ => ⟨S4096x512, .f32⟩
  | .hbm, ⟨4, _⟩ => ⟨S4096x1024, .f32⟩
  | .hbm, ⟨5, _⟩ => ⟨S4096x768, .f32⟩
  | .hbm, ⟨6, _⟩ => ⟨S4096x256, .f32⟩
  | .hbm, ⟨7, _⟩ => ⟨S4096x8, .f32⟩
  | .hbm, ⟨8, _⟩ => ⟨S_, .f32⟩
  | .hbm, ⟨9, _⟩ => ⟨S4096x120, .f32⟩
  | .hbm, ⟨10, _⟩ => ⟨S4096x128, .f32⟩
  | .hbm, ⟨11, _⟩ => ⟨S4096x768, .bf16⟩
  | .hbm, ⟨12, _⟩ => ⟨S4096x512, .bf16⟩
  | .hbm, ⟨13, _⟩ => ⟨S4096x1024, .bf16⟩
  | .hbm, ⟨14, _⟩ => ⟨S4096x768, .bf16⟩
  | .hbm, ⟨15, _⟩ => ⟨S4096x256, .bf16⟩
  | .hbm, ⟨16, _⟩ => ⟨S4096x128, .bf16⟩
  | .hbm, ⟨17, _⟩ => ⟨S1024x3456, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x768, .bf16⟩
  | .local _ .vmem, ⟨9, _⟩ => ⟨S512x768, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S1024x3456, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3456 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x1024 : Shape := ⟨2, ![4096, 1024]⟩
abbrev S4096x3336 : Shape := ⟨2, ![4096, 3336]⟩
abbrev S_ : Shape := ⟨0, ![]⟩
abbrev S1024x3336 : Shape := ⟨2, ![1024, 3336]⟩
abbrev S3336x1024 : Shape := ⟨2, ![3336, 1024]⟩
abbrev S1024x3072 : Shape := ⟨2, ![1024, 3072]⟩
abbrev S1024x256 : Shape := ⟨2, ![1024, 256]⟩
abbrev S1024x8 : Shape := ⟨2, ![1024, 8]⟩
abbrev S1024x120 : Shape := ⟨2, ![1024, 120]⟩
abbrev S1024x3456 : Shape := ⟨2, ![1024, 3456]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3336, .f32⟩
  | .hbm, ⟨2, _⟩ => ⟨S_, .f32⟩
  | .hbm, ⟨3, _⟩ => ⟨S1024x3336, .f32⟩
  | .hbm, ⟨4, _⟩ => ⟨S4096x1024, .f32⟩
  | .hbm, ⟨5, _⟩ => ⟨S4096x3336, .f32⟩
  | .hbm, ⟨6, _⟩ => ⟨S3336x1024, .f32⟩
  | .hbm, ⟨7, _⟩ => ⟨S1024x3336, .f32⟩
  | .hbm, ⟨8, _⟩ => ⟨S1024x3072, .f32⟩
  | .hbm, ⟨9, _⟩ => ⟨S1024x256, .f32⟩
  | .hbm, ⟨10, _⟩ => ⟨S1024x8, .f32⟩
  | .hbm, ⟨11, _⟩ => ⟨S_, .f32⟩
  | .hbm, ⟨12, _⟩ => ⟨S1024x120, .f32⟩
  | .hbm, ⟨13, _⟩ => ⟨S1024x3456, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel11.lean ====
abbrev S4096x1024 : Shape := ⟨2, ![4096, 1024]⟩
abbrev S4096x256 : Shape := ⟨2, ![4096, 256]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 12
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S1024x1024, .bf16⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference11Ideal.lean ====
abbrev S4096x1024 : Shape := ⟨2, ![4096, 1024]⟩
abbrev S4096x256 : Shape := ⟨2, ![4096, 256]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S4096x1024, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel12.lean ====
abbrev S8x4x1024 : Shape := ⟨3, ![8, 4, 1024]⟩
abbrev S8x1024 : Shape := ⟨2, ![8, 1024]⟩
abbrev S4x1024 : Shape := ⟨2, ![4, 1024]⟩
abbrev S1024 : Shape := ⟨1, ![1024]⟩
abbrev S8x4096 : Shape := ⟨2, ![8, 4096]⟩
abbrev S_ : Shape := ⟨0, ![]⟩
abbrev S8x32x128 : Shape := ⟨3, ![8, 32, 128]⟩
abbrev S8x8x128 : Shape := ⟨3, ![8, 8, 128]⟩
abbrev S8x40x128 : Shape := ⟨3, ![8, 40, 128]⟩
abbrev S4096 : Shape := ⟨1, ![4096]⟩
abbrev S32x128 : Shape := ⟨2, ![32, 128]⟩
abbrev S8x128 : Shape := ⟨2, ![8, 128]⟩
abbrev S40x128 : Shape := ⟨2, ![40, 128]⟩
abbrev S1x40x128 : Shape := ⟨3, ![1, 40, 128]⟩

abbrev nBuf : Space → Nat
  | .hbm => 84
  | .vmem => 8
  | .smem => 0
  | _ => 0

abbrev bufTy : (tb : Table) → Fin (tcTables nBuf tb) → BufTy
  | .hbm, ⟨0, _⟩ => ⟨S8x4x1024, .f32⟩
  | .hbm, ⟨1, _⟩ => ⟨S8x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8x4096, .f32⟩
  | .hbm, ⟨9, _⟩ => ⟨S_, .i32⟩
  | .hbm, ⟨10, _⟩ => ⟨S_, .f32⟩
  | .hbm, ⟨11, _⟩ => ⟨S8x4096, .f32⟩
  | .hbm, ⟨12, _⟩ => ⟨S8x32x128, .f32⟩
  | .hbm, ⟨13, _⟩ => ⟨S_, .i32⟩
  | .hbm, ⟨14, _⟩ => ⟨S_, .f32⟩
  | .hbm, ⟨15, _⟩ => ⟨S8x1024, .f32⟩
  | .hbm, ⟨16, _⟩ => ⟨S8x8x128, .f32⟩
  | .hbm, ⟨17, _⟩ => ⟨S8x40x128, .f32⟩
  | .hbm, ⟨18, _⟩ => ⟨S_, .i32⟩
  | .hbm, ⟨19, _⟩ => ⟨S_, .f32⟩
  | .hbm, ⟨20, _⟩ => ⟨S8x40x128, .f32⟩
  | .hbm, ⟨21, _⟩ => ⟨S4096, .f32⟩
  | .hbm, ⟨22, _⟩ => ⟨S_, .i32⟩
  | .hbm, ⟨23, _⟩ => ⟨S_, .f32⟩
  | .hbm, ⟨24, _⟩ => ⟨S4096, .f32⟩
  | .hbm, ⟨25, _⟩ => ⟨S32x128, .f32⟩
  | .hbm, ⟨26, _⟩ => ⟨S_, .i32⟩
  | .hbm, ⟨27, _⟩ => ⟨S_, .f32⟩
  | .hbm, ⟨28, _⟩ => ⟨S1024, .f32⟩
  | .hbm, ⟨29, _⟩ => ⟨S8x128, .f32⟩
  | .hbm, ⟨30, _⟩ => ⟨S40x128, .f32⟩
  | .hbm, ⟨31, _⟩ => ⟨S_, .i32⟩
  | .hbm, ⟨32, _⟩ => ⟨S_, .f32⟩
  | .hbm, ⟨33, _⟩ => ⟨S40x128, .f32⟩
  | .hbm, ⟨34, _⟩ => ⟨S4096, .f32⟩
  | .hbm, ⟨35, _⟩ => ⟨S_, .i32⟩
  | .hbm, ⟨36, _⟩ => ⟨S_, .f32⟩
  | .hbm, ⟨37, _⟩ => ⟨S4096, .f32⟩
  | .hbm, ⟨38, _⟩ => ⟨S32x128, .f32⟩
  | .hbm, ⟨39, _⟩ => ⟨S_, .i32⟩
  | .hbm, ⟨40, _⟩ => ⟨S_, .f32⟩
  | .hbm, ⟨41, _⟩ => ⟨S1024, .f32⟩
  | .hbm, ⟨42, _⟩ => ⟨S8x128, .f32⟩
  | .hbm, ⟨43, _⟩ => ⟨S40x128, .f32⟩
  | .hbm, ⟨44, _⟩ => ⟨S_, .i32⟩
  | .hbm, ⟨45, _⟩ => ⟨S_, .f32⟩
  | .hbm, ⟨46, _⟩ => ⟨S40x128, .f32⟩
  | .hbm, ⟨47, _⟩ => ⟨S4096, .f32⟩
  | .hbm, ⟨48, _⟩ => ⟨S_, .i32⟩
  | .hbm, ⟨49, _⟩ => ⟨S_, .f32⟩
  | .hbm, ⟨50, _⟩ => ⟨S4096, .f32⟩
  | .hbm, ⟨51, _⟩ => ⟨S32x128, .f32⟩
  | .hbm, ⟨52, _⟩ => ⟨S_, .i32⟩
  | .hbm, ⟨53, _⟩ => ⟨S_, .f32⟩
  | .hbm, ⟨54, _⟩ => ⟨S1024, .f32⟩
  | .hbm, ⟨55, _⟩ => ⟨S8x128, .f32⟩
  | .hbm, ⟨56, _⟩ => ⟨S40x128, .f32⟩
  | .hbm, ⟨57, _⟩ => ⟨S_, .i32⟩
  | .hbm, ⟨58, _⟩ => ⟨S_, .f32⟩
  | .hbm, ⟨59, _⟩ => ⟨S40x128, .f32⟩
  | .hbm, ⟨60, _⟩ => ⟨S40x128, .f32⟩
  | .hbm, ⟨61, _⟩ => ⟨S40x128, .f32⟩
  | .hbm, ⟨62, _⟩ => ⟨S40x128, .f32⟩
  | .hbm, ⟨63, _⟩ => ⟨S40x128, .f32⟩
  | .hbm, ⟨64, _⟩ => ⟨S32x128, .f32⟩
  | .hbm, ⟨65, _⟩ => ⟨S4096, .f32⟩
  | .hbm, ⟨66, _⟩ => ⟨S4x1024, .f32⟩
  | .hbm, ⟨67, _⟩ => ⟨S8x128, .f32⟩
  | .hbm, ⟨68, _⟩ => ⟨S1024, .f32⟩
  | .hbm, ⟨69, _⟩ => ⟨S32x128, .f32⟩
  | .hbm, ⟨70, _⟩ => ⟨S4096, .f32⟩
  | .hbm, ⟨71, _⟩ => ⟨S4x1024, .f32⟩
  | .hbm, ⟨72, _⟩ => ⟨S8x128, .f32⟩
  | .hbm, ⟨73, _⟩ => ⟨S1024, .f32⟩
  | .hbm, ⟨74, _⟩ => ⟨S32x128, .f32⟩
  | .hbm, ⟨75, _⟩ => ⟨S4096, .f32⟩
  | .hbm, ⟨76, _⟩ => ⟨S4x1024, .f32⟩
  | .hbm, ⟨77, _⟩ => ⟨S8x128, .f32⟩
  | .hbm, ⟨78, _⟩ => ⟨S1024, .f32⟩
  | .hbm, ⟨79, _⟩ => ⟨S32x128, .f32⟩
  | .hbm, ⟨80, _⟩ => ⟨S4096, .f32⟩
  | .hbm, ⟨81, _⟩ => ⟨S4x1024, .f32⟩
  | .hbm, ⟨82, _⟩ => ⟨S8x128, .f32⟩
  | .hbm, ⟨83, _⟩ => ⟨S1024, .f32⟩
  | .local _ .vmem, ⟨0, _⟩ => ⟨S8x40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | .local _ .vmem, ⟨7, _⟩ => ⟨S40x128, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_call3_v0 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_call4_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_4 : Ref sig .tc := ⟨.hbm, 31, rfl⟩
abbrev main_call5_v0 : Ref sig .tc := ⟨.hbm, 32, rfl⟩
abbrev main_v13 : Ref sig .tc := ⟨.hbm, 33, rfl⟩
abbrev main_v14 : Ref sig .tc := ⟨.hbm, 34, rfl⟩
abbrev main_c_5 : Ref sig .tc := ⟨.hbm, 35, rfl⟩
abbrev main_call6_v0 : Ref sig .tc := ⟨.hbm, 36, rfl⟩
abbrev main_v15 : Ref sig .tc := ⟨.hbm, 37, rfl⟩
abbrev main_v16 : Ref sig .tc := ⟨.hbm, 38, rfl⟩
abbrev main_c_6 : Ref sig .tc := ⟨.hbm, 39, rfl⟩
abbrev main_call7_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_call8_v0 : Ref sig .tc := ⟨.hbm, 45, rfl⟩
abbrev main_v20 : Ref sig .tc := ⟨.hbm, 46, rfl⟩
abbrev main_v21 : Ref sig .tc := ⟨.hbm, 47, rfl⟩
abbrev main_c_8 : Ref sig .tc := ⟨.hbm, 48, rfl⟩
abbrev main_call9_v0 : Ref sig .tc := ⟨.hbm, 49, rfl⟩
abbrev main_v22 : Ref sig .tc := ⟨.hbm, 50, rfl⟩
abbrev main_v23 : Ref sig .tc := ⟨.hbm, 51, rfl⟩
abbrev main_c_9 : Ref sig .tc := ⟨.hbm, 52, rfl⟩
abbrev main_call10_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_10 : Ref sig .tc := ⟨.hbm, 57, rfl⟩
abbrev main_call11_v0 : Ref sig .tc := ⟨.hbm, 58, rfl⟩
abbrev main_v27 : Ref sig .tc := ⟨.hbm, 59, rfl⟩
abbrev main_v28_0 : Ref sig .tc := ⟨.hbm, 60, rfl⟩
abbrev main_v28_1 : Ref sig .tc := ⟨.hbm, 61, rfl⟩
abbrev main_v28_2 : Ref sig .tc := ⟨.hbm, 62, rfl⟩
abbrev main_v28_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference12Ideal.lean ====
abbrev S8x4x1024 : Shape := ⟨3, ![8, 4, 1024]⟩
abbrev S8x1024 : Shape := ⟨2, ![8, 1024]⟩
abbrev S4x1024 : Shape := ⟨2, ![4, 1024]⟩
abbrev S1024 : Shape := ⟨1, ![1024]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S8x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S_, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S_, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | .hbm, ⟨37, _⟩ => ⟨S4x1024, .f32⟩
  | .hbm, ⟨38, _⟩ => ⟨S_, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_16 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_18 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel13.lean ====
abbrev S8x1024x417 : Shape := ⟨3, ![8, 1024, 417]⟩
abbrev S1024x3456 : Shape := ⟨2, ![1024, 3456]⟩
abbrev S8x256x417 : Shape := ⟨3, ![8, 256, 417]⟩
abbrev S256x3456 : Shape := ⟨2, ![256, 3456]⟩
abbrev S1x256x417 : Shape := ⟨3, ![1, 256, 417]⟩
abbrev S256x417 : Shape := ⟨2, ![256, 417]⟩
abbrev S256x3336 : Shape := ⟨2, ![256, 3336]⟩
abbrev S256x3072 : Shape := ⟨2, ![256, 3072]⟩
abbrev S256x256 : Shape := ⟨2, ![256, 256]⟩
abbrev S256x8 : Shape := ⟨2, ![256, 8]⟩
abbrev S256x120 : Shape := ⟨2, ![256, 120]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x417, .bf16⟩
  | .hbm, ⟨1, _⟩ => ⟨S1024x3456, .bf16⟩
  | .local _ .vmem, ⟨0, _⟩ => ⟨S8x256x417, .bf16⟩
  | .local _ .vmem, ⟨1, _⟩ => ⟨S8x256x417, .bf16⟩
  | .local _ .vmem, ⟨2, _⟩ => ⟨S256x3456, .bf16⟩
  | .local _ .vmem, ⟨3, _⟩ => ⟨S256x3456, .bf16⟩
  | _, _ => ⟨S8x1024x417, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x417 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S8x1024x417 : Shape := ⟨3, ![8, 1024, 417]⟩
abbrev S1x1024x417 : Shape := ⟨3, ![1, 1024, 417]⟩
abbrev S1024x417 : Shape := ⟨2, ![1024, 417]⟩
abbrev S1024x3336 : Shape := ⟨2, ![1024, 3336]⟩
abbrev S1024x3072 : Shape := ⟨2, ![1024, 3072]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩

abbrev nBuf : Space → Nat
  | .hbm => 24
  | .vmem => 0
  | .smem => 0
  | _ => 0

abbrev bufTy : (tb : Table) → Fin (tcTables nBuf tb) → BufTy
  | .hbm, ⟨0, _⟩ => ⟨S8x1024x417, .bf16⟩
  | .hbm, ⟨1, _⟩ => ⟨S1x1024x417, .bf16⟩
  | .hbm, ⟨2, _⟩ => ⟨S1024x417, .bf16⟩
  | .hbm, ⟨3, _⟩ => ⟨S1x1024x417, .bf16⟩
  | .hbm, ⟨4, _⟩ => ⟨S1024x417, .bf16⟩
  | .hbm, ⟨5, _⟩ => ⟨S1x1024x417, .bf16⟩
  | .hbm, ⟨6, _⟩ => ⟨S1024x417, .bf16⟩
  | .hbm, ⟨7, _⟩ => ⟨S1x1024x417, .bf16⟩
  | .hbm, ⟨8, _⟩ => ⟨S1024x417, .bf16⟩
  | .hbm, ⟨9, _⟩ => ⟨S1x1024x417, .bf16⟩
  | .hbm, ⟨10, _⟩ => ⟨S1024x417, .bf16⟩
  | .hbm, ⟨11, _⟩ => ⟨S1x1024x417, .bf16⟩
  | .hbm, ⟨12, _⟩ => ⟨S1024x417, .bf16⟩
  | .hbm, ⟨13, _⟩ => ⟨S1x1024x417, .bf16⟩
  | .hbm, ⟨14, _⟩ => ⟨S1024x417, .bf16⟩
  | .hbm, ⟨15, _⟩ => ⟨S1x1024x417, .bf16⟩
  | .hbm, ⟨16, _⟩ => ⟨S1024x417, .bf16⟩
  | .hbm, ⟨17, _⟩ => ⟨S1024x3336, .bf16⟩
  | .hbm, ⟨18, _⟩ => ⟨S1024x3072, .bf16⟩
  | .hbm, ⟨19, _⟩ => ⟨S1024x256, .bf16⟩
  | .hbm, ⟨20, _⟩ => ⟨S1024x8, .bf16⟩
  | .hbm, ⟨21, _⟩ => ⟨S_, .bf16⟩
  | .hbm, ⟨22, _⟩ => ⟨S1024x120, .bf16⟩
  | .hbm, ⟨23, _⟩ => ⟨S1024x3456, .bf16⟩
  | _, _ => ⟨S8x1024x417, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_cst : Ref sig .tc := ⟨.hbm, 21, rfl⟩
abbrev main_v20 : Ref sig .tc := ⟨.hbm, 22, rfl⟩
abbrev main_v21 : Ref sig .tc := ⟨.hbm, 23, rfl⟩

abbrev nD : Nat := 1
abbrev τ : Topo := Topo.v7x

variable {F : FTy → Type} [FloatOps F]
-- ==== Kernel14.lean ====
abbrev S1024x3456 : Shape := ⟨2, ![1024, 3456]⟩
abbrev S8x1024x417 : Shape := ⟨3, ![8, 1024, 417]⟩
abbrev S256x3456 : Shape := ⟨2, ![256, 3456]⟩
abbrev S8x256x417 : Shape := ⟨3, ![8, 256, 417]⟩
abbrev S256x3072 : Shape := ⟨2, ![256, 3072]⟩
abbrev S256x8 : Shape := ⟨2, ![256, 8]⟩
abbrev S256x256 : Shape := ⟨2, ![256, 256]⟩
abbrev S256x3336 : Shape := ⟨2, ![256, 3336]⟩
abbrev S256x417 : Shape := ⟨2, ![256, 417]⟩
abbrev S1x256x417 : Shape := ⟨3, ![1, 256, 417]⟩

abbrev nBuf : Space → Nat
  | .hbm => 2
  | .vmem => 4
  | .smem => 0
  | _ => 0

abbrev bufTy : (tb : Table) → Fin (tcTables nBuf tb) → BufTy
  | .hbm, ⟨0, _⟩ => ⟨S1024x3456, .f32⟩
  | .hbm, ⟨1, _⟩ => ⟨S8x1024x417, .bf16⟩
  | .local _ .vmem, ⟨0, _⟩ => ⟨S256x3456, .f32⟩
  | .local _ .vmem, ⟨1, _⟩ => ⟨S256x3456, .f32⟩
  | .local _ .vmem, ⟨2, _⟩ => ⟨S8x256x417, .bf16⟩
  | .local _ .vmem, ⟨3, _⟩ => ⟨S8x256x417, .bf16⟩
  | _, _ => ⟨S1024x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x417 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14Ideal.lean ====
abbrev S1024x3456 : Shape := ⟨2, ![1024, 3456]⟩
abbrev S1024x3072 : Shape := ⟨2, ![1024, 3072]⟩
abbrev S1024x8 : Shape := ⟨2, ![1024, 8]⟩
abbrev S1024x256 : Shape := ⟨2, ![1024, 256]⟩
abbrev S1024x3336 : Shape := ⟨2, ![1024, 3336]⟩
abbrev S1024x417 : Shape := ⟨2, ![1024, 417]⟩
abbrev S1x1024x417 : Shape := ⟨3, ![1, 1024, 417]⟩
abbrev S8x1024x417 : Shape := ⟨3, ![8, 1024, 417]⟩

abbrev nBuf : Space → Nat
  | .hbm => 23
  | .vmem => 0
  | .smem => 0
  | _ => 0

abbrev bufTy : (tb : Table) → Fin (tcTables nBuf tb) → BufTy
  | .hbm, ⟨0, _⟩ => ⟨S1024x3456, .f32⟩
  | .hbm, ⟨1, _⟩ => ⟨S1024x3072, .f32⟩
  | .hbm, ⟨2, _⟩ => ⟨S1024x8, .f32⟩
  | .hbm, ⟨3, _⟩ => ⟨S1024x256, .f32⟩
  | .hbm, ⟨4, _⟩ => ⟨S1024x3336, .f32⟩
  | .hbm, ⟨5, _⟩ => ⟨S1024x417, .f32⟩
  | .hbm, ⟨6, _⟩ => ⟨S1024x417, .f32⟩
  | .hbm, ⟨7, _⟩ => ⟨S1024x417, .f32⟩
  | .hbm, ⟨8, _⟩ => ⟨S1024x417, .f32⟩
  | .hbm, ⟨9, _⟩ => ⟨S1024x417, .f32⟩
  | .hbm, ⟨10, _⟩ => ⟨S1024x417, .f32⟩
  | .hbm, ⟨11, _⟩ => ⟨S1024x417, .f32⟩
  | .hbm, ⟨12, _⟩ => ⟨S1024x417, .f32⟩
  | .hbm, ⟨13, _⟩ => ⟨S1x1024x417, .f32⟩
  | .hbm, ⟨14, _⟩ => ⟨S1x1024x417, .f32⟩
  | .hbm, ⟨15, _⟩ => ⟨S1x1024x417, .f32⟩
  | .hbm, ⟨16, _⟩ => ⟨S1x1024x417, .f32⟩
  | .hbm, ⟨17, _⟩ => ⟨S1x1024x417, .f32⟩
  | .hbm, ⟨18, _⟩ => ⟨S1x1024x417, .f32⟩
  | .hbm, ⟨19, _⟩ => ⟨S1x1024x417, .f32⟩
  | .hbm, ⟨20, _⟩ => ⟨S1x1024x417, .f32⟩
  | .hbm, ⟨21, _⟩ => ⟨S8x1024x417, .f32⟩
  | .hbm, ⟨22, _⟩ => ⟨S8x1024x417, .bf16⟩
  | _, _ => ⟨S1024x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩

abbrev nD : Nat := 1
abbrev τ : Topo := Topo.v7x

variable {F : FTy → Type} [FloatOps F]
-- ==== Proof.Common.lean ====
module
public import Idealize.ShloMosaic.Lib.Pointwise
public import Idealize.ShloMosaic.Lib.Tactic
public import Idealize.ShloMosaic.Lib.Pipeline.ValueKit
/-!
Facts about extended reals and about sums over unit axes that the value claims share.
-/
@[expose] public section
noncomputable section
namespace Cert.Common
open Idealize.ShloMosaic

/-- A host sum whose reduced axes leave one source index per result index is that element. -/
theorem hostReduceAdd_unit {s t : Shape} {axes : List (Fin s.rank)} (h : s.ReducesTo axes t) (v : s.Idx → EReal)
    (init : EReal) (j : t.Idx) (i₀ : s.Idx) (hd : ∀ i, h.drop i = j ↔ i = i₀) :
    Ideal.hostReduceAdd h v init j = init + v i₀ := by
  unfold Ideal.hostReduceAdd
  simp [hd, Finset.filter_eq']

/-- Summing the outer axes, both of size one, of a rank-3 array reads the middle coordinate. -/
@[pointwise] theorem hostReduceAdd_outer {n : ℕ} (h : (⟨3, ![1, n, 1]⟩ : Shape).ReducesTo [0, 2] ⟨1, ![n]⟩)
    (v : (⟨3, ![1, n, 1]⟩ : Shape).Idx → EReal) (init : EReal) (j : (⟨1, ![n]⟩ : Shape).Idx) :
    Ideal.hostReduceAdd h v init j = init + v (ix3 0 (j 0) 0) := by
  refine hostReduceAdd_unit h v init j _ fun i => ⟨fun e => ?_, fun e => ?_⟩
  · funext a
    match a with
    | ⟨0, _⟩ => exact Subsingleton.elim (α := Fin 1) _ _
    | ⟨1, _⟩ => exact congrFun e 0
    | ⟨2, _⟩ => exact Subsingleton.elim (α := Fin 1) _ _
  · subst e; funext b; apply Fin.ext
    match b with
    | ⟨0, _⟩ => rfl

/-- Summing the two leading axes, both of size one, of a rank-3 array reads the last coordinate. -/
@[pointwise] theorem hostReduceAdd_leading {n : ℕ} (h : (⟨3, ![1, 1, n]⟩ : Shape).ReducesTo [0, 1] ⟨1, ![n]⟩)
    (v : (⟨3, ![1, 1, n]⟩ : Shape).Idx → EReal) (init : EReal) (j : (⟨1, ![n]⟩ : Shape).Idx) :
    Ideal.hostReduceAdd h v init j = init + v (ix3 0 0 (j 0)) := by
  refine hostReduceAdd_unit h v init j _ fun i => ⟨fun e => ?_, fun e => ?_⟩
  · funext a
    match a with
    | ⟨0, _⟩ => exact Subsingleton.elim (α := Fin 1) _ _
    | ⟨1, _⟩ => exact Subsingleton.elim (α := Fin 1) _ _
    | ⟨2, _⟩ => exact congrFun e 0
  · subst e; funext b; apply Fin.ext
    match b with
    | ⟨0, _⟩ => rfl

/-- An accumulator that starts at its first term and adds one term per step holds the sum of the terms so far. -/
theorem acc_eq_sum {N : ℕ} (u T : (n : ℕ) → n < N → EReal) (h0 : ∀ h, u 0 h = T 0 h)
    (hs : ∀ n (h : n + 1 < N), u (n + 1) h = u n (Nat.lt_of_succ_lt h) + T (n + 1) h) :
    ∀ n (h : n < N), u n h = ∑ s : Fin (n + 1), T s.val (lt_of_le_of_lt (Nat.le_of_lt_succ s.isLt) h) := by
  intro n
  induction n with
  | zero => intro h; rw [h0, Fin.sum_univ_one]; rfl
  | succ n ih =>
    intro h
    rw [hs, ih, Fin.sum_univ_castSucc (n := n + 1)]
    rfl

/-- A sum over `m` blocks of `n` rows is the sum over the `m * n` rows. -/
theorem sum_blocks {m n N : ℕ} (hN : m * n = N) (f : Fin N → EReal)
    (hb : ∀ (s : Fin m) (r : Fin n), n * s.val + r.val < N) :
    ∑ s : Fin m, ∑ r : Fin n, f ⟨n * s.val + r.val, hb s r⟩ = ∑ i : Fin N, f i := by
  subst hN
  rw [← Fintype.sum_prod_type' (f := fun s r => f ⟨n * s.val + r.val, hb s r⟩)]
  refine Fintype.sum_equiv finProdFinEquiv _ _ fun p => congrArg f (Fin.ext ?_)
  show n * p.1.val + p.2.val = p.2.val + n * p.1.val
  omega

/-- The same with the blocks taken from the last to the first. -/
theorem sum_blocks_rev {m n N : ℕ} (hN : m * n = N) (f : Fin N → EReal)
    (hb : ∀ (s : Fin m) (r : Fin n), n * s.val + r.val < N) (hr : ∀ (s : Fin m) (r : Fin n), n * (m - 1 - s.val) + r.val < N) :
    ∑ s : Fin m, ∑ r : Fin n, f ⟨n * (m - 1 - s.val) + r.val, hr s r⟩ = ∑ i : Fin N, f i := by
  rw [← sum_blocks hN f hb, ← Equiv.sum_comp Fin.revPerm (fun s : Fin m => ∑ r : Fin n, f ⟨n * s.val + r.val, hb s r⟩)]
  refine Finset.sum_congr rfl fun s _ => Finset.sum_congr rfl fun r _ => congrArg f (Fin.ext ?_)
  show n * (m - 1 - s.val) + r.val = n * (m - (s.val + 1)) + r.val
  rw [Nat.sub_sub, Nat.add_comm 1]

/-- A nonnegative real factor moves into a finite sum. -/
theorem sum_mul_coe {ι : Type*} (s : Finset ι) (f : ι → EReal) (q : ℝ) (hq : 0 ≤ q) :
    (∑ i ∈ s, f i) * (q : EReal) = ∑ i ∈ s, f i * (q : EReal) := by
  classical
  induction s using Finset.induction_on with
  | empty => simp
  | insert a s ha ih =>
    rw [Finset.sum_insert ha, Finset.sum_insert ha,
      EReal.right_distrib_of_nonneg_of_ne_top (by exact_mod_cast hq) (EReal.coe_ne_top q), ih]

end Cert.Common
-- ==== Proof.Loss.lean ====
module
public import proofs.«01_k».proof.Proof.Gen.KernelIdeal.Value
public import proofs.«01_k».proof.Proof.Common
/-!
The loss head: the kernel's three result arrays as functions of its arguments.
-/
@[expose] public section
noncomputable section
namespace Cert.Loss
open Cert.KernelIdeal Cert.KernelIdeal.Gen Idealize.ShloMosaic Idealize.ShloMosaic.TcCoe Idealize.SL.Sem
open Idealize.ShloMosaic.Pipeline (Dat)
set_option maxRecDepth 16384

/-- The mean square of a row plus the stabilising constant. -/
def meanSq (x : Fin 1024 → EReal) : EReal :=
  Ideal.div (∑ k, x k * x k) (Ideal.ofBits FTy.f32 1149239296#32) + Ideal.ofBits FTy.f32 897988541#32
/-- The normalised, scaled row less its target. -/
def err (x g y : Fin 1024 → EReal) (k : Fin 1024) : EReal := x k * Ideal.rsqrt (meanSq x) * g k - y k
/-- The cotangent of the normalised row: the error over 1024. -/
def ct (x g y : Fin 1024 → EReal) (k : Fin 1024) : EReal := err x g y k * Ideal.ofBits FTy.f32 981467136#32
/-- The part of the gradient that comes through the row's mean square. -/
def coef (x g y : Fin 1024 → EReal) : EReal :=
  Ideal.div ((∑ k, x k * (ct x g y k * g k)) *
      (Ideal.ofBits FTy.f32 3204448256#32 * Ideal.div (Ideal.rsqrt (meanSq x)) (meanSq x)))
    (Ideal.ofBits FTy.f32 1149239296#32)
/-- The loss's gradient at one element of a row. -/
def dxAt (x g y : Fin 1024 → EReal) (j : Fin 1024) : EReal :=
  ct x g y j * g j * Ideal.rsqrt (meanSq x) + x j * coef x g y + coef x g y * x j
/-- A row's contribution to the gradient of the scale. -/
def dgAt (x g y : Fin 1024 → EReal) (j : Fin 1024) : EReal := x j * Ideal.rsqrt (meanSq x) * ct x g y j
/-- A row's squared error. -/
def sqErr (x g y : Fin 1024 → EReal) : EReal := ∑ k, err x g y k * err x g y k

variable (m : (ℓ : Loc nD τ sig) → Buf (Elt Ideal) ℓ)

theorem outA (c : Dev nD) (t : Fin cfg0.N) (h : t.val % 8 = 0) : outsAt0 m c t.val t.isLt =
   let x := iblk m c 0 t; let g := iblk m c 1 t; let y := iblk m c 2 t
   (k0_pay1 (k0_pay6 x) (k0_pay15 x g y) (k0_pay16 x g y), k0_pay2 (k0_pay13 x g y) (k0_pay4 (F := Ideal)),
    k0_pay3 (k0_pay11 x g y) (k0_pay5 (F := Ideal))) := by
  rw [outsAt0_A m c t h]
  frame_out

theorem outB (c : Dev nD) (t : Fin cfg0.N) (h : ¬ t.val % 8 = 0) : outsAt0 m c t.val t.isLt =
   let x := iblk m c 0 t; let g := iblk m c 1 t; let y := iblk m c 2 t
   let old := outsAt0 m c (t.val - 1) (Nat.lt_of_le_of_lt (Nat.sub_le _ _) t.isLt)
   (k0_pay1 (k0_pay6 x) (k0_pay15 x g y) (k0_pay16 x g y), k0_pay2 (k0_pay13 x g y) old.2.1,
    k0_pay3 (k0_pay11 x g y) old.2.2) := by
  rw [outsAt0_B m c t h]
  frame_out

section payloads
variable (x : FVec Ideal S512x1024 .f32) (g : FVec Ideal S1x1024 .f32) (y : FVec Ideal S512x1024 .f32)

theorem pay_dx (r : Fin 512) (j : Fin 1024) :
    k0_pay1 (F := Ideal) (k0_pay6 x) (k0_pay15 x g y) (k0_pay16 x g y) (ix2 r j)
      = dxAt (fun k => x (ix2 r k)) (fun k => g (ix2 0 k)) (fun k => y (ix2 r k)) j := by
  unfold_payloads
  pointwise
  simp only [Finset.univ_unique, Finset.sum_singleton]
  rfl

theorem pay_dg (old : FVec Ideal S1x1024 .f32) (j : Fin 1024) :
    k0_pay2 (F := Ideal) (k0_pay13 x g y) old (ix2 0 j)
      = old (ix2 0 j) + ∑ r, dgAt (fun k => x (ix2 r k)) (fun k => g (ix2 0 k)) (fun k => y (ix2 r k)) j := by
  unfold_payloads
  pointwise
  rfl

theorem pay_loss (old : FVec Ideal S1x128 .f32) (j : Fin 128) :
    k0_pay3 (F := Ideal) (k0_pay11 x g y) old (ix2 0 j)
      = old (ix2 0 j) + (∑ r, sqErr (fun k => x (ix2 r k)) (fun k => g (ix2 0 k)) (fun k => y (ix2 r k)))
          * Ideal.ofBits FTy.f32 973078528#32 := by
  unfold_payloads
  pointwise
  rfl
end payloads

/-- Row `i` of the hidden states, the scale, and row `i` of the targets. -/
def X (c : Dev nD) (i : Fin 4096) (k : Fin 1024) : EReal := m (c, Proc.tc.devRef main_arg0) (ix3 0 i k)
def G (c : Dev nD) (k : Fin 1024) : EReal := m (c, Proc.tc.devRef main_arg1) (ix1 k)
def Y (c : Dev nD) (i : Fin 4096) (k : Fin 1024) : EReal := m (c, Proc.tc.devRef main_arg2) (ix3 0 i k)

theorem rowLt (t : Fin cfg0.N) (r : Fin 512) : 512 * t.val + r.val < 4096 := by
  have h : t.val < 8 := t.isLt
  omega

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel

theorem blkX (c : Dev nD) (t : Fin cfg0.N) (r : Fin 512) (j : Fin 1024) :
    iblk m c 0 t (ix2 r j) = X m c ⟨512 * t.val + r.val, rowLt t r⟩ j := by
  unfold X
  blk_simp [iblk]
  entry_read
  pointwise
  blk_ext [idx0 t] <;> (have := idx0 t; omega)

theorem blkG (c : Dev nD) (t : Fin cfg0.N) (j : Fin 1024) : iblk m c 1 t (ix2 0 j) = G m c j := by
  unfold G
  blk_simp [iblk]
  entry_read
  pointwise
  blk_ext [idx1 t] <;> (have := idx1 t; omega)

theorem blkY (c : Dev nD) (t : Fin cfg0.N) (r : Fin 512) (j : Fin 1024) :
    iblk m c 2 t (ix2 r j) = Y m c ⟨512 * t.val + r.val, rowLt t r⟩ j := by
  unfold Y
  blk_simp [iblk]
  entry_read
  pointwise
  blk_ext [idx2 t] <;> (have := idx2 t; omega)

theorem out_dx (c : Dev nD) (t : Fin cfg0.N) (r : Fin 512) (j : Fin 1024) :
    (outsAt0 m c t.val t.isLt).1 (ix2 r j)
      = dxAt (X m c ⟨512 * t.val + r.val, rowLt t r⟩) (G m c) (Y m c ⟨512 * t.val + r.val, rowLt t r⟩) j := by
  have e : (outsAt0 m c t.val t.isLt).1 (ix2 r j)
      = dxAt (fun k => iblk m c 0 t (ix2 r k)) (fun k => iblk m c 1 t (ix2 0 k)) (fun k => iblk m c 2 t (ix2 r k)) j := by
    by_cases h : t.val % 8 = 0
    · rw [outA m c t h]; exact pay_dx ..
    · rw [outB m c t h]; exact pay_dx ..
  rw [e]
  simp only [blkX, blkG, blkY]

theorem final_dx (c : Dev nD) : (dats m 0 c).arrAt 3 cfg0.N
    = fun i : S4096x1024.Idx => dxAt (X m c (i 0)) (G m c) (Y m c (i 0)) (i 1) := by
  refine (dats m 0 c).arrAt_eq_of_covers 3 _ (by decide +kernel) fun t hf y => ?_
  blk_simp
  obtain ⟨r, j, rfl⟩ : ∃ (r : Fin 512) (j : Fin 1024), y = (ix2 r j : S512x1024.Idx) := ⟨y 0, y 1, eq_ix2 (n0 := 512) (n1 := 1024) y⟩
  rw [after0_3, out_dx]
  have e : (win0_3.blk t).view.emb (ix2 r j) = (ix2 ⟨512 * t.val + r.val, rowLt t r⟩ j : S4096x1024.Idx) := by
    blk_ext [idx3 t] <;> (have := idx3 t; omega)
  rw [e]
  rfl

theorem tot_dg (c : Dev nD) (j : Fin 1024) (n : ℕ) (h : n < cfg0.N) : (outsAt0 m c n h).2.1 (ix2 0 j)
    = ∑ s : Fin (n + 1), ∑ r : Fin 512,
        dgAt (X m c ⟨512 * s.val + r.val, rowLt ⟨s.val, lt_of_le_of_lt (Nat.le_of_lt_succ s.isLt) h⟩ r⟩) (G m c)
          (Y m c ⟨512 * s.val + r.val, rowLt ⟨s.val, lt_of_le_of_lt (Nat.le_of_lt_succ s.isLt) h⟩ r⟩) j := by
  refine Common.acc_eq_sum (fun n h => (outsAt0 m c n h).2.1 (ix2 0 j))
    (fun n h => ∑ r : Fin 512, dgAt (X m c ⟨512 * n + r.val, rowLt ⟨n, h⟩ r⟩) (G m c)
      (Y m c ⟨512 * n + r.val, rowLt ⟨n, h⟩ r⟩) j) (fun h => ?_) (fun n h => ?_) n h
  · refine (congrFun (congrArg (fun o => o.2.1) (outA m c ⟨0, h⟩ rfl)) (ix2 0 j)).trans ((pay_dg ..).trans ?_)
    simp only [blkX, blkG, blkY]
    unfold_payloads
    pointwise
  · refine (congrFun (congrArg (fun o => o.2.1) (outB m c ⟨n + 1, h⟩
      (by have : n + 1 < 8 := h; dsimp only; omega))) (ix2 0 j)).trans ((pay_dg ..).trans ?_)
    simp only [blkX, blkG, blkY]
    rfl

theorem tot_loss (c : Dev nD) (j : Fin 128) (n : ℕ) (h : n < cfg0.N) : (outsAt0 m c n h).2.2 (ix2 0 j)
    = ∑ s : Fin (n + 1), (∑ r : Fin 512,
        sqErr (X m c ⟨512 * s.val + r.val, rowLt ⟨s.val, lt_of_le_of_lt (Nat.le_of_lt_succ s.isLt) h⟩ r⟩) (G m c)
          (Y m c ⟨512 * s.val + r.val, rowLt ⟨s.val, lt_of_le_of_lt (Nat.le_of_lt_succ s.isLt) h⟩ r⟩))
        * Ideal.ofBits FTy.f32 973078528#32 := by
  refine Common.acc_eq_sum (fun n h => (outsAt0 m c n h).2.2 (ix2 0 j))
    (fun n h => (∑ r : Fin 512, sqErr (X m c ⟨512 * n + r.val, rowLt ⟨n, h⟩ r⟩) (G m c)
      (Y m c ⟨512 * n + r.val, rowLt ⟨n, h⟩ r⟩)) * Ideal.ofBits FTy.f32 973078528#32) (fun h => ?_) (fun n h => ?_) n h
  · refine (congrFun (congrArg (fun o => o.2.2) (outA m c ⟨0, h⟩ rfl)) (ix2 0 j)).trans ((pay_loss ..).trans ?_)
    simp only [blkX, blkG, blkY]
    unfold_payloads
    pointwise
  · refine (congrFun (congrArg (fun o => o.2.2) (outB m c ⟨n + 1, h⟩
      (by have : n + 1 < 8 := h; dsimp only; omega))) (ix2 0 j)).trans ((pay_loss ..).trans ?_)
    simp only [blkX, blkG, blkY]
    rfl

/-- The factor the kernel multiplies a block's squared errors by. -/
theorem half_over_width : Ideal.ofBits FTy.f32 973078528#32 = ((1 / 2048 : ℝ) : EReal) := by
  simp [Ideal.ofBits, Ideal.ieee]; rw [← EReal.coe_mul]; norm_num

theorem final_dg (c : Dev nD) : (dats m 0 c).arrAt 4 cfg0.N
    = fun i : S1x1024.Idx => ∑ k : Fin 4096, dgAt (X m c k) (G m c) (Y m c k) (i 1) := by
  refine (dats m 0 c).arrAt_eq_of_after_last 4 t0_7 (by decide +kernel) _ fun j => ?_
  blk_simp
  have hj : j = (ix2 0 (j 1) : S1x1024.Idx) := by
    rw [eq_ix2 j]; congr 1; exact Subsingleton.elim (α := Fin 1) _ _
  rw [after0_4, hj]
  refine (tot_dg m c (j 1) 7 t0_7.isLt).trans ?_
  exact Common.sum_blocks (m := 8) (n := 512) rfl (fun k => dgAt (X m c k) (G m c) (Y m c k) (j 1)) (fun s r => rowLt ⟨s.val, s.isLt⟩ r)

theorem final_loss (c : Dev nD) : (dats m 0 c).arrAt 5 cfg0.N
    = fun _ : S1x128.Idx => ∑ k : Fin 4096, sqErr (X m c k) (G m c) (Y m c k) * ((1 / 2048 : ℝ) : EReal) := by
  refine (dats m 0 c).arrAt_eq_of_after_last 5 t0_7 (by decide +kernel) _ fun j => ?_
  blk_simp
  have hj : j = (ix2 0 (j 1) : S1x128.Idx) := by
    rw [eq_ix2 j]; congr 1; exact Subsingleton.elim (α := Fin 1) _ _
  rw [after0_5, hj]
  refine (tot_loss m c (j 1) 7 t0_7.isLt).trans ?_
  simp only [half_over_width, Common.sum_mul_coe _ _ _ (by norm_num : (0 : ℝ) ≤ 1 / 2048)]
  exact Common.sum_blocks (m := 8) (n := 512) rfl (fun k => sqErr (X m c k) (G m c) (Y m c k) * ((1 / 2048 : ℝ) : EReal))
    (fun s r => rowLt ⟨s.val, s.isLt⟩ r)

/-- The kernel run: its three result arrays as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v3_0) = (fun i : S4096x1024.Idx => dxAt (X m c (i 0)) (G m c) (Y m c (i 0)) (i 1))
      ∧ r.2.mem (c.tc.loc main_v3_1) = (fun i : S1x1024.Idx => ∑ k : Fin 4096, dgAt (X m c k) (G m c) (Y m c k) (i 1))
      ∧ r.2.mem (c.tc.loc main_v3_2) = (fun _ : S1x128.Idx => ∑ k : Fin 4096, sqErr (X m c k) (G m c) (Y m c k) * ((1 / 2048 : ℝ) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1.trans (final_dx m c), (h c).2.1.trans (final_dg m c),
    (h c).2.2.1.trans (final_loss m c), (h c).2.2.2⟩) (Value.run_blocks m ρ)
end Cert.Loss
-- ==== Proof.NormBwd.lean ====
module
public import proofs.«01_k».proof.Proof.Gen.Kernel3Ideal.Value
public import proofs.«01_k».proof.Proof.Common
public import Idealize.ShloMosaic.Lib.StableHlo.RunRead
/-!
The input projection's gradient fused with the norm's: the kernel's two result arrays as functions of its arguments.
-/
@[expose] public section
noncomputable section
namespace Cert.NormBwd
open Cert.Kernel3Ideal Cert.Kernel3Ideal.Gen Idealize.ShloMosaic Idealize.ShloMosaic.TcCoe Idealize.SL.Sem
open Idealize.ShloMosaic.Pipeline (Dat)
set_option maxRecDepth 16384

/-- The mean square of a row plus the stabilising constant. -/
def meanSq (x : Fin 1024 → EReal) : EReal :=
  Ideal.div (∑ k, x k * x k) (Ideal.ofBits FTy.f32 1149239296#32) + Ideal.ofBits FTy.f32 897988541#32
/-- The part of the norm's gradient that comes through the row's mean square, for the cotangent `d` of the normalised row. -/
def coef (x g d : Fin 1024 → EReal) : EReal :=
  Ideal.div ((∑ k, x k * (d k * g k)) *
      (Ideal.ofBits FTy.f32 3204448256#32 * Ideal.div (Ideal.rsqrt (meanSq x)) (meanSq x)))
    (Ideal.ofBits FTy.f32 1149239296#32)
/-- The norm's gradient at one element of a row. -/
def dxAt (x g d : Fin 1024 → EReal) (j : Fin 1024) : EReal :=
  d j * g j * Ideal.rsqrt (meanSq x) + x j * coef x g d + coef x g d * x j
/-- A row's contribution to the gradient of the scale. -/
def dgAt (x d : Fin 1024 → EReal) (j : Fin 1024) : EReal := x j * Ideal.rsqrt (meanSq x) * d j

/-- The column that position `p` of the packed projection holds: the eight gate columns come last, then padding. -/
def column (p : Fin 3336) : Fin 3336 :=
  if p.val < 3072 then p else if h : p.val < 3328 then ⟨p.val + 8, by omega⟩ else ⟨p.val - 256, by omega⟩
/-- The position that holds a column. -/
def position (q : Fin 3336) : Fin 3336 :=
  if q.val < 3072 then q else if h : q.val < 3080 then ⟨q.val + 256, by omega⟩ else ⟨q.val - 8, by omega⟩

theorem column_val (p : Fin 3336) : (column p).val = if p.val < 3072 then p.val else if p.val < 3328 then p.val + 8 else p.val - 256 := by
  unfold column
  split_ifs <;> rfl

theorem at_column (f : Fin 3336 → EReal) (a : Fin 3336) (p : ℕ) (hp : p < 3336)
    (h : a.val = if p < 3072 then p else if p < 3328 then p + 8 else p - 256) : f a = f (column ⟨p, hp⟩) :=
  congrArg f (Fin.ext (h.trans (column_val ⟨p, hp⟩).symm))

theorem position_val (q : Fin 3336) : (position q).val = if q.val < 3072 then q.val else if q.val < 3080 then q.val + 256 else q.val - 8 := by
  unfold position
  split_ifs <;> rfl

theorem position_column (p : Fin 3336) : position (column p) = p := by
  apply Fin.ext
  rw [position_val, column_val]
  split_ifs <;> omega

theorem column_position (q : Fin 3336) : column (position q) = q := by
  apply Fin.ext
  rw [column_val, position_val]
  split_ifs <;> omega

/-- A row of columns in packed order, the padding zero. -/
def packed (f : Fin 3336 → EReal) (p : Fin 3456) : EReal := if h : p.val < 3336 then f (column ⟨p.val, h⟩) else 0

/-- A contraction over packed columns is the contraction over the columns. -/
theorem packed_sum (f g : Fin 3336 → EReal) : ∑ p, packed f p * packed g p = ∑ q, f q * g q := by
  have s := Fin.sum_univ_add (a := 3336) (b := 120) fun p : Fin 3456 => packed f p * packed g p
  have z : ∀ i : Fin 120, packed f (Fin.natAdd 3336 i) * packed g (Fin.natAdd 3336 i) = 0 := fun i => by
    unfold packed
    rw [dif_neg (by simp)]
    exact zero_mul _
  have l : ∀ i : Fin 3336, packed f (Fin.castAdd 120 i) * packed g (Fin.castAdd 120 i) = f (column i) * g (column i) := fun i => by
    unfold packed
    have h : (Fin.castAdd 120 i).val < 3336 := i.isLt
    rw [dif_pos h, dif_pos h]
    rfl
  refine s.trans ?_
  rw [Finset.sum_eq_zero fun i _ => z i, add_zero]
  refine (Finset.sum_congr rfl fun i _ => l i).trans ?_
  exact Equiv.sum_comp ⟨column, position, position_column, column_position⟩ fun q => f q * g q

variable (m : (ℓ : Loc nD τ sig) → Buf (Elt Ideal) ℓ)

theorem outA (c : Dev nD) (t : Fin cfg0.N) (h : t.val % 8 = 0) : outsAt0 m c t.val t.isLt =
   let d := k0_pay4 (iblk m c 0 t) (iblk m c 1 t) (iblk m c 2 t) (iblk m c 3 t) (iblk m c 4 t) (iblk m c 5 t) (iblk m c 6 t)
   let x := iblk m c 7 t
   (k0_pay1 d x (k0_pay5 (iblk m c 8 t)) (k0_pay7 x) (k0_pay8 x) (iblk m c 9 t), k0_pay2 d x (k0_pay7 x) (k0_pay3 (F := Ideal))) := by
  rw [outsAt0_A m c t h]
  frame_out

theorem outB (c : Dev nD) (t : Fin cfg0.N) (h : ¬ t.val % 8 = 0) : outsAt0 m c t.val t.isLt =
   let d := k0_pay4 (iblk m c 0 t) (iblk m c 1 t) (iblk m c 2 t) (iblk m c 3 t) (iblk m c 4 t) (iblk m c 5 t) (iblk m c 6 t)
   let x := iblk m c 7 t
   let old := outsAt0 m c (t.val - 1) (Nat.lt_of_le_of_lt (Nat.sub_le _ _) t.isLt)
   (k0_pay1 d x (k0_pay5 (iblk m c 8 t)) (k0_pay7 x) (k0_pay8 x) (iblk m c 9 t), k0_pay2 d x (k0_pay7 x) old.2) := by
  rw [outsAt0_B m c t h]
  frame_out

section payloads
variable (d x : FVec Ideal S512x1024 .f32) (g : FVec Ideal S1x1024 .f32)

theorem pay_dx (y : FVec Ideal S512x1024 .f32) (r : Fin 512) (j : Fin 1024) :
    k0_pay1 (F := Ideal) d x (k0_pay5 g) (k0_pay7 x) (k0_pay8 x) y (ix2 r j)
      = dxAt (fun k => x (ix2 r k)) (fun k => g (ix2 0 k)) (fun k => d (ix2 r k)) j + y (ix2 r j) := by
  unfold_payloads
  pointwise
  simp only [Finset.univ_unique, Finset.sum_singleton]
  rfl

theorem pay_dg (old : FVec Ideal S1x1024 .f32) (j : Fin 1024) :
    k0_pay2 (F := Ideal) d x (k0_pay7 x) old (ix2 0 j)
      = old (ix2 0 j) + ∑ r, dgAt (fun k => x (ix2 r k)) (fun k => d (ix2 r k)) j := by
  unfold_payloads
  pointwise
  rfl
end payloads

/-- The hidden states, the scale, the projection's weights and the two cotangents. -/
def X (c : Dev nD) (i : Fin 4096) (k : Fin 1024) : EReal := m (c, Proc.tc.devRef main_arg0) (ix2 i k)
def G (c : Dev nD) (k : Fin 1024) : EReal := m (c, Proc.tc.devRef main_arg1) (ix1 k)
def W (c : Dev nD) (j : Fin 1024) (q : Fin 3336) : EReal := m (c, Proc.tc.devRef main_arg2) (ix2 j q)
def P (c : Dev nD) (i : Fin 4096) (q : Fin 3336) : EReal := m (c, Proc.tc.devRef main_arg3) (ix2 i q)
def Y (c : Dev nD) (i : Fin 4096) (k : Fin 1024) : EReal := m (c, Proc.tc.devRef main_arg4) (ix2 i k)
/-- The cotangent of the normalised row. -/
def dhAt (p : Fin 3336 → EReal) (w : Fin 1024 → Fin 3336 → EReal) (j : Fin 1024) : EReal := ∑ q, p q * w j q

def row (t : Fin cfg0.N) (r : Fin 512) : Fin 4096 := ⟨512 * t.val + r.val, by have h : t.val < 8 := t.isLt; omega⟩

theorem idx0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = t.val ∧ win0_7.index t 1 = 0)
    ∧ (win0_8.index t 0 = 0 ∧ win0_8.index t 1 = 0) ∧ (win0_9.index t 0 = t.val ∧ win0_9.index t 1 = 0)
    ∧ (win0_10.index t 0 = t.val ∧ win0_10.index t 1 = 0) := by decide +kernel

theorem blkX (c : Dev nD) (t : Fin cfg0.N) (r : Fin 512) (j : Fin 1024) : iblk m c 7 t (ix2 r j) = X m c (row t r) j := by
  unfold X
  blk_simp [iblk]
  entry_read
  blk_ext [idx0 t, row] <;> (have := idx0 t; simp only [row]; omega)

theorem blkY (c : Dev nD) (t : Fin cfg0.N) (r : Fin 512) (j : Fin 1024) : iblk m c 9 t (ix2 r j) = Y m c (row t r) j := by
  unfold Y
  blk_simp [iblk]
  entry_read
  blk_ext [idx0 t, row] <;> (have := idx0 t; simp only [row]; omega)

theorem blkG (c : Dev nD) (t : Fin cfg0.N) (j : Fin 1024) : iblk m c 8 t (ix2 0 j) = G m c j := by
  unfold G
  blk_simp [iblk]
  entry_read
  pointwise
  blk_ext [idx0 t] <;> (have := idx0 t; omega)

theorem blkW (c : Dev nD) (t : Fin cfg0.N) (j : Fin 1024) (p : Fin 3456) : iblk m c 6 t (ix2 j p) = packed (W m c j) p := by
  unfold W packed
  blk_simp [iblk]
  have e : (win0_6.blk t).view.emb (ix2 j p) = (ix2 j p : S1024x3456.Idx) := by blk_ext [idx0 t] <;> (have := idx0 t; omega)
  rw [e]
  unfold V
  after_reads_simp [hostOps0]
  pointwise
  after_reads_simp
  pointwise
  by_cases hp : p.val < 3336
  · rw [dif_pos hp]
    split_ifs <;> first | exact at_column (W m c j) _ _ _ (by dsimp only; split_ifs <;> omega) | (exfalso; omega)
  · rw [dif_neg hp]
    split_ifs <;> first | rfl | (exfalso; omega)

theorem blkP0 (c : Dev nD) (t : Fin cfg0.N) (r : Fin 512) (k : Fin 768) : iblk m c 0 t (ix2 r k) = P m c (row t r) ⟨k.val, by omega⟩ := by
  unfold P
  blk_simp [iblk]
  entry_read
  pointwise
  blk_ext [idx0 t, row] <;> (have := idx0 t; simp only [row]; omega)

theorem blkP1 (c : Dev nD) (t : Fin cfg0.N) (r : Fin 512) (k : Fin 512) : iblk m c 1 t (ix2 r k) = P m c (row t r) ⟨768 + k.val, by omega⟩ := by
  unfold P
  blk_simp [iblk]
  entry_read
  pointwise
  blk_ext [idx0 t, row] <;> (have := idx0 t; simp only [row]; omega)

theorem blkP2 (c : Dev nD) (t : Fin cfg0.N) (r : Fin 512) (k : Fin 1024) : iblk m c 2 t (ix2 r k) = P m c (row t r) ⟨1280 + k.val, by omega⟩ := by
  unfold P
  blk_simp [iblk]
  entry_read
  pointwise
  blk_ext [idx0 t, row] <;> (have := idx0 t; simp only [row]; omega)

theorem blkP3 (c : Dev nD) (t : Fin cfg0.N) (r : Fin 512) (k : Fin 768) : iblk m c 3 t (ix2 r k) = P m c (row t r) ⟨2304 + k.val, by omega⟩ := by
  unfold P
  blk_simp [iblk]
  entry_read
  pointwise
  blk_ext [idx0 t, row] <;> (have := idx0 t; simp only [row]; omega)

theorem blkP4 (c : Dev nD) (t : Fin cfg0.N) (r : Fin 512) (k : Fin 256) : iblk m c 4 t (ix2 r k) = P m c (row t r) ⟨3080 + k.val, by omega⟩ := by
  unfold P
  blk_simp [iblk]
  entry_read
  pointwise
  blk_ext [idx0 t, row] <;> (have := idx0 t; simp only [row]; omega)

theorem blkP5 (c : Dev nD) (t : Fin cfg0.N) (r : Fin 512) (k : Fin 128) :
    iblk m c 5 t (ix2 r k) = if h : k.val < 8 then P m c (row t r) ⟨3072 + k.val, by omega⟩ else 0 := by
  unfold P
  blk_simp [iblk]
  have e : (win0_5.blk t).view.emb (ix2 r k) = (ix2 (row t r) k : S4096x128.Idx) := by
    blk_ext [idx0 t, row] <;> (have := idx0 t; simp only [row]; omega)
  rw [e]
  entry_read
  pointwise

set_option maxHeartbeats 1000000 in
/-- The block's rows times the packed weights: the cotangent of the normalised rows. -/
theorem dh_eq (c : Dev nD) (t : Fin cfg0.N) (r : Fin 512) (j : Fin 1024) :
    k0_pay4 (F := Ideal) (iblk m c 0 t) (iblk m c 1 t) (iblk m c 2 t) (iblk m c 3 t) (iblk m c 4 t) (iblk m c 5 t) (iblk m c 6 t) (ix2 r j)
      = dhAt (P m c (row t r)) (W m c) j := by
  unfold dhAt
  rw [← packed_sum]
  unfold_payloads
  pointwise
  refine Finset.sum_congr rfl fun p _ => ?_
  rw [blkW]
  refine congrArg (· * _) ?_
  unfold packed
  by_cases hp : p.val < 3336
  · rw [dif_pos hp]
    split_ifs <;> first
      | (rw [blkP0]; exact at_column _ _ _ _ (by dsimp only; split_ifs <;> omega))
      | (rw [blkP1]; exact at_column _ _ _ _ (by dsimp only; split_ifs <;> omega))
      | (rw [blkP2]; exact at_column _ _ _ _ (by dsimp only; split_ifs <;> omega))
      | (rw [blkP3]; exact at_column _ _ _ _ (by dsimp only; split_ifs <;> omega))
      | (rw [blkP4]; exact at_column _ _ _ _ (by dsimp only; split_ifs <;> omega))
      | (rw [blkP5, dif_pos (c := p.val - 768 - 512 - 1024 - 768 - 256 < 8) (by omega)]
         exact at_column _ _ _ _ (by dsimp only; split_ifs <;> omega))
  · rw [dif_neg hp]
    split_ifs <;> first
      | (exfalso; omega)
      | (rw [blkP5, dif_neg (c := p.val - 768 - 512 - 1024 - 768 - 256 < 8) (by omega)])

/-- The rows of the two results, in the arguments. -/
def Dx (c : Dev nD) (i : Fin 4096) (j : Fin 1024) : EReal := dxAt (X m c i) (G m c) (dhAt (P m c i) (W m c)) j + Y m c i j
def Dg (c : Dev nD) (i : Fin 4096) (j : Fin 1024) : EReal := dgAt (X m c i) (dhAt (P m c i) (W m c)) j

theorem out_dx (c : Dev nD) (t : Fin cfg0.N) (r : Fin 512) (j : Fin 1024) :
    (outsAt0 m c t.val t.isLt).1 (ix2 r j) = Dx m c (row t r) j := by
  by_cases h : t.val % 8 = 0
  · rw [outA m c t h]
    refine (pay_dx ..).trans ?_
    simp only [blkX, blkG, blkY, dh_eq]; rfl
  · rw [outB m c t h]
    refine (pay_dx ..).trans ?_
    simp only [blkX, blkG, blkY, dh_eq]; rfl

theorem final_dx (c : Dev nD) : (dats m 0 c).arrAt 10 cfg0.N = fun i : S4096x1024.Idx => Dx m c (i 0) (i 1) := by
  refine (dats m 0 c).arrAt_eq_of_covers 10 _ (by decide +kernel) fun t hf y => ?_
  blk_simp
  obtain ⟨r, j, rfl⟩ : ∃ (r : Fin 512) (j : Fin 1024), y = (ix2 r j : S512x1024.Idx) := ⟨y 0, y 1, eq_ix2 (n0 := 512) (n1 := 1024) y⟩
  rw [after0_10, out_dx]
  have e : (win0_10.blk t).view.emb (ix2 r j) = (ix2 (row t r) j : S4096x1024.Idx) := by
    blk_ext [idx0 t, row] <;> (have := idx0 t; simp only [row]; omega)
  rw [e]
  rfl

theorem tot_dg (c : Dev nD) (j : Fin 1024) (n : ℕ) (h : n < cfg0.N) : (outsAt0 m c n h).2 (ix2 0 j)
    = ∑ s : Fin (n + 1), ∑ r : Fin 512, Dg m c (row ⟨s.val, lt_of_le_of_lt (Nat.le_of_lt_succ s.isLt) h⟩ r) j := by
  refine Common.acc_eq_sum (fun n h => (outsAt0 m c n h).2 (ix2 0 j)) (fun n h => ∑ r : Fin 512, Dg m c (row ⟨n, h⟩ r) j)
    (fun h => ?_) (fun n h => ?_) n h
  · refine (congrFun (congrArg (fun o => o.2) (outA m c ⟨0, h⟩ rfl)) (ix2 0 j)).trans ((pay_dg ..).trans ?_)
    simp only [blkX, dh_eq]
    unfold_payloads
    pointwise
    rfl
  · refine (congrFun (congrArg (fun o => o.2) (outB m c ⟨n + 1, h⟩
      (by have : n + 1 < 8 := h; dsimp only; omega))) (ix2 0 j)).trans ((pay_dg ..).trans ?_)
    simp only [blkX, dh_eq]
    rfl

theorem final_dg (c : Dev nD) : (dats m 0 c).arrAt 11 cfg0.N = fun i : S1x1024.Idx => ∑ k : Fin 4096, Dg m c k (i 1) := by
  refine (dats m 0 c).arrAt_eq_of_after_last 11 t0_7 (by decide +kernel) _ fun j => ?_
  blk_simp
  have hj : j = (ix2 0 (j 1) : S1x1024.Idx) := by
    rw [eq_ix2 j]; congr 1; exact Subsingleton.elim (α := Fin 1) _ _
  rw [after0_11, hj]
  refine (tot_dg m c (j 1) 7 t0_7.isLt).trans ?_
  exact Common.sum_blocks (m := 8) (n := 512) rfl (fun k => Dg m c k (j 1)) (fun s r => (row ⟨s.val, s.isLt⟩ r).isLt)

/-- The arguments are unchanged. -/
abbrev Kept (c : Dev nD) (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4)

/-- The kernel run: its two result arrays as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v21_0) = (fun i : S4096x1024.Idx => Dx m c (i 0) (i 1))
      ∧ r.2.mem (c.tc.loc main_v21_1) = (fun i : S1x1024.Idx => ∑ k : Fin 4096, Dg m c k (i 1)) ∧ Kept m c r.2 :=
  (θ_run defs _ _).mono (fun _ h c => ⟨(h c).1.trans (final_dx m c), (h c).2.1.trans (final_dg m c), (h c).2.2⟩) (Value.run_blocks m ρ)
end Cert.NormBwd
-- ==== Proof.NormBwdRef.lean ====
module
public import proofs.«01_k».proof.Defs
public import proofs.«01_k».proof.Proof.NormBwd
public import proofs.«01_k».proof.Proof.Gen.Reference3Ideal.Run
/-!
The input projection's reference: its two results as the same functions of the arguments, and the two programs' agreement.
-/
@[expose] public section
noncomputable section
namespace Cert.NormBwd.Ref
open Cert.Reference3Ideal Cert.Reference3Ideal.Gen Cert.Reference3Ideal.Value Idealize.ShloMosaic Idealize.ShloMosaic.TcCoe Idealize.SL.Sem
open Cert.NormBwd (dxAt dgAt dhAt meanSq coef)
set_option maxRecDepth 16384

/-- The order in which the gradient's terms are added does not matter. -/
theorem sum_order (a b d e : EReal) : a + b + d + e = b + d + e + a := by
  rw [add_comm _ a, ← add_assoc, ← add_assoc]

variable (m : (ℓ : Loc nD τ sig) → Buf (Elt Ideal) ℓ) (c : Dev nD)

def X (i : Fin 4096) (k : Fin 1024) : EReal := m (c.tc.loc main_arg0) (ix2 i k)
def G (k : Fin 1024) : EReal := m (c.tc.loc main_arg1) (ix1 k)
def W (j : Fin 1024) (q : Fin 3336) : EReal := m (c.tc.loc main_arg2) (ix2 j q)
def P (i : Fin 4096) (q : Fin 3336) : EReal := m (c.tc.loc main_arg3) (ix2 i q)
def Y (i : Fin 4096) (k : Fin 1024) : EReal := m (c.tc.loc main_arg4) (ix2 i k)

/-- The rows of the two results, in the arguments. -/
def Dx (i : Fin 4096) (j : Fin 1024) : EReal := dxAt (X m c i) (G m c) (dhAt (P m c i) (W m c)) j + Y m c i j
def Dg (i : Fin 4096) (j : Fin 1024) : EReal := dgAt (X m c i) (dhAt (P m c i) (W m c)) j

theorem res_dx : res_main_v38 m c = fun i : S4096x1024.Idx => Dx m c (i 0) (i 1) := by
  funext i
  obtain ⟨r, j, rfl⟩ : ∃ (r : Fin 4096) (j : Fin 1024), i = (ix2 r j : S4096x1024.Idx) := ⟨i 0, i 1, eq_ix2 (n0 := 4096) (n1 := 1024) i⟩
  let d := dhAt (P m c r) (W m c)
  let k := coef (X m c r) (G m c) d
  unfold res_main_v38
  pointwise
  simp only [Finset.univ_unique, Finset.sum_singleton]
  exact sum_order (Y m c r j) (d j * G m c j * Ideal.rsqrt (meanSq (X m c r))) (X m c r j * k) (k * X m c r j)

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4)

theorem run_values (ρ : Dev nD → PrngReg) :
    θ_run defs (onTc (τ := τ) (main (F := Ideal))) ⟨m, fun _ => 0, ρ⟩ fun r => ∀ c : Dev nD,
      r.2.mem (c.tc.loc main_v38) = (fun i : S4096x1024.Idx => Dx m c (i 0) (i 1))
      ∧ r.2.mem (c.tc.loc main_v39) = (fun i : S1x1024.Idx => ∑ k : Fin 4096, Dg m c k (i 1)) ∧ Kept m c r.2 := by
  refine (θ_run defs _ _).mono (fun r h c => ?_) (run m ρ)
  obtain ⟨h0, h1, h2⟩ := h c
  refine ⟨h0.trans (res_dx m c), h1.trans ?_, h2⟩
  funext i
  rw [eq_ix2 i]
  pointwise
  simp only [Finset.univ_unique, Finset.sum_singleton]
  rfl

theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2.2, sem_eq_zero_of_no_sems (by decide) r.2⟩) (run_values m ρ)
end Cert.NormBwd.Ref

open Idealize.ShloMosaic Idealize.ShloMosaic.TcCoe Idealize.SL.Sem in
/-- The fused call computes the gradients of the norm under the projection. -/
theorem Cert.NormBwd.value : Cert.algebraic_Kernel3Ideal_Reference3Ideal := by
  intro m g m' g' _ hag
  have e0 (c) : Cert.NormBwd.Ref.X m' c = X m c := by funext i k; exact congrFun (hag c).1 (ix2 i k)
  have e1 (c) : Cert.NormBwd.Ref.G m' c = G m c := by funext k; exact congrFun (hag c).2.1 (ix1 k)
  have e2 (c) : Cert.NormBwd.Ref.W m' c = W m c := by funext i k; exact congrFun (hag c).2.2.1 (ix2 i k)
  have e3 (c) : Cert.NormBwd.Ref.P m' c = P m c := by funext i k; exact congrFun (hag c).2.2.2.1 (ix2 i k)
  have e4 (c) : Cert.NormBwd.Ref.Y m' c = Y m c := by funext i k; exact congrFun (hag c).2.2.2.2 (ix2 i k)
  have hr := Cert.NormBwd.Ref.run_values m' g'
  simp only [Cert.NormBwd.Ref.Dx, Cert.NormBwd.Ref.Dg, e0, e1, e2, e3, e4] at hr
  exact ⟨_, _, run_values m g, hr⟩
-- ==== Proof.LossRef.lean ====
module
public import proofs.«01_k».proof.Proof.Loss
public import proofs.«01_k».proof.Proof.Gen.ReferenceIdeal.Run
/-!
The loss head's reference: its three results as the same functions of the arguments.
-/
@[expose] public section
noncomputable section
namespace Cert.LossRef
open Cert.ReferenceIdeal Cert.ReferenceIdeal.Gen Cert.ReferenceIdeal.Value Idealize.ShloMosaic Idealize.ShloMosaic.TcCoe Idealize.SL.Sem
open Cert.Loss (dxAt dgAt sqErr ct err coef meanSq)
set_option maxRecDepth 16384

theorem half : Ideal.ofBits FTy.f32 1056964608#32 = ((1 / 2 : ℝ) : EReal) := by
    simp [Ideal.ofBits, Ideal.ieee]; rw [← EReal.coe_mul]; norm_num
theorem width : Ideal.ofBits FTy.f32 1149239296#32 = ((1024 : ℝ) : EReal) := by
    simp [Ideal.ofBits, Ideal.ieee]; rw [← EReal.coe_mul]; norm_num

/-- The loss as the reference scales it, half of a sum of means, is the sum of the rows over 2048. -/
theorem loss_scale (f : Fin 4096 → EReal) :
    Ideal.ofBits FTy.f32 1056964608#32 * ∑ k, Ideal.div (f k) (Ideal.ofBits FTy.f32 1149239296#32)
      = ∑ k, f k * ((1 / 2048 : ℝ) : EReal) := by
  rw [half, width, mul_comm, Common.sum_mul_coe _ _ _ (by norm_num)]
  refine Finset.sum_congr rfl fun k _ => ?_
  rw [Ideal.div_coe (by norm_num), mul_assoc, ← EReal.coe_mul]
  norm_num

/-- The cotangent as the reference writes it, `(0.5 * 1 / 1024) * (2 * e)`, is the error over 1024. -/
theorem ct_scale (e : EReal) :
    Ideal.div (Ideal.ofBits FTy.f32 1056964608#32) (Ideal.ofBits FTy.f32 1149239296#32)
        * (Ideal.ofBits FTy.f32 1073741824#32 * e)
      = e * Ideal.ofBits FTy.f32 981467136#32 := by
  have h3 : Ideal.ofBits FTy.f32 1073741824#32 = ((2 : ℝ) : EReal) := by
    simp [Ideal.ofBits, Ideal.ieee]; rw [← EReal.coe_mul]; norm_num
  have h4 : Ideal.ofBits FTy.f32 981467136#32 = ((1 / 1024 : ℝ) : EReal) := by
    simp [Ideal.ofBits, Ideal.ieee]; rw [← EReal.coe_mul]; norm_num
  rw [half, width, h3, h4, Ideal.div_coe (by norm_num), ← mul_assoc, ← EReal.coe_mul, ← EReal.coe_mul, mul_comm e]
  norm_num

variable (m : (ℓ : Loc nD τ sig) → Buf (Elt Ideal) ℓ) (c : Dev nD)

def X (i : Fin 4096) (k : Fin 1024) : EReal := m (c.tc.loc main_arg0) (ix3 0 i k)
def G (k : Fin 1024) : EReal := m (c.tc.loc main_arg1) (ix1 k)
def Y (i : Fin 4096) (k : Fin 1024) : EReal := m (c.tc.loc main_arg2) (ix3 0 i k)

theorem res_dx : res_main_v52 m c = fun i : S4096x1024.Idx => dxAt (X m c (i 0)) (G m c) (Y m c (i 0)) (i 1) := by
  funext i
  rw [eq_ix2 i]
  unfold res_main_v52
  pointwise
  simp only [ct_scale]
  rfl

theorem run_values (ρ : Dev nD → PrngReg) :
    θ_run defs (onTc (τ := τ) (main (F := Ideal))) ⟨m, fun _ => 0, ρ⟩ fun r => ∀ c : Dev nD,
      r.2.mem (c.tc.loc main_v52) = (fun i : S4096x1024.Idx => dxAt (X m c (i 0)) (G m c) (Y m c (i 0)) (i 1))
      ∧ r.2.mem (c.tc.loc main_v53) = (fun i : S1x1024.Idx => ∑ k : Fin 4096, dgAt (X m c k) (G m c) (Y m c k) (i 1))
      ∧ r.2.mem (c.tc.loc main_v54) = (fun _ : S1x128.Idx => ∑ k : Fin 4096, sqErr (X m c k) (G m c) (Y m c k) * ((1 / 2048 : ℝ) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (run m ρ)
  obtain ⟨h0, h1, h2, h3⟩ := h c
  refine ⟨h0.trans (res_dx m c), h1.trans ?_, h2.trans ?_, h3⟩
  · funext i
    rw [eq_ix2 i]
    pointwise
    simp only [ct_scale]
    rfl
  · funext i
    rw [eq_ix2 i]
    pointwise
    simp only [Finset.univ_unique, Finset.sum_singleton]
    exact loss_scale fun k => sqErr (X m c k) (G m c) (Y m c k)
end Cert.LossRef
-- ==== Proof.DnPreSpec.lean ====
module
public import proofs.«01_k».proof.Proof.Common
/-!
The gradient of the delta rule's input stage, as mathematics: a causal convolution over four rows, `x · logistic x`,
heads scaled to unit length, and the two gates (a decay through softplus and a running sum over chunks of 64 rows,
and a logistic gate).
-/
@[expose] public section
noncomputable section
namespace Cert.DnPre
open Idealize.ShloMosaic

/-- A list of values read at any position, zero beyond its end. -/
def getN {n : ℕ} (f : Fin n → EReal) (k : ℕ) : EReal := if h : k < n then f ⟨k, h⟩ else 0
/-- The same with three zeros put before it. -/
def delayed {n : ℕ} (f : Fin n → EReal) (k : ℕ) : EReal := if 3 ≤ k then getN f (k - 3) else 0

/-- A head's squared length plus the stabilising constant. -/
def sqLen (x : Fin 64 → EReal) : EReal := ∑ j, x j * x j + Ideal.ofBits FTy.f32 897988541#32
/-- The part of the gradient that comes through the head's length. -/
def pull (x d : Fin 64 → EReal) : EReal :=
  (∑ k, x k * d k) * (Ideal.ofBits FTy.f32 3204448256#32 * Ideal.div (Ideal.rsqrt (sqLen x)) (sqLen x))
/-- The gradient of scaling a head to unit length. -/
def unitGrad (x d : Fin 64 → EReal) (j : Fin 64) : EReal :=
  d j * Ideal.rsqrt (sqLen x) + x j * pull x d + pull x d * x j
/-- One eighth, the scale of the queries. -/
def eighth : EReal := Ideal.ofBits FTy.f32 1040187392#32
/-- The kernel's form of the same, with the queries' scale folded into the reciprocal length. -/
def scaledGrad (x d : Fin 64 → EReal) (j : Fin 64) : EReal :=
  d j * (Ideal.rsqrt (sqLen x) * eighth)
    + x j * ((∑ k, x k * d k) * eighth * (Ideal.ofBits FTy.f32 3204448256#32 * Ideal.div (Ideal.rsqrt (sqLen x)) (sqLen x)))
    + (∑ k, x k * d k) * eighth * (Ideal.ofBits FTy.f32 3204448256#32 * Ideal.div (Ideal.rsqrt (sqLen x)) (sqLen x)) * x j

theorem eighth_eq : eighth = ((1 / 8 : ℝ) : EReal) := by
  unfold eighth
  simp [Ideal.ofBits, Ideal.ieee]
  rw [← EReal.coe_mul]
  norm_num

theorem scaledGrad_eq (x d : Fin 64 → EReal) (j : Fin 64) :
    scaledGrad x d j = unitGrad x (fun k => d k * eighth) j := by
  have e : ∑ k, x k * (d k * eighth) = (∑ k, x k * d k) * eighth := by
    rw [eighth_eq, Common.sum_mul_coe _ _ _ (by norm_num)]
    exact Finset.sum_congr rfl fun k _ => (mul_assoc ..).symm
  unfold scaledGrad unitGrad pull
  rw [e, mul_assoc (d j), mul_comm eighth]

/-- A row's queries and its keys. -/
def queries (s : Fin 768 → EReal) (k : Fin 256) : EReal := s ⟨k.val, by omega⟩
def keys (s : Fin 768 → EReal) (k : Fin 256) : EReal := s ⟨256 + k.val, by omega⟩
/-- The head that starts at column `o`. -/
def headAt (y : Fin 256 → EReal) (o : ℕ) (h : o + 64 ≤ 256) (j : Fin 64) : EReal := y ⟨o + j.val, by omega⟩
/-- The head and the column within it of a column. -/
theorem headLe (k : Fin 256) : 64 * (k.val / 64) + 64 ≤ 256 := by omega
def within (k : Fin 256) : Fin 64 := ⟨k.val % 64, by omega⟩

/-- The cotangent of the activated row: queries and keys through their unit lengths, values as they come. -/
def actGrad (s : Fin 768 → EReal) (dq dk dv : Fin 256 → EReal) (c : Fin 768) : EReal :=
  if h : c.val < 256 then
    unitGrad (headAt (queries s) _ (headLe ⟨c.val, h⟩)) (fun k => headAt dq _ (headLe ⟨c.val, h⟩) k * eighth)
      (within ⟨c.val, h⟩)
  else if h' : c.val < 512 then
    unitGrad (headAt (keys s) _ (headLe ⟨c.val - 256, by omega⟩)) (headAt dk _ (headLe ⟨c.val - 256, by omega⟩))
      (within ⟨c.val - 256, by omega⟩)
  else dv ⟨c.val - 512, by omega⟩

/-- The cotangent of the convolved row: the activated row's, through `x · logistic x`. -/
def rowGrad (y : Fin 768 → EReal) (dq dk dv : Fin 256 → EReal) (c : Fin 768) : EReal :=
  actGrad (fun k => y k * Ideal.logistic (y k)) dq dk dv c * Ideal.logistic (y c)
    + y c * actGrad (fun k => y k * Ideal.logistic (y k)) dq dk dv c * (Ideal.logistic (y c) * (1 - Ideal.logistic (y c)))

section step
variable (x : Fin 4096 → Fin 768 → EReal) (w : Fin 4 → Fin 768 → EReal) (dq dk dv : Fin 4096 → Fin 256 → EReal)

/-- Row `i` of the causal convolution. -/
def conv (i : ℕ) (c : Fin 768) : EReal :=
  delayed (fun r => x r c) i * w 0 c + delayed (fun r => x r c) (1 + i) * w 1 c
    + delayed (fun r => x r c) (2 + i) * w 2 c + delayed (fun r => x r c) (3 + i) * w 3 c
/-- The cotangent of row `i` of the convolution. -/
def convGrad (i : Fin 4096) (c : Fin 768) : EReal := rowGrad (conv x w i.val) (dq i) (dk i) (dv i) c
/-- The gradient of the convolution's rows. -/
def rowsGrad (i : Fin 4096) (c : Fin 768) : EReal :=
  getN (fun r => convGrad x w dq dk dv r c) (3 + i.val) * w 0 c + getN (fun r => convGrad x w dq dk dv r c) (2 + i.val) * w 1 c
    + getN (fun r => convGrad x w dq dk dv r c) (1 + i.val) * w 2 c + getN (fun r => convGrad x w dq dk dv r c) i.val * w 3 c
/-- The gradient of the convolution's weights. -/
def tapGrad (k : Fin 4) (c : Fin 768) : EReal :=
  ∑ i : Fin 4096, convGrad x w dq dk dv i c * delayed (fun r => x r c) (k.val + i.val)
end step

/-- The sum of a list's entries from `i` to the end of the chunk of 64 that holds `i`. -/
theorem chunkLt (i : Fin 4096) (q : Fin 64) : 64 * (i.val / 64) + q.val < 4096 := by omega
def chunkTail (f : Fin 4096 → EReal) (i : Fin 4096) : EReal :=
  ∑ q : Fin 64, if i.val % 64 ≤ q.val then f ⟨64 * (i.val / 64) + q.val, chunkLt i q⟩ else 0
/-- `log (1 + exp z)`. -/
def softplus (z : EReal) : EReal := max z 0 + Ideal.log1p (Ideal.exp (0 - FloatOps.absf (F := Ideal) (φ := .f32) z))

section gates
variable (alpha logit : Fin 4096 → Fin 4 → EReal) (aLog bias : Fin 4 → EReal) (dgc dbeta : Fin 4096 → Fin 4 → EReal)
/-- The cotangent of the log decay, after the running sum. -/
def decayGrad (i : Fin 4096) (h : Fin 4) : EReal := chunkTail (fun r => dgc r h) i
/-- The gradient of the decay's operand. -/
def alphaGrad (i : Fin 4096) (h : Fin 4) : EReal :=
  (0 - Ideal.exp (aLog h)) * decayGrad dgc i h * Ideal.logistic (alpha i h + bias h)
/-- The gradient of the decay's rate. -/
def rateGrad (h : Fin 4) : EReal :=
  ∑ i : Fin 4096, (0 - Ideal.exp (aLog h)) * (decayGrad dgc i h * softplus (alpha i h + bias h))
/-- The gradient of the logistic gate's operand. -/
def logitGrad (i : Fin 4096) (h : Fin 4) : EReal :=
  dbeta i h * (Ideal.logistic (logit i h) * (1 - Ideal.logistic (logit i h)))
end gates
end Cert.DnPre
-- ==== Proof.DnPre.lean ====
module
public import proofs.«01_k».proof.Proof.Gen.Kernel2Ideal.Value
public import proofs.«01_k».proof.Proof.DnPreSpec
/-!
The gradient of the delta rule's input stage, one row tile at a time: each of the kernel's values at an index.
-/
@[expose] public section
noncomputable section
namespace Cert.DnPre
open Cert.Kernel2Ideal Cert.Kernel2Ideal.Gen Idealize.ShloMosaic Idealize.ShloMosaic.TcCoe Idealize.SL.Sem
set_option maxRecDepth 16384

/-- A head found by its first column is the head of any column in it. -/
theorem headGrad_eq (s : Fin 768 → EReal) (d : Fin 256 → EReal) (k : Fin 256) {o : ℕ} (j : Fin 64) (ho : o + 64 ≤ 256)
    (e : o = 64 * (k.val / 64)) (hj : j.val = k.val - o) :
    unitGrad (headAt (queries s) o ho) (fun l => headAt d o ho l * eighth) j
      = unitGrad (headAt (queries s) _ (headLe k)) (fun l => headAt d _ (headLe k) l * eighth) (within k) := by
  subst e
  rw [show j = within k from Fin.ext (by dsimp only [within]; omega)]
theorem headGrad_eq' (s : Fin 768 → EReal) (d : Fin 256 → EReal) (k : Fin 256) {o : ℕ} (j : Fin 64) (ho : o + 64 ≤ 256)
    (e : o = 64 * (k.val / 64)) (hj : j.val = k.val - o) :
    unitGrad (headAt (keys s) o ho) (headAt d o ho) j
      = unitGrad (headAt (keys s) _ (headLe k)) (headAt d _ (headLe k)) (within k) := by
  subst e
  rw [show j = within k from Fin.ext (by dsimp only [within]; omega)]

section rows
variable (v12 : FVec Ideal S520x768 .f32) (v16 : FVec Ideal S8x768 .f32) (v35 v42 : FVec Ideal S512x768 .f32)

/-- A function of the values the kernel's last steps read, taken at the values it computes. -/
def tileWith {α : Type} (dq dk dv : FVec Ideal S512x256 .f32)
    (f : FVec Ideal S512x768 .f32 → FVec Ideal S512x768 .f32 → FVec Ideal S512x768 .f32 → FVec Ideal S512x64 .f32 →
      FVec Ideal S512x1 .f32 → FVec Ideal S512x1 .f32 → FVec Ideal S512x768 .f32 → FVec Ideal S512x64 .f32 →
      FVec Ideal S512x64 .f32 → FVec Ideal S512x64 .f32 → FVec Ideal S512x64 .f32 → FVec Ideal S512 .f32 → α) : α :=
  let v48 := k0_pay13 v12 v16 v35 v42
  let v49 := k0_pay14 v12 v16 v35 v42
  let v52 := k0_pay15 v12 v16 v35 v42
  let v55 := k0_pay18 v12 v16 v35 v42
  let v67 := k0_pay24 v12 v16 v35 v42
  let v69 := k0_pay25 v12 v16 v35 v42
  let v53 := k0_pay16 v12 v16 v35 v42
  let v104 := k0_pay39 v53
  let v105 := k0_pay40 v53
  let v106 := k0_pay41 v53
  let v107 := k0_pay42 v53
  let v58 := k0_pay21 v12 v16 v35 v42
  let v253 := k0_pay84 v107 (k0_pay57 v107) (k0_pay58 v107) dk
  let v268 := k0_pay85 v106 (k0_pay53 (k0_pay51 v53) (k0_pay52 v53)) (k0_pay54 (k0_pay52 v53)) dk
  let v318 := k0_pay87 v104 v105 (k0_pay45 v53) (k0_pay46 v53) (k0_pay49 v53) (k0_pay50 v53) (k0_pay81 dv)
    (k0_pay82 dk) (k0_pay83 dk) v253 v268 (k0_pay86 v105 dk)
  let v337 := k0_pay89 v58 (k0_pay36 v58) (k0_pay37 v58) dq
  let v352 := k0_pay90 (k0_pay20 v12 v16 v35 v42) (k0_pay32 v12 v16 v35 v42)
    (k0_pay33 (k0_pay31 v12 v16 v35 v42) (Scalar.ofBits .f32 0x3E000000#32)) dq
  let v367 := k0_pay91 (k0_pay19 v12 v16 v35 v42) (k0_pay28 v12 v16 v35 v42) (k0_pay29 v12 v16 v35 v42) dq
  f v48 v49 v52 v55 v67 v69 v318 (k0_pay88 dq) v337 v352 v367 (k0_pay92 v55 (k0_pay88 dq))
/-- The kernel's cotangent of the convolved tile, as it composes it. -/
def tileGrad (dq dk dv : FVec Ideal S512x256 .f32) : FVec Ideal S512x768 .f32 :=
  tileWith v12 v16 v35 v42 dq dk dv k0_pay93

variable (dq dk dv : FVec Ideal S512x256 .f32) (r : Fin 512)

/-- The tile's convolved rows, and its activated rows. -/
def pre (c : Fin 768) : EReal := k0_pay13 (F := Ideal) v12 v16 v35 v42 (ix2 r c)
def act (c : Fin 768) : EReal := pre v12 v16 v35 v42 r c * Ideal.logistic (pre v12 v16 v35 v42 r c)

theorem p16 (c : Fin 768) : k0_pay16 (F := Ideal) v12 v16 v35 v42 (ix2 r c) = act v12 v16 v35 v42 r c := by
  rw [k0_pay16, k0_pay14]
  pointwise
  rfl

theorem v337_at (j : Fin 64) : k0_pay89 (F := Ideal) (k0_pay21 v12 v16 v35 v42) (k0_pay36 (k0_pay21 v12 v16 v35 v42)) (k0_pay37 (k0_pay21 v12 v16 v35 v42)) dq (ix2 r j)
    = scaledGrad (headAt (queries (act v12 v16 v35 v42 r)) 192 (by omega)) (headAt (fun k => dq (ix2 r k)) 192 (by omega)) j := by
  simp only [k0_pay89, k0_pay36, k0_pay37, k0_pay35, k0_pay34, k0_pay21, k0_pay17]
  pointwise
  simp only [p16, Finset.univ_unique, Finset.sum_singleton]
  rfl

theorem v352_at (j : Fin 64) : k0_pay90 (F := Ideal) (k0_pay20 v12 v16 v35 v42) (k0_pay32 v12 v16 v35 v42)
    (k0_pay33 (k0_pay31 v12 v16 v35 v42) (Scalar.ofBits .f32 0x3E000000#32)) dq (ix2 r j)
    = scaledGrad (headAt (queries (act v12 v16 v35 v42 r)) 128 (by omega)) (headAt (fun k => dq (ix2 r k)) 128 (by omega)) j := by
  simp only [k0_pay90, k0_pay20, k0_pay33, k0_pay32, k0_pay31, k0_pay30, k0_pay17]
  pointwise
  simp only [p16, Finset.univ_unique, Finset.sum_singleton]
  rfl
theorem v367_at (j : Fin 64) : k0_pay91 (F := Ideal) (k0_pay19 v12 v16 v35 v42) (k0_pay28 v12 v16 v35 v42) (k0_pay29 v12 v16 v35 v42) dq (ix2 r j)
    = scaledGrad (headAt (queries (act v12 v16 v35 v42 r)) 64 (by omega)) (headAt (fun k => dq (ix2 r k)) 64 (by omega)) j := by
  simp only [k0_pay91, k0_pay19, k0_pay29, k0_pay28, k0_pay27, k0_pay26, k0_pay17]
  pointwise
  simp only [p16, Finset.univ_unique, Finset.sum_singleton]
  rfl
theorem v253_at (v53 : FVec Ideal S512x768 .f32) (j : Fin 64) : k0_pay84 (F := Ideal) (k0_pay42 v53) (k0_pay57 (k0_pay42 v53)) (k0_pay58 (k0_pay42 v53)) dk (ix2 r j)
    = unitGrad (headAt (keys fun k => v53 (ix2 r k)) 192 (by omega)) (headAt (fun k => dk (ix2 r k)) 192 (by omega)) j := by
  simp only [k0_pay84, k0_pay57, k0_pay58, k0_pay56, k0_pay55, k0_pay42, k0_pay38]
  pointwise
  simp only [Finset.univ_unique, Finset.sum_singleton]
  rfl
theorem v268_at (v53 : FVec Ideal S512x768 .f32) (j : Fin 64) : k0_pay85 (F := Ideal) (k0_pay41 v53) (k0_pay53 (k0_pay51 v53) (k0_pay52 v53)) (k0_pay54 (k0_pay52 v53)) dk (ix2 r j)
    = unitGrad (headAt (keys fun k => v53 (ix2 r k)) 128 (by omega)) (headAt (fun k => dk (ix2 r k)) 128 (by omega)) j := by
  simp only [k0_pay85, k0_pay54, k0_pay53, k0_pay52, k0_pay51, k0_pay41, k0_pay38]
  pointwise
  simp only [Finset.univ_unique, Finset.sum_singleton]
  rfl

/-- The values' and keys' part of the activated row's cotangent. -/
theorem v318_at (v53 : FVec Ideal S512x768 .f32) (v234 : FVec Ideal S512x768 .f32) (v253 v268 : FVec Ideal S512x64 .f32) (c : Fin 768) :
  k0_pay87 (F := Ideal) (k0_pay39 v53) (k0_pay40 v53) (k0_pay45 v53) (k0_pay46 v53) (k0_pay49 v53) (k0_pay50 v53) v234
    (k0_pay82 dk) (k0_pay83 dk) v253 v268 (k0_pay86 (k0_pay40 v53) dk) (ix2 r c)
    = v234 (ix2 r c) + (if h : c.val < 256 then 0 else if h1 : c.val < 320 then
       unitGrad (headAt (keys fun k => v53 (ix2 r k)) 0 (by omega)) (headAt (fun k => dk (ix2 r k)) 0 (by omega)) ⟨c.val - 256, by omega⟩
       else if h2 : c.val < 384 then
       unitGrad (headAt (keys fun k => v53 (ix2 r k)) 64 (by omega)) (headAt (fun k => dk (ix2 r k)) 64 (by omega)) ⟨c.val - 256 - 64, by omega⟩
       else if h3 : c.val < 448 then v268 (ix2 r ⟨c.val - 256 - 128, by omega⟩)
       else if h4 : c.val < 512 then v253 (ix2 r ⟨c.val - 256 - 192, by omega⟩) else 0) := by
  simp only [k0_pay87, k0_pay86, k0_pay83, k0_pay82, k0_pay39, k0_pay40, k0_pay50, k0_pay49, k0_pay48, k0_pay47, k0_pay46, k0_pay45, k0_pay44, k0_pay43, k0_pay38]
  pointwise
  simp only [Finset.univ_unique, Finset.sum_singleton]
  congr 1
  repeat' split
  all_goals first | (exfalso; omega) | skip
  all_goals simp only [add_zero, zero_add, unitGrad, pull, sqLen, headAt]
  all_goals rfl
/-- The tile's cotangent column by column. -/
theorem v404_at (v48 v49 v52 : FVec Ideal S512x768 .f32) (v318 : FVec Ideal S512x768 .f32) (v337 v352 v367 : FVec Ideal S512x64 .f32) (c : Fin 768) :
    k0_pay93 (F := Ideal) v48 v49 v52 (k0_pay18 v12 v16 v35 v42) (k0_pay24 v12 v16 v35 v42) (k0_pay25 v12 v16 v35 v42) v318 (k0_pay88 dq) v337 v352 v367
      (k0_pay92 (k0_pay18 v12 v16 v35 v42) (k0_pay88 dq)) (ix2 r c) =
     (let s := v318 (ix2 r c) + if h : c.val < 64 then
        scaledGrad (headAt (queries (act v12 v16 v35 v42 r)) 0 (by omega)) (headAt (fun k => dq (ix2 r k)) 0 (by omega)) ⟨c.val, h⟩
       else if h1 : c.val < 128 then v367 (ix2 r ⟨c.val - 64, by omega⟩)
       else if h2 : c.val < 192 then v352 (ix2 r ⟨c.val - 128, by omega⟩)
       else if h3 : c.val < 256 then v337 (ix2 r ⟨c.val - 192, by omega⟩) else 0
      s * v49 (ix2 r c) + v48 (ix2 r c) * s * v52 (ix2 r c)) := by
  simp only [k0_pay93, k0_pay92, k0_pay88, k0_pay25, k0_pay24, k0_pay23, k0_pay22, k0_pay18, k0_pay17]
  pointwise
  simp only [p16, Finset.univ_unique, Finset.sum_singleton]
  have e (a b u v w : EReal) (h : a = b) : (u + a) * v + w * (u + a) * (w + a) = (u + b) * v + w * (u + b) * (w + b) := by rw [h]
  repeat' split
  all_goals first | (exfalso; omega) | skip
  all_goals simp only [add_zero, zero_add, scaledGrad, sqLen, headAt]
  all_goals rfl

theorem tileGrad_at (c : Fin 768) : tileGrad v12 v16 v35 v42 dq dk dv (ix2 r c)
    = rowGrad (pre v12 v16 v35 v42 r) (fun k => dq (ix2 r k)) (fun k => dk (ix2 r k)) (fun k => dv (ix2 r k)) c := by
  unfold tileGrad tileWith
  rw [v404_at]
  simp only [v318_at, v337_at, v352_at, v367_at, v253_at, v268_at, p16]
  have e : k0_pay15 (F := Ideal) v12 v16 v35 v42 (ix2 r c) = Ideal.logistic (pre v12 v16 v35 v42 r c) * (1 - Ideal.logistic (pre v12 v16 v35 v42 r c)) := by
    rw [k0_pay15, k0_pay14]
    pointwise
    rfl
  have e' : k0_pay14 (F := Ideal) v12 v16 v35 v42 (ix2 r c) = Ideal.logistic (pre v12 v16 v35 v42 r c) := rfl
  have ev : k0_pay81 (F := Ideal) dv (ix2 r c) = if h : c.val < 512 then 0 else dv (ix2 r ⟨c.val - 512, by omega⟩) := by
    rw [k0_pay81]
    pointwise
  rw [e, e', ev]
  unfold rowGrad
  have ea : ∀ A B : EReal, A = B → A * Ideal.logistic (pre v12 v16 v35 v42 r c) + k0_pay13 (F := Ideal) v12 v16 v35 v42 (ix2 r c) * A * (Ideal.logistic (pre v12 v16 v35 v42 r c) * (1 - Ideal.logistic (pre v12 v16 v35 v42 r c)))
    = B * Ideal.logistic (pre v12 v16 v35 v42 r c) + pre v12 v16 v35 v42 r c * B * (Ideal.logistic (pre v12 v16 v35 v42 r c) * (1 - Ideal.logistic (pre v12 v16 v35 v42 r c))) := by
    rintro A _ rfl; rfl
  refine ea _ _ ?_
  have hact : (fun k => pre v12 v16 v35 v42 r k * Ideal.logistic (pre v12 v16 v35 v42 r k)) = act v12 v16 v35 v42 r := rfl
  rw [hact]
  simp only [scaledGrad_eq]
  unfold actGrad
  generalize act v12 v16 v35 v42 r = s
  repeat' split
  all_goals first | (exfalso; omega) | skip
  all_goals simp only [add_zero, zero_add]
  all_goals first
    | with_reducible rfl
    | (refine headGrad_eq s _ ⟨c.val, by omega⟩ _ _ ?_ ?_ <;> dsimp only <;> omega)
    | (refine headGrad_eq' s _ ⟨c.val - 256, by omega⟩ _ _ ?_ ?_ <;> dsimp only <;> omega)
end rows
end Cert.DnPre
-- ==== Proof.DnPreTile.lean ====
module
public import proofs.«01_k».proof.Proof.DnPre
/-!
What one grid point of the input stage's gradient writes, in terms of its blocks: the convolution's rows and the rows it
hands to the tile before, the weights, and the gates.
-/
@[expose] public section
noncomputable section
namespace Cert.DnPre
open Cert.Kernel2Ideal Cert.Kernel2Ideal.Gen Idealize.ShloMosaic Idealize.ShloMosaic.TcCoe Idealize.SL.Sem
set_option maxRecDepth 16384

section rows
variable (v48 v49 v52 : FVec Ideal S512x768 .f32) (v55 : FVec Ideal S512x64 .f32) (v67 v69 : FVec Ideal S512x1 .f32)
  (v318 : FVec Ideal S512x768 .f32) (v319 v337 v352 v367 : FVec Ideal S512x64 .f32) (v369 : FVec Ideal S512 .f32)
  (w old : FVec Ideal S8x768 .f32)
  (dy : Fin 512 → Fin 768 → EReal)
  (hdy : ∀ x c, k0_pay93 (F := Ideal) v48 v49 v52 v55 v67 v69 v318 v319 v337 v352 v367 v369 (ix2 x c) = dy x c)
include hdy

theorem rows_at (r : Fin 512) (c : Fin 768) :
    k0_pay104 (F := Ideal) w (k0_pay94 v48 v49 v52 v55 v67 v69 v318 v319 v337 v352 v367 v369)
      (k0_pay99 w (k0_pay94 v48 v49 v52 v55 v67 v69 v318 v319 v337 v352 v367 v369)
        (k0_pay96 w v48 v49 v52 v55 v67 v69 v318 v319 v337 v352 v367 v369))
      (k0_pay101 (k0_pay94 v48 v49 v52 v55 v67 v69 v318 v319 v337 v352 v367 v369)) old (ix2 r c)
    = getN (fun x => dy x c) (3 + r.val) * w (ix2 0 c)
      + getN (fun x => dy x c) (2 + r.val) * w (ix2 1 c)
      + getN (fun x => dy x c) (1 + r.val) * w (ix2 2 c)
      + getN (fun x => dy x c) r.val * w (ix2 3 c)
      + if h : 504 ≤ r.val then old (ix2 ⟨r.val - 504, by omega⟩ c) else 0 := by
  simp only [k0_pay104, k0_pay102, k0_pay101, k0_pay99, k0_pay96, k0_pay94]
  pointwise
  simp only [hdy, getN]
  rw [dif_neg (by omega : ¬ 8 + r.val < 5), dif_neg (by omega : ¬ 8 + r.val < 6), dif_neg (by omega : ¬ 8 + r.val < 7)]
  simp only [show 8 + r.val - 5 = 3 + r.val by omega, show 8 + r.val - 6 = 2 + r.val by omega,
    show 8 + r.val - 7 = 1 + r.val by omega, r.isLt, dite_true]
  by_cases h : r.val < 504
  · rw [dif_pos h, dif_neg (by omega : ¬ 504 ≤ r.val)]
  · rw [dif_neg h, dif_pos (by omega : 504 ≤ r.val)]

theorem carry_at (q : Fin 8) (c : Fin 768) :
    k0_pay103 (F := Ideal) w (k0_pay94 v48 v49 v52 v55 v67 v69 v318 v319 v337 v352 v367 v369)
      (k0_pay99 w (k0_pay94 v48 v49 v52 v55 v67 v69 v318 v319 v337 v352 v367 v369)
        (k0_pay96 w v48 v49 v52 v55 v67 v69 v318 v319 v337 v352 v367 v369))
      (k0_pay101 (k0_pay94 v48 v49 v52 v55 v67 v69 v318 v319 v337 v352 v367 v369)) (ix2 q c)
    = (if h : 5 ≤ q.val then dy ⟨q.val - 5, by omega⟩ c else 0) * w (ix2 0 c)
      + (if h : 6 ≤ q.val then dy ⟨q.val - 6, by omega⟩ c else 0) * w (ix2 1 c)
      + (if h : 7 ≤ q.val then dy ⟨q.val - 7, by omega⟩ c else 0) * w (ix2 2 c) := by
  simp only [k0_pay103, k0_pay102, k0_pay101, k0_pay99, k0_pay96, k0_pay94]
  pointwise
  simp only [hdy, zero_mul, add_zero]
  refine congrArg₂ (· + ·) (congrArg₂ (· + ·) ?_ ?_) ?_ <;> refine congrArg (· * _) ?_ <;> repeat' split
  all_goals first | rfl | (exfalso; omega)
end rows

theorem taps_at (v12 : FVec Ideal S520x768 .f32) (v404 : FVec Ideal S512x768 .f32) (old : FVec Ideal S8x768 .f32)
    (k : Fin 8) (c : Fin 768) :
    k0_pay106 v12 v404 (iota .tc S8x768 32 [0] iota_S8x768_d0_w32)
      (k0_pay100 v12 v404 (iota .tc S8x768 32 [0] iota_S8x768_d0_w32) (k0_pay95 (F := Ideal)) (k0_pay97 v12) k0_pay98) old (ix2 k c)
    = old (ix2 k c) + if h : k.val < 4 then ∑ x : Fin 512, v404 (ix2 x c) * v12 (ix2 ⟨5 + k.val + x.val, by omega⟩ c) else 0 := by
  simp only [k0_pay106, k0_pay100, k0_pay95, k0_pay97, k0_pay98]
  pointwise
  congr 1
  fin_cases k <;> simp [Scalar.select, IntOp.cmpi]
  all_goals exact Finset.sum_congr rfl fun x _ => dif_pos (by omega)

theorem pre_at (i : grid0.Coords) (v6 : FVec Ideal S8x768 .f32) (v10 : FVec Ideal S512x768 .f32)
    (v15 : FVec Ideal S8x768 .f32) (r : Fin 512) (c : Fin 768) (v12 : FVec Ideal S520x768 .f32) (hv : k0_pay6 i v6 v10 = v12) :
    pre (k0_pay6 i v6 v10) (k0_pay8 v15) (k0_pay11 i v6 v10 v15) (k0_pay12 i v6 v10 v15) r c
    = v12 (ix2 ⟨5 + r.val, by omega⟩ c) * v15 (ix2 0 c) + v12 (ix2 ⟨6 + r.val, by omega⟩ c) * v15 (ix2 1 c)
      + v12 (ix2 ⟨7 + r.val, by omega⟩ c) * v15 (ix2 2 c) + v12 (ix2 ⟨8 + r.val, by omega⟩ c) * v15 (ix2 3 c) := by
  simp only [pre, k0_pay13, k0_pay12, k0_pay11, k0_pay8, hv]
  pointwise
  rw [dif_pos (by omega), dif_pos (by omega), dif_pos (by omega)]
  subst hv
  rfl

theorem halo_at (i : grid0.Coords) (v6 : FVec Ideal S8x768 .f32) (v10 : FVec Ideal S512x768 .f32)
    (n : Fin 520) (c : Fin 768) :
    (k0_pay6 i v6 v10 : FVec Ideal S520x768 .f32) (ix2 n c)
      = if h : n.val < 8 then (if (i 0).val < 7 then v6 (ix2 ⟨n.val, h⟩ c) else 0) else v10 (ix2 ⟨n.val - 8, by omega⟩ c) := by
  simp only [k0_pay6]
  pointwise
  have e : Scalar.cmpi CmpIPredicate.slt (BitVec.ofNat 32 (i 0).val) 7#32 = BitVec.ofBool (decide ((i 0).val < 7)) :=
    WordCmp.cmpi_slt_ofNat (by have : (i 0).val < 8 := (i 0).isLt; omega) (by omega)
  rw [e]
  by_cases h : (i 0).val < 7 <;> simp [h, Scalar.extui]

/-- A mask word as a number. -/
theorem mask_mul (b : Bool) (y : EReal) : FloatOps.sitofp (F := Ideal) FTy.f32 (BitVec.setWidth 32 (BitVec.ofBool b)) * y = if b then y else 0 := by
  cases b
  · rw [show FloatOps.sitofp (F := Ideal) FTy.f32 (BitVec.setWidth 32 (BitVec.ofBool false)) = ((0 : ℝ) : EReal) from by
      simp [FloatOps.sitofp]]
    simp
  · rw [show FloatOps.sitofp (F := Ideal) FTy.f32 (BitVec.setWidth 32 (BitVec.ofBool true)) = ((1 : ℝ) : EReal) from by
      simp [FloatOps.sitofp]]
    simp
theorem and_words (p q : Bool) : IntOp.andi (BitVec.ofBool p) (BitVec.ofBool q) = BitVec.ofBool (p && q) := by
  cases p <;> cases q <;> rfl
theorem chunk_word : ∀ x : Fin 512, IntOp.shrsi ArithUnit.vector (BitVec.ofNat 32 x.val) 6#32 = BitVec.ofNat 32 (x.val / 64) := by
  decide +kernel
theorem lane_lt (n : ℕ) (hn : n < 2147483648) (c : Fin 128) (x y : EReal) :
    Scalar.select (IntOp.cmpi CmpIPredicate.slt (BitVec.ofNat 32 c.val) (BitVec.ofNat 32 n)) x y = if c.val < n then x else y := by
  rw [WordCmp.cmpi_slt_ofNat (by omega) (by omega)]
  by_cases h : c.val < n <;> simp [h, Scalar.select]

/-- The tile's running sum within chunks. -/
def tileTail (d : FVec Ideal S512x128 .f32) (r : Fin 512) (c : Fin 128) : EReal :=
  if c.val < 4 then ∑ x : Fin 512, if r.val ≤ x.val ∧ x.val / 64 = r.val / 64 then d (ix2 x c) else 0 else 0

theorem tail_at (d : FVec Ideal S512x128 .f32) (r : Fin 512) (c : Fin 128) :
    k0_pay71 (F := Ideal) (iota .tc S512x512 32 [0] iota_S512x512_d0_w32) (iota .tc S512x512 32 [1] iota_S512x512_d1_w32) d (ix2 r c)
    = tileTail d r c := by
  unfold tileTail
  simp only [k0_pay71, k0_pay69, k0_pay68, k0_pay67]
  pointwise
  simp only [chunk_word, lane_lt 4 (by norm_num)]
  split_ifs
  · refine Finset.sum_congr rfl fun x _ => ?_
    rw [WordCmp.cmpi_sge_ofNat (by omega) (by omega), WordCmp.cmpi_eq_ofNat (by omega) (by omega), and_words, mask_mul]
    simp
  · simp
section tile
variable (v12 : FVec Ideal S520x768 .f32) (v16 : FVec Ideal S8x768 .f32) (v35 v42 : FVec Ideal S512x768 .f32)
  (dq dk dv : FVec Ideal S512x256 .f32)

def tileRows (old : FVec Ideal S8x768 .f32) : FVec Ideal S512x768 .bf16 :=
  tileWith v12 v16 v35 v42 dq dk dv fun v48 v49 v52 v55 v67 v69 v318 v319 v337 v352 v367 v369 =>
    k0_pay104 v16 (k0_pay94 v48 v49 v52 v55 v67 v69 v318 v319 v337 v352 v367 v369)
      (k0_pay99 v16 (k0_pay94 v48 v49 v52 v55 v67 v69 v318 v319 v337 v352 v367 v369)
        (k0_pay96 v16 v48 v49 v52 v55 v67 v69 v318 v319 v337 v352 v367 v369))
      (k0_pay101 (k0_pay94 v48 v49 v52 v55 v67 v69 v318 v319 v337 v352 v367 v369)) old
def tileCarry : FVec Ideal S8x768 .f32 :=
  tileWith v12 v16 v35 v42 dq dk dv fun v48 v49 v52 v55 v67 v69 v318 v319 v337 v352 v367 v369 =>
    k0_pay103 v16 (k0_pay94 v48 v49 v52 v55 v67 v69 v318 v319 v337 v352 v367 v369)
      (k0_pay99 v16 (k0_pay94 v48 v49 v52 v55 v67 v69 v318 v319 v337 v352 v367 v369)
        (k0_pay96 v16 v48 v49 v52 v55 v67 v69 v318 v319 v337 v352 v367 v369))
      (k0_pay101 (k0_pay94 v48 v49 v52 v55 v67 v69 v318 v319 v337 v352 v367 v369))
def tileTaps (old : FVec Ideal S8x768 .f32) : FVec Ideal S8x768 .f32 :=
  k0_pay106 v12 (tileGrad v12 v16 v35 v42 dq dk dv) (iota .tc S8x768 32 [0] iota_S8x768_d0_w32)
    (k0_pay100 v12 (tileGrad v12 v16 v35 v42 dq dk dv) (iota .tc S8x768 32 [0] iota_S8x768_d0_w32) (k0_pay95 (F := Ideal))
      (k0_pay97 v12) k0_pay98) old

/-- The cotangent of a tile's convolved rows. -/
def tileDy (x : Fin 512) (c : Fin 768) : EReal :=
  rowGrad (pre v12 v16 v35 v42 x) (fun k => dq (ix2 x k)) (fun k => dk (ix2 x k)) (fun k => dv (ix2 x k)) c

theorem tileRows_at (old : FVec Ideal S8x768 .f32) (r : Fin 512) (c : Fin 768) :
    tileRows v12 v16 v35 v42 dq dk dv old (ix2 r c)
    = getN (fun x => tileDy v12 v16 v35 v42 dq dk dv x c) (3 + r.val) * v16 (ix2 0 c)
      + getN (fun x => tileDy v12 v16 v35 v42 dq dk dv x c) (2 + r.val) * v16 (ix2 1 c)
      + getN (fun x => tileDy v12 v16 v35 v42 dq dk dv x c) (1 + r.val) * v16 (ix2 2 c)
      + getN (fun x => tileDy v12 v16 v35 v42 dq dk dv x c) r.val * v16 (ix2 3 c)
      + if h : 504 ≤ r.val then old (ix2 ⟨r.val - 504, by omega⟩ c) else 0 :=
  rows_at _ _ _ _ _ _ _ _ _ _ _ _ v16 old (tileDy v12 v16 v35 v42 dq dk dv) (fun x c => by
    have := tileGrad_at v12 v16 v35 v42 dq dk dv x c
    unfold tileGrad tileWith at this
    exact this) r c

theorem tileCarry_at (q : Fin 8) (c : Fin 768) :
    tileCarry v12 v16 v35 v42 dq dk dv (ix2 q c)
    = (if h : 5 ≤ q.val then tileDy v12 v16 v35 v42 dq dk dv ⟨q.val - 5, by omega⟩ c else 0) * v16 (ix2 0 c)
      + (if h : 6 ≤ q.val then tileDy v12 v16 v35 v42 dq dk dv ⟨q.val - 6, by omega⟩ c else 0) * v16 (ix2 1 c)
      + (if h : 7 ≤ q.val then tileDy v12 v16 v35 v42 dq dk dv ⟨q.val - 7, by omega⟩ c else 0) * v16 (ix2 2 c) :=
  carry_at _ _ _ _ _ _ _ _ _ _ _ _ v16 (tileDy v12 v16 v35 v42 dq dk dv) (fun x c => by
    have := tileGrad_at v12 v16 v35 v42 dq dk dv x c
    unfold tileGrad tileWith at this
    exact this) q c

theorem tileTaps_at (old : FVec Ideal S8x768 .f32) (k : Fin 8) (c : Fin 768) :
    tileTaps v12 v16 v35 v42 dq dk dv old (ix2 k c)
    = old (ix2 k c) + if h : k.val < 4 then
        ∑ x : Fin 512, tileDy v12 v16 v35 v42 dq dk dv x c * v12 (ix2 ⟨5 + k.val + x.val, by omega⟩ c) else 0 := by
  unfold tileTaps
  rw [taps_at]
  simp only [tileGrad_at]
  rfl
end tile

section gates
variable (v13 : FVec Ideal S512x128 .f32) (v17 v19 : FVec Ideal S1x128 .f32) (d : FVec Ideal S512x128 .f32)
/-- A function of the values the gates' last steps read, taken at the values the kernel computes. -/
def gatesWith {α : Type} (f : FVec Ideal S512x128 .f32 → IVec S512x128 1 → FVec Ideal S512x128 .f32 →
    FVec Ideal S512x128 .f32 → FVec Ideal S512x128 .f32 → FVec Ideal S512x128 .f32 → α) : α :=
  let v14 := k0_pay7 v13
  let v20 := k0_pay10 v19
  let v154 := k0_pay60 (k0_pay9 v17)
  let v178 := iota .tc S512x512 32 [0] iota_S512x512_d0_w32
  let v179 := iota .tc S512x512 32 [1] iota_S512x512_d1_w32
  f (k0_pay62 v14 v20) (k0_pay63 v14 v20) (k0_pay72 v154 v178 v179 d)
    (k0_pay74 v154 (k0_pay64 v14 v20) (k0_pay65 v14 v20) v178 v179 d) (k0_pay75 (F := Ideal))
    (k0_pay76 v154 (k0_pay63 v14 v20) (k0_pay64 v14 v20) (k0_pay65 v14 v20) v178 v179 d)
def tileAb : FVec Ideal S512x128 .bf16 :=
  k0_pay105 (gatesWith v13 v17 v19 d fun v167 v170 v211 v218 v219 v220 => k0_pay79 v167 v170 (k0_pay70 (k0_pay7 v13) d) v211 v218 v219 v220)
def tileBias (old : FVec Ideal S1x128 .f32) : FVec Ideal S1x128 .f32 :=
  k0_pay1 (gatesWith v13 v17 v19 d fun v167 v170 v211 v218 v219 v220 => k0_pay78 v167 v170 v211 v218 v219 v220) old
def tileRate (old : FVec Ideal S1x128 .f32) : FVec Ideal S1x128 .f32 :=
  k0_pay107 (k0_pay80 (k0_pay59 (k0_pay9 v17)) (k0_pay73 (k0_pay66 (k0_pay7 v13) (k0_pay10 v19)) (iota .tc S512x512 32 [0] iota_S512x512_d0_w32)
    (iota .tc S512x512 32 [1] iota_S512x512_d1_w32) d)) old

/-- The kernel's form of softplus's gradient. -/
def softGrad (g z : EReal) : EReal :=
  ((if 0 ≤ z then 0 - Ideal.div g (Ideal.exp (0 - FloatOps.absf (F := Ideal) (φ := .f32) z) + 1) * Ideal.exp (0 - FloatOps.absf (F := Ideal) (φ := .f32) z) else 0)
    + (0 - if 0 ≤ z then 0 else
        0 - Ideal.div g (Ideal.exp (0 - FloatOps.absf (F := Ideal) (φ := .f32) z) + 1) * Ideal.exp (0 - FloatOps.absf (F := Ideal) (φ := .f32) z)))
    + g * if 0 < z then 1 else if z = 0 then Ideal.ofBits FTy.f32 1056964608#32 else 0
theorem tileAb_at (r : Fin 512) (c : Fin 128) :
    tileAb v13 v17 v19 d (ix2 r c)
    = (if c.val < 8 then if c.val < 4 then 0 else d (ix2 r c) * (Ideal.logistic (v13 (ix2 r c)) * (1 - Ideal.logistic (v13 (ix2 r c)))) else 0)
      + softGrad ((0 - Ideal.exp (v17 (ix2 0 c))) * tileTail d r c) (v13 (ix2 r c) + v19 (ix2 0 c)) := by
  unfold tileAb gatesWith
  simp only [k0_pay105, k0_pay79, k0_pay77, k0_pay76, k0_pay75, k0_pay74, k0_pay72, k0_pay70, k0_pay69, k0_pay68, k0_pay67, k0_pay65, k0_pay64, k0_pay63, k0_pay62, k0_pay61,
    k0_pay60, k0_pay59, k0_pay7, k0_pay9, k0_pay10]
  pointwise
  rw [tail_at]
  simp only [lane_lt 4 (by norm_num), lane_lt 8 (by norm_num)]
  rfl
theorem tileBias_at (old : FVec Ideal S1x128 .f32) (c : Fin 128) :
    tileBias v13 v17 v19 d old (ix2 0 c)
    = old (ix2 0 c) + ∑ r : Fin 512, softGrad ((0 - Ideal.exp (v17 (ix2 0 c))) * tileTail d r c) (v13 (ix2 r c) + v19 (ix2 0 c)) := by
  unfold tileBias gatesWith
  simp only [k0_pay1, k0_pay78, k0_pay77, k0_pay76, k0_pay75, k0_pay74, k0_pay72, k0_pay65, k0_pay64, k0_pay63, k0_pay62, k0_pay61,
    k0_pay60, k0_pay59, k0_pay7, k0_pay9, k0_pay10]
  pointwise
  refine congrArg (_ + ·) (Finset.sum_congr rfl fun x _ => ?_)
  rw [tail_at]
  rfl
theorem tileRate_at (old : FVec Ideal S1x128 .f32) (c : Fin 128) :
    tileRate v13 v17 v19 d old (ix2 0 c)
    = old (ix2 0 c) + (0 - ∑ r : Fin 512, tileTail d r c * softplus (v13 (ix2 r c) + v19 (ix2 0 c))) * Ideal.exp (v17 (ix2 0 c)) := by
  unfold tileRate
  simp only [k0_pay107, k0_pay80, k0_pay73, k0_pay66, k0_pay65, k0_pay64, k0_pay63, k0_pay62, k0_pay61,
    k0_pay60, k0_pay59, k0_pay7, k0_pay9, k0_pay10]
  pointwise
  refine congrArg (fun s => old (ix2 0 c) + (0 - s) * _) (Finset.sum_congr rfl fun x _ => ?_)
  rw [tail_at]
  rfl
end gates
end Cert.DnPre
-- ==== Proof.DnPreGates.lean ====
module
public import proofs.«01_k».proof.Proof.DnPreTile
/-!
The gates of the input stage over real numbers: softplus's gradient is the logistic function, and the sums over a tile
may be scaled term by term.
-/
@[expose] public section
noncomputable section
namespace Cert.DnPre
open Idealize.ShloMosaic

theorem coe_sum {ι : Type} (s : Finset ι) (g : ι → ℝ) : ((∑ i ∈ s, g i : ℝ) : EReal) = ∑ i ∈ s, (g i : EReal) :=
  map_sum (⟨⟨Real.toEReal, EReal.coe_zero⟩, EReal.coe_add⟩ : ℝ →+ EReal) g s
theorem coe_max (a b : ℝ) : ((max a b : ℝ) : EReal) = max (a : EReal) (b : EReal) := EReal.coe_strictMono.monotone.map_max

/-- A value that is a real number. -/
def IsReal (x : EReal) : Prop := ∃ r : ℝ, x = (r : EReal)
namespace IsReal
theorem zero : IsReal 0 := ⟨0, rfl⟩
theorem add {x y : EReal} : IsReal x → IsReal y → IsReal (x + y) := by
  rintro ⟨a, rfl⟩ ⟨b, rfl⟩; exact ⟨a + b, (EReal.coe_add a b).symm⟩
theorem mul {x y : EReal} : IsReal x → IsReal y → IsReal (x * y) := by
  rintro ⟨a, rfl⟩ ⟨b, rfl⟩; exact ⟨a * b, (EReal.coe_mul a b).symm⟩
theorem sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
theorem tail {f : Fin 4096 → EReal} (h : ∀ i, IsReal (f i)) (i : Fin 4096) : IsReal (chunkTail f i) :=
  sum _ _ fun q => by split_ifs; exacts [h _, zero]
theorem softplus {z : EReal} : IsReal z → IsReal (softplus z) := by
  rintro ⟨z, rfl⟩
  refine ⟨max z 0 + Real.log (1 + Real.exp (0 - max z (-z))), ?_⟩
  have h : (0 : ℝ) < 1 + Real.exp (0 - max z (-z)) := by positivity
  unfold DnPre.softplus Ideal.log1p
  rw [Ideal.absf_def, ← EReal.coe_neg, ← coe_max, ← EReal.coe_zero, ← EReal.coe_sub, Ideal.exp_coe, ← EReal.coe_one,
    ← EReal.coe_add, Ideal.log_coe, if_neg (not_le.mpr h), ← coe_max, ← EReal.coe_add]
end IsReal

theorem softGrad_zero (z : EReal) : softGrad 0 z = 0 := by
  have h : Ideal.exp (0 - FloatOps.absf (F := Ideal) (φ := .f32) z) + 1 ≠ 0 := by
    have : (0 : EReal) ≤ Ideal.exp (0 - FloatOps.absf (F := Ideal) (φ := .f32) z) := by
      induction (0 - FloatOps.absf (F := Ideal) (φ := .f32) z) using EReal.rec with
      | bot => simp
      | coe r => rw [Ideal.exp_coe]; exact_mod_cast (Real.exp_pos r).le
      | top => simp
    exact (lt_of_lt_of_le zero_lt_one (le_add_of_nonneg_left this)).ne'
  unfold softGrad
  rw [Ideal.zero_div h]
  simp

theorem softGrad_eq (g z : ℝ) (hz : z ≠ 0) : softGrad g z = (g : EReal) * Ideal.logistic z := by
  unfold softGrad
  have e : Ideal.exp (0 - FloatOps.absf (F := Ideal) (φ := .f32) (z : EReal)) = (Real.exp (-|z|) : EReal) := by
    rw [Ideal.absf_def, ← EReal.coe_neg, ← coe_max, ← EReal.coe_zero, ← EReal.coe_sub, Ideal.exp_coe]
    simp [abs]
  have p : Real.exp (-|z|) + 1 ≠ 0 := by positivity
  rw [e, ← EReal.coe_one, ← EReal.coe_add, Ideal.div_coe p, Ideal.logistic_coe]
  have q : (0 : EReal) = ((0 : ℝ) : EReal) := rfl
  rcases lt_or_gt_of_ne hz with h | h
  · rw [if_neg (by rw [q, EReal.coe_le_coe_iff]; linarith), if_neg (by rw [q, EReal.coe_le_coe_iff]; linarith),
      if_neg (by rw [q, EReal.coe_lt_coe_iff]; linarith), if_neg (by rw [q, EReal.coe_eq_coe_iff]; exact hz)]
    rw [mul_zero, q]
    norm_cast
    rw [abs_of_neg h, neg_neg, Real.exp_neg]
    have := Real.exp_pos z
    field_simp
    ring
  · rw [if_pos (by rw [q, EReal.coe_le_coe_iff]; linarith), if_pos (by rw [q, EReal.coe_le_coe_iff]; linarith),
      if_pos (by rw [q, EReal.coe_lt_coe_iff]; linarith)]
    rw [sub_zero, add_zero, EReal.coe_one, mul_one, zero_sub]
    norm_cast
    rw [abs_of_pos h, Real.exp_neg]
    have := Real.exp_pos z
    field_simp
    ring

/-- A tile's masked sum is the running sum from its row to the end of the row's chunk. -/
theorem tileTail_eq (f : Fin 4096 → EReal) (b : ℕ) (hb : b < 8) (g : Fin 512 → EReal)
    (hg : ∀ x : Fin 512, g x = f ⟨512 * b + x.val, by omega⟩) (r : Fin 512) :
    (∑ x : Fin 512, if r.val ≤ x.val ∧ x.val / 64 = r.val / 64 then g x else 0)
      = chunkTail f ⟨512 * b + r.val, by omega⟩ := by
  rw [← Common.sum_blocks (m := 8) (n := 64) rfl (fun x : Fin 512 => if r.val ≤ x.val ∧ x.val / 64 = r.val / 64 then g x else 0)
    (fun s y => by omega)]
  rw [Finset.sum_eq_single (⟨r.val / 64, by omega⟩ : Fin 8)]
  · refine Finset.sum_congr rfl fun y _ => ?_
    simp only [hg]
    by_cases h : r.val % 64 ≤ y.val
    · rw [if_pos (by omega), if_pos (by omega)]
      congr 2
      omega
    · rw [if_neg (by omega), if_neg (by omega)]
  · intro s _ hs
    refine Finset.sum_eq_zero fun y _ => if_neg fun h => hs (Fin.ext ?_)
    dsimp only at h ⊢
    omega
  · intro h; exact absurd (Finset.mem_univ _) h

/-- A sum of reals, taken from zero and scaled, is the sum of the scaled terms. -/
theorem neg_sum_mul {ι : Type} (s : Finset ι) (f : ι → EReal) (h : ∀ i, IsReal (f i)) (e : ℝ) :
    (0 - ∑ i ∈ s, f i) * (e : EReal) = ∑ i ∈ s, (0 - (e : EReal)) * f i := by
  choose g hg using h
  simp only [hg, ← EReal.coe_zero, ← EReal.coe_sub, ← EReal.coe_mul, ← coe_sum]
  rw [EReal.coe_eq_coe_iff, zero_sub, zero_sub, neg_mul, Finset.sum_mul, ← Finset.sum_neg_distrib]
  exact Finset.sum_congr rfl fun i _ => by ring
end Cert.DnPre
-- ==== Proof.DnPreEntry.lean ====
module
public import proofs.«01_k».proof.Proof.DnPreGates
public import Idealize.ShloMosaic.Lib.StableHlo.RunRead
@[expose] public section
noncomputable section
namespace Cert.DnPre
open Cert.Kernel2Ideal Cert.Kernel2Ideal.Gen Idealize.ShloMosaic Idealize.ShloMosaic.TcCoe Idealize.SL.Sem
set_option maxRecDepth 16384
variable (m : (ℓ : Loc nD τ sig) → Buf (Elt Ideal) ℓ)

/-- The halo and the block of rows a point reads, the convolution's weights and what the gradient's last steps read. -/
def v12 (c : Dev nD) (t : Fin cfg0.N) : FVec Ideal S520x768 .f32 := k0_pay6 (grid0.coords t) (X0_1 m c t) (X0_0 m c t)
def v16 (c : Dev nD) (t : Fin cfg0.N) : FVec Ideal S8x768 .f32 := k0_pay8 (iblk m c 3 t)
def v35 (c : Dev nD) (t : Fin cfg0.N) : FVec Ideal S512x768 .f32 := k0_pay11 (grid0.coords t) (X0_1 m c t) (X0_0 m c t) (iblk m c 3 t)
def v42 (c : Dev nD) (t : Fin cfg0.N) : FVec Ideal S512x768 .f32 := k0_pay12 (grid0.coords t) (X0_1 m c t) (X0_0 m c t) (iblk m c 3 t)

/-- What a point leaves, from what it found in the three sums and the carry. -/
def outs (c : Dev nD) (t : Fin cfg0.N) (o12 : FVec Ideal S8x768 .f32) (o13 o14 : FVec Ideal S1x128 .f32) (o15 : FVec Ideal S8x768 .f32) :
    FVec Ideal S512x768 .bf16 × FVec Ideal S512x128 .bf16 × FVec Ideal S8x768 .f32 × FVec Ideal S1x128 .f32 × FVec Ideal S1x128 .f32 × FVec Ideal S8x768 .f32 :=
  (tileRows (v12 m c t) (v16 m c t) (v35 m c t) (v42 m c t) (iblk m c 6 t) (iblk m c 7 t) (iblk m c 8 t) o15,
    tileAb (iblk m c 2 t) (iblk m c 4 t) (iblk m c 5 t) (iblk m c 9 t),
    tileTaps (v12 m c t) (v16 m c t) (v35 m c t) (v42 m c t) (iblk m c 6 t) (iblk m c 7 t) (iblk m c 8 t) o12,
    tileRate (iblk m c 2 t) (iblk m c 4 t) (iblk m c 5 t) (iblk m c 9 t) o13,
    tileBias (iblk m c 2 t) (iblk m c 4 t) (iblk m c 5 t) (iblk m c 9 t) o14,
    tileCarry (v12 m c t) (v16 m c t) (v35 m c t) (v42 m c t) (iblk m c 6 t) (iblk m c 7 t) (iblk m c 8 t))

theorem outA (c : Dev nD) (t : Fin cfg0.N) (h : t.val % 8 = 0) :
    outsAt0 m c t.val t.isLt = outs m c t (k0_pay3 (F := Ideal)) (k0_pay4 (F := Ideal)) (k0_pay5 (F := Ideal)) (k0_pay2 (F := Ideal)) := by
  rw [outsAt0_A m c t h]
  frame_out
  unfold outs tileRows tileAb tileTaps tileRate tileBias tileCarry tileGrad tileWith gatesWith v12 v16 v35 v42
  rfl

theorem outB (c : Dev nD) (t : Fin cfg0.N) (h : ¬t.val % 8 = 0) :
    outsAt0 m c t.val t.isLt = outs m c t
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  rw [outsAt0_B m c t h]
  frame_out
  unfold outs tileRows tileAb tileTaps tileRate tileBias tileCarry tileGrad tileWith gatesWith v12 v16 v35 v42
  refine Prod.ext ?_ (Prod.ext ?_ (Prod.ext ?_ (Prod.ext ?_ (Prod.ext ?_ ?_))))
  · show k0_pay104 _ _ _ _ _ = k0_pay104 _ _ _ _ _
    refine congr (congr (congr (congrArg₂ k0_pay104 ?_ ?_) ?_) ?_) ?_
    iterate 4 with_reducible rfl
    exact Memref.IsWhole.read_unread _ _
  all_goals with_reducible rfl

/-- The arguments: rows to convolve, weights, the gates' operands, and the cotangents. -/
def X (c : Dev nD) (i : Fin 4096) (k : Fin 768) : EReal := m (c, Proc.tc.devRef main_arg0) (ix2 i k)
def Alpha (c : Dev nD) (i : Fin 4096) (h : Fin 4) : EReal := m (c, Proc.tc.devRef main_arg1) (ix2 i h)
def Logit (c : Dev nD) (i : Fin 4096) (h : Fin 4) : EReal := m (c, Proc.tc.devRef main_arg2) (ix2 i h)
def W (c : Dev nD) (k : Fin 4) (j : Fin 768) : EReal := m (c, Proc.tc.devRef main_arg3) (ix2 k j)
def ALog (c : Dev nD) (h : Fin 4) : EReal := m (c, Proc.tc.devRef main_arg4) (ix1 h)
def Bias (c : Dev nD) (h : Fin 4) : EReal := m (c, Proc.tc.devRef main_arg5) (ix1 h)
def Dq (c : Dev nD) (i : Fin 4096) (k : Fin 256) : EReal := m (c, Proc.tc.devRef main_arg6) (ix2 i k)
def Dk (c : Dev nD) (i : Fin 4096) (k : Fin 256) : EReal := m (c, Proc.tc.devRef main_arg7) (ix2 i k)
def Dv (c : Dev nD) (i : Fin 4096) (k : Fin 256) : EReal := m (c, Proc.tc.devRef main_arg8) (ix2 i k)
def Dgc (c : Dev nD) (i : Fin 4096) (h : Fin 4) : EReal := m (c, Proc.tc.devRef main_arg9) (ix2 i h)
def Dbeta (c : Dev nD) (i : Fin 4096) (h : Fin 4) : EReal := m (c, Proc.tc.devRef main_arg10) (ix2 i h)

/-- The region's entry, one stretch of host operations at a time. -/
theorem entry_eq (c : Dev nD) (b : Ref sig .tc) : V m c b = StableHlo.after hostOps0_6 (StableHlo.after hostOps0_5 (StableHlo.after hostOps0_4
    (StableHlo.after hostOps0_3 (StableHlo.after hostOps0_2 (StableHlo.after hostOps0_1 (StableHlo.after hostOps0 fun b => m (c, b)))))))
    (Proc.devRef .tc b) := by
  unfold V
  rw [List.flatten_cons, List.flatten_cons, List.flatten_cons, List.flatten_cons, List.flatten_cons, List.flatten_cons,
    List.flatten_cons, List.flatten_nil, List.append_nil]
  rw [StableHlo.after_append, StableHlo.after_append, StableHlo.after_append, StableHlo.after_append, StableHlo.after_append,
    StableHlo.after_append]

/-- The host's packed rows, padded weights and rates, and packed gate cotangents. -/
def Packed (c : Dev nD) : FVec Ideal S4096x3456 .f32 := V m c main_v8
def Taps (c : Dev nD) : FVec Ideal S8x768 .f32 := V m c main_v0
def Rates (c : Dev nD) : FVec Ideal S1x128 .f32 := V m c main_v2
def Biases (c : Dev nD) : FVec Ideal S1x128 .f32 := V m c main_v4
def PackedD (c : Dev nD) : FVec Ideal S4096x128 .f32 := V m c main_v9

theorem packed_x (c : Dev nD) (i : Fin 4096) (j : Fin 768) : Packed m c (ix2 i ⟨2304 + j.val, by omega⟩) = X m c i j := by
  unfold Packed X
  rw [entry_eq]
  after_reads_simp [hostOps0_6]
  pointwise
theorem packed_alpha (c : Dev nD) (i : Fin 4096) (h : Fin 4) : Packed m c (ix2 i ⟨3328 + h.val, by omega⟩) = Alpha m c i h := by
  unfold Packed Alpha
  rw [entry_eq]
  after_reads_simp [hostOps0_6]
  pointwise
  repeat (split; · exfalso; omega)
  all_goals first | rfl | (split; rotate_left; · exfalso; omega) | skip
  all_goals exact congrArg (Alpha m c i) (Fin.ext (by dsimp only; omega))
theorem packed_logit (c : Dev nD) (i : Fin 4096) (h : Fin 4) : Packed m c (ix2 i ⟨3332 + h.val, by omega⟩) = Logit m c i h := by
  unfold Packed Logit
  rw [entry_eq]
  after_reads_simp [hostOps0_6]
  pointwise
  repeat (split; · exfalso; omega)
  all_goals first | rfl | (split; rotate_left; · exfalso; omega) | skip
  all_goals exact congrArg (Logit m c i) (Fin.ext (by dsimp only; omega))
theorem packed_dgc (c : Dev nD) (i : Fin 4096) (h : Fin 4) : PackedD m c (ix2 i ⟨h.val, by omega⟩) = Dgc m c i h := by
  unfold PackedD Dgc
  rw [entry_eq]
  after_reads_simp [hostOps0_6]
  pointwise
  repeat (split; · exfalso; omega)
  all_goals first | rfl | (split; rotate_left; · exfalso; omega) | skip
  all_goals exact congrArg (Dgc m c i) (Fin.ext (by dsimp only; omega))
theorem packed_dbeta (c : Dev nD) (i : Fin 4096) (h : Fin 4) : PackedD m c (ix2 i ⟨4 + h.val, by omega⟩) = Dbeta m c i h := by
  unfold PackedD Dbeta
  rw [entry_eq]
  after_reads_simp [hostOps0_6]
  pointwise
  repeat (split; · exfalso; omega)
  all_goals first | rfl | (split; rotate_left; · exfalso; omega) | skip
  all_goals exact congrArg (Dbeta m c i) (Fin.ext (by dsimp only; omega))
theorem taps_eq (c : Dev nD) (k : Fin 4) (j : Fin 768) : Taps m c (ix2 ⟨k.val, by omega⟩ j) = W m c k j := by
  unfold Taps W
  rw [entry_eq]
  after_reads_simp [hostOps0, hostOps0_1, hostOps0_2, hostOps0_3, hostOps0_4, hostOps0_5, hostOps0_6]
  simp only [StableHlo.TRef.ofBuf_toBuf]
  show pad (s := S4x768) (α := Ideal .f32) S8x768 ![0, 0] ![4, 0] ![0, 0] _ _ pads_S4x768_S8x768_040_000 h_S_ (ix2 ⟨k.val, _⟩ j) = _
  pointwise
  rfl
theorem rates_eq (c : Dev nD) (h : Fin 4) : Rates m c (ix2 0 ⟨h.val, by omega⟩) = ALog m c h := by
  unfold Rates ALog
  rw [entry_eq]
  after_reads_simp [hostOps0, hostOps0_1, hostOps0_2, hostOps0_3, hostOps0_4, hostOps0_5, hostOps0_6]
  simp only [StableHlo.TRef.ofBuf_toBuf]
  show pad (s := S1x4) (α := Ideal .f32) S1x128 ![0, 0] ![0, 124] ![0, 0] _ _ pads_S1x4_S1x128_000_01240 h_S_ (ix2 0 ⟨h.val, _⟩) = _
  pointwise
  rfl
theorem biases_eq (c : Dev nD) (h : Fin 4) : Biases m c (ix2 0 ⟨h.val, by omega⟩) = Bias m c h := by
  unfold Biases Bias
  rw [entry_eq]
  after_reads_simp [hostOps0, hostOps0_1, hostOps0_2, hostOps0_3, hostOps0_4, hostOps0_5, hostOps0_6]
  simp only [StableHlo.TRef.ofBuf_toBuf]
  show pad (s := S1x4) (α := Ideal .f32) S1x128 ![0, 0] ![0, 124] ![0, 0] _ _ pads_S1x4_S1x128_000_01240 h_S_ (ix2 0 ⟨h.val, _⟩) = _
  pointwise
  rfl
theorem rowLt (t : Fin cfg0.N) (r : Fin 512) : 512 * (7 - t.val) + r.val < 4096 := by omega
/-- The row of the whole that a point's row is: the points run from the last tile to the first. -/
def row (t : Fin cfg0.N) (r : Fin 512) : Fin 4096 := ⟨512 * (7 - t.val) + r.val, rowLt t r⟩

theorem point_lt (t : Fin cfg0.N) : t.val < 8 := t.isLt
theorem idx0 : ∀ t : Fin cfg0.N, win0_0.index t 0 = 7 - t.val ∧ win0_0.index t 1 = 3 := by decide +kernel
theorem idx1 : ∀ t : Fin cfg0.N, win0_1.index t 0 = 64 * (7 - t.val) - 1 ∧ win0_1.index t 1 = 3 := by decide +kernel
theorem idx2 : ∀ t : Fin cfg0.N, win0_2.index t 0 = 7 - t.val ∧ win0_2.index t 1 = 26 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 7 - t.val ∧ win0_6.index t 1 = 0 := by decide +kernel
theorem idx7 : ∀ t : Fin cfg0.N, win0_7.index t 0 = 7 - t.val ∧ win0_7.index t 1 = 0 := by decide +kernel
theorem idx8 : ∀ t : Fin cfg0.N, win0_8.index t 0 = 7 - t.val ∧ win0_8.index t 1 = 0 := by decide +kernel
theorem idx9 : ∀ t : Fin cfg0.N, win0_9.index t 0 = 7 - t.val ∧ win0_9.index t 1 = 0 := by decide +kernel
theorem coord0 : ∀ t : Fin cfg0.N, (grid0.coords t 0).val = t.val := by decide +kernel

theorem blk0 (c : Dev nD) (t : Fin cfg0.N) (r : Fin 512) (j : Fin 768) : X0_0 m c t (ix2 r j) = X m c (row t r) j := by
  rw [← packed_x]
  unfold Packed X0_0 Pipeline.Window.fill
  rw [dif_pos (moved0_0 t _)]
  blk_simp [iblk]
  blk_ext [idx0 t, row] <;> (have := idx0 t; simp only [row]; omega)
theorem haloLt (t : Fin cfg0.N) (r : Fin 8) : 8 * (64 * (7 - t.val) - 1) + r.val < 4096 := by omega
theorem blk1 (c : Dev nD) (t : Fin cfg0.N) (r : Fin 8) (j : Fin 768) :
    X0_1 m c t (ix2 r j) = X m c ⟨8 * (64 * (7 - t.val) - 1) + r.val, haloLt t r⟩ j := by
  rw [← packed_x]
  unfold Packed X0_1 Pipeline.Window.fill
  rw [dif_pos (moved0_1 t _)]
  blk_simp [iblk]
  blk_ext [idx1 t] <;> (have := idx1 t; omega)
theorem blk2a (c : Dev nD) (t : Fin cfg0.N) (r : Fin 512) (h : Fin 4) :
    (iblk m c 2 t : FVec Ideal S512x128 .f32) (ix2 r ⟨h.val, by omega⟩) = Alpha m c (row t r) h := by
  rw [← packed_alpha]
  unfold Packed
  blk_simp [iblk]
  blk_ext [idx2 t, row] <;> (have := idx2 t; simp only [row]; omega)
theorem blk2b (c : Dev nD) (t : Fin cfg0.N) (r : Fin 512) (h : Fin 4) :
    (iblk m c 2 t : FVec Ideal S512x128 .f32) (ix2 r ⟨4 + h.val, by omega⟩) = Logit m c (row t r) h := by
  rw [← packed_logit]
  unfold Packed
  blk_simp [iblk]
  blk_ext [idx2 t, row] <;> (have := idx2 t; simp only [row]; omega)
theorem blk3 (c : Dev nD) (t : Fin cfg0.N) (k : Fin 4) (j : Fin 768) :
    (iblk m c 3 t : FVec Ideal S8x768 .f32) (ix2 ⟨k.val, by omega⟩ j) = W m c k j := by
  rw [← taps_eq]
  unfold Taps
  blk_simp [iblk]
  blk_ext [idx3 t] <;> (have := idx3 t; omega)
theorem blk4 (c : Dev nD) (t : Fin cfg0.N) (h : Fin 4) :
    (iblk m c 4 t : FVec Ideal S1x128 .f32) (ix2 0 ⟨h.val, by omega⟩) = ALog m c h := by
  rw [← rates_eq]
  unfold Rates
  blk_simp [iblk]
  blk_ext [idx4 t] <;> (have := idx4 t; omega)
theorem blk5 (c : Dev nD) (t : Fin cfg0.N) (h : Fin 4) :
    (iblk m c 5 t : FVec Ideal S1x128 .f32) (ix2 0 ⟨h.val, by omega⟩) = Bias m c h := by
  rw [← biases_eq]
  unfold Biases
  blk_simp [iblk]
  blk_ext [idx5 t] <;> (have := idx5 t; omega)
theorem blk6 (c : Dev nD) (t : Fin cfg0.N) (r : Fin 512) (k : Fin 256) :
    (iblk m c 6 t : FVec Ideal S512x256 .f32) (ix2 r k) = Dq m c (row t r) k := by
  unfold Dq
  blk_simp [iblk]
  entry_read
  blk_ext [idx6 t, row] <;> (have := idx6 t; simp only [row]; omega)
theorem blk7 (c : Dev nD) (t : Fin cfg0.N) (r : Fin 512) (k : Fin 256) :
    (iblk m c 7 t : FVec Ideal S512x256 .f32) (ix2 r k) = Dk m c (row t r) k := by
  unfold Dk
  blk_simp [iblk]
  entry_read
  blk_ext [idx7 t, row] <;> (have := idx7 t; simp only [row]; omega)
theorem blk8 (c : Dev nD) (t : Fin cfg0.N) (r : Fin 512) (k : Fin 256) :
    (iblk m c 8 t : FVec Ideal S512x256 .f32) (ix2 r k) = Dv m c (row t r) k := by
  unfold Dv
  blk_simp [iblk]
  entry_read
  blk_ext [idx8 t, row] <;> (have := idx8 t; simp only [row]; omega)
theorem blk9a (c : Dev nD) (t : Fin cfg0.N) (r : Fin 512) (h : Fin 4) :
    (iblk m c 9 t : FVec Ideal S512x128 .f32) (ix2 r ⟨h.val, by omega⟩) = Dgc m c (row t r) h := by
  rw [← packed_dgc]
  unfold PackedD
  blk_simp [iblk]
  blk_ext [idx9 t, row] <;> (have := idx9 t; simp only [row]; omega)
theorem blk9b (c : Dev nD) (t : Fin cfg0.N) (r : Fin 512) (h : Fin 4) :
    (iblk m c 9 t : FVec Ideal S512x128 .f32) (ix2 r ⟨4 + h.val, by omega⟩) = Dbeta m c (row t r) h := by
  rw [← packed_dbeta]
  unfold PackedD
  blk_simp [iblk]
  blk_ext [idx9 t, row] <;> (have := idx9 t; simp only [row]; omega)

/-- The rows a point convolves are the whole's rows, five before the tile's first. -/
theorem v12_at (c : Dev nD) (t : Fin cfg0.N) (n : Fin 520) (hn : 5 ≤ n.val) (j : Fin 768) :
    v12 m c t (ix2 n j) = delayed (fun i => X m c i j) (512 * (7 - t.val) + (n.val - 5)) := by
  have ht := point_lt t
  unfold v12 delayed getN
  rw [halo_at, coord0]
  split
  · split
    · rw [blk1, if_pos (by omega), dif_pos (by omega)]
      exact congrArg (fun i => X m c i j) (Fin.ext (by dsimp only; omega))
    · rw [if_neg (by omega)]
  · rw [blk0, if_pos (by omega), dif_pos (by omega)]
    exact congrArg (fun i => X m c i j) (Fin.ext (by simp only [row]; omega))
theorem v16_at (c : Dev nD) (t : Fin cfg0.N) (k : Fin 4) (j : Fin 768) : v16 m c t (ix2 ⟨k.val, by omega⟩ j) = W m c k j := by
  rw [← blk3 m c t k j]
  unfold v16 k0_pay8
  pointwise
/-- A point's convolved rows. -/
theorem pre_row (c : Dev nD) (t : Fin cfg0.N) (r : Fin 512) :
    pre (v12 m c t) (v16 m c t) (v35 m c t) (v42 m c t) r = conv (X m c) (W m c) (row t r).val := by
  funext j
  have h := pre_at (grid0.coords t) (X0_1 m c t) (X0_0 m c t) (iblk m c 3 t) r j (v12 m c t) rfl
  have hw := fun (k : Fin 4) => blk3 m c t k j
  refine h.trans ?_
  unfold conv
  have hx : ∀ (k : ℕ) (hk : k < 4), v12 m c t (ix2 ⟨5 + k + r.val, by omega⟩ j)
      = delayed (fun i => X m c i j) (k + (row t r).val) := fun k hk => by
    rw [v12_at m c t _ (by dsimp only; omega)]
    exact congrArg _ (by simp only [row]; omega)
  refine congrArg₂ (· + ·) (congrArg₂ (· + ·) (congrArg₂ (· + ·) (congrArg₂ (· * ·) ?_ (hw 0)) (congrArg₂ (· * ·) (hx 1 (by omega)) (hw 1)))
    (congrArg₂ (· * ·) (hx 2 (by omega)) (hw 2))) (congrArg₂ (· * ·) (hx 3 (by omega)) (hw 3))
  exact (hx 0 (by omega)).trans (congrArg _ (Nat.zero_add _))
/-- A point's cotangent of its convolved rows. -/
theorem dy_row (c : Dev nD) (t : Fin cfg0.N) (r : Fin 512) (j : Fin 768) :
    tileDy (v12 m c t) (v16 m c t) (v35 m c t) (v42 m c t) (iblk m c 6 t) (iblk m c 7 t) (iblk m c 8 t) r j
    = convGrad (X m c) (W m c) (Dq m c) (Dk m c) (Dv m c) (row t r) j := by
  unfold tileDy convGrad
  rw [pre_row, funext (blk6 m c t r), funext (blk7 m c t r), funext (blk8 m c t r)]
end Cert.DnPre
-- ==== Proof.DnPreKernel.lean ====
module
public import proofs.«01_k».proof.Proof.DnPreEntry
public import proofs.«01_k».proof.Proof.Gen.Kernel2Ideal.Value
/-!
What the input stage's gradient kernel leaves in its five result arrays. The points run over the tiles of 512 rows from
the last to the first: a tile's rows add what the tile after it carried over, and the three sums gather over all points.
-/
@[expose] public section
noncomputable section
namespace Cert.DnPre
open Cert.Kernel2Ideal Cert.Kernel2Ideal.Gen Idealize.ShloMosaic Idealize.ShloMosaic.TcCoe Idealize.SL.Sem
set_option maxRecDepth 16384
variable (m : (ℓ : Loc nD τ sig) → Buf (Elt Ideal) ℓ)

/-- The cotangent of the convolution's rows, at one column. -/
abbrev Dy (c : Dev nD) (j : Fin 768) (i : Fin 4096) : EReal := convGrad (X m c) (W m c) (Dq m c) (Dk m c) (Dv m c) i j

/-- What lies `k` rows below a row: in the row's own tile, or in the next. -/
def below (c : Dev nD) (t : Fin cfg0.N) (r : Fin 512) (j : Fin 768) (k : ℕ) : EReal :=
  if 512 ≤ k + r.val then getN (Dy m c j) (k + (row t r).val) else 0
theorem getN_split (c : Dev nD) (t : Fin cfg0.N) (r : Fin 512) (j : Fin 768) (k : ℕ) (w : EReal) :
    getN (Dy m c j) (k + (row t r).val) * w
    = getN (fun x => Dy m c j (row t x)) (k + r.val) * w + below m c t r j k * w := by
  unfold below
  by_cases h : 512 ≤ k + r.val
  · rw [if_pos h]
    have e : getN (fun x => Dy m c j (row t x)) (k + r.val) = 0 := dif_neg (by omega)
    rw [e, zero_mul, zero_add]
  · have := point_lt t
    rw [if_neg h, zero_mul, add_zero]
    unfold getN
    rw [dif_pos (by simp only [row]; omega), dif_pos (by omega)]
    exact congrArg (fun i => Dy m c j i * w) (Fin.ext (by simp only [row]; omega))

theorem regroup (a b c d x y z : EReal) : a + b + c + d + (x + y + z) = (a + x) + (b + y) + (c + z) + d := by ac_rfl

/-- A tile's rows, once what it adds from the tile after it is known. -/
theorem rows_of (c : Dev nD) (t : Fin cfg0.N) (old : FVec Ideal S8x768 .f32) (r : Fin 512) (j : Fin 768)
    (ho : ∀ h : 504 ≤ r.val, old (ix2 ⟨r.val - 504, by omega⟩ j)
      = below m c t r j 3 * W m c 0 j + below m c t r j 2 * W m c 1 j + below m c t r j 1 * W m c 2 j) :
    tileRows (v12 m c t) (v16 m c t) (v35 m c t) (v42 m c t) (iblk m c 6 t) (iblk m c 7 t) (iblk m c 8 t) old (ix2 r j)
    = rowsGrad (X m c) (W m c) (Dq m c) (Dk m c) (Dv m c) (row t r) j := by
  have hw := fun k : Fin 4 => v16_at m c t k j
  have e : (if h : 504 ≤ r.val then old (ix2 ⟨r.val - 504, by omega⟩ j) else 0)
      = below m c t r j 3 * W m c 0 j + below m c t r j 2 * W m c 1 j + below m c t r j 1 * W m c 2 j := by
    by_cases h : 504 ≤ r.val
    · rw [dif_pos h, ho h]
    · have b : ∀ k ≤ 3, below m c t r j k = 0 := fun k hk => if_neg (by omega)
      rw [dif_neg h, b 3 le_rfl, b 2 (by omega), b 1 (by omega)]
      simp only [zero_mul, add_zero]
  have hd : (fun x => tileDy (v12 m c t) (v16 m c t) (v35 m c t) (v42 m c t) (iblk m c 6 t) (iblk m c 7 t) (iblk m c 8 t) x j)
      = fun x => Dy m c j (row t x) := funext fun x => dy_row m c t x j
  rw [tileRows_at, e, hd]
  have h3 := getN_split m c t r j 3 (W m c 0 j)
  have h2 := getN_split m c t r j 2 (W m c 1 j)
  have h1 := getN_split m c t r j 1 (W m c 2 j)
  have h0 := getN_split m c t r j 0 (W m c 3 j)
  have b0 : below m c t r j 0 = 0 := if_neg (by omega)
  rw [b0, zero_mul, add_zero, Nat.zero_add, Nat.zero_add] at h0
  unfold rowsGrad
  refine Eq.trans ?_ (congrArg₂ (· + ·) (congrArg₂ (· + ·) (congrArg₂ (· + ·) h3 h2) h1) h0).symm
  have e0 : v16 m c t (ix2 0 j) = W m c 0 j := hw 0
  have e1 : v16 m c t (ix2 1 j) = W m c 1 j := hw 1
  have e2 : v16 m c t (ix2 2 j) = W m c 2 j := hw 2
  have e3 : v16 m c t (ix2 3 j) = W m c 3 j := hw 3
  rw [e0, e1, e2, e3]
  exact regroup _ _ _ _ _ _ _

/-- What a point carries to the point after it, which holds the rows before its own. -/
theorem carried (c : Dev nD) (t s : Fin cfg0.N) (hs : s.val + 1 = t.val) (r : Fin 512) (h : 504 ≤ r.val) (j : Fin 768) :
    tileCarry (v12 m c s) (v16 m c s) (v35 m c s) (v42 m c s) (iblk m c 6 s) (iblk m c 7 s) (iblk m c 8 s) (ix2 ⟨r.val - 504, by omega⟩ j)
    = below m c t r j 3 * W m c 0 j + below m c t r j 2 * W m c 1 j + below m c t r j 1 * W m c 2 j := by
  have ht := point_lt t
  have hw := fun k : Fin 4 => v16_at m c s k j
  have hb : ∀ k ≤ 3, (if h : 8 - k ≤ r.val - 504 then
      tileDy (v12 m c s) (v16 m c s) (v35 m c s) (v42 m c s) (iblk m c 6 s) (iblk m c 7 s) (iblk m c 8 s)
        ⟨r.val - 504 - (8 - k), by omega⟩ j else 0) = below m c t r j k := fun k hk => by
    unfold below getN
    by_cases hr : 512 ≤ k + r.val
    · rw [dif_pos (by omega), if_pos hr, dif_pos (by simp only [row]; omega), dy_row]
      exact congrArg (Dy m c j) (Fin.ext (by simp only [row]; omega))
    · rw [dif_neg (by omega), if_neg hr]
  rw [tileCarry_at]
  exact congrArg₂ (· + ·) (congrArg₂ (· + ·) (congrArg₂ (· * ·) (hb 3 le_rfl) (hw 0)) (congrArg₂ (· * ·) (hb 2 (by omega)) (hw 1)))
    (congrArg₂ (· * ·) (hb 1 (by omega)) (hw 2))

/-- What a point leaves in its scratch is what it carries. -/
theorem scratch_eq (c : Dev nD) (t : Fin cfg0.N) : (outsAt0 m c t.val t.isLt).2.2.2.2.2
    = tileCarry (v12 m c t) (v16 m c t) (v35 m c t) (v42 m c t) (iblk m c 6 t) (iblk m c 7 t) (iblk m c 8 t) := by
  by_cases h : t.val % 8 = 0
  · rw [outA m c t h]; rfl
  · rw [outB m c t h]; rfl

theorem out_rows (c : Dev nD) (t : Fin cfg0.N) (r : Fin 512) (j : Fin 768) :
    (outsAt0 m c t.val t.isLt).1 (ix2 r j) = rowsGrad (X m c) (W m c) (Dq m c) (Dk m c) (Dv m c) (row t r) j := by
  have ht := point_lt t
  by_cases h : t.val % 8 = 0
  · rw [outA m c t h]
    refine rows_of m c t _ r j fun hr => ?_
    have b : ∀ k, below m c t r j k = 0 := fun k => by
      unfold below getN
      split
      · exact dif_neg (by simp only [row]; omega)
      · rfl
    simp only [b, zero_mul, add_zero]
    unfold k0_pay2
    pointwise
  · rw [outB m c t h]
    refine rows_of m c t _ r j fun hr => ?_
    refine (congrFun (scratch_eq m c ⟨t.val - 1, _⟩) _).trans (carried m c t ⟨t.val - 1, by omega⟩ (by dsimp only; omega) r hr j)

theorem idx10 : ∀ t : Fin cfg0.N, win0_10.index t 0 = 7 - t.val ∧ win0_10.index t 1 = 0 := by decide +kernel
theorem idx11 : ∀ t : Fin cfg0.N, win0_11.index t 0 = 7 - t.val ∧ win0_11.index t 1 = 0 := by decide +kernel

theorem final_rows (c : Dev nD) : (dats m 0 c).arrAt 10 cfg0.N
    = fun i : S4096x768.Idx => rowsGrad (X m c) (W m c) (Dq m c) (Dk m c) (Dv m c) (i 0) (i 1) := by
  refine (dats m 0 c).arrAt_eq_of_covers 10 _ (by decide +kernel) fun t hf y => ?_
  blk_simp
  obtain ⟨r, j, rfl⟩ : ∃ (r : Fin 512) (j : Fin 768), y = (ix2 r j : S512x768.Idx) := ⟨y 0, y 1, eq_ix2 (n0 := 512) (n1 := 768) y⟩
  rw [after0_10, out_rows]
  have e : (win0_10.blk t).view.emb (ix2 r j) = (ix2 (row t r) j : S4096x768.Idx) := by
    blk_ext [idx10 t, row] <;> (have := idx10 t; simp only [row]; omega)
  rw [e]
  rfl

/-- A sum that every point adds its tile's part to is the sum over all rows. -/
theorem total (u : (n : ℕ) → n < cfg0.N → EReal) (f : Fin 4096 → EReal)
    (h0 : ∀ h, u 0 h = ∑ r : Fin 512, f (row ⟨0, h⟩ r))
    (hs : ∀ n (h : n + 1 < cfg0.N), u (n + 1) h = u n (Nat.lt_of_succ_lt h) + ∑ r : Fin 512, f (row ⟨n + 1, h⟩ r)) :
    u 7 t0_7.isLt = ∑ i, f i := by
  refine (Common.acc_eq_sum u (fun n h => ∑ r : Fin 512, f (row ⟨n, h⟩ r)) h0 hs 7 t0_7.isLt).trans ?_
  exact Common.sum_blocks_rev (m := 8) (n := 512) rfl f (fun s r => by omega) (fun s r => by omega)

theorem total_taps (c : Dev nD) (k : Fin 8) (j : Fin 768) : (outsAt0 m c 7 t0_7.isLt).2.2.1 (ix2 k j)
    = if h : k.val < 4 then tapGrad (X m c) (W m c) (Dq m c) (Dk m c) (Dv m c) ⟨k.val, h⟩ j else 0 := by
  have part : ∀ (t : Fin cfg0.N) (old : FVec Ideal S8x768 .f32),
      tileTaps (v12 m c t) (v16 m c t) (v35 m c t) (v42 m c t) (iblk m c 6 t) (iblk m c 7 t) (iblk m c 8 t) old (ix2 k j)
      = old (ix2 k j) + ∑ r : Fin 512, if k.val < 4 then
          Dy m c j (row t r) * delayed (fun i => X m c i j) (k.val + (row t r).val) else 0 := fun t old => by
    rw [tileTaps_at]
    refine congrArg (_ + ·) ?_
    by_cases hk : k.val < 4
    · rw [dif_pos hk]
      simp only [if_pos hk]
      refine Finset.sum_congr rfl fun r _ => ?_
      rw [dy_row, v12_at m c t _ (by dsimp only; omega)]
      exact congrArg (fun n => Dy m c j (row t r) * delayed (fun i => X m c i j) n) (by simp only [row]; omega)
    · rw [dif_neg hk]
      simp only [if_neg hk, Finset.sum_const_zero]
  refine (total (fun n h => (outsAt0 m c n h).2.2.1 (ix2 k j))
    (fun i => if k.val < 4 then Dy m c j i * delayed (fun i => X m c i j) (k.val + i.val) else 0) (fun h => ?_) (fun n h => ?_)).trans ?_
  · refine (congrFun (congrArg (fun o => o.2.2.1) (outA m c ⟨0, h⟩ rfl)) (ix2 k j)).trans ((part ..).trans ?_)
    unfold k0_pay3
    pointwise
  · exact (congrFun (congrArg (fun o => o.2.2.1) (outB m c ⟨n + 1, h⟩
      (by have : n + 1 < 8 := h; dsimp only; omega))) (ix2 k j)).trans (part ..)
  · by_cases hk : k.val < 4
    · rw [dif_pos hk]
      simp only [if_pos hk]
      rfl
    · rw [dif_neg hk]
      simp only [if_neg hk, Finset.sum_const_zero]

theorem final_taps (c : Dev nD) : (dats m 0 c).arrAt 12 cfg0.N
    = fun i : S8x768.Idx => if h : (i 0).val < 4 then tapGrad (X m c) (W m c) (Dq m c) (Dk m c) (Dv m c) ⟨(i 0).val, h⟩ (i 1) else 0 := by
  refine (dats m 0 c).arrAt_eq_of_after_last 12 t0_7 (by decide +kernel) _ fun j => ?_
  blk_simp
  have hj : j = (ix2 (j 0) (j 1) : S8x768.Idx) := eq_ix2 (n0 := 8) (n1 := 768) j
  rw [after0_12, hj]
  exact total_taps m c (j 0) (j 1)

/-- The decay's operands and cotangent are real, and softplus is not taken at zero. -/
structure Fine (c : Dev nD) : Prop where
  alpha : ∀ i h, IsReal (Alpha m c i h)
  aLog : ∀ h, IsReal (ALog m c h)
  bias : ∀ h, IsReal (Bias m c h)
  dgc : ∀ i h, IsReal (Dgc m c i h)
  apart : ∀ i h, Alpha m c i h + Bias m c h ≠ 0

section gates
variable (c : Dev nD) (hf : Fine m c)
theorem tail_row (t : Fin cfg0.N) (r : Fin 512) (h : Fin 4) :
    tileTail (iblk m c 9 t) r ⟨h.val, by omega⟩ = decayGrad (Dgc m c) (row t r) h := by
  unfold tileTail
  rw [if_pos h.isLt]
  exact tileTail_eq (fun i => Dgc m c i h) (7 - t.val) (by omega) _ (fun x => blk9a m c t x h) r
theorem tail_zero (t : Fin cfg0.N) (r : Fin 512) (h : Fin 128) (hh : ¬h.val < 4) : tileTail (iblk m c 9 t) r h = 0 := if_neg hh

include hf in
theorem soft_row (t : Fin cfg0.N) (r : Fin 512) (h : Fin 4) (a z : EReal) (ea : a = ALog m c h)
    (ez : z = Alpha m c (row t r) h + Bias m c h) :
    softGrad ((0 - Ideal.exp a) * tileTail (iblk m c 9 t) r ⟨h.val, by omega⟩) z
    = alphaGrad (Alpha m c) (ALog m c) (Bias m c) (Dgc m c) (row t r) h := by
  rw [tail_row, ea, ez]
  unfold alphaGrad
  obtain ⟨a, ha⟩ := hf.aLog h
  obtain ⟨d, hd⟩ : IsReal (decayGrad (Dgc m c) (row t r) h) := IsReal.tail (fun i => hf.dgc i h) _
  obtain ⟨z, hz⟩ : IsReal (Alpha m c (row t r) h + Bias m c h) := (hf.alpha _ _).add (hf.bias h)
  have hne := hf.apart (row t r) h
  rw [hz] at hne
  rw [hz, ha, hd, Ideal.exp_coe, ← EReal.coe_zero, ← EReal.coe_sub, ← EReal.coe_mul]
  exact softGrad_eq _ _ fun e => hne (by rw [e, EReal.coe_zero])

theorem soft_zero (t : Fin cfg0.N) (r : Fin 512) (h : Fin 128) (hh : ¬h.val < 4) (x z : EReal) :
    softGrad (x * tileTail (iblk m c 9 t) r h) z = 0 := by
  rw [tail_zero m c t r h hh, mul_zero, softGrad_zero]

/-- The gates' result: the decay's operand in the first four lanes, the logistic gate's in the next four. -/
def gateGrad (i : Fin 4096) (h : Fin 128) : EReal :=
  if ha : h.val < 4 then alphaGrad (Alpha m c) (ALog m c) (Bias m c) (Dgc m c) i ⟨h.val, ha⟩
  else if hb : h.val < 8 then logitGrad (Logit m c) (Dbeta m c) i ⟨h.val - 4, by omega⟩
  else 0

include hf in
theorem out_gates (t : Fin cfg0.N) (r : Fin 512) (h : Fin 128) :
    (outsAt0 m c t.val t.isLt).2.1 (ix2 r h) = gateGrad m c (row t r) h := by
  have e : (outsAt0 m c t.val t.isLt).2.1 = tileAb (iblk m c 2 t) (iblk m c 4 t) (iblk m c 5 t) (iblk m c 9 t) := by
    by_cases h : t.val % 8 = 0
    · rw [outA m c t h]; rfl
    · rw [outB m c t h]; rfl
  rw [e, tileAb_at]
  unfold gateGrad
  by_cases ha : h.val < 4
  · rw [if_pos (by omega), if_pos ha, zero_add, dif_pos ha]
    exact soft_row m c hf t r ⟨h.val, ha⟩ _ _ (blk4 m c t ⟨h.val, ha⟩) (congrArg₂ (· + ·) (blk2a m c t r ⟨h.val, ha⟩) (blk5 m c t ⟨h.val, ha⟩))
  · rw [soft_zero m c t r h ha, add_zero, dif_neg ha]
    by_cases hb : h.val < 8
    · rw [if_pos hb, if_neg ha, dif_pos hb]
      obtain ⟨l, rfl⟩ : ∃ l : Fin 4, h = ⟨4 + l.val, lt_of_lt_of_le (Nat.add_lt_add_left l.isLt 4) (by decide)⟩ := ⟨⟨h.val - 4, by omega⟩, Fin.ext (by dsimp only; omega)⟩
      rw [blk2b, blk9b]
      unfold logitGrad
      have el : (⟨4 + l.val - 4, by omega⟩ : Fin 4) = l := Fin.ext (by dsimp only; omega)
      rw [el]
    · rw [if_neg hb, dif_neg hb]

include hf in
theorem final_gates : (dats m 0 c).arrAt 11 cfg0.N = fun i : S4096x128.Idx => gateGrad m c (i 0) (i 1) := by
  refine (dats m 0 c).arrAt_eq_of_covers 11 _ (by decide +kernel) fun t _ y => ?_
  blk_simp
  obtain ⟨r, j, rfl⟩ : ∃ (r : Fin 512) (j : Fin 128), y = (ix2 r j : S512x128.Idx) := ⟨y 0, y 1, eq_ix2 (n0 := 512) (n1 := 128) y⟩
  rw [after0_11, out_gates m c hf]
  have e : (win0_11.blk t).view.emb (ix2 r j) = (ix2 (row t r) j : S4096x128.Idx) := by
    blk_ext [idx11 t, row] <;> (have := idx11 t; simp only [row]; omega)
  rw [e]
  rfl

include hf in
theorem total_rate (h : Fin 128) : (outsAt0 m c 7 t0_7.isLt).2.2.2.1 (ix2 0 h)
    = if hh : h.val < 4 then rateGrad (Alpha m c) (ALog m c) (Bias m c) (Dgc m c) ⟨h.val, hh⟩ else 0 := by
  have part : ∀ (t : Fin cfg0.N) (old : FVec Ideal S1x128 .f32),
      tileRate (iblk m c 2 t) (iblk m c 4 t) (iblk m c 5 t) (iblk m c 9 t) old (ix2 0 h)
      = old (ix2 0 h) + ∑ r : Fin 512, if hh : h.val < 4 then (0 - Ideal.exp (ALog m c ⟨h.val, hh⟩)) *
          (decayGrad (Dgc m c) (row t r) ⟨h.val, hh⟩ * softplus (Alpha m c (row t r) ⟨h.val, hh⟩ + Bias m c ⟨h.val, hh⟩)) else 0 :=
    fun t old => by
    rw [tileRate_at]
    refine congrArg (_ + ·) ?_
    by_cases hh : h.val < 4
    · simp only [dif_pos hh]
      obtain ⟨l, rfl⟩ : ∃ l : Fin 4, h = ⟨l.val, lt_trans l.isLt (by decide)⟩ := ⟨⟨h.val, hh⟩, rfl⟩
      simp only [tail_row, blk2a, blk4, blk5]
      obtain ⟨a, ha⟩ := hf.aLog l
      have ea : Ideal.exp (ALog m c l) = ((Real.exp a : ℝ) : EReal) := by rw [ha, Ideal.exp_coe]
      rw [ea]
      exact neg_sum_mul _ _ (fun r => (IsReal.tail (fun i => hf.dgc i l) _).mul (((hf.alpha _ _).add (hf.bias l)).softplus)) _
    · simp only [dif_neg hh, tail_zero m c t _ h hh, zero_mul, Finset.sum_const_zero, sub_zero]
  refine (total (fun n g => (outsAt0 m c n g).2.2.2.1 (ix2 0 h))
    (fun i => if hh : h.val < 4 then (0 - Ideal.exp (ALog m c ⟨h.val, hh⟩)) *
      (decayGrad (Dgc m c) i ⟨h.val, hh⟩ * softplus (Alpha m c i ⟨h.val, hh⟩ + Bias m c ⟨h.val, hh⟩)) else 0)
    (fun g => ?_) (fun n g => ?_)).trans ?_
  · refine (congrFun (congrArg (fun o => o.2.2.2.1) (outA m c ⟨0, g⟩ rfl)) (ix2 0 h)).trans ((part ..).trans ?_)
    unfold k0_pay4
    pointwise
  · exact (congrFun (congrArg (fun o => o.2.2.2.1) (outB m c ⟨n + 1, g⟩
      (by have : n + 1 < 8 := g; dsimp only; omega))) (ix2 0 h)).trans (part ..)
  · by_cases hh : h.val < 4
    · simp only [dif_pos hh]
      rfl
    · simp only [dif_neg hh, Finset.sum_const_zero]

include hf in
theorem total_bias (h : Fin 128) : (outsAt0 m c 7 t0_7.isLt).2.2.2.2.1 (ix2 0 h)
    = if hh : h.val < 4 then ∑ i, alphaGrad (Alpha m c) (ALog m c) (Bias m c) (Dgc m c) i ⟨h.val, hh⟩ else 0 := by
  have part : ∀ (t : Fin cfg0.N) (old : FVec Ideal S1x128 .f32),
      tileBias (iblk m c 2 t) (iblk m c 4 t) (iblk m c 5 t) (iblk m c 9 t) old (ix2 0 h)
      = old (ix2 0 h) + ∑ r : Fin 512, if hh : h.val < 4 then
          alphaGrad (Alpha m c) (ALog m c) (Bias m c) (Dgc m c) (row t r) ⟨h.val, hh⟩ else 0 := fun t old => by
    rw [tileBias_at]
    refine congrArg (_ + ·) (Finset.sum_congr rfl fun r _ => ?_)
    by_cases hh : h.val < 4
    · rw [dif_pos hh]
      exact soft_row m c hf t r ⟨h.val, hh⟩ _ _ (blk4 m c t ⟨h.val, hh⟩) (congrArg₂ (· + ·) (blk2a m c t r ⟨h.val, hh⟩) (blk5 m c t ⟨h.val, hh⟩))
    · rw [dif_neg hh]
      exact soft_zero m c t r h hh _ _
  refine (total (fun n g => (outsAt0 m c n g).2.2.2.2.1 (ix2 0 h))
    (fun i => if hh : h.val < 4 then alphaGrad (Alpha m c) (ALog m c) (Bias m c) (Dgc m c) i ⟨h.val, hh⟩ else 0)
    (fun g => ?_) (fun n g => ?_)).trans ?_
  · refine (congrFun (congrArg (fun o => o.2.2.2.2.1) (outA m c ⟨0, g⟩ rfl)) (ix2 0 h)).trans ((part ..).trans ?_)
    unfold k0_pay5
    pointwise
  · exact (congrFun (congrArg (fun o => o.2.2.2.2.1) (outB m c ⟨n + 1, g⟩
      (by have : n + 1 < 8 := g; dsimp only; omega))) (ix2 0 h)).trans (part ..)
  · by_cases hh : h.val < 4
    · simp only [dif_pos hh]
    · simp only [dif_neg hh, Finset.sum_const_zero]

theorem row_index (j : S1x128.Idx) : j = (ix2 0 (j 1) : S1x128.Idx) := by
  rw [eq_ix2 j]; congr 1; exact Subsingleton.elim (α := Fin 1) _ _
include hf in
theorem final_rate : (dats m 0 c).arrAt 13 cfg0.N = fun i : S1x128.Idx => if hh : (i 1).val < 4 then
    rateGrad (Alpha m c) (ALog m c) (Bias m c) (Dgc m c) ⟨(i 1).val, hh⟩ else 0 := by
  refine (dats m 0 c).arrAt_eq_of_after_last 13 t0_7 (by decide +kernel) _ fun j => ?_
  blk_simp
  rw [after0_13, row_index j]
  exact total_rate m c hf (j 1)
include hf in
theorem final_bias : (dats m 0 c).arrAt 14 cfg0.N = fun i : S1x128.Idx => if hh : (i 1).val < 4 then
    ∑ k, alphaGrad (Alpha m c) (ALog m c) (Bias m c) (Dgc m c) k ⟨(i 1).val, hh⟩ else 0 := by
  refine (dats m 0 c).arrAt_eq_of_after_last 14 t0_7 (by decide +kernel) _ fun j => ?_
  blk_simp
  rw [after0_14, row_index j]
  exact total_bias m c hf (j 1)
end gates

/-- The kernel run: its five result arrays as functions of the arguments, the arguments unchanged. -/
theorem run_values (ρ : Dev nD → PrngReg) (hf : ∀ c, Fine m c) :
    θ_run defs (onTc (τ := τ) (main (F := Ideal))) ⟨m, fun _ => 0, ρ⟩ fun r => ∀ c : Dev nD,
      r.2.mem (c.tc.loc main_v10_0) = (fun i : S4096x768.Idx => rowsGrad (X m c) (W m c) (Dq m c) (Dk m c) (Dv m c) (i 0) (i 1))
      ∧ r.2.mem (c.tc.loc main_v10_1) = (fun i : S4096x128.Idx => gateGrad m c (i 0) (i 1))
      ∧ r.2.mem (c.tc.loc main_v10_2) = (fun i : S8x768.Idx => if h : (i 0).val < 4 then
          tapGrad (X m c) (W m c) (Dq m c) (Dk m c) (Dv m c) ⟨(i 0).val, h⟩ (i 1) else 0)
      ∧ r.2.mem (c.tc.loc main_v10_3) = (fun i : S1x128.Idx => if hh : (i 1).val < 4 then
          rateGrad (Alpha m c) (ALog m c) (Bias m c) (Dgc m c) ⟨(i 1).val, hh⟩ else 0)
      ∧ r.2.mem (c.tc.loc main_v10_4) = (fun i : S1x128.Idx => if hh : (i 1).val < 4 then
          ∑ k, alphaGrad (Alpha m c) (ALog m c) (Bias m c) (Dgc m c) k ⟨(i 1).val, hh⟩ else 0)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) :=
  (θ_run defs _ _).mono (fun _ h c => ⟨(h c).1.trans (final_rows m c), (h c).2.1.trans (final_gates m c (hf c)),
    (h c).2.2.1.trans (final_taps m c), (h c).2.2.2.1.trans (final_rate m c (hf c)),
    (h c).2.2.2.2.1.trans (final_bias m c (hf c)), (h c).2.2.2.2.2⟩) (Value.run_blocks m ρ)
end Cert.DnPre
-- ==== Proof.DnPreRef.lean ====
module
public import proofs.«01_k».proof.Proof.DnPreGates
public import proofs.«01_k».proof.Proof.Gen.Reference2Ideal.Run
public import proofs.«01_k».proof.Proof.Gen.Reference2Ideal.Read
/-!
The reference's gradient of the input stage, stage by stage, as the same mathematics.
-/
@[expose] public section
noncomputable section
namespace Cert.DnPre.Ref
open Cert.Reference2Ideal Cert.Reference2Ideal.Read Idealize.ShloMosaic Idealize.ShloMosaic.TcCoe Idealize.SL.Sem
set_option maxRecDepth 16384
abbrev Rows := (⟨S4096x768, .f32⟩ : BufTy).Contents (Elt Ideal)
abbrev Weights := (⟨S4x768, .f32⟩ : BufTy).Contents (Elt Ideal)
abbrev Cols := (⟨S4096x256, .f32⟩ : BufTy).Contents (Elt Ideal)
abbrev Gate := (⟨S4096x4, .f32⟩ : BufTy).Contents (Elt Ideal)
abbrev PerHead := (⟨S4, .f32⟩ : BufTy).Contents (Elt Ideal)

theorem reverse_sum (a b c d : EReal) : a + b + c + d = d + c + b + a := by ac_rfl
/-- A padded product is a read past the list's end, scaled. -/
theorem tap_term (w : EReal) (f : Fin 4096 → EReal) (n : ℕ) (p : Prop) [Decidable p] (hp : p ↔ n < 4096) (g : p → Fin 4096)
    (hg : ∀ h, (g h).val = n) : (if h : p then w * f (g h) else 0) = getN f n * w := by
  unfold getN
  by_cases h : p
  · rw [dif_pos h, dif_pos (hp.mp h), mul_comm]
    exact congrArg (f · * w) (Fin.ext (hg h))
  · rw [dif_neg h, dif_neg (fun e => h (hp.mpr e)), zero_mul]

theorem sitofp_zero : FloatOps.sitofp (F := Ideal) FTy.f32 0#32 = 0 := by simp [FloatOps.sitofp]

section rows
variable (x0 : Rows) (x3 : Weights) (x6 x7 x8 : Cols)
def rX (i : Fin 4096) (c : Fin 768) : EReal := x0 (ix2 i c)
def rW (k : Fin 4) (c : Fin 768) : EReal := x3 (ix2 k c)
def rC (i : Fin 4096) (c : Fin 256) : EReal := x6 (ix2 i c)

theorem delayed_at (n : Fin 4099) (c : Fin 768) :
    val_main_v1 (F := Ideal) x0 (ix2 n c) = delayed (fun i => rX x0 i c) n.val := by
  unfold val_main_v1 val_main_v0 val_main_cst delayed getN rX
  pointwise
  by_cases h : n.val < 3
  · rw [dif_pos h, if_neg (by omega)]
  · rw [dif_neg h]
    rw [if_pos (c := 3 ≤ n.val) (by omega), dif_pos (c := n.val - 3 < 4096) (by omega)]

theorem conv_at (i : Fin 4096) (c : Fin 768) :
    val_main_v29 (F := Ideal) x0 x3 (ix2 i c) = conv (rX x0) (rW x3) i.val c := by
  unfold val_main_v29 val_main_v22 val_main_v28 val_main_v27 val_main_v26 val_main_v24 val_main_v23 val_main_v25 val_main_v15
    val_main_v21 val_main_v20 val_main_v19 val_main_v17 val_main_v16 val_main_v18 val_main_v14 val_main_v13 val_main_v12
    val_main_v10 val_main_v9 val_main_v11 val_main_v8 val_main_v7 val_main_v6 val_main_v4 val_main_v3 val_main_v5
  pointwise
  unfold conv rW
  rw [delayed_at, delayed_at, delayed_at, delayed_at, mul_comm (x3 _), mul_comm (x3 _), mul_comm (x3 _), mul_comm (x3 _)]
theorem gate_at (i : Fin 4096) (c : Fin 768) :
    val_main_v30_2 (F := Ideal) x0 x3 (ix2 i c) = Ideal.logistic (conv (rX x0) (rW x3) i.val c) := by
  rw [← conv_at]
  unfold val_main_v30_2 val_main_call0_v4 val_main_call0_v3 val_main_call0_v2 val_main_call0_v1 val_main_call0_v0 val_main_call0_cst
    val_main_call0_cst_0
  pointwise
  rfl
theorem slope_at (i : Fin 4096) (c : Fin 768) : val_main_v30_1 (F := Ideal) x0 x3 (ix2 i c)
    = Ideal.logistic (conv (rX x0) (rW x3) i.val c) * (1 - Ideal.logistic (conv (rX x0) (rW x3) i.val c)) := by
  rw [← gate_at]
  unfold val_main_v30_1 val_main_call0_v7 val_main_call0_v6 val_main_call0_cst_1
  pointwise
/-- A row's activated entries. -/
def actRow (i : Fin 4096) (c : Fin 768) : EReal := conv (rX x0) (rW x3) i.val c * Ideal.logistic (conv (rX x0) (rW x3) i.val c)
theorem act_at (i : Fin 4096) (c : Fin 768) : val_main_v30_0 (F := Ideal) x0 x3 (ix2 i c) = actRow x0 x3 i c := by
  unfold actRow
  rw [← gate_at, ← conv_at]
  unfold val_main_v30_0
  pointwise
theorem query_at (i : Fin 4096) (h : Fin 4) (j : Fin 64) : val_main_v34 (F := Ideal) x0 x3 (ix3 i h j)
    = headAt (queries (actRow x0 x3 i)) (64 * h.val) (by omega) j := by
  unfold val_main_v34 val_main_v31
  pointwise
  rw [act_at]
  exact congrArg (actRow x0 x3 i) (Fin.ext (by dsimp only; omega))
theorem key_at (i : Fin 4096) (h : Fin 4) (j : Fin 64) : val_main_v35 (F := Ideal) x0 x3 (ix3 i h j)
    = headAt (keys (actRow x0 x3 i)) (64 * h.val) (by omega) j := by
  unfold val_main_v35 val_main_v32
  pointwise
  rw [act_at]
  exact congrArg (actRow x0 x3 i) (Fin.ext (by dsimp only; omega))
theorem keyCot_at (i : Fin 4096) (h : Fin 4) (j : Fin 64) : val_main_v83 (F := Ideal) x7 (ix3 i h j)
    = headAt (rC x7 i) (64 * h.val) (by omega) j := by
  unfold val_main_v83
  pointwise
  exact congrArg (rC x7 i) (Fin.ext (by dsimp only; omega))
theorem queryCot_at (i : Fin 4096) (h : Fin 4) (j : Fin 64) : val_main_v114 (F := Ideal) x6 (ix3 i h j)
    = headAt (rC x6 i) (64 * h.val) (by omega) j * eighth := by
  unfold val_main_v114 val_main_v113 val_main_cst_17 val_main_v84
  pointwise
  exact congrArg (fun k => rC x6 i k * eighth) (Fin.ext (by dsimp only; omega))
theorem keyGrad_at (i : Fin 4096) (h : Fin 4) (j : Fin 64) : val_main_v112 (F := Ideal) x0 x3 x7 (ix3 i h j)
    = unitGrad (headAt (keys (actRow x0 x3 i)) (64 * h.val) (by omega)) (headAt (rC x7 i) (64 * h.val) (by omega)) j := by
  unfold val_main_v112 val_main_v111 val_main_v110 val_main_v109 val_main_v108 val_main_v107 val_main_cst_16 val_main_v106
    val_main_v57 val_main_v55 val_main_v56 val_main_cst_7 val_main_v103 val_main_v102 val_main_cst_15 val_main_v101
    val_main_v105 val_main_v104 val_main_v54 val_main_v53 val_main_v52 val_main_cst_6 val_main_v51 val_main_v50
    val_main_cst_5 val_main_v49
  pointwise
  simp only [key_at, keyCot_at, Fin.sum_univ_one]
  rfl
theorem queryGrad_at (i : Fin 4096) (h : Fin 4) (j : Fin 64) : val_main_v126 (F := Ideal) x0 x3 x6 (ix3 i h j)
    = unitGrad (headAt (queries (actRow x0 x3 i)) (64 * h.val) (by omega)) (fun k => headAt (rC x6 i) (64 * h.val) (by omega) k * eighth) j := by
  unfold val_main_v126 val_main_v125 val_main_v124 val_main_v123 val_main_v122 val_main_v121 val_main_cst_19 val_main_v120
    val_main_v44 val_main_v42 val_main_v43 val_main_cst_3 val_main_v117 val_main_v116 val_main_cst_18 val_main_v115
    val_main_v119 val_main_v118 val_main_v41 val_main_v40 val_main_v39 val_main_cst_2 val_main_v38 val_main_v37
    val_main_cst_1 val_main_v36
  pointwise
  simp only [query_at, queryCot_at, Fin.sum_univ_one]
  rfl
theorem actGrad_at (i : Fin 4096) (c : Fin 768) : val_main_v133 (F := Ideal) x0 x3 x6 x7 x8 (ix2 i c)
    = actGrad (actRow x0 x3 i) (rC x6 i) (rC x7 i) (rC x8 i) c := by
  unfold val_main_v133 val_main_v132 val_main_cst_22 val_main_v128 val_main_v131 val_main_v130 val_main_cst_21
    val_main_v127 val_main_v129 val_main_cst_20
  pointwise
  unfold actGrad within
  by_cases h : c.val < 256
  · rw [dif_neg (by omega), dif_neg (by omega), dif_pos h, dif_pos h, zero_add, zero_add, queryGrad_at]
  · by_cases h' : c.val < 512
    · rw [dif_neg (by omega), dif_pos (by omega), dif_neg h, dif_neg h, dif_pos h', zero_add, add_zero, keyGrad_at]
    · rw [dif_pos (by omega), dif_neg (by omega), dif_neg h, dif_neg h, dif_neg h', add_zero, add_zero]
      rfl
theorem convGrad_at (i : Fin 4096) (c : Fin 768) : val_main_v134 (F := Ideal) x0 x3 x6 x7 x8 (ix2 i c)
    = convGrad (rX x0) (rW x3) (rC x6) (rC x7) (rC x8) i c := by
  unfold val_main_v134 val_main_call5_v2 val_main_call5_v0 val_main_call5_v1
  pointwise
  rw [actGrad_at, gate_at, conv_at, slope_at]
  rfl
theorem rows_at (i : Fin 4096) (c : Fin 768) : val_main_v181 (F := Ideal) x0 x3 x6 x7 x8 (ix2 i c)
    = rowsGrad (rX x0) (rW x3) (rC x6) (rC x7) (rC x8) i c := by
  unfold val_main_v181 val_main_v178 val_main_v173 val_main_v172 val_main_cst_37 val_main_v167 val_main_v166 val_main_v6
    val_main_v4 val_main_v3 val_main_v162 val_main_v161 val_main_cst_33 val_main_v156 val_main_v155 val_main_v12
    val_main_v10 val_main_v9 val_main_v151 val_main_v150 val_main_cst_29 val_main_v145 val_main_v144 val_main_v19
    val_main_v17 val_main_v16 val_main_v141 val_main_cst_25 val_main_v136 val_main_v135 val_main_v26 val_main_v24
    val_main_v23
  pointwise
  simp only [convGrad_at]
  rw [reverse_sum]
  unfold rowsGrad
  refine congrArg₂ (· + ·) (congrArg₂ (· + ·) (congrArg₂ (· + ·) ?_ ?_) ?_) ?_
  · exact tap_term (rW x3 0 c) (fun r => convGrad (rX x0) (rW x3) (rC x6) (rC x7) (rC x8) r c) (3 + i.val) _ Iff.rfl _ fun h => rfl
  · exact tap_term (rW x3 1 c) (fun r => convGrad (rX x0) (rW x3) (rC x6) (rC x7) (rC x8) r c) (2 + i.val) _ (by omega) _ fun h => by dsimp only; omega
  · exact tap_term (rW x3 2 c) (fun r => convGrad (rX x0) (rW x3) (rC x6) (rC x7) (rC x8) r c) (1 + i.val) _ (by omega) _ fun h => by dsimp only; omega
  · unfold getN
    rw [dif_pos i.isLt, mul_comm]
    rfl
theorem taps_at (k : Fin 8) (c : Fin 768) : val_main_v183 (F := Ideal) x0 x3 x6 x7 x8 (ix2 k c)
    = if h : k.val < 4 then tapGrad (rX x0) (rW x3) (rC x6) (rC x7) (rC x8) ⟨k.val, h⟩ c else 0 := by
  unfold val_main_v183 val_main_call6_v0 val_main_c val_main_v176 val_main_v175 val_main_cst_38 val_main_v174
    val_main_v171 val_main_cst_36 val_main_v170 val_main_v169 val_main_cst_35 val_main_v168 val_main_v5 val_main_v165
    val_main_v164 val_main_cst_34 val_main_v163 val_main_v160 val_main_cst_32 val_main_v159 val_main_v158 val_main_cst_31
    val_main_v157 val_main_v11 val_main_v154 val_main_v153 val_main_cst_30 val_main_v152 val_main_v149 val_main_cst_28
    val_main_v148 val_main_v147 val_main_cst_27 val_main_v146 val_main_v18 val_main_v143 val_main_cst_26 val_main_v142
    val_main_v140 val_main_cst_24 val_main_v139 val_main_v138 val_main_cst_23 val_main_v137 val_main_v25
  pointwise
  simp only [Fin.sum_univ_one, convGrad_at, delayed_at]
  by_cases h : k.val < 4
  · rw [dif_pos h, dif_pos h]
    obtain hk | hk | hk | hk : k.val = 0 ∨ k.val = 1 ∨ k.val = 2 ∨ k.val = 3 := by omega
    · rw [dif_neg (by omega), dif_neg (by omega), dif_neg (by omega), dif_pos (by omega)]
      simp only [zero_add, add_zero, tapGrad, hk]
    · rw [dif_neg (by omega), dif_neg (by omega), dif_pos (by omega), dif_neg (by omega)]
      simp only [zero_add, add_zero, tapGrad, hk]
    · rw [dif_neg (by omega), dif_pos (by omega), dif_neg (by omega), dif_neg (by omega)]
      simp only [zero_add, add_zero, tapGrad, hk]
    · rw [dif_pos (by omega), dif_neg (by omega), dif_neg (by omega), dif_neg (by omega)]
      simp only [zero_add, add_zero, tapGrad, hk]
  · rw [dif_neg h, dif_neg h]
    exact sitofp_zero
end rows

theorem foldl_add {ι : Type} (g : ι → EReal) (l : List ι) (a : EReal) :
    l.foldl (fun r n => r + g n) a = a + (l.map g).sum := by
  induction l generalizing a with
  | nil => exact (add_zero a).symm
  | cons n l ih => rw [List.foldl_cons, ih, List.map_cons, List.sum_cons, add_assoc]
/-- A sum over the offsets that stay within a chunk is the sum over the places from there on. -/
theorem sum_offsets (p : Fin 64) (f : Fin 64 → EReal) :
    (∑ n : Fin 64, if h : p.val + n.val < 64 then f ⟨p.val + n.val, h⟩ else 0)
      = ∑ q : Fin 64, if p.val ≤ q.val then f q else 0 := by
  refine Eq.trans (Finset.sum_congr rfl fun n _ => ?_)
    (Equiv.sum_comp (Equiv.addLeft p) fun q => if p.val ≤ q.val then f q else 0)
  have e : (p + n).val = (p.val + n.val) % 64 := Fin.val_add p n
  rw [Equiv.coe_addLeft]
  dsimp only
  by_cases h : p.val + n.val < 64
  · rw [dif_pos h, if_pos (by omega)]
    exact congrArg f (Fin.ext (by dsimp only; omega))
  · rw [dif_neg h, if_neg (by omega)]
/-- The slope of softplus at a real number. -/
theorem soft_slope (z : EReal) (hz : IsReal z) :
    Ideal.exp ((if z = Ideal.ofBits FTy.f32 2139095040#32 then 0 else z)
      - if softplus z = Ideal.ofBits FTy.f32 2139095040#32 then 0 else softplus z) = Ideal.logistic z := by
  have top : Ideal.ofBits FTy.f32 2139095040#32 = ⊤ := by simp [Ideal.ofBits, Ideal.ieee]
  obtain ⟨s, hs⟩ := hz.softplus
  obtain ⟨r, rfl⟩ := hz
  have hs' : s = max r 0 + Real.log (1 + Real.exp (-|r|)) := by
    rw [← EReal.coe_eq_coe_iff, ← hs]
    unfold softplus Ideal.log1p
    rw [Ideal.absf_def, zero_sub, ← EReal.coe_neg, ← coe_max, ← EReal.coe_neg, Ideal.exp_coe, ← EReal.coe_one, ← EReal.coe_add,
      Ideal.log_coe, if_neg (not_le.mpr (by positivity)), ← EReal.coe_zero, ← coe_max, ← EReal.coe_add]
    rfl
  rw [hs, top, if_neg (EReal.coe_ne_top r), if_neg (EReal.coe_ne_top s), ← EReal.coe_sub, Ideal.exp_coe, Ideal.logistic_coe,
    EReal.coe_eq_coe_iff, hs', ← sub_sub, Real.exp_sub, Real.exp_log (by positivity)]
  obtain h | h := le_total 0 r
  · rw [max_eq_left h, abs_of_nonneg h, sub_self, Real.exp_zero, one_div]
  · rw [max_eq_right h, abs_of_nonpos h, sub_zero, neg_neg, Real.exp_neg, ← one_div, ← one_div]
    have := Real.exp_pos r
    field_simp
    ring

section gates
variable (x1 x2 : Gate) (x4 x5 : PerHead) (x9 x10 : Gate)
def rG (i : Fin 4096) (h : Fin 4) : EReal := x1 (ix2 i h)
def rH (h : Fin 4) : EReal := x4 (ix1 h)
theorem window_at (a p : Fin 64) (h : Fin 4) : val_main_v86 (F := Ideal) x9 (ix3 a p h)
    = ∑ q : Fin 64, if p.val ≤ q.val then val_main_v85 (F := Ideal) x9 (ix3 a q h) else 0 := by
  unfold val_main_v86 val_main_call3_call0_v0 val_main_call3_call0_cst
  have e0 : broadcastInDim S_ ![] Gen.bcast_S_S_ (constant (F := Ideal) S_ FTy.f32 0#32) = fun _ => 0 := by
    funext j
    pointwise
  rw [e0]
  show Host.reduceWindow (· + ·) ![1, 64, 1] ![1, 1, 1] ![0, 0, 0] ![0, 63, 0] (val_main_v85 (F := Ideal) x9) ((fun _ => 0 : S_.Idx → EReal))
    Gen.reduceWindows_S64x64x4_S64x64x4_w1s1p0_0_w64s1p0_63_w1s1p0_0 Gen.h_S_ (ix3 a p h) = _
  unfold Host.reduceWindow
  dsimp only
  rw [foldl_add, ← Fin.sum_univ_def, zero_add, ← sum_offsets]
  refine (Fintype.sum_equiv (Shape.rowMajor ⟨3, ![1, 64, 1]⟩).symm _
    (fun w => if hw : p.val + (w 1).val < 64 then val_main_v85 (F := Ideal) x9 (ix3 a ⟨_, hw⟩ h) else 0) fun n => ?_).trans ?_
  · have pt (w : (⟨3, ![1, 64, 1]⟩ : Shape).Idx) : (if hin : ∀ k : Fin 3,
        (![0, 0, 0] : Fin 3 → ℕ) k ≤ (ix3 a p h (Fin.cast rfl k)).val * (![1, 1, 1] : Fin 3 → ℕ) k + (w k).val
          ∧ (ix3 a p h (Fin.cast rfl k)).val * (![1, 1, 1] : Fin 3 → ℕ) k + (w k).val - (![0, 0, 0] : Fin 3 → ℕ) k
            < (![64, 64, 4] : Fin 3 → ℕ) k then val_main_v85 (F := Ideal) x9 (fun k => ⟨_, (hin k).2⟩) else 0)
        = if hw : p.val + (w 1).val < 64 then val_main_v85 (F := Ideal) x9 (ix3 a ⟨_, hw⟩ h) else 0 := by
      obtain ⟨u, q, v, rfl⟩ : ∃ (u : Fin 1) (q : Fin 64) (v : Fin 1), w = ix3 u q v := ⟨_, _, _, eq_ix3 w⟩
      have hu : u.val = 0 := by omega
      have hv : v.val = 0 := by omega
      by_cases hw : p.val + q.val < 64
      · rw [dif_pos (c := p.val + ((ix3 u q v : (⟨3, ![1, 64, 1]⟩ : Shape).Idx) 1).val < 64) hw, dif_pos]
        · refine congrArg (val_main_v85 (F := Ideal) x9) (funext fun k => Fin.ext ?_)
          fin_cases k <;> simp [hu, hv]
        · intro k
          fin_cases k <;> simp [hu, hv, hw]
      · rw [dif_neg (c := p.val + ((ix3 u q v : (⟨3, ![1, 64, 1]⟩ : Shape).Idx) 1).val < 64) hw, dif_neg]
        intro hin
        have := (hin 1).2
        simp at this
        omega
    convert pt ((Shape.rowMajor ⟨3, ![1, 64, 1]⟩).symm n)
  · rw [sum_idx3]
    simp only [Fin.sum_univ_one]
    rfl
theorem tail_at (i : Fin 4096) (h : Fin 4) : val_main_v87 (F := Ideal) x9 (ix2 i h) = decayGrad (rG x9) i h := by
  unfold val_main_v87
  pointwise
  rw [window_at]
  unfold val_main_v85
  pointwise
  unfold decayGrad chunkTail rG
  exact Finset.sum_congr rfl fun q _ => by
    by_cases h : i.val % 64 ≤ q.val
    · rw [if_pos h, if_pos h]
      exact congrArg (fun r => x9 (ix2 r _)) (Fin.ext (by dsimp only; omega))
    · rw [if_neg h, if_neg h]
theorem softplus_at (i : Fin 4096) (h : Fin 4) : val_main_v74_0 (F := Ideal) x1 x5 (ix2 i h)
    = softplus (rG x1 i h + rH x5 h) := by
  unfold val_main_v74_0 val_main_call1_v11 val_main_call1_v10 val_main_call1_v9 val_main_call1_v8 val_main_call1_v7
    val_main_call1_v1 val_main_call1_v0 val_main_call1_v6 val_main_call1_v5 val_main_call1_v4 val_main_call1_v3
    val_main_call1_v2 val_main_call1_cst val_main_v73 val_main_v72 val_main_v71
  pointwise
  rw [if_neg (fun h => h rfl)]
  unfold softplus
  rw [zero_sub]
  rfl
theorem slope_at' (i : Fin 4096) (h : Fin 4) (hz : IsReal (rG x1 i h + rH x5 h)) : val_main_v74_1 (F := Ideal) x1 x5 (ix2 i h)
    = Ideal.logistic (rG x1 i h + rH x5 h) := by
  unfold val_main_v74_1 val_main_call1_v21 val_main_call1_v20 val_main_call1_v19 val_main_call1_cst_3 val_main_call1_v18
    val_main_call1_v17 val_main_call1_cst_2 val_main_call1_v16 val_main_call1_v15 val_main_call1_cst_1 val_main_call1_v14
    val_main_call1_v13 val_main_call1_cst_0 val_main_v73 val_main_v72 val_main_v71
  pointwise
  rw [softplus_at]
  exact soft_slope _ hz
theorem alphaGrad_at (i : Fin 4096) (h : Fin 4) (hz : IsReal (rG x1 i h + rH x5 h)) : val_main_v94 (F := Ideal) x1 x4 x5 x9 (ix2 i h)
    = alphaGrad (rG x1) (rH x4) (rH x5) (rG x9) i h := by
  unfold val_main_v94 val_main_v89 val_main_v88 val_main_v75 val_main_v70 val_main_v69
  pointwise
  rw [tail_at, slope_at' _ _ i h hz]
  unfold alphaGrad
  rw [zero_sub]
  rfl
theorem logitGrad_at (i : Fin 4096) (h : Fin 4) : val_main_v100 (F := Ideal) x2 x10 (ix2 i h)
    = logitGrad (rG x2) (rG x10) i h := by
  unfold val_main_v100 val_main_v68 val_main_v67 val_main_v66 val_main_cst_10 val_main_v65 val_main_v63 val_main_v61
    val_main_v60 val_main_v62 val_main_cst_8 val_main_v64 val_main_cst_9
  pointwise
  rfl
theorem gates_at (hz : ∀ i h, IsReal (rG x1 i h + rH x5 h)) (i : Fin 4096) (h : Fin 128) : val_main_v182 (F := Ideal) x1 x2 x4 x5 x9 x10 (ix2 i h)
    = if ha : h.val < 4 then alphaGrad (rG x1) (rH x4) (rH x5) (rG x9) i ⟨h.val, ha⟩
      else if hb : h.val < 8 then logitGrad (rG x2) (rG x10) i ⟨h.val - 4, by omega⟩ else 0 := by
  unfold val_main_v182 val_main_v180 val_main_v179 val_main_cst_39
  pointwise
  by_cases ha : h.val < 4
  · rw [dif_pos ha, dif_pos ha, alphaGrad_at _ _ _ _ i ⟨h.val, ha⟩ (hz i _)]
  · rw [dif_neg ha, dif_neg ha]
    by_cases hb : h.val < 8
    · rw [dif_pos (by omega), dif_pos hb, logitGrad_at]
    · rw [dif_neg (by omega), dif_neg hb]
theorem rate_at (hz : ∀ i h, IsReal (rG x1 i h + rH x5 h)) (ra : ∀ h, IsReal (rH x4 h))
    (rd : ∀ i h, IsReal (rG x9 i h)) (h : Fin 128) : val_main_v185 (F := Ideal) x1 x4 x5 x9 (ix2 0 h)
    = if hh : h.val < 4 then rateGrad (rG x1) (rH x4) (rH x5) (rG x9) ⟨h.val, hh⟩ else 0 := by
  unfold val_main_v185 val_main_call7_v0 val_main_c_40 val_main_v184 val_main_v99 val_main_v69 val_main_v98 val_main_v93
    val_main_cst_12 val_main_v92 val_main_v91 val_main_cst_11 val_main_v90
  pointwise
  by_cases hh : h.val < 4
  · rw [dif_pos hh, dif_pos hh]
    simp only [Fin.sum_univ_one, tail_at, softplus_at]
    have rf i k : IsReal (decayGrad (rG x9) i k * softplus (rG x1 i k + rH x5 k)) :=
      (IsReal.tail (fun r => rd r k) i).mul (IsReal.softplus (hz i k))
    obtain ⟨a, ha⟩ := ra ⟨h.val, hh⟩
    have e : x4 (ix1 ⟨h.val, hh⟩) = (a : EReal) := ha
    rw [e, Ideal.exp_coe, ← zero_sub,
      neg_sum_mul _ _ (fun i => rf i ⟨h.val, hh⟩) (Real.exp a)]
    unfold rateGrad
    rw [ha, Ideal.exp_coe]
  · rw [dif_neg hh, dif_neg hh]
    exact sitofp_zero
theorem bias_at (hz : ∀ i h, IsReal (rG x1 i h + rH x5 h)) (h : Fin 128) : val_main_v187 (F := Ideal) x1 x4 x5 x9 (ix2 0 h)
    = if hh : h.val < 4 then ∑ i, alphaGrad (rG x1) (rH x4) (rH x5) (rG x9) i ⟨h.val, hh⟩ else 0 := by
  unfold val_main_v187 val_main_call8_v0 val_main_c_41 val_main_v186 val_main_v97 val_main_cst_14 val_main_v96
    val_main_v95 val_main_cst_13
  pointwise
  by_cases hh : h.val < 4
  · rw [dif_pos hh, dif_pos hh]
    simp only [Fin.sum_univ_one]
    exact Finset.sum_congr rfl fun i _ => alphaGrad_at _ _ _ _ i _ (hz i _)
  · rw [dif_neg hh, dif_neg hh]
    exact sitofp_zero
end gates

section run
variable (m : (ℓ : Loc nD τ sig) → Buf (Elt Ideal) ℓ) (c : Dev nD)
abbrev A0 : Rows := m (c, Proc.tc.devRef main_arg0)
abbrev A1 : Gate := m (c, Proc.tc.devRef main_arg1)
abbrev A2 : Gate := m (c, Proc.tc.devRef main_arg2)
abbrev A3 : Weights := m (c, Proc.tc.devRef main_arg3)
abbrev A4 : PerHead := m (c, Proc.tc.devRef main_arg4)
abbrev A5 : PerHead := m (c, Proc.tc.devRef main_arg5)
abbrev A6 : Cols := m (c, Proc.tc.devRef main_arg6)
abbrev A7 : Cols := m (c, Proc.tc.devRef main_arg7)
abbrev A8 : Cols := m (c, Proc.tc.devRef main_arg8)
abbrev A9 : Gate := m (c, Proc.tc.devRef main_arg9)
abbrev A10 : Gate := m (c, Proc.tc.devRef main_arg10)

/-- The arguments hold what they held. -/
abbrev Kept (s : (ℓ : Loc nD τ sig) → Buf (Elt Ideal) ℓ) : Prop :=
  s (c.tc.loc main_arg0) = m (c.tc.loc main_arg0) ∧ s (c.tc.loc main_arg1) = m (c.tc.loc main_arg1)
  ∧ s (c.tc.loc main_arg2) = m (c.tc.loc main_arg2) ∧ s (c.tc.loc main_arg3) = m (c.tc.loc main_arg3)
  ∧ s (c.tc.loc main_arg4) = m (c.tc.loc main_arg4) ∧ s (c.tc.loc main_arg5) = m (c.tc.loc main_arg5)
  ∧ s (c.tc.loc main_arg6) = m (c.tc.loc main_arg6) ∧ s (c.tc.loc main_arg7) = m (c.tc.loc main_arg7)
  ∧ s (c.tc.loc main_arg8) = m (c.tc.loc main_arg8) ∧ s (c.tc.loc main_arg9) = m (c.tc.loc main_arg9)
  ∧ s (c.tc.loc main_arg10) = m (c.tc.loc main_arg10)

/-- The reference keeps its arguments, and its results are the gradients. -/
theorem run_values (ρ : Dev nD → PrngReg) (hz : ∀ c i h, IsReal (rG (A1 m c) i h + rH (A5 m c) h)) (ra : ∀ c h, IsReal (rH (A4 m c) h))
    (rd : ∀ c i h, IsReal (rG (A9 m c) i h)) :
    θ_run defs (onTc (τ := τ) (main (F := Ideal))) ⟨m, fun _ => 0, ρ⟩ fun r => ∀ c : Dev nD,
      r.2.mem (c.tc.loc main_v181) = (fun i : S4096x768.Idx =>
          rowsGrad (rX (A0 m c)) (rW (A3 m c)) (rC (A6 m c)) (rC (A7 m c)) (rC (A8 m c)) (i 0) (i 1))
      ∧ r.2.mem (c.tc.loc main_v182) = (fun i : S4096x128.Idx => if ha : (i 1).val < 4 then
          alphaGrad (rG (A1 m c)) (rH (A4 m c)) (rH (A5 m c)) (rG (A9 m c)) (i 0) ⟨(i 1).val, ha⟩
        else if hb : (i 1).val < 8 then logitGrad (rG (A2 m c)) (rG (A10 m c)) (i 0) ⟨(i 1).val - 4, by omega⟩ else 0)
      ∧ r.2.mem (c.tc.loc main_v183) = (fun i : S8x768.Idx => if h : (i 0).val < 4 then
          tapGrad (rX (A0 m c)) (rW (A3 m c)) (rC (A6 m c)) (rC (A7 m c)) (rC (A8 m c)) ⟨(i 0).val, h⟩ (i 1) else 0)
      ∧ r.2.mem (c.tc.loc main_v185) = (fun i : S1x128.Idx => if hh : (i 1).val < 4 then
          rateGrad (rG (A1 m c)) (rH (A4 m c)) (rH (A5 m c)) (rG (A9 m c)) ⟨(i 1).val, hh⟩ else 0)
      ∧ r.2.mem (c.tc.loc main_v187) = (fun i : S1x128.Idx => if hh : (i 1).val < 4 then
          ∑ k, alphaGrad (rG (A1 m c)) (rH (A4 m c)) (rH (A5 m c)) (rG (A9 m c)) k ⟨(i 1).val, hh⟩ else 0)
      ∧ Kept m c r.2.mem := by
  refine (θ_run defs _ _).mono (fun r h c => ?_) (Value.run m ρ)
  obtain ⟨h0, h1, h2, h3, h4, h5⟩ := h c
  refine ⟨h0.trans ((val_main_v181_eq _).trans (funext fun i => ?_)), h1.trans ((val_main_v182_eq _).trans (funext fun i => ?_)),
    h2.trans ((val_main_v183_eq _).trans (funext fun i => ?_)), h3.trans ((val_main_v185_eq _).trans (funext fun i => ?_)),
    h4.trans ((val_main_v187_eq _).trans (funext fun i => ?_)), h5⟩
  · obtain ⟨r, j, rfl⟩ : ∃ r j, i = ix2 r j := ⟨_, _, eq_ix2 i⟩
    exact rows_at ..
  · obtain ⟨r, j, rfl⟩ : ∃ r j, i = ix2 r j := ⟨_, _, eq_ix2 i⟩
    exact gates_at _ _ _ _ _ _ (hz c) r j
  · obtain ⟨r, j, rfl⟩ : ∃ r j, i = ix2 r j := ⟨_, _, eq_ix2 i⟩
    exact taps_at ..
  · obtain ⟨r, j, rfl⟩ : ∃ (r : Fin 1) (j : Fin 128), i = ix2 r j := ⟨_, _, eq_ix2 i⟩
    obtain rfl : r = 0 := Fin.eq_zero r
    exact rate_at _ _ _ _ (hz c) (ra c) (rd c) j
  · obtain ⟨r, j, rfl⟩ : ∃ (r : Fin 1) (j : Fin 128), i = ix2 r j := ⟨_, _, eq_ix2 i⟩
    obtain rfl : r = 0 := Fin.eq_zero r
    exact bias_at _ _ _ _ (hz c) j
/-- The reference keeps its arguments. -/
theorem frame (ρ : Dev nD → PrngReg) :
    θ_run defs (onTc (τ := τ) (main (F := Ideal))) ⟨m, fun _ => 0, ρ⟩ fun r => (∀ c : Dev nD, Kept m c r.2.mem) ∧ r.2.sem = fun _ => 0 :=
  (θ_run _ _ _).mono (fun r h => ⟨fun c => (h c).2.2.2.2.2, sem_eq_zero_of_no_sems (by decide) r.2⟩) (Value.run m ρ)
end run
end Cert.DnPre.Ref
-- ==== Proof.DnPreClaim.lean ====
module
public import proofs.«01_k».proof.Defs
public import proofs.«01_k».proof.Proof.DnPreKernel
public import proofs.«01_k».proof.Proof.DnPreRef
/-!
The claims of the input stage's gradient: what the precondition says, and that both programs compute the same arrays.
-/
@[expose] public section
noncomputable section
namespace Cert.DnPre
open Idealize.ShloMosaic Idealize.ShloMosaic.TcCoe Idealize.SL.Sem

/-- The side conditions of the precondition's operations. -/
theorem pre_facts : Cert.Pre_smooth_gates.Facts := ⟨by decide, by decide, by decide, by decide⟩

/-- An absolute value below infinity is a real number's. -/
theorem isReal_of_lt (a : EReal) (h : FloatOps.absf (F := Ideal) (φ := .f32) a < Ideal.ofBits FTy.f32 0x7F800000#32) : IsReal a := by
  have top : Ideal.ofBits FTy.f32 2139095040#32 = ⊤ := by simp [Ideal.ofBits, Ideal.ieee]
  rw [Ideal.absf_def, top, max_lt_iff] at h
  exact ⟨a.toReal, (EReal.coe_toReal h.1.ne (fun e => by simp [e] at h)).symm⟩

theorem of_bit (p : Prop) [Decidable p] (h : BitVec.ofBool (decide p) = 1#1) : p := by
  by_contra hp
  simp [hp] at h

theorem fine_of_pre [Cert.Pre_smooth_gates.Facts] (m : (ℓ : Loc Kernel2Ideal.nD Kernel2Ideal.τ Kernel2Ideal.sig) → Buf (Elt Ideal) ℓ)
    (h : Pre_Kernel2Ideal_smooth_gates m) (c : Dev Kernel2Ideal.nD) : Fine m c := by
  obtain ⟨h0, h1, h2, h3, h4⟩ := h c
  unfold Cert.Pre_smooth_gates.fn at h0 h1 h2 h3 h4
  refine ⟨fun i k => ?_, fun k => ?_, fun k => ?_, fun i k => ?_, fun i k => ?_⟩
  · have := congrFun h0 (ix2 i k)
    revert this
    dsimp only
    pointwise
    exact fun h => isReal_of_lt _ (of_bit _ h)
  · have := congrFun h1 (ix1 k)
    revert this
    dsimp only
    pointwise
    exact fun h => isReal_of_lt _ (of_bit _ h)
  · have := congrFun h2 (ix1 k)
    revert this
    dsimp only
    pointwise
    exact fun h => isReal_of_lt _ (of_bit _ h)
  · have := congrFun h3 (ix2 i k)
    revert this
    dsimp only
    pointwise
    exact fun h => isReal_of_lt _ (of_bit _ h)
  · have := congrFun h4 (ix2 i k)
    revert this
    dsimp only
    pointwise
    exact fun h => of_bit _ h

/-- The input stage's backward call computes the gradients of its forward lines. -/
theorem value [Cert.Pre_smooth_gates.Facts] : Cert.algebraic_Kernel2Ideal_Reference2Ideal_pre_smooth_gates := by
  intro m g m' g' hpre hag
  have hf := fine_of_pre m hpre
  have e0 (c) : Ref.rX (Ref.A0 m' c) = X m c := by funext i k; exact congrFun (hag c).1 (ix2 i k)
  have e1 (c) : Ref.rG (Ref.A1 m' c) = Alpha m c := by funext i k; exact congrFun (hag c).2.1 (ix2 i k)
  have e2 (c) : Ref.rG (Ref.A2 m' c) = Logit m c := by funext i k; exact congrFun (hag c).2.2.1 (ix2 i k)
  have e3 (c) : Ref.rW (Ref.A3 m' c) = W m c := by funext i k; exact congrFun (hag c).2.2.2.1 (ix2 i k)
  have e4 (c) : Ref.rH (Ref.A4 m' c) = ALog m c := by funext k; exact congrFun (hag c).2.2.2.2.1 (ix1 k)
  have e5 (c) : Ref.rH (Ref.A5 m' c) = Bias m c := by funext k; exact congrFun (hag c).2.2.2.2.2.1 (ix1 k)
  have e6 (c) : Ref.rC (Ref.A6 m' c) = Dq m c := by funext i k; exact congrFun (hag c).2.2.2.2.2.2.1 (ix2 i k)
  have e7 (c) : Ref.rC (Ref.A7 m' c) = Dk m c := by funext i k; exact congrFun (hag c).2.2.2.2.2.2.2.1 (ix2 i k)
  have e8 (c) : Ref.rC (Ref.A8 m' c) = Dv m c := by funext i k; exact congrFun (hag c).2.2.2.2.2.2.2.2.1 (ix2 i k)
  have e9 (c) : Ref.rG (Ref.A9 m' c) = Dgc m c := by funext i k; exact congrFun (hag c).2.2.2.2.2.2.2.2.2.1 (ix2 i k)
  have e10 (c) : Ref.rG (Ref.A10 m' c) = Dbeta m c := by funext i k; exact congrFun (hag c).2.2.2.2.2.2.2.2.2.2 (ix2 i k)
  have hr := Ref.run_values m' g' (fun c i h => by rw [e1, e5]; exact ((hf c).alpha i h).add ((hf c).bias h))
    (fun c h => by rw [e4]; exact (hf c).aLog h) (fun c i h => by rw [e9]; exact (hf c).dgc i h)
  simp only [e0, e1, e2, e3, e4, e5, e6, e7, e8, e9, e10] at hr
  exact ⟨_, _, _, _, _, run_values m g hf, hr⟩
end Cert.DnPre
-- ==== Proof.S5PrepSpec.lean ====
module
public import proofs.«01_k».proof.Proof.Common
public import Idealize.ShloMosaic.PureOps.Ideal
/-!
The state space layer's discretisation: its gradients, one mode at a time.
-/
@[expose] public section
noncomputable section
namespace Cert.S5Prep
open Idealize.ShloMosaic

/-! One-hot entries, and sums against them. -/

theorem hot (a b : BitVec 32) : FloatOps.sitofp (F := Ideal) FTy.f32 (BitVec.setWidth 32 (IntOp.cmpi CmpIPredicate.eq a b))
    = if a = b then 1 else 0 := by
  have h1 : ((1#32).toInt : ℝ) = 1 := by norm_num
  have h0 : ((0#32).toInt : ℝ) = 0 := by norm_num
  unfold IntOp.cmpi
  by_cases h : a = b
  · rw [if_pos h]
    subst h
    simp only [beq_self_eq_true]
    exact congrArg ((↑) : ℝ → EReal) h1
  · rw [if_neg h]
    simp only [beq_eq_false_iff_ne.2 h]
    exact congrArg ((↑) : ℝ → EReal) h0

theorem hotU (a b : BitVec 32) : FloatOps.uitofp (F := Ideal) FTy.f32 (IntOp.cmpi CmpIPredicate.eq a b) = if a = b then 1 else 0 := by
  unfold IntOp.cmpi
  by_cases h : a = b
  · rw [if_pos h]
    subst h
    simp only [beq_self_eq_true]
    exact congrArg ((↑) : ℝ → EReal) (by norm_num : ((1#1).toNat : ℝ) = 1)
  · rw [if_neg h]
    simp only [beq_eq_false_iff_ne.2 h]
    exact congrArg ((↑) : ℝ → EReal) (by norm_num : ((0#1).toNat : ℝ) = 0)

theorem word_eq (i j : ℕ) (hi : i < 4096) (hj : j < 4096) : BitVec.ofNat 32 i = BitVec.ofNat 32 j ↔ i = j := by
  rw [← BitVec.toNat_inj, BitVec.toNat_ofNat, BitVec.toNat_ofNat]
  omega

theorem sum_hot {n : ℕ} (f : Fin n → EReal) (P : Fin n → Prop) [DecidablePred P] (i : Fin n) (h : ∀ x, P x ↔ x = i) :
    ∑ x, f x * (if P x then 1 else 0) = f i := by
  rw [Finset.sum_eq_single i (fun x _ hx => by rw [if_neg fun p => hx ((h x).1 p), mul_zero]) (fun hi => absurd (Finset.mem_univ i) hi),
    if_pos ((h i).2 rfl), mul_one]

theorem sum_hot2 {n : ℕ} (f : Fin n → EReal) (P Q : Fin n → Prop) [DecidablePred P] [DecidablePred Q] (i : Fin n)
    (h : ∀ x, P x ∧ Q x ↔ x = i) : ∑ x, f x * (if P x then 1 else 0) * (if Q x then 1 else 0) = f i := by
  refine (Finset.sum_congr rfl fun x _ => ?_).trans (sum_hot f (fun x => P x ∧ Q x) i h)
  by_cases p : P x <;> by_cases q : Q x <;> simp [p, q]

/-! A mode's pole `a + i b` and step `d`. -/
section mode
variable (a b d : EReal)

/-- The real part, kept below zero, and the derivative of keeping it there. -/
def low : EReal := Ideal.ofBits FTy.f32 3100751639#32
def re : EReal := min a low
def kept : EReal := if a < low then 1 else if low = a then Ideal.ofBits FTy.f32 1056964608#32 else 0
/-- The discrete pole: `exp ((re + i b) d)`. -/
def size : EReal := Ideal.exp (re a * d)
def barRe : EReal := size a d * Ideal.cos (b * d)
def barIm : EReal := size a d * Ideal.sin (b * d)
/-- The input's factor `(bar - 1) / (re + i b)`: the two numerators and the common denominator. -/
def square : EReal := re a * re a + b * b
def less : EReal := barRe a b d - 1
def numRe : EReal := less a b d * re a + barIm a b d * b
def numIm : EReal := barIm a b d * re a - less a b d * b
def facRe : EReal := Ideal.div (numRe a b d) (square a b)
def facIm : EReal := Ideal.div (numIm a b d) (square a b)

/-! The cotangents `p + i q` of the discrete pole and `f + i e` of the input's factor. -/
variable (p q f e : EReal)
/-- Cotangent of the denominator. -/
def dSquare : EReal := -(e * Ideal.div 1 (square a b * square a b) * numIm a b d) + -(f * Ideal.div 1 (square a b * square a b) * numRe a b d)
/-- Cotangents of the discrete pole's two parts, the factor's contributions added. -/
def dBarIm : EReal := q + Ideal.div e (square a b) * re a + Ideal.div f (square a b) * b
def dBarRe : EReal := p + -Ideal.div e (square a b) * b + Ideal.div f (square a b) * re a
/-- Cotangents of the two products under sine and cosine, and of the exponential's argument. -/
def dSin : EReal := size a d * dBarIm a b q f e * Ideal.cos (b * d)
def dCos : EReal := -(size a d * dBarRe a b p f e) * Ideal.sin (b * d)
def dExp : EReal := (dBarIm a b q f e * Ideal.sin (b * d) + dBarRe a b p f e * Ideal.cos (b * d)) * size a d
def dIm : EReal :=
  less a b d * -Ideal.div e (square a b) + barIm a b d * Ideal.div f (square a b) + b * dSquare a b d f e + dSquare a b d f e * b
    + dSin a b d q f e * d + dCos a b d p f e * d
def dRe : EReal :=
  (barIm a b d * Ideal.div e (square a b) + less a b d * Ideal.div f (square a b) + re a * dSquare a b d f e + dSquare a b d f e * re a
    + dExp a b d p q f e * d) * kept a
def dStep : EReal := b * dSin a b d q f e + b * dCos a b d p f e + re a * dExp a b d p q f e
end mode

/-- The call's arguments, a mode to a lane: the poles, the groups' log steps, the input matrix, the cotangents of the
    discrete poles, and of the block-diagonal matrices the entries on their blocks. -/
structure Args where
  a : Fin 1024 → EReal
  b : Fin 1024 → EReal
  l : Fin 16 → EReal
  bRe : Fin 1024 → Fin 16 → EReal
  bIm : Fin 1024 → Fin 16 → EReal
  p : Fin 1024 → EReal
  q : Fin 1024 → EReal
  wRe : Fin 1024 → Fin 16 → EReal
  wIm : Fin 1024 → Fin 16 → EReal

namespace Args
variable (A : Args) (n : Fin 1024)
/-- A mode's group, its step, and the cotangents of its input's factor. -/
def group : Fin 16 := ⟨n.val / 64, by omega⟩
def d : EReal := Ideal.exp (A.l (group n))
def f : EReal := ∑ k, A.wIm n k * A.bIm n k + ∑ k, A.wRe n k * A.bRe n k
def e : EReal := ∑ k, A.wIm n k * A.bRe n k + ∑ k, -A.wRe n k * A.bIm n k
/-- The gradients with respect to the poles, the input matrix and, a mode's part of it, the step. -/
def gRe : EReal := dRe (A.a n) (A.b n) (A.d n) (A.p n) (A.q n) (A.f n) (A.e n)
def gIm : EReal := dIm (A.a n) (A.b n) (A.d n) (A.p n) (A.q n) (A.f n) (A.e n)
def gStep : EReal := dStep (A.a n) (A.b n) (A.d n) (A.p n) (A.q n) (A.f n) (A.e n)
def gBRe (k : Fin 16) : EReal := facIm (A.a n) (A.b n) (A.d n) * A.wIm n k + facRe (A.a n) (A.b n) (A.d n) * A.wRe n k
def gBIm (k : Fin 16) : EReal := facRe (A.a n) (A.b n) (A.d n) * A.wIm n k + facIm (A.a n) (A.b n) (A.d n) * -A.wRe n k
end Args

/-- The call's inputs as the layer lays them out: by group, mode of the group, and channel of the group; the cotangents of the
    block-diagonal matrices whole. -/
structure Inputs where
  lamRe : Fin 16 → Fin 64 → EReal
  lamIm : Fin 16 → Fin 64 → EReal
  logDt : Fin 16 → EReal
  bRe : Fin 16 → Fin 64 → Fin 16 → EReal
  bIm : Fin 16 → Fin 64 → Fin 16 → EReal
  barRe : Fin 16 → Fin 64 → EReal
  barIm : Fin 16 → Fin 64 → EReal
  wRe : Fin 1024 → Fin 256 → EReal
  wIm : Fin 1024 → Fin 256 → EReal
  cRe : Fin 256 → Fin 1024 → EReal
  cIm : Fin 256 → Fin 1024 → EReal

/-- A lane's mode within its group. -/
def mode (n : Fin 1024) : Fin 64 := ⟨n.val % 64, by omega⟩
/-- The lane of a group's mode. -/
def lane (g : Fin 16) (s : Fin 64) : Fin 1024 := ⟨64 * g.val + s.val, by omega⟩
theorem group_lane (g : Fin 16) (s : Fin 64) : Args.group (lane g s) = g := Fin.ext (by dsimp only [Args.group, lane]; omega)
theorem mode_lane (g : Fin 16) (s : Fin 64) : mode (lane g s) = s := Fin.ext (by dsimp only [mode, lane]; omega)
/-- The column that holds entry `k` of a lane's block. -/
def onBlock (n : Fin 1024) (k : Fin 16) : Fin 256 := ⟨16 * (n.val / 64) + k.val, by omega⟩
/-- The column that holds entry `s` of an output channel's block. -/
def onRow (r : Fin 256) (s : Fin 64) : Fin 1024 := ⟨64 * (r.val / 16) + s.val, by omega⟩

/-- The gradient with respect to a group's log step: the sum over its modes. -/
def Args.gLog (A : Args) (g : Fin 16) : EReal :=
  (∑ s : Fin 64, A.gStep (lane g s)) * Ideal.exp (A.l g)

def Inputs.args (I : Inputs) : Args where
  a n := I.lamRe (Args.group n) (mode n)
  b n := I.lamIm (Args.group n) (mode n)
  l := I.logDt
  bRe n k := I.bRe (Args.group n) (mode n) k
  bIm n k := I.bIm (Args.group n) (mode n) k
  p n := I.barRe (Args.group n) (mode n)
  q n := I.barIm (Args.group n) (mode n)
  wRe n k := I.wRe n (onBlock n k)
  wIm n k := I.wIm n (onBlock n k)
end Cert.S5Prep
-- ==== Proof.S5PrepBody.lean ====
module
public import proofs.«01_k».proof.Proof.Gen.Kernel4Ideal.Value
public import proofs.«01_k».proof.Proof.S5PrepSpec
/-!
The state space layer's discretisation, backward: what the kernel's body computes from its blocks.
-/
@[expose] public section
noncomputable section
namespace Cert.S5Prep
open Cert.Kernel4Ideal Cert.Kernel4Ideal.Gen Idealize.ShloMosaic Idealize.ShloMosaic.TcCoe Idealize.SL.Sem
set_option maxRecDepth 16384

/-! Words' high and low parts. -/

theorem shr6 (n : ℕ) (h : n < 1024) : IntOp.shrsi ArithUnit.vector (BitVec.ofNat 32 n) 6#32 = BitVec.ofNat 32 (n / 64) :=
  (by decide +kernel : ∀ n : Fin 1024, IntOp.shrsi ArithUnit.vector (BitVec.ofNat 32 n.val) 6#32 = BitVec.ofNat 32 (n.val / 64)) ⟨n, h⟩
theorem shr4 (n : ℕ) (h : n < 256) : IntOp.shrsi ArithUnit.vector (BitVec.ofNat 32 n) 4#32 = BitVec.ofNat 32 (n / 16) :=
  (by decide +kernel : ∀ n : Fin 256, IntOp.shrsi ArithUnit.vector (BitVec.ofNat 32 n.val) 4#32 = BitVec.ofNat 32 (n.val / 16)) ⟨n, h⟩
theorem and63 (n : ℕ) (h : n < 1024) : IntOp.andi (BitVec.ofNat 32 n) 63#32 = BitVec.ofNat 32 (n % 64) :=
  (by decide +kernel : ∀ n : Fin 1024, IntOp.andi (BitVec.ofNat 32 n.val) 63#32 = BitVec.ofNat 32 (n.val % 64)) ⟨n, h⟩
theorem and15 (n : ℕ) (h : n < 256) : IntOp.andi (BitVec.ofNat 32 n) 15#32 = BitVec.ofNat 32 (n % 16) :=
  (by decide +kernel : ∀ n : Fin 256, IntOp.andi (BitVec.ofNat 32 n.val) 15#32 = BitVec.ofNat 32 (n.val % 16)) ⟨n, h⟩

/-- The blocks a point of the launch reads. -/
structure Blocks where
  x0 : Vec Ideal S1x1024 .f32
  x1 : Vec Ideal S1x1024 .f32
  x2 : Vec Ideal S1x16 .f32
  x3 : Vec Ideal S1024x16 .f32
  x4 : Vec Ideal S1024x16 .f32
  x5 : Vec Ideal S256x64 .f32
  x6 : Vec Ideal S256x64 .f32
  x7 : Vec Ideal S1x1024 .f32
  x8 : Vec Ideal S1x1024 .f32
  x9 : Vec Ideal S1024x256 .f32
  x10 : Vec Ideal S1024x256 .f32
  x11 : Vec Ideal S256x1024 .f32
  x12 : Vec Ideal S256x1024 .f32

variable (B : Blocks)
/-- A value of the body over the blocks. -/
abbrev Blocks.val {α : Type} (f : Vec Ideal S1x1024 .f32 → Vec Ideal S1x1024 .f32 → Vec Ideal S1x16 .f32 → Vec Ideal S1024x16 .f32
    → Vec Ideal S1024x16 .f32 → Vec Ideal S256x64 .f32 → Vec Ideal S256x64 .f32 → Vec Ideal S1x1024 .f32 → Vec Ideal S1x1024 .f32
    → Vec Ideal S1024x256 .f32 → Vec Ideal S1024x256 .f32 → Vec Ideal S256x1024 .f32 → Vec Ideal S256x1024 .f32 → α) : α :=
  f B.x0 B.x1 B.x2 B.x3 B.x4 B.x5 B.x6 B.x7 B.x8 B.x9 B.x10 B.x11 B.x12

/-- The blocks as the call's arguments. -/
def Blocks.args : Args where
  a n := B.x0 (ix2 0 n)
  b n := B.x1 (ix2 0 n)
  l g := B.x2 (ix2 0 g)
  bRe n k := B.x3 (ix2 n k)
  bIm n k := B.x4 (ix2 n k)
  p n := B.x7 (ix2 0 n)
  q n := B.x8 (ix2 0 n)
  wRe n k := B.x9 (ix2 n (onBlock n k))
  wIm n k := B.x10 (ix2 n (onBlock n k))

variable (n : Fin 1024) (k : Fin 16)

@[pointwise] theorem v3 : B.val k0_pay65 (ix2 0 n) = B.args.b n := by
  unfold Blocks.val k0_pay65 k0_pay3 Blocks.args
  pointwise
@[pointwise] theorem v7 : B.val k0_pay66 (ix2 n k) = B.args.bRe n k := by
  unfold Blocks.val k0_pay66 k0_pay4 Blocks.args
  pointwise
@[pointwise] theorem v9 : B.val k0_pay67 (ix2 n k) = B.args.bIm n k := by
  unfold Blocks.val k0_pay67 k0_pay5 Blocks.args
  pointwise
@[pointwise] theorem v21 : B.val k0_pay68 (ix2 0 n) = B.args.d n := by
  unfold Blocks.val k0_pay68 k0_pay7 k0_pay6 Blocks.args Args.d
  pointwise
  simp only [hot, shr6 _ n.isLt]
  refine congrArg Ideal.exp (sum_hot _ _ _ fun x => ?_)
  rw [word_eq _ _ (by omega) (by omega)]
  simp only [Args.group, Fin.ext_iff]
  exact eq_comm
@[pointwise] theorem v23 : B.val k0_pay69 (ix2 0 n) = re (B.args.a n) := by
  unfold Blocks.val k0_pay69 k0_pay8 k0_pay2 Blocks.args re low
  pointwise
@[pointwise] theorem v34 : B.val k0_pay70 (ix2 0 n) = size (B.args.a n) (B.args.d n) := by
  unfold size
  rw [← v21, ← v23]
  unfold Blocks.val k0_pay70 k0_pay10 k0_pay69 k0_pay68
  pointwise
@[pointwise] theorem v36 : B.val k0_pay71 (ix2 0 n) = Ideal.cos (B.args.b n * B.args.d n) := by
  rw [← v21, ← v3]
  unfold Blocks.val k0_pay71 k0_pay12 k0_pay11 k0_pay65 k0_pay68
  pointwise
@[pointwise] theorem v37 : B.val k0_pay72 (ix2 0 n) = Ideal.sin (B.args.b n * B.args.d n) := by
  rw [← v21, ← v3]
  unfold Blocks.val k0_pay72 k0_pay13 k0_pay11 k0_pay65 k0_pay68
  pointwise
@[pointwise] theorem v38 : B.val k0_pay73 (ix2 0 n) = barRe (B.args.a n) (B.args.b n) (B.args.d n) := by
  unfold barRe
  rw [← v34, ← v36]
  unfold Blocks.val k0_pay73 k0_pay14 k0_pay70 k0_pay71
  pointwise
@[pointwise] theorem v40 : B.val k0_pay74 (ix2 0 n) = Ideal.sin (B.args.b n * B.args.d n) := by
  rw [← v21, ← v3]
  unfold Blocks.val k0_pay74 k0_pay16 k0_pay15 k0_pay65 k0_pay68
  pointwise
@[pointwise] theorem v41 : B.val k0_pay75 (ix2 0 n) = Ideal.cos (B.args.b n * B.args.d n) := by
  rw [← v21, ← v3]
  unfold Blocks.val k0_pay75 k0_pay17 k0_pay15 k0_pay65 k0_pay68
  pointwise
@[pointwise] theorem v42 : B.val k0_pay77 (ix2 0 n) = barIm (B.args.a n) (B.args.b n) (B.args.d n) := by
  unfold barIm
  rw [← v34, ← v40]
  unfold Blocks.val k0_pay77 k0_pay18
  pointwise
@[pointwise] theorem v45 : B.val k0_pay78 (ix2 0 n) = square (B.args.a n) (B.args.b n) := by
  unfold square
  rw [← v23, ← v3]
  unfold Blocks.val k0_pay78 k0_pay19
  pointwise
@[pointwise] theorem v47 : B.val k0_pay79 (ix2 0 n) = less (B.args.a n) (B.args.b n) (B.args.d n) := by
  unfold less
  rw [← v38]
  unfold Blocks.val k0_pay79 k0_pay20
  pointwise
@[pointwise] theorem v50 : B.val k0_pay80 (ix2 0 n) = numRe (B.args.a n) (B.args.b n) (B.args.d n) := by
  unfold numRe less barIm
  rw [← v38, ← v34, ← v23, ← v40, ← v3]
  unfold Blocks.val k0_pay80 k0_pay21 k0_pay18 k0_pay20
  pointwise
@[pointwise] theorem v54 : B.val k0_pay81 (ix2 0 n) = Ideal.div 1 (square (B.args.a n) (B.args.b n) * square (B.args.a n) (B.args.b n)) := by
  unfold square
  rw [← v23, ← v3]
  unfold Blocks.val k0_pay81 k0_pay22 k0_pay19
  pointwise
@[pointwise] theorem v78 (x : Fin 1024) : B.val k0_pay84 (ix2 x n) = if x = n then 1 else 0 := by
  unfold Blocks.val k0_pay84 k0_pay27
  pointwise
  simp only [hot, word_eq _ _ (show x.val < 4096 by omega) (show n.val < 4096 by omega), Fin.ext_iff]

/-- A choice by a row's number. -/
theorem choose {α : Type} (r : Fin 8) (i : ℕ) (hi : i < 8) (x y : α) :
    Scalar.select (IntOp.cmpi CmpIPredicate.eq (BitVec.ofNat 32 r.val) (BitVec.ofNat 32 i)) x y = if r.val = i then x else y := by
  have h := word_eq r.val i (by omega) (by omega)
  unfold IntOp.cmpi Scalar.select
  by_cases e : r.val = i
  · rw [if_pos e, h.2 e]
    simp
  · rw [if_neg e]
    have : ¬BitVec.ofNat 32 r.val = BitVec.ofNat 32 i := fun p => e (h.1 p)
    rw [beq_eq_false_iff_ne.2 this]
    exact if_neg (show ¬BitVec.ofBool false = 1#1 by decide)

/-- The numerators and the squared denominator's inverse, as the body recomputes them. -/
@[pointwise] theorem v57 : k0_pay23 (B.val k0_pay65) (B.val k0_pay69) (B.val k0_pay70) (B.val k0_pay73) (B.val k0_pay74) (ix2 0 n)
    = numIm (B.args.a n) (B.args.b n) (B.args.d n) := by
  unfold numIm less
  rw [← v42, ← v38, ← v23, ← v3]
  unfold Blocks.val k0_pay23 k0_pay20 k0_pay77
  pointwise
@[pointwise] theorem v61 : k0_pay24 (B.val k0_pay65) (B.val k0_pay69) (ix2 0 n)
    = Ideal.div 1 (square (B.args.a n) (B.args.b n) * square (B.args.a n) (B.args.b n)) := by
  rw [← v45]
  unfold Blocks.val k0_pay24 k0_pay78
  pointwise
/-- The factor's two parts as rows, and as the columns the body turns them into. -/
theorem factor (r : Fin 8) : k0_pay28 (B.val k0_pay65) (B.val k0_pay69) (B.val k0_pay70) (B.val k0_pay73) (B.val k0_pay74) (ix2 n r)
    = if r.val = 0 then facRe (B.args.a n) (B.args.b n) (B.args.d n) else
      if r.val = 1 then facIm (B.args.a n) (B.args.b n) (B.args.d n) else 0 := by
  unfold facRe facIm
  have e : ∀ x, k0_pay21 (B.val k0_pay65) (B.val k0_pay69) (B.val k0_pay70) (B.val k0_pay73) (B.val k0_pay74) (ix2 0 x)
      = numRe (B.args.a x) (B.args.b x) (B.args.d x) := v50 B
  have e' : ∀ x, k0_pay19 (B.val k0_pay65) (B.val k0_pay69) (ix2 0 x) = square (B.args.a x) (B.args.b x) := v45 B
  unfold Blocks.val at e e' ⊢
  unfold k0_pay28 k0_pay27 k0_pay25 k0_pay26
  pointwise
  simp only [hot, e, e', choose r 0 (by omega), choose r 1 (by omega)]
  refine (Finset.sum_congr rfl fun x _ => mul_comm _ _).trans (sum_hot _ _ n fun x => ?_)
  rw [word_eq _ _ (by omega) (by omega), eq_comm, Fin.ext_iff]
theorem v80 : B.val k0_pay85 (ix2 n 0) = facRe (B.args.a n) (B.args.b n) (B.args.d n) := by
  refine Eq.trans ?_ (factor B n 0)
  unfold Blocks.val k0_pay85 k0_pay29
  pointwise
  done
theorem v81 : B.val k0_pay86 (ix2 n 0) = facIm (B.args.a n) (B.args.b n) (B.args.d n) := by
  refine Eq.trans ?_ (factor B n 1)
  unfold Blocks.val k0_pay86 k0_pay30
  pointwise
  done
@[pointwise] theorem v88 (x : Fin 256) : B.val k0_pay87 (ix2 k x) = if x.val % 16 = k.val then 1 else 0 := by
  unfold Blocks.val k0_pay87 k0_pay31
  pointwise
  simp only [hot, and15 _ x.isLt, word_eq (x.val % 16) k.val (by omega) (by omega)]
/-- A block-diagonal matrix's entries on a mode's block. -/
theorem pick (v : FVec Ideal S1024x256 .f32) :
    ∑ x : Fin 256, v (ix2 n x) * (FloatOps.sitofp (F := Ideal) FTy.f32 (BitVec.setWidth 32 (IntOp.cmpi CmpIPredicate.eq
      (IntOp.shrsi ArithUnit.vector (BitVec.ofNat 32 n.val) 6#32) (IntOp.shrsi ArithUnit.vector (BitVec.ofNat 32 x.val) 4#32))))
      * (if x.val % 16 = k.val then 1 else 0) = v (ix2 n (onBlock n k)) := by
  have e : ∀ x : Fin 256, BitVec.ofNat 32 (n.val / 64) = BitVec.ofNat 32 (x.val / 16) ↔ n.val / 64 = x.val / 16 :=
    fun x => word_eq _ _ (by omega) (by omega)
  simp only [hot, shr6 _ n.isLt, shr4 _ (Fin.isLt _), e]
  refine sum_hot2 (fun x => v (ix2 n x)) _ _ (onBlock n k) fun x => ?_
  simp only [Fin.ext_iff, onBlock]
  omega
@[pointwise] theorem v127 : B.val k0_pay91 (ix2 n k) = B.args.wIm n k := by
  unfold Blocks.val k0_pay91 k0_pay40 k0_pay33 k0_pay88 k0_pay32 k0_pay76 Blocks.args
  pointwise
  exact pick n k B.x10
@[pointwise] theorem v129 : B.val k0_pay92 (ix2 n k) = B.args.wRe n k := by
  unfold Blocks.val k0_pay92 k0_pay41 k0_pay33 k0_pay88 k0_pay32 k0_pay76 Blocks.args
  pointwise
  exact pick n k B.x9
@[pointwise] theorem v132 : B.val k0_pay93 (ix2 n k) = B.args.wIm n k * B.args.bRe n k := by
  rw [← v127]
  unfold Blocks.val k0_pay93 k0_pay43 k0_pay91
  pointwise

/-- The cotangents of the input's factor, stacked as two of eight rows. -/
@[pointwise] theorem stacked (r : Fin 8) : k0_pay47 (B.val k0_pay66) (B.val k0_pay67) (B.val k0_pay84) (B.val k0_pay91) (B.val k0_pay92)
    (B.val k0_pay93) (ix2 r n) = if r.val = 0 then B.args.f n else if r.val = 1 then B.args.e n else 0 := by
  unfold Blocks.val k0_pay47 k0_pay44
  pointwise
  rw [sum_hot _ (fun x => x = n) n fun x => Iff.rfl]
  simp only [Args.f, Args.e]
  fin_cases r <;> simp
/-- One of the two rows kept: its sum. -/
theorem row0 (f e : EReal) : ∑ r : Fin 8, (if r.val = 0 then if r.val = 0 then f else if r.val = 1 then e else 0 else 0) = f := by
  simp [Fin.sum_univ_succ]
theorem row1 (f e : EReal) :
    ∑ r : Fin 8, (if r.val = 1 then if r.val = 0 then 0 else if r.val = 0 then f else if r.val = 1 then e else 0 else 0) = e := by
  simp [Fin.sum_univ_succ]
@[pointwise] theorem v168 : B.val k0_pay94 (ix2 0 n) = B.args.f n := by
  unfold Blocks.val k0_pay94 k0_pay49 k0_pay48 k0_pay82 k0_pay25
  pointwise
  simp only [choose _ 0 (show 0 < 8 by omega), row0]
@[pointwise] theorem v172 : k0_pay50 (B.val k0_pay66) (B.val k0_pay67) (B.val k0_pay82) (B.val k0_pay83) (B.val k0_pay84) (B.val k0_pay91)
    (B.val k0_pay92) (B.val k0_pay93) (ix2 0 n) = B.args.e n := by
  unfold Blocks.val k0_pay50 k0_pay48 k0_pay82 k0_pay25 k0_pay83 k0_pay26
  pointwise
  simp only [choose _ 0 (show 0 < 8 by omega), choose _ 1 (show 1 < 8 by omega), row1]
@[pointwise] theorem v176 : B.val k0_pay95 (ix2 0 n) = -(B.args.e n
    * Ideal.div 1 (square (B.args.a n) (B.args.b n) * square (B.args.a n) (B.args.b n)) * numIm (B.args.a n) (B.args.b n) (B.args.d n)) := by
  unfold Blocks.val k0_pay95 k0_pay51
  pointwise
  exact zero_sub _
@[pointwise] theorem v177 : B.val k0_pay96 (ix2 0 n) = Ideal.div (B.args.e n) (square (B.args.a n) (B.args.b n)) := by
  unfold Blocks.val k0_pay96 k0_pay52
  pointwise
@[pointwise] theorem v178 : B.val k0_pay97 (ix2 0 n) = 0 := by
  unfold Blocks.val k0_pay97 k0_pay53
  pointwise
@[pointwise] theorem v115 : B.val k0_pay89 (ix2 0 n) = B.args.p n := by
  unfold Blocks.val k0_pay89 k0_pay36 Blocks.args
  pointwise
@[pointwise] theorem v117 : B.val k0_pay90 (ix2 0 n) = B.args.q n := by
  unfold Blocks.val k0_pay90 k0_pay37 Blocks.args
  pointwise

/-! The cotangents the results share. -/
@[pointwise] theorem v190 : k0_pay55 (B.val k0_pay80) (B.val k0_pay81) (B.val k0_pay94) (B.val k0_pay95) (ix2 0 n)
    = dSquare (B.args.a n) (B.args.b n) (B.args.d n) (B.args.f n) (B.args.e n) := by
  unfold dSquare Blocks.val k0_pay55
  pointwise
  simp only [zero_sub]
@[pointwise] theorem v191 : k0_pay56 (B.val k0_pay78) (B.val k0_pay94) (ix2 0 n) = Ideal.div (B.args.f n) (square (B.args.a n) (B.args.b n)) := by
  unfold Blocks.val k0_pay56
  pointwise
@[pointwise] theorem v195 : k0_pay57 (B.val k0_pay65) (B.val k0_pay69) (B.val k0_pay78) (B.val k0_pay90) (B.val k0_pay94) (B.val k0_pay96) (ix2 0 n)
    = dBarIm (B.args.a n) (B.args.b n) (B.args.q n) (B.args.f n) (B.args.e n) := by
  unfold dBarIm
  rw [← v191]
  unfold Blocks.val k0_pay57
  pointwise
@[pointwise] theorem v199 : k0_pay58 (B.val k0_pay65) (B.val k0_pay69) (B.val k0_pay78) (B.val k0_pay89) (B.val k0_pay94) (B.val k0_pay96)
    (B.val k0_pay97) (ix2 0 n) = dBarRe (B.args.a n) (B.args.b n) (B.args.p n) (B.args.f n) (B.args.e n) := by
  unfold dBarRe
  rw [← v191, ← zero_sub]
  unfold Blocks.val k0_pay58 k0_pay54
  pointwise
@[pointwise] theorem v210 : k0_pay59 (B.val k0_pay65) (B.val k0_pay69) (B.val k0_pay70) (B.val k0_pay75) (B.val k0_pay78) (B.val k0_pay90)
    (B.val k0_pay94) (B.val k0_pay96) (ix2 0 n)
    = dSin (B.args.a n) (B.args.b n) (B.args.d n) (B.args.q n) (B.args.f n) (B.args.e n) := by
  unfold dSin
  rw [← v195]
  unfold Blocks.val k0_pay59
  pointwise
@[pointwise] theorem v219 : k0_pay60 (B.val k0_pay65) (B.val k0_pay69) (B.val k0_pay70) (B.val k0_pay72) (B.val k0_pay78) (B.val k0_pay89)
    (B.val k0_pay94) (B.val k0_pay96) (B.val k0_pay97) (ix2 0 n)
    = dCos (B.args.a n) (B.args.b n) (B.args.d n) (B.args.p n) (B.args.f n) (B.args.e n) := by
  unfold dCos
  rw [← v199, ← zero_sub]
  unfold Blocks.val k0_pay60
  pointwise
@[pointwise] theorem v224 : k0_pay62 (B.val k0_pay65) (B.val k0_pay69) (B.val k0_pay70) (B.val k0_pay71) (B.val k0_pay74) (B.val k0_pay78)
    (B.val k0_pay89) (B.val k0_pay90) (B.val k0_pay94) (B.val k0_pay96) (B.val k0_pay97) (ix2 0 n)
    = dExp (B.args.a n) (B.args.b n) (B.args.d n) (B.args.p n) (B.args.q n) (B.args.f n) (B.args.e n) := by
  unfold dExp
  rw [← v199, ← v195]
  unfold Blocks.val k0_pay62
  pointwise

/-! The seven results. -/
theorem out13 : B.val out0_13 (ix2 0 n) = B.args.gRe n := by
  unfold Args.gRe dRe kept low
  unfold Blocks.val out0_13
  frame_out
  unfold k0_pay63 k0_pay9 k0_pay2
  pointwise
  rfl
theorem out14 : B.val out0_14 (ix2 0 n) = B.args.gIm n := by
  unfold Args.gIm dIm
  simp only [← zero_sub (Ideal.div _ _)]
  unfold Blocks.val out0_14
  frame_out
  unfold k0_pay61 k0_pay54
  pointwise
  done
theorem out15 (g : Fin 16) : B.val out0_15 (ix2 0 g) = ∑ x, B.args.gStep x * B.args.d x * if x.val / 64 = g.val then 1 else 0 := by
  unfold Args.gStep dStep
  unfold Blocks.val out0_15
  frame_out
  unfold k0_pay1 k0_pay64 k0_pay6
  pointwise
  have e : ∀ x : Fin 1024, BitVec.ofNat 32 (x.val / 64) = BitVec.ofNat 32 g.val ↔ x.val / 64 = g.val :=
    fun x => word_eq _ _ (by omega) (by omega)
  simp only [zero_mul, Finset.sum_const_zero, add_zero, Finset.univ_unique, Finset.sum_singleton, hot, shr6 _ (Fin.isLt _), e]
theorem out16 : B.val out0_16 (ix2 n k) = B.args.gBRe n k := by
  unfold Args.gBRe
  rw [← v80, ← v81, ← v127]
  unfold Blocks.val out0_16
  frame_out
  unfold k0_pay46 k0_pay42 k0_pay91
  pointwise
  rw [View.ld_unit_lit _ _ (by decide)]
theorem out17 : B.val out0_17 (ix2 n k) = B.args.gBIm n k := by
  unfold Args.gBIm
  rw [← v80, ← v81, ← zero_sub]
  unfold Blocks.val out0_17
  frame_out
  unfold k0_pay45 k0_pay44
  pointwise
  done
theorem pick_row (r : Fin 256) (s : Fin 64) (v : FVec Ideal S256x1024 .f32) :
    ∑ x : Fin 1024, v (ix2 r x) * (FloatOps.sitofp (F := Ideal) FTy.f32 (BitVec.setWidth 32 (IntOp.cmpi CmpIPredicate.eq
      (IntOp.shrsi ArithUnit.vector (BitVec.ofNat 32 r.val) 4#32) (IntOp.shrsi ArithUnit.vector (BitVec.ofNat 32 x.val) 6#32))))
      * (FloatOps.sitofp (F := Ideal) FTy.f32 (BitVec.setWidth 32 (IntOp.cmpi CmpIPredicate.eq
      (IntOp.andi (BitVec.ofNat 32 x.val) 63#32) (BitVec.ofNat 32 s.val)))) = v (ix2 r (onRow r s)) := by
  have e : ∀ x : Fin 1024, BitVec.ofNat 32 (r.val / 16) = BitVec.ofNat 32 (x.val / 64) ↔ r.val / 16 = x.val / 64 :=
    fun x => word_eq _ _ (by omega) (by omega)
  have e' : ∀ x : Fin 1024, BitVec.ofNat 32 (x.val % 64) = BitVec.ofNat 32 s.val ↔ x.val % 64 = s.val :=
    fun x => word_eq _ _ (by omega) (by omega)
  simp only [hot, shr4 _ r.isLt, shr6 _ (Fin.isLt _), and63 _ (Fin.isLt _), e, e']
  refine sum_hot2 (fun x => v (ix2 r x)) _ _ (onRow r s) fun x => ?_
  simp only [Fin.ext_iff, onRow]
  omega
theorem out18 (r : Fin 256) (s : Fin 64) : B.val out0_18 (ix2 r s) = B.x11 (ix2 r (onRow r s)) := by
  unfold Blocks.val out0_18
  frame_out
  unfold k0_pay39 k0_pay35 k0_pay34
  pointwise
  exact pick_row r s B.x11
theorem out19 (r : Fin 256) (s : Fin 64) : B.val out0_19 (ix2 r s) = B.x12 (ix2 r (onRow r s)) := by
  unfold Blocks.val out0_19
  frame_out
  unfold k0_pay38 k0_pay35 k0_pay34
  pointwise
  exact pick_row r s B.x12
end Cert.S5Prep
-- ==== Proof.S5Prep.lean ====
module
public import proofs.«01_k».proof.Proof.S5PrepBody
/-!
The state space layer's discretisation, backward: what the kernel leaves in its seven results.
-/
@[expose] public section
noncomputable section
namespace Cert.S5Prep
open Cert.Kernel4Ideal Cert.Kernel4Ideal.Gen Idealize.ShloMosaic Idealize.ShloMosaic.TcCoe Idealize.SL.Sem
set_option maxRecDepth 16384

variable (m : (ℓ : Loc nD τ sig) → Buf (Elt Ideal) ℓ) (c : Dev nD)

/-- The inputs in a memory. -/
def inputs : Inputs where
  lamRe g s := m (c, Proc.tc.devRef main_arg0) (ix2 g s)
  lamIm g s := m (c, Proc.tc.devRef main_arg1) (ix2 g s)
  logDt g := m (c, Proc.tc.devRef main_arg2) (ix1 g)
  bRe g s k := m (c, Proc.tc.devRef main_arg3) (ix3 g s k)
  bIm g s k := m (c, Proc.tc.devRef main_arg4) (ix3 g s k)
  barRe g s := m (c, Proc.tc.devRef main_arg7) (ix2 g s)
  barIm g s := m (c, Proc.tc.devRef main_arg8) (ix2 g s)
  wRe n k := m (c, Proc.tc.devRef main_arg9) (ix2 n k)
  wIm n k := m (c, Proc.tc.devRef main_arg10) (ix2 n k)
  cRe r n := m (c, Proc.tc.devRef main_arg11) (ix2 r n)
  cIm r n := m (c, Proc.tc.devRef main_arg12) (ix2 r n)

/-- The blocks of the one point. -/
def blocks (t : Fin cfg0.N) : Blocks :=
  ⟨iblk m c 0 t, iblk m c 1 t, iblk m c 2 t, iblk m c 3 t, iblk m c 4 t, iblk m c 5 t, iblk m c 6 t, iblk m c 7 t, iblk m c 8 t,
   iblk m c 9 t, iblk m c 10 t, iblk m c 11 t, iblk m c 12 t⟩

/-- Every window's one block starts at the array's start. -/
theorem idx0 : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0) := by decide +kernel

variable (t : Fin cfg0.N)
theorem blk0 (n : Fin 1024) : iblk m c 0 t (ix2 0 n) = (inputs m c).lamRe (Args.group n) (mode n) := by
  unfold inputs Args.group mode
  blk_simp [iblk]
  entry_read
  pointwise
  blk_ext [] <;> (have := idx0 t; omega)
theorem blk1 (n : Fin 1024) : iblk m c 1 t (ix2 0 n) = (inputs m c).lamIm (Args.group n) (mode n) := by
  unfold inputs Args.group mode
  blk_simp [iblk]
  entry_read
  pointwise
  blk_ext [] <;> (have := idx0 t; omega)
theorem blk7 (n : Fin 1024) : iblk m c 7 t (ix2 0 n) = (inputs m c).barRe (Args.group n) (mode n) := by
  unfold inputs Args.group mode
  blk_simp [iblk]
  entry_read
  pointwise
  blk_ext [] <;> (have := idx0 t; omega)
theorem blk8 (n : Fin 1024) : iblk m c 8 t (ix2 0 n) = (inputs m c).barIm (Args.group n) (mode n) := by
  unfold inputs Args.group mode
  blk_simp [iblk]
  entry_read
  pointwise
  blk_ext [] <;> (have := idx0 t; omega)
theorem blk2 (g : Fin 16) : iblk m c 2 t (ix2 0 g) = (inputs m c).logDt g := by
  unfold inputs
  blk_simp [iblk]
  entry_read
  pointwise
  blk_ext [] <;> (have := idx0 t; omega)
theorem blk3 (n : Fin 1024) (k : Fin 16) : iblk m c 3 t (ix2 n k) = (inputs m c).bRe (Args.group n) (mode n) k := by
  unfold inputs Args.group mode
  blk_simp [iblk]
  entry_read
  pointwise
  blk_ext [] <;> (have := idx0 t; omega)
theorem blk4 (n : Fin 1024) (k : Fin 16) : iblk m c 4 t (ix2 n k) = (inputs m c).bIm (Args.group n) (mode n) k := by
  unfold inputs Args.group mode
  blk_simp [iblk]
  entry_read
  pointwise
  blk_ext [] <;> (have := idx0 t; omega)
theorem blk9 (n : Fin 1024) (k : Fin 256) : iblk m c 9 t (ix2 n k) = (inputs m c).wRe n k := by
  unfold inputs
  blk_simp [iblk]
  entry_read
  blk_ext [] <;> (have := idx0 t; omega)
theorem blk10 (n : Fin 1024) (k : Fin 256) : iblk m c 10 t (ix2 n k) = (inputs m c).wIm n k := by
  unfold inputs
  blk_simp [iblk]
  entry_read
  blk_ext [] <;> (have := idx0 t; omega)
theorem blk11 (n : Fin 256) (k : Fin 1024) : iblk m c 11 t (ix2 n k) = (inputs m c).cRe n k := by
  unfold inputs
  blk_simp [iblk]
  entry_read
  blk_ext [] <;> (have := idx0 t; omega)
theorem blk12 (n : Fin 256) (k : Fin 1024) : iblk m c 12 t (ix2 n k) = (inputs m c).cIm n k := by
  unfold inputs
  blk_simp [iblk]
  entry_read
  blk_ext [] <;> (have := idx0 t; omega)
theorem args_eq : (blocks m c t).args = (inputs m c).args := by
  unfold Blocks.args Inputs.args blocks
  simp only [blk0, blk1, blk2, blk3, blk4, blk7, blk8, blk9, blk10]

theorem final13 : (dats m 0 c).arrAt 13 cfg0.N = fun i : S1x1024.Idx => (inputs m c).args.gRe (i 1) := by
  refine (dats m 0 c).arrAt_eq_of_after_last 13 t0_0 (by decide +kernel) _ fun j => ?_
  blk_simp
  have hj : j = (ix2 0 (j 1) : S1x1024.Idx) := by
    rw [eq_ix2 j]; congr 1; exact Subsingleton.elim (α := Fin 1) _ _
  rw [after0_13, hj]
  refine (out13 (blocks m c t0_0) (j 1)).trans ?_
  rw [args_eq]
  rfl

theorem final14 : (dats m 0 c).arrAt 14 cfg0.N = fun i : S1x1024.Idx => (inputs m c).args.gIm (i 1) := by
  refine (dats m 0 c).arrAt_eq_of_after_last 14 t0_0 (by decide +kernel) _ fun j => ?_
  blk_simp
  have hj : j = (ix2 0 (j 1) : S1x1024.Idx) := by
    rw [eq_ix2 j]; congr 1; exact Subsingleton.elim (α := Fin 1) _ _
  rw [after0_14, hj]
  refine (out14 (blocks m c t0_0) (j 1)).trans ?_
  rw [args_eq]
  rfl

theorem final15 : (dats m 0 c).arrAt 15 cfg0.N = fun i : S1x16.Idx => ∑ x, (inputs m c).args.gStep x * (inputs m c).args.d x * (if x.val / 64 = (i 1).val then 1 else 0) := by
  refine (dats m 0 c).arrAt_eq_of_after_last 15 t0_0 (by decide +kernel) _ fun j => ?_
  blk_simp
  have hj : j = (ix2 0 (j 1) : S1x16.Idx) := by
    rw [eq_ix2 j]; congr 1; exact Subsingleton.elim (α := Fin 1) _ _
  rw [after0_15, hj]
  refine (out15 (blocks m c t0_0) (j 1)).trans ?_
  rw [args_eq]
  rfl

theorem final16 : (dats m 0 c).arrAt 16 cfg0.N = fun i : S1024x16.Idx => (inputs m c).args.gBRe (i 0) (i 1) := by
  refine (dats m 0 c).arrAt_eq_of_after_last 16 t0_0 (by decide +kernel) _ fun j => ?_
  blk_simp
  have hj : j = (ix2 (j 0) (j 1) : S1024x16.Idx) := eq_ix2 j
  rw [after0_16, hj]
  refine (out16 (blocks m c t0_0) (j 0) (j 1)).trans ?_
  rw [args_eq]
  rfl

theorem final17 : (dats m 0 c).arrAt 17 cfg0.N = fun i : S1024x16.Idx => (inputs m c).args.gBIm (i 0) (i 1) := by
  refine (dats m 0 c).arrAt_eq_of_after_last 17 t0_0 (by decide +kernel) _ fun j => ?_
  blk_simp
  have hj : j = (ix2 (j 0) (j 1) : S1024x16.Idx) := eq_ix2 j
  rw [after0_17, hj]
  refine (out17 (blocks m c t0_0) (j 0) (j 1)).trans ?_
  rw [args_eq]
  rfl

theorem final18 : (dats m 0 c).arrAt 18 cfg0.N = fun i : S256x64.Idx => (inputs m c).cRe (i 0) (onRow (i 0) (i 1)) := by
  refine (dats m 0 c).arrAt_eq_of_after_last 18 t0_0 (by decide +kernel) _ fun j => ?_
  blk_simp
  have hj : j = (ix2 (j 0) (j 1) : S256x64.Idx) := eq_ix2 j
  rw [after0_18, hj]
  refine (out18 (blocks m c t0_0) (j 0) (j 1)).trans ?_
  exact blk11 m c t0_0 (j 0) (onRow (j 0) (j 1))

theorem final19 : (dats m 0 c).arrAt 19 cfg0.N = fun i : S256x64.Idx => (inputs m c).cIm (i 0) (onRow (i 0) (i 1)) := by
  refine (dats m 0 c).arrAt_eq_of_after_last 19 t0_0 (by decide +kernel) _ fun j => ?_
  blk_simp
  have hj : j = (ix2 (j 0) (j 1) : S256x64.Idx) := eq_ix2 j
  rw [after0_19, hj]
  refine (out19 (blocks m c t0_0) (j 0) (j 1)).trans ?_
  exact blk12 m c t0_0 (j 0) (onRow (j 0) (j 1))

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
  ∧ s.mem (c.tc.loc main_arg6) = m (c.tc.loc main_arg6) ∧ s.mem (c.tc.loc main_arg7) = m (c.tc.loc main_arg7)
  ∧ s.mem (c.tc.loc main_arg8) = m (c.tc.loc main_arg8) ∧ s.mem (c.tc.loc main_arg9) = m (c.tc.loc main_arg9)
  ∧ s.mem (c.tc.loc main_arg10) = m (c.tc.loc main_arg10) ∧ s.mem (c.tc.loc main_arg11) = m (c.tc.loc main_arg11)
  ∧ s.mem (c.tc.loc main_arg12) = m (c.tc.loc main_arg12)

/-- The kernel run: its seven result arrays as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v9_0) = (fun i : S1x1024.Idx => (inputs m c).args.gRe (i 1))
      ∧ r.2.mem (c.tc.loc main_v9_1) = (fun i : S1x1024.Idx => (inputs m c).args.gIm (i 1))
      ∧ r.2.mem (c.tc.loc main_v9_2) = (fun i : S1x16.Idx => ∑ x, (inputs m c).args.gStep x * (inputs m c).args.d x * (if x.val / 64 = (i 1).val then 1 else 0))
      ∧ r.2.mem (c.tc.loc main_v9_3) = (fun i : S1024x16.Idx => (inputs m c).args.gBRe (i 0) (i 1))
      ∧ r.2.mem (c.tc.loc main_v9_4) = (fun i : S1024x16.Idx => (inputs m c).args.gBIm (i 0) (i 1))
      ∧ r.2.mem (c.tc.loc main_v9_5) = (fun i : S256x64.Idx => (inputs m c).cRe (i 0) (onRow (i 0) (i 1)))
      ∧ r.2.mem (c.tc.loc main_v9_6) = (fun i : S256x64.Idx => (inputs m c).cIm (i 0) (onRow (i 0) (i 1)))
      ∧ Kept m c r.2 :=
  (θ_run defs _ _).mono (fun _ h c => ⟨(h c).1.trans (final13 m c), (h c).2.1.trans (final14 m c), (h c).2.2.1.trans (final15 m c),
    (h c).2.2.2.1.trans (final16 m c), (h c).2.2.2.2.1.trans (final17 m c), (h c).2.2.2.2.2.1.trans (final18 m c),
    (h c).2.2.2.2.2.2.1.trans (final19 m c), (h c).2.2.2.2.2.2.2⟩) (Value.run_blocks m ρ)
end Cert.S5Prep
-- ==== Proof.S5PrepRef.lean ====
module
public import proofs.«01_k».proof.Proof.Gen.Reference4Ideal.Run
public import proofs.«01_k».proof.Proof.Gen.Reference4Ideal.Read
public import proofs.«01_k».proof.Proof.S5PrepSpec
/-!
The state space layer's discretisation, backward: the reference's values.
-/
@[expose] public section
noncomputable section
namespace Cert.S5Prep.Ref
open Cert.Reference4Ideal Cert.Reference4Ideal.Gen Cert.Reference4Ideal.Read Idealize.ShloMosaic Idealize.ShloMosaic.TcCoe Idealize.SL.Sem
set_option maxRecDepth 16384

/-- The arguments. -/
structure Given where
  x0 : (⟨S16x64, .f32⟩ : BufTy).Contents (Elt Ideal)
  x1 : (⟨S16x64, .f32⟩ : BufTy).Contents (Elt Ideal)
  x2 : (⟨S16, .f32⟩ : BufTy).Contents (Elt Ideal)
  x3 : (⟨S16x64x16, .f32⟩ : BufTy).Contents (Elt Ideal)
  x4 : (⟨S16x64x16, .f32⟩ : BufTy).Contents (Elt Ideal)
  x5 : (⟨S16x16x64, .f32⟩ : BufTy).Contents (Elt Ideal)
  x6 : (⟨S16x16x64, .f32⟩ : BufTy).Contents (Elt Ideal)
  x7 : (⟨S16x64, .f32⟩ : BufTy).Contents (Elt Ideal)
  x8 : (⟨S16x64, .f32⟩ : BufTy).Contents (Elt Ideal)
  x9 : (⟨S1024x256, .f32⟩ : BufTy).Contents (Elt Ideal)
  x10 : (⟨S1024x256, .f32⟩ : BufTy).Contents (Elt Ideal)
  x11 : (⟨S256x1024, .f32⟩ : BufTy).Contents (Elt Ideal)
  x12 : (⟨S256x1024, .f32⟩ : BufTy).Contents (Elt Ideal)

variable (G : Given)
def Given.inputs : Inputs where
  lamRe g s := G.x0 (ix2 g s)
  lamIm g s := G.x1 (ix2 g s)
  logDt g := G.x2 (ix1 g)
  bRe g s k := G.x3 (ix3 g s k)
  bIm g s k := G.x4 (ix3 g s k)
  barRe g s := G.x7 (ix2 g s)
  barIm g s := G.x8 (ix2 g s)
  wRe n k := G.x9 (ix2 n k)
  wIm n k := G.x10 (ix2 n k)
  cRe r n := G.x11 (ix2 r n)
  cIm r n := G.x12 (ix2 r n)
abbrev Given.args : Args := G.inputs.args

variable (n : Fin 1024) (k : Fin 16)

/-- Within the block-diagonal matrices, a block's entries. -/
theorem same (g : ℕ) (hg : g < 16) (x : Fin 16) : IntOp.addi (BitVec.ofNat 32 g) 0#32 = BitVec.ofNat 32 x.val ↔ g = x.val := by
  have e : IntOp.addi (BitVec.ofNat 32 g) 0#32 = BitVec.ofNat 32 g := BitVec.add_zero _
  rw [e]
  exact word_eq _ _ (by omega) (by omega)
theorem pick (v : (⟨S1024x256, .f32⟩ : BufTy).Contents (Elt Ideal)) :
    ∑ x : Fin 16, v (ix2 ⟨(Args.group n).val * 64 + (mode n).val, by omega⟩ ⟨x.val * 16 + k.val, by omega⟩)
      * FloatOps.uitofp (F := Ideal) FTy.f32 (IntOp.cmpi CmpIPredicate.eq (IntOp.addi (BitVec.ofNat 32 (Args.group n).val) 0#32)
        (BitVec.ofNat 32 x.val)) = v (ix2 n (onBlock n k)) := by
  simp only [hotU, same (Args.group n).val (Fin.isLt _)]
  refine (sum_hot (fun x : Fin 16 => v (ix2 ⟨(Args.group n).val * 64 + (mode n).val, by omega⟩ ⟨x.val * 16 + k.val, by omega⟩))
    (fun x => (Args.group n).val = x.val) (Args.group n) fun x => ?_).trans ?_
  · rw [Fin.ext_iff, eq_comm]
  · congr 2 <;> simp only [Fin.ext_iff, Args.group, mode, onBlock] <;> omega
theorem pick_row (r : Fin 256) (s : Fin 64) (v : (⟨S256x1024, .f32⟩ : BufTy).Contents (Elt Ideal)) :
    ∑ x : Fin 16, v (ix2 r ⟨x.val * 64 + s.val, by omega⟩) * FloatOps.uitofp (F := Ideal) FTy.f32 (IntOp.cmpi CmpIPredicate.eq
        (IntOp.addi (BitVec.ofNat 32 (r.val / 16)) 0#32) (BitVec.ofNat 32 x.val)) = v (ix2 r (onRow r s)) := by
  simp only [hotU, same (r.val / 16) (by omega)]
  refine (sum_hot (fun x : Fin 16 => v (ix2 r ⟨x.val * 64 + s.val, by omega⟩)) (fun x => r.val / 16 = x.val) ⟨r.val / 16, by omega⟩
    fun x => ?_).trans ?_
  · rw [Fin.ext_iff, eq_comm]
  · congr 2
    simp only [Fin.ext_iff, onRow]
    omega

/-! The arguments at a lane. -/
@[pointwise] theorem x0 : G.x0 (ix2 (Args.group n) (mode n)) = G.args.a n := rfl
@[pointwise] theorem x1 : G.x1 (ix2 (Args.group n) (mode n)) = G.args.b n := rfl
@[pointwise] theorem x2 : G.x2 (ix1 (Args.group n)) = G.args.l (Args.group n) := rfl
@[pointwise] theorem x3 : G.x3 (ix3 (Args.group n) (mode n) k) = G.args.bRe n k := rfl
@[pointwise] theorem x4 : G.x4 (ix3 (Args.group n) (mode n) k) = G.args.bIm n k := rfl
@[pointwise] theorem x7 : G.x7 (ix2 (Args.group n) (mode n)) = G.args.p n := rfl
@[pointwise] theorem x8 : G.x8 (ix2 (Args.group n) (mode n)) = G.args.q n := rfl

@[pointwise] theorem v1 : val_main_v1 (F := Ideal) G.x0 (ix2 (Args.group n) (mode n)) = re (G.args.a n) := by
  unfold re low
  unfold val_main_v1 val_main_v0 val_main_cst
  pointwise
@[pointwise] theorem v10 : val_main_v10 (F := Ideal) G.x0 (ix2 (Args.group n) (mode n)) = kept (G.args.a n) := by
  unfold kept low
  unfold val_main_v10 val_main_v3 val_main_v2 val_main_cst_0 val_main_v6 val_main_cst_2 val_main_v9 val_main_v5 val_main_v4 val_main_cst_1 val_main_v8 val_main_cst_4 val_main_v7 val_main_cst_3
  pointwise
@[pointwise] theorem v13 : val_main_v13 (F := Ideal) G.x2 (ix2 (Args.group n) (mode n)) = G.args.d n := by
  unfold Args.d
  unfold val_main_v13 val_main_v12 val_main_v11
  pointwise
@[pointwise] theorem v16 : val_main_v16 (F := Ideal) G.x2 (ix2 (Args.group n) (mode n)) = G.args.d n := by
  unfold Args.d
  unfold val_main_v16 val_main_v12 val_main_v11
  pointwise
@[pointwise] theorem v21 : val_main_v21 (F := Ideal) G.x2 (ix2 (Args.group n) (mode n)) = G.args.d n := by
  unfold Args.d
  unfold val_main_v21 val_main_v12 val_main_v11
  pointwise
@[pointwise] theorem v15 : val_main_v15 (F := Ideal) G.x0 G.x2 (ix2 (Args.group n) (mode n)) = size (G.args.a n) (G.args.d n) := by
  unfold size
  unfold val_main_v15 val_main_v14
  pointwise
@[pointwise] theorem v18 : val_main_v18 (F := Ideal) G.x1 G.x2 (ix2 (Args.group n) (mode n)) = Ideal.cos (G.args.b n * G.args.d n) := by
  unfold val_main_v18 val_main_v17
  pointwise
@[pointwise] theorem v19 : val_main_v19 (F := Ideal) G.x1 G.x2 (ix2 (Args.group n) (mode n)) = Ideal.sin (G.args.b n * G.args.d n) := by
  unfold val_main_v19 val_main_v17
  pointwise
@[pointwise] theorem v23 : val_main_v23 (F := Ideal) G.x1 G.x2 (ix2 (Args.group n) (mode n)) = Ideal.sin (G.args.b n * G.args.d n) := by
  unfold val_main_v23 val_main_v22
  pointwise
@[pointwise] theorem v24 : val_main_v24 (F := Ideal) G.x1 G.x2 (ix2 (Args.group n) (mode n)) = Ideal.cos (G.args.b n * G.args.d n) := by
  unfold val_main_v24 val_main_v22
  pointwise
@[pointwise] theorem v20 : val_main_v20 (F := Ideal) G.x0 G.x1 G.x2 (ix2 (Args.group n) (mode n)) = barRe (G.args.a n) (G.args.b n) (G.args.d n) := by
  unfold barRe
  unfold val_main_v20
  pointwise
@[pointwise] theorem v25 : val_main_v25 (F := Ideal) G.x0 G.x1 G.x2 (ix2 (Args.group n) (mode n)) = barIm (G.args.a n) (G.args.b n) (G.args.d n) := by
  unfold barIm
  unfold val_main_v25
  pointwise
@[pointwise] theorem v28 : val_main_v28 (F := Ideal) G.x0 G.x1 (ix2 (Args.group n) (mode n)) = square (G.args.a n) (G.args.b n) := by
  unfold square
  unfold val_main_v28 val_main_v26 val_main_v27
  pointwise
@[pointwise] theorem v30 : val_main_v30 (F := Ideal) G.x0 G.x1 G.x2 (ix2 (Args.group n) (mode n)) = less (G.args.a n) (G.args.b n) (G.args.d n) := by
  unfold less
  unfold val_main_v30 val_main_v29 val_main_cst_5
  pointwise
@[pointwise] theorem v40 : val_main_v40 (F := Ideal) G.x0 G.x1 G.x2 (ix2 (Args.group n) (mode n)) = less (G.args.a n) (G.args.b n) (G.args.d n) := by
  unfold less
  unfold val_main_v40 val_main_v39 val_main_cst_7
  pointwise
@[pointwise] theorem v33 : val_main_v33 (F := Ideal) G.x0 G.x1 G.x2 (ix2 (Args.group n) (mode n)) = numRe (G.args.a n) (G.args.b n) (G.args.d n) := by
  unfold numRe
  unfold val_main_v33 val_main_v31 val_main_v32
  pointwise
@[pointwise] theorem v42 : val_main_v42 (F := Ideal) G.x0 G.x1 G.x2 (ix2 (Args.group n) (mode n)) = numIm (G.args.a n) (G.args.b n) (G.args.d n) := by
  unfold numIm
  unfold val_main_v42 val_main_v38 val_main_v41
  pointwise
@[pointwise] theorem v34 : val_main_v34 (F := Ideal) G.x0 G.x1 G.x2 (ix2 (Args.group n) (mode n)) = facRe (G.args.a n) (G.args.b n) (G.args.d n) := by
  unfold facRe
  unfold val_main_v34
  pointwise
@[pointwise] theorem v43 : val_main_v43 (F := Ideal) G.x0 G.x1 G.x2 (ix2 (Args.group n) (mode n)) = facIm (G.args.a n) (G.args.b n) (G.args.d n) := by
  unfold facIm
  unfold val_main_v43
  pointwise
@[pointwise] theorem v37 : val_main_v37 (F := Ideal) G.x0 G.x1 (ix2 (Args.group n) (mode n)) = Ideal.div 1 (square (G.args.a n) (G.args.b n) * square (G.args.a n) (G.args.b n)) := by
  unfold val_main_v37 val_main_v36 val_main_cst_6 val_main_v35
  pointwise
@[pointwise] theorem v46 : val_main_v46 (F := Ideal) G.x0 G.x1 (ix2 (Args.group n) (mode n)) = Ideal.div 1 (square (G.args.a n) (G.args.b n) * square (G.args.a n) (G.args.b n)) := by
  unfold val_main_v46 val_main_v45 val_main_cst_8 val_main_v44
  pointwise
@[pointwise] theorem v108 : val_main_v108 (F := Ideal) G.x10 (ix3 (Args.group n) (mode n) k) = G.args.wIm n k := by
  unfold val_main_v108 val_main_v107 val_main_v106 val_main_v105 val_main_v103 val_main_v104 val_main_v74 val_main_v66 val_main_v65 val_main_v64 val_main_v61 val_main_v63 val_main_c val_main_v62 val_main_cst_13 val_main_cst_14
  pointwise
  simp only [Finset.univ_unique, Finset.sum_singleton]
  exact pick n k G.x10
@[pointwise] theorem v114 : val_main_v114 (F := Ideal) G.x9 (ix3 (Args.group n) (mode n) k) = G.args.wRe n k := by
  unfold val_main_v114 val_main_v113 val_main_v112 val_main_v111 val_main_v109 val_main_v110 val_main_v68 val_main_v66 val_main_v65 val_main_v64 val_main_v61 val_main_v63 val_main_c val_main_v62 val_main_cst_15 val_main_cst_16
  pointwise
  simp only [Finset.univ_unique, Finset.sum_singleton]
  exact pick n k G.x9
@[pointwise] theorem v143 : val_main_v143 (F := Ideal) G.x3 G.x4 G.x9 G.x10 (ix2 (Args.group n) (mode n)) = G.args.f n := by
  unfold Args.f
  unfold val_main_v143 val_main_v126 val_main_v125 val_main_v124 val_main_v123 val_main_cst_19 val_main_cst_20 val_main_v142 val_main_v141 val_main_v140 val_main_v139 val_main_cst_23 val_main_cst_24
  pointwise
  simp only [Finset.univ_unique, Finset.sum_singleton]
@[pointwise] theorem v135 : val_main_v135 (F := Ideal) G.x3 G.x4 G.x9 G.x10 (ix2 (Args.group n) (mode n)) = G.args.e n := by
  unfold Args.e
  unfold val_main_v135 val_main_v120 val_main_v119 val_main_v118 val_main_v117 val_main_cst_17 val_main_cst_18 val_main_v134 val_main_v133 val_main_v132 val_main_v131 val_main_v127 val_main_cst_21 val_main_cst_22
  pointwise
  simp only [Finset.univ_unique, Finset.sum_singleton]
@[pointwise] theorem v147 : val_main_v147 (F := Ideal) G.x0 G.x1 G.x3 G.x4 G.x9 G.x10 (ix2 (Args.group n) (mode n)) = Ideal.div (G.args.e n) (square (G.args.a n) (G.args.b n)) := by
  unfold val_main_v147
  pointwise
@[pointwise] theorem v159 : val_main_v159 (F := Ideal) G.x0 G.x1 G.x3 G.x4 G.x9 G.x10 (ix2 (Args.group n) (mode n)) = Ideal.div (G.args.f n) (square (G.args.a n) (G.args.b n)) := by
  unfold val_main_v159
  pointwise
@[pointwise] theorem v158 : val_main_v158 (F := Ideal) G.x0 G.x1 G.x2 G.x3 G.x4 G.x9 G.x10 (ix2 (Args.group n) (mode n)) = dSquare (G.args.a n) (G.args.b n) (G.args.d n) (G.args.f n) (G.args.e n) := by
  unfold dSquare
  unfold val_main_v158 val_main_v146 val_main_v145 val_main_v144 val_main_v157 val_main_v156 val_main_v155
  pointwise
@[pointwise] theorem v163 : val_main_v163 (F := Ideal) G.x0 G.x1 G.x3 G.x4 G.x8 G.x9 G.x10 (ix2 (Args.group n) (mode n)) = dBarIm (G.args.a n) (G.args.b n) (G.args.q n) (G.args.f n) (G.args.e n) := by
  unfold dBarIm
  unfold val_main_v163 val_main_v154 val_main_v153 val_main_v162
  pointwise
@[pointwise] theorem v167 : val_main_v167 (F := Ideal) G.x0 G.x1 G.x3 G.x4 G.x7 G.x9 G.x10 (ix2 (Args.group n) (mode n)) = dBarRe (G.args.a n) (G.args.b n) (G.args.p n) (G.args.f n) (G.args.e n) := by
  unfold dBarRe
  unfold val_main_v167 val_main_v151 val_main_v150 val_main_v148 val_main_v166
  pointwise
@[pointwise] theorem v182 : val_main_v182 (F := Ideal) G.x2 (ix2 (Args.group n) (mode n)) = G.args.d n := by
  unfold Args.d
  unfold val_main_v182 val_main_v12 val_main_v11
  pointwise
@[pointwise] theorem v194 : val_main_v194 (F := Ideal) G.x2 (ix2 (Args.group n) (mode n)) = G.args.d n := by
  unfold Args.d
  unfold val_main_v194 val_main_v12 val_main_v11
  pointwise
@[pointwise] theorem v202 : val_main_v202 (F := Ideal) G.x2 (ix2 (Args.group n) (mode n)) = G.args.d n := by
  unfold Args.d
  unfold val_main_v202 val_main_v12 val_main_v11
  pointwise
@[pointwise] theorem v178 : val_main_v178 (F := Ideal) G.x0 G.x1 G.x2 G.x3 G.x4 G.x8 G.x9 G.x10 (ix2 (Args.group n) (mode n)) = dSin (G.args.a n) (G.args.b n) (G.args.d n) (G.args.q n) (G.args.f n) (G.args.e n) := by
  unfold dSin
  unfold val_main_v178 val_main_v176
  pointwise
@[pointwise] theorem v189 : val_main_v189 (F := Ideal) G.x0 G.x1 G.x2 G.x3 G.x4 G.x7 G.x9 G.x10 (ix2 (Args.group n) (mode n)) = dCos (G.args.a n) (G.args.b n) (G.args.d n) (G.args.p n) (G.args.f n) (G.args.e n) := by
  unfold dCos
  unfold val_main_v189 val_main_v188 val_main_v185
  pointwise
@[pointwise] theorem v197 : val_main_v197 (F := Ideal) G.x0 G.x1 G.x2 G.x3 G.x4 G.x7 G.x8 G.x9 G.x10 (ix2 (Args.group n) (mode n)) = dExp (G.args.a n) (G.args.b n) (G.args.d n) (G.args.p n) (G.args.q n) (G.args.f n) (G.args.e n) := by
  unfold dExp
  unfold val_main_v197 val_main_v187 val_main_v177 val_main_v186
  pointwise
@[pointwise] theorem v196 : val_main_v196 (F := Ideal) G.x0 G.x1 G.x2 G.x3 G.x4 G.x7 G.x8 G.x9 G.x10 (ix2 (Args.group n) (mode n)) = G.args.gIm n := by
  unfold Args.gIm dIm
  unfold val_main_v196 val_main_v184 val_main_v171 val_main_v169 val_main_v161 val_main_v149 val_main_v148 val_main_v160 val_main_v168 val_main_v170 val_main_v183 val_main_v195
  pointwise
@[pointwise] theorem v207 : val_main_v207 (F := Ideal) G.x0 G.x1 G.x2 G.x3 G.x4 G.x7 G.x8 G.x9 G.x10 (ix2 (Args.group n) (mode n)) = G.args.gRe n := by
  unfold Args.gRe dRe
  unfold val_main_v207 val_main_v204 val_main_v175 val_main_v173 val_main_v165 val_main_v152 val_main_v164 val_main_v172 val_main_v174 val_main_v203
  pointwise
@[pointwise] theorem v138 : val_main_v138 (F := Ideal) G.x0 G.x1 G.x2 G.x9 G.x10 (ix3 (Args.group n) (mode n) k) = G.args.gBRe n k := by
  unfold Args.gBRe
  unfold val_main_v138 val_main_v116 val_main_v115 val_main_v57 val_main_v137 val_main_v136 val_main_v47
  pointwise
@[pointwise] theorem v130 : val_main_v130 (F := Ideal) G.x0 G.x1 G.x2 G.x9 G.x10 (ix3 (Args.group n) (mode n) k) = G.args.gBIm n k := by
  unfold Args.gBIm
  unfold val_main_v130 val_main_v122 val_main_v121 val_main_v54 val_main_v129 val_main_v128 val_main_v50 val_main_v127
  pointwise
@[pointwise] theorem v208 : val_main_v208 (F := Ideal) G.x0 G.x1 G.x2 G.x3 G.x4 G.x7 G.x8 G.x9 G.x10 (ix2 0 n) = G.args.gRe n := by
  unfold val_main_v208
  pointwise
  exact v207 G n
@[pointwise] theorem v209 : val_main_v209 (F := Ideal) G.x0 G.x1 G.x2 G.x3 G.x4 G.x7 G.x8 G.x9 G.x10 (ix2 0 n) = G.args.gIm n := by
  unfold val_main_v209
  pointwise
  exact v196 G n
@[pointwise] theorem v211 : val_main_v211 (F := Ideal) G.x0 G.x1 G.x2 G.x9 G.x10 (ix2 n k) = G.args.gBRe n k := by
  unfold val_main_v211
  pointwise
  exact v138 G n k
@[pointwise] theorem v212 : val_main_v212 (F := Ideal) G.x0 G.x1 G.x2 G.x9 G.x10 (ix2 n k) = G.args.gBIm n k := by
  unfold val_main_v212
  pointwise
  exact v130 G n k
@[pointwise] theorem v213 (r : Fin 256) (s : Fin 64) : val_main_v213 (F := Ideal) G.x11 (ix2 r s) = G.inputs.cRe r (onRow r s) := by
  unfold Given.inputs
  unfold val_main_v213 val_main_v102 val_main_v101 val_main_v100 val_main_v99 val_main_v97 val_main_v98 val_main_v80 val_main_v66 val_main_v65 val_main_v64 val_main_v61 val_main_v63 val_main_c val_main_v62 val_main_cst_11 val_main_cst_12
  pointwise
  simp only [Finset.univ_unique, Finset.sum_singleton]
  exact pick_row r s G.x11
@[pointwise] theorem v214 (r : Fin 256) (s : Fin 64) : val_main_v214 (F := Ideal) G.x12 (ix2 r s) = G.inputs.cIm r (onRow r s) := by
  unfold Given.inputs
  unfold val_main_v214 val_main_v96 val_main_v95 val_main_v94 val_main_v93 val_main_v91 val_main_v92 val_main_v86 val_main_v66 val_main_v65 val_main_v64 val_main_v61 val_main_v63 val_main_c val_main_v62 val_main_cst_9 val_main_cst_10
  pointwise
  simp only [Finset.univ_unique, Finset.sum_singleton]
  exact pick_row r s G.x12
@[pointwise] theorem v210 : val_main_v210 (F := Ideal) G.x0 G.x1 G.x2 G.x3 G.x4 G.x7 G.x8 G.x9 G.x10 (ix2 0 k) = G.args.gLog k := by
  unfold val_main_v210 val_main_v206 val_main_v205 val_main_v201 val_main_v193 val_main_v181 val_main_v180 val_main_v179 val_main_cst_25 val_main_v192 val_main_v191 val_main_v190 val_main_cst_26 val_main_v200 val_main_v199 val_main_v198 val_main_cst_27 val_main_cst_28 val_main_v11
  pointwise
  simp only [Finset.univ_unique, Finset.sum_singleton]
  unfold Args.gLog
  simp only [Args.gStep, dStep, Finset.sum_add_distrib, ← v178, ← v189, ← v197]
  simp only [← v1, ← x1, group_lane, mode_lane]
  rfl

/-! The run. -/
section run
variable (m : (ℓ : Loc nD τ sig) → Buf (Elt Ideal) ℓ) (c : Dev nD)

def given : Given :=
  ⟨m (c, Proc.tc.devRef main_arg0), m (c, Proc.tc.devRef main_arg1), m (c, Proc.tc.devRef main_arg2), m (c, Proc.tc.devRef main_arg3),
    m (c, Proc.tc.devRef main_arg4), m (c, Proc.tc.devRef main_arg5), m (c, Proc.tc.devRef main_arg6), m (c, Proc.tc.devRef main_arg7),
    m (c, Proc.tc.devRef main_arg8), m (c, Proc.tc.devRef main_arg9), m (c, Proc.tc.devRef main_arg10), m (c, Proc.tc.devRef main_arg11),
    m (c, Proc.tc.devRef main_arg12)⟩

/-- The arguments hold what they held. -/
abbrev Kept (s : (ℓ : Loc nD τ sig) → Buf (Elt Ideal) ℓ) : Prop :=
  s (c.tc.loc main_arg0) = m (c.tc.loc main_arg0) ∧ s (c.tc.loc main_arg1) = m (c.tc.loc main_arg1)
  ∧ s (c.tc.loc main_arg2) = m (c.tc.loc main_arg2) ∧ s (c.tc.loc main_arg3) = m (c.tc.loc main_arg3)
  ∧ s (c.tc.loc main_arg4) = m (c.tc.loc main_arg4) ∧ s (c.tc.loc main_arg5) = m (c.tc.loc main_arg5)
  ∧ s (c.tc.loc main_arg6) = m (c.tc.loc main_arg6) ∧ s (c.tc.loc main_arg7) = m (c.tc.loc main_arg7)
  ∧ s (c.tc.loc main_arg8) = m (c.tc.loc main_arg8) ∧ s (c.tc.loc main_arg9) = m (c.tc.loc main_arg9)
  ∧ s (c.tc.loc main_arg10) = m (c.tc.loc main_arg10) ∧ s (c.tc.loc main_arg11) = m (c.tc.loc main_arg11)
  ∧ s (c.tc.loc main_arg12) = m (c.tc.loc main_arg12)

/-- The reference keeps its arguments, and its results are the gradients. -/
theorem run_values (ρ : Dev nD → PrngReg) :
    θ_run defs (onTc (τ := τ) (main (F := Ideal))) ⟨m, fun _ => 0, ρ⟩ fun r => ∀ c : Dev nD,
      r.2.mem (c.tc.loc main_v208) = (fun i : S1x1024.Idx => (given m c).args.gRe (i 1))
      ∧ r.2.mem (c.tc.loc main_v209) = (fun i : S1x1024.Idx => (given m c).args.gIm (i 1))
      ∧ r.2.mem (c.tc.loc main_v210) = (fun i : S1x16.Idx => (given m c).args.gLog (i 1))
      ∧ r.2.mem (c.tc.loc main_v211) = (fun i : S1024x16.Idx => (given m c).args.gBRe (i 0) (i 1))
      ∧ r.2.mem (c.tc.loc main_v212) = (fun i : S1024x16.Idx => (given m c).args.gBIm (i 0) (i 1))
      ∧ r.2.mem (c.tc.loc main_v213) = (fun i : S256x64.Idx => (given m c).inputs.cRe (i 0) (onRow (i 0) (i 1)))
      ∧ r.2.mem (c.tc.loc main_v214) = (fun i : S256x64.Idx => (given m c).inputs.cIm (i 0) (onRow (i 0) (i 1)))
      ∧ Kept m c r.2.mem := by
  refine (θ_run defs _ _).mono (fun r h c => ?_) (Value.run m ρ)
  obtain ⟨h0, h1, h2, h3, h4, h5, h6, h7⟩ := h c
  refine ⟨h0.trans ((val_main_v208_eq _).trans (funext fun i => ?_)), h1.trans ((val_main_v209_eq _).trans (funext fun i => ?_)),
    h2.trans ((val_main_v210_eq _).trans (funext fun i => ?_)), h3.trans ((val_main_v211_eq _).trans (funext fun i => ?_)),
    h4.trans ((val_main_v212_eq _).trans (funext fun i => ?_)), h5.trans ((val_main_v213_eq _).trans (funext fun i => ?_)),
    h6.trans ((val_main_v214_eq _).trans (funext fun i => ?_)), h7⟩
  · obtain ⟨r, j, rfl⟩ : ∃ (r : Fin 1) (j : Fin 1024), i = ix2 r j := ⟨_, _, eq_ix2 i⟩
    obtain rfl : r = 0 := Fin.eq_zero r
    exact v208 (given m c) j
  · obtain ⟨r, j, rfl⟩ : ∃ (r : Fin 1) (j : Fin 1024), i = ix2 r j := ⟨_, _, eq_ix2 i⟩
    obtain rfl : r = 0 := Fin.eq_zero r
    exact v209 (given m c) j
  · obtain ⟨r, j, rfl⟩ : ∃ (r : Fin 1) (j : Fin 16), i = ix2 r j := ⟨_, _, eq_ix2 i⟩
    obtain rfl : r = 0 := Fin.eq_zero r
    exact v210 (given m c) j
  · obtain ⟨r, j, rfl⟩ : ∃ r j, i = ix2 r j := ⟨_, _, eq_ix2 i⟩
    exact v211 (given m c) r j
  · obtain ⟨r, j, rfl⟩ : ∃ r j, i = ix2 r j := ⟨_, _, eq_ix2 i⟩
    exact v212 (given m c) r j
  · obtain ⟨r, j, rfl⟩ : ∃ r j, i = ix2 r j := ⟨_, _, eq_ix2 i⟩
    exact v213 (given m c) r j
  · obtain ⟨r, j, rfl⟩ : ∃ r j, i = ix2 r j := ⟨_, _, eq_ix2 i⟩
    exact v214 (given m c) r j

/-- The reference keeps its arguments. -/
theorem frame (ρ : Dev nD → PrngReg) :
    θ_run defs (onTc (τ := τ) (main (F := Ideal))) ⟨m, fun _ => 0, ρ⟩ fun r => (∀ c : Dev nD, Kept m c r.2.mem) ∧ r.2.sem = fun _ => 0 :=
  (θ_run _ _ _).mono (fun r h => ⟨fun c => (h c).2.2.2.2.2.2.2, sem_eq_zero_of_no_sems (by decide) r.2⟩) (run_values m ρ)
end run
end Cert.S5Prep.Ref
-- ==== Proof.S5PrepClaim.lean ====
module
public import proofs.«01_k».proof.Defs
public import proofs.«01_k».proof.Proof.DnPreClaim
public import proofs.«01_k».proof.Proof.S5Prep
public import proofs.«01_k».proof.Proof.S5PrepRef
/-!
The state space layer's discretisation, backward: what the precondition says, and that both programs compute the same arrays.
-/
@[expose] public section
noncomputable section
namespace Cert.S5Prep
open Idealize.ShloMosaic Idealize.ShloMosaic.TcCoe Idealize.SL.Sem

/-- The side conditions of the precondition's operations. -/
theorem pre_facts : Cert.Pre_finite_step.Facts := ⟨by decide⟩

/-- Where the group's log step is a real number, the step may be multiplied in before the sum over the modes or after it. -/
theorem gLog_eq (A : Args) (g : Fin 16) (h : Cert.DnPre.IsReal (A.l g)) :
    ∑ x, A.gStep x * A.d x * (if x.val / 64 = g.val then 1 else 0) = A.gLog g := by
  obtain ⟨l, hl⟩ := h
  have hd (s : Fin 64) : A.d (lane g s) = ((Real.exp l : ℝ) : EReal) := by
    unfold Args.d
    rw [group_lane, hl, Ideal.exp_coe]
  have one (g' : Fin 16) (s : Fin 64) (hb : 64 * g'.val + s.val < 1024) :
      (if (⟨64 * g'.val + s.val, hb⟩ : Fin 1024).val / 64 = g.val then (1 : EReal) else 0) = if g' = g then 1 else 0 := by
    congr 1
    simp only [Fin.ext_iff, eq_iff_iff]
    omega
  rw [← Cert.Common.sum_blocks (m := 16) (n := 64) (by norm_num) _ (fun s r => by omega)]
  simp only [one]
  rw [Finset.sum_eq_single g (fun g' _ hg => by simp [hg]) (by simp)]
  unfold Args.gLog
  rw [hl, Ideal.exp_coe, Cert.Common.sum_mul_coe _ _ _ (Real.exp_pos l).le]
  refine Finset.sum_congr rfl fun s _ => ?_
  rw [if_pos rfl, mul_one]
  exact congrArg (A.gStep (lane g s) * ·) (hd s)

theorem step_of_pre [Cert.Pre_finite_step.Facts] (m : (ℓ : Loc Kernel4Ideal.nD Kernel4Ideal.τ Kernel4Ideal.sig) → Buf (Elt Ideal) ℓ)
    (h : Pre_Kernel4Ideal_finite_step m) (c : Dev Kernel4Ideal.nD) (g : Fin 16) : Cert.DnPre.IsReal ((inputs m c).args.l g) := by
  have h0 := h c
  unfold Cert.Pre_finite_step.fn at h0
  have := congrFun h0 (ix1 g)
  revert this
  dsimp only
  pointwise
  exact fun h => Cert.DnPre.isReal_of_lt _ (Cert.DnPre.of_bit _ h)

/-- The discretisation's backward call computes the gradients of its forward lines. -/
theorem value [Cert.Pre_finite_step.Facts] : Cert.algebraic_Kernel4Ideal_Reference4Ideal_pre_finite_step := by
  intro m g m' g' hpre hag
  have e (c) : (Ref.given m' c).inputs = inputs m c := by
    obtain ⟨h0, h1, h2, h3, h4, h5, h6, h7, h8, h9, h10, h11, h12⟩ := hag c
    unfold Ref.given Ref.Given.inputs inputs
    congr 1
    · funext i k; exact congrFun h0 (ix2 i k)
    · funext i k; exact congrFun h1 (ix2 i k)
    · funext i; exact congrFun h2 (ix1 i)
    · funext i k s; exact congrFun h3 (ix3 i k s)
    · funext i k s; exact congrFun h4 (ix3 i k s)
    · funext i k; exact congrFun h7 (ix2 i k)
    · funext i k; exact congrFun h8 (ix2 i k)
    · funext i k; exact congrFun h9 (ix2 i k)
    · funext i k; exact congrFun h10 (ix2 i k)
    · funext i k; exact congrFun h11 (ix2 i k)
    · funext i k; exact congrFun h12 (ix2 i k)
  have hr := Ref.run_values m' g'
  simp only [Ref.Given.args, e] at hr
  refine ⟨_, _, _, _, _, _, _, ?_, hr⟩
  exact (θ_run Kernel4Ideal.defs _ _).mono (fun _ h c => ⟨(h c).1, (h c).2.1, (h c).2.2.1.trans
    (funext fun i => gLog_eq (inputs m c).args (i 1) (step_of_pre m hpre c (i 1))), (h c).2.2.2⟩) (run_values m g)
end Cert.S5Prep
-- ==== Proof.DnFwd.lean ====
module
public import proofs.«01_k».proof.Proof.Gen.Kernel5Ideal.Value
public import proofs.«01_k».proof.Proof.DnPreTile
public import Idealize.ShloMosaic.Lib.StableHlo.RunRead
/-!
The delta rule's input stage, forward: the convolved and activated rows, their heads scaled to unit length, the running
decay and the logistic gate, as functions of the arguments.
-/
@[expose] public section
noncomputable section
namespace Cert.DnFwd
open Cert.Kernel5Ideal Cert.Kernel5Ideal.Gen Idealize.ShloMosaic Idealize.ShloMosaic.TcCoe Idealize.SL.Sem
open Cert.DnPre (getN delayed sqLen eighth queries keys headAt headLe within conv softplus)
open Idealize.ShloMosaic.Pipeline (Dat)
set_option maxRecDepth 16384

/-- A head scaled to unit length. -/
def unit (x : Fin 64 → EReal) (j : Fin 64) : EReal := x j * Ideal.rsqrt (sqLen x)
/-- `x · logistic x` along a row. -/
def silu {n : ℕ} (y : Fin n → EReal) (k : Fin n) : EReal := y k * Ideal.logistic (y k)
/-- A row's scaled queries, its keys, and its values. -/
def queryRow (s : Fin 768 → EReal) (k : Fin 256) : EReal := unit (headAt (queries s) _ (headLe k)) (within k) * eighth
def keyRow (s : Fin 768 → EReal) (k : Fin 256) : EReal := unit (headAt (keys s) _ (headLe k)) (within k)
def valueRow (s : Fin 768 → EReal) (k : Fin 256) : EReal := s ⟨512 + k.val, by omega⟩
/-- The sum of a list's entries from the start of the chunk of 64 that holds `i`, up to `i`. -/
def chunkHead (f : Fin 4096 → EReal) (i : Fin 4096) : EReal :=
  ∑ q : Fin 64, if q.val ≤ i.val % 64 then f ⟨64 * (i.val / 64) + q.val, Cert.DnPre.chunkLt i q⟩ else 0
/-- The log decay of a row. -/
def decay (alpha : Fin 4096 → Fin 4 → EReal) (aLog bias : Fin 4 → EReal) (h : Fin 4) (i : Fin 4096) : EReal :=
  (0 - Ideal.exp (aLog h)) * softplus (alpha i h + bias h)
/-- A row of the packed gates: the running log decay, the logistic gate, zeros. -/
def gateRow (alpha logit : Fin 4096 → Fin 4 → EReal) (aLog bias : Fin 4 → EReal) (i : Fin 4096) (k : Fin 128) : EReal :=
  if h : k.val < 4 then chunkHead (decay alpha aLog bias ⟨k.val, h⟩) i
  else if h' : k.val < 8 then Ideal.logistic (logit i ⟨k.val - 4, by omega⟩) else 0

/-- A head found by its first column is the head of any column in it. -/
theorem unit_of (y : Fin 256 → EReal) (k : Fin 256) {o : ℕ} (ho : o + 64 ≤ 256) (e : o = 64 * (k.val / 64)) :
    y k * Ideal.rsqrt (sqLen (headAt y o ho)) = unit (headAt y _ (headLe k)) (within k) := by
  subst e
  exact congrArg (fun n => y n * _) (Fin.ext (by dsimp only [within]; omega))
theorem query_of (s : Fin 768 → EReal) (k : Fin 256) {o : ℕ} (ho : o + 64 ≤ 256) (e : o = 64 * (k.val / 64))
    (f : Fin 64 → Fin 768) (hf : ∀ x, (f x).val = o + x.val) (n : Fin 768) (hn : n.val = k.val) :
    s n * (Ideal.rsqrt (∑ x, s (f x) * s (f x) + Ideal.ofBits FTy.f32 897988541#32) * eighth) = queryRow s k := by
  have hk : k.val < 768 := by omega
  have hx (x : Fin 64) : o + x.val < 768 := by omega
  obtain rfl : n = ⟨k.val, hk⟩ := Fin.ext hn
  obtain rfl : f = fun x => ⟨o + x.val, hx x⟩ := funext fun x => Fin.ext (hf x)
  rw [← mul_assoc]
  exact congrArg (· * eighth) (unit_of (queries s) k ho e)
theorem key_of (s : Fin 768 → EReal) (k : Fin 256) {o : ℕ} (ho : o + 64 ≤ 256) (e : o = 64 * (k.val / 64))
    (f : Fin 64 → Fin 768) (hf : ∀ x, (f x).val = 256 + (o + x.val)) (n : Fin 768) (hn : n.val = 256 + k.val) :
    s n * Ideal.rsqrt (∑ x, s (f x) * s (f x) + Ideal.ofBits FTy.f32 897988541#32) = keyRow s k := by
  have hk : 256 + k.val < 768 := by omega
  have hx (x : Fin 64) : 256 + (o + x.val) < 768 := by omega
  obtain rfl : n = ⟨256 + k.val, hk⟩ := Fin.ext hn
  obtain rfl : f = fun x => ⟨256 + (o + x.val), hx x⟩ := funext fun x => Fin.ext (hf x)
  exact unit_of (keys s) k ho e

/-- A tile's masked sum is the running sum from the start of the row's chunk to the row. -/
theorem tileHead_eq (f : Fin 4096 → EReal) (b : ℕ) (hb : b < 8) (g : Fin 512 → EReal)
    (hg : ∀ x : Fin 512, g x = f ⟨512 * b + x.val, by omega⟩) (r : Fin 512) :
    (∑ x : Fin 512, if x.val ≤ r.val ∧ r.val / 64 = x.val / 64 then g x else 0) = chunkHead f ⟨512 * b + r.val, by omega⟩ := by
  rw [← Common.sum_blocks (m := 8) (n := 64) rfl (fun x : Fin 512 => if x.val ≤ r.val ∧ r.val / 64 = x.val / 64 then g x else 0)
    (fun s y => by omega)]
  rw [Finset.sum_eq_single_of_mem (⟨r.val / 64, by omega⟩ : Fin 8) (Finset.mem_univ _)]
  · refine Finset.sum_congr rfl fun y _ => ?_
    simp only [hg]
    by_cases h : y.val ≤ r.val % 64
    · rw [if_pos (by omega), if_pos (by omega)]
      exact congrArg f (Fin.ext (by dsimp only; omega))
    · rw [if_neg (by omega), if_neg (by omega)]
  · intro s _ hs
    refine Finset.sum_eq_zero fun y _ => if_neg fun h => hs (Fin.ext ?_)
    have := h.2
    dsimp only at this ⊢
    omega

section payloads
variable (i : grid0.Coords) (v3 : FVec Ideal S8x768 .f32) (v7 : FVec Ideal S512x768 .f32) (w : FVec Ideal S8x768 .f32)

/-- The rows a tile convolves: the eight before it, zero for the first tile, and its own. -/
def windowAt (n : ℕ) (c : Fin 768) : EReal :=
  if h : n < 8 then (if 0 < (i 0).val then v3 (ix2 ⟨n, h⟩ c) else 0) else if h' : n < 520 then v7 (ix2 ⟨n - 8, by omega⟩ c) else 0

theorem pay_conv (r : Fin 512) (c : Fin 768) : k0_pay4 (F := Ideal) i v3 v7 w (ix2 r c)
    = windowAt i v3 v7 (5 + r.val) c * w (ix2 0 c) + windowAt i v3 v7 (6 + r.val) c * w (ix2 1 c)
      + windowAt i v3 v7 (7 + r.val) c * w (ix2 2 c) + windowAt i v3 v7 (8 + r.val) c * w (ix2 3 c) := by
  have e : Scalar.cmpi CmpIPredicate.sgt (BitVec.ofNat 32 (i 0).val) 0#32 = BitVec.ofBool (decide (0 < (i 0).val)) :=
    WordCmp.cmpi_sgt_ofNat (by have : (i 0).val < 8 := (i 0).isLt; omega) (by omega)
  unfold k0_pay4
  pointwise
  rw [e]
  unfold windowAt
  have hm (x : EReal) : x * FloatOps.sitofp (F := Ideal) FTy.f32 (Scalar.extui (BitVec.ofBool (decide (0 < (i 0).val))) : BitVec 32)
      = if 0 < (i 0).val then x else 0 := by
    rw [mul_comm]
    exact (Cert.DnPre.mask_mul _ x).trans (by simp)
  refine congrArg₂ (· + ·) (congrArg₂ (· + ·) (congrArg₂ (· + ·) ?_ ?_) ?_) ?_ <;> refine congrArg (· * _) ?_
  iterate 3
    rw [dif_pos (by omega)]
    refine dite_congr rfl (fun h => hm _) fun h => ?_
    rw [dif_pos (by omega)]
  rw [dif_neg (by omega), dif_pos (by omega)]
  exact congrArg (fun n => v7 (ix2 n c)) (Fin.ext (by dsimp only; omega))

variable (v45 : FVec Ideal S512x768 .f32)
theorem pay_act (r : Fin 512) (c : Fin 768) : k0_pay5 (F := Ideal) v45 (ix2 r c) = silu (fun c => v45 (ix2 r c)) c := by
  unfold k0_pay5
  pointwise
  rfl
theorem pay_query (r : Fin 512) (k : Fin 256) : k0_pay6 (F := Ideal) v45 (ix2 r k) = queryRow (silu fun c => v45 (ix2 r c)) k := by
  unfold k0_pay6
  pointwise
  simp only [pay_act]
  split_ifs <;> first
    | exact query_of _ k (o := 0) (by omega) (by omega) _ (fun x => (Nat.zero_add _).symm) _ rfl
    | exact query_of _ k (o := 64) (by omega) (by omega) _ (fun x => rfl) _ (by dsimp only; omega)
    | exact query_of _ k (o := 128) (by omega) (by omega) _ (fun x => rfl) _ (by dsimp only; omega)
    | exact query_of _ k (o := 192) (by omega) (by omega) _ (fun x => rfl) _ (by dsimp only; omega)
    | exact absurd rfl ‹_›
theorem pay_key (r : Fin 512) (k : Fin 256) : k0_pay7 (F := Ideal) (k0_pay5 v45) (ix2 r k) = keyRow (silu fun c => v45 (ix2 r c)) k := by
  unfold k0_pay7
  pointwise
  simp only [pay_act]
  split_ifs <;> first
    | exact key_of _ k (o := 0) (by omega) (by omega) _ (fun x => congrArg (256 + ·) (Nat.zero_add _).symm) _ rfl
    | exact key_of _ k (o := 64) (by omega) (by omega) _ (fun x => rfl) _ (by dsimp only; omega)
    | exact key_of _ k (o := 128) (by omega) (by omega) _ (fun x => rfl) _ (by dsimp only; omega)
    | exact key_of _ k (o := 192) (by omega) (by omega) _ (fun x => rfl) _ (by dsimp only; omega)
    | exact absurd rfl ‹_›
theorem pay_value (r : Fin 512) (k : Fin 256) : k0_pay8 (F := Ideal) (k0_pay5 v45) (ix2 r k) = valueRow (silu fun c => v45 (ix2 r c)) k := by
  unfold k0_pay8
  pointwise
  rw [pay_act]
  rfl
theorem pay_gate (ab : FVec Ideal S512x128 .f32) (a b : FVec Ideal S1x128 .f32) (r : Fin 512) (k : Fin 128) :
    k0_pay10 (F := Ideal) (k0_pay1 ab) (k0_pay3 b) (k0_pay9 (k0_pay2 a)) (ix2 r k)
    = if k.val < 4 then ∑ x : Fin 512, if x.val ≤ r.val ∧ r.val / 64 = x.val / 64 then
          (0 - Ideal.exp (a (ix2 0 k))) * softplus (ab (ix2 x k) + b (ix2 0 k)) else 0
      else if k.val < 8 then Ideal.logistic (ab (ix2 r k)) else 0 := by
  simp only [k0_pay10, k0_pay1, k0_pay3, k0_pay9, k0_pay2]
  pointwise
  simp only [Cert.DnPre.chunk_word, Cert.DnPre.lane_lt 4 (by norm_num), Cert.DnPre.lane_lt 8 (by norm_num)]
  refine ite_congr rfl (fun _ => Finset.sum_congr rfl fun x _ => ?_) fun _ => rfl
  rw [WordCmp.cmpi_sge_ofNat (by omega) (by omega), WordCmp.cmpi_eq_ofNat (by omega) (by omega), Cert.DnPre.and_words, Cert.DnPre.mask_mul]
  simp [softplus]
/-- A tile's packed gates, once its blocks are known to be the arguments' entries. -/
theorem gate_of (ab : FVec Ideal S512x128 .f32) (a b : FVec Ideal S1x128 .f32) (alpha logit : Fin 4096 → Fin 4 → EReal)
    (aLog bias : Fin 4 → EReal) (t : ℕ) (ht : t < 8) (r : Fin 512) (k : Fin 128)
    (hp : ∀ (h : k.val < 4) (x : Fin 512), ab (ix2 x k) = alpha ⟨512 * t + x.val, by omega⟩ ⟨k.val, h⟩)
    (hl : ∀ (_ : ¬k.val < 4) (h' : k.val < 8), ab (ix2 r k) = logit ⟨512 * t + r.val, by omega⟩ ⟨k.val - 4, by omega⟩)
    (ha : ∀ h : k.val < 4, a (ix2 0 k) = aLog ⟨k.val, h⟩) (hb : ∀ h : k.val < 4, b (ix2 0 k) = bias ⟨k.val, h⟩) :
    k0_pay10 (F := Ideal) (k0_pay1 ab) (k0_pay3 b) (k0_pay9 (k0_pay2 a)) (ix2 r k)
      = gateRow alpha logit aLog bias ⟨512 * t + r.val, by omega⟩ k := by
  rw [pay_gate]
  unfold gateRow
  by_cases h : k.val < 4
  · rw [if_pos h, dif_pos h]
    exact tileHead_eq (decay alpha aLog bias ⟨k.val, h⟩) t ht _ (fun x => by rw [hp h, ha h, hb h]; rfl) r
  · rw [if_neg h, dif_neg h]
    by_cases h' : k.val < 8
    · rw [if_pos h', dif_pos h', hl h h']
    · rw [if_neg h', dif_neg h']
end payloads

variable (m : (ℓ : Loc nD τ sig) → Buf (Elt Ideal) ℓ)
def X (c : Dev nD) (i : Fin 4096) (k : Fin 768) : EReal := m (c, Proc.tc.devRef main_arg0) (ix2 i k)
def Alpha (c : Dev nD) (i : Fin 4096) (h : Fin 4) : EReal := m (c, Proc.tc.devRef main_arg1) (ix2 i h)
def Logit (c : Dev nD) (i : Fin 4096) (h : Fin 4) : EReal := m (c, Proc.tc.devRef main_arg2) (ix2 i h)
def W (c : Dev nD) (k : Fin 4) (j : Fin 768) : EReal := m (c, Proc.tc.devRef main_arg3) (ix2 k j)
def ALog (c : Dev nD) (h : Fin 4) : EReal := m (c, Proc.tc.devRef main_arg4) (ix1 h)
def Bias (c : Dev nD) (h : Fin 4) : EReal := m (c, Proc.tc.devRef main_arg5) (ix1 h)

/-- The region's entry, one stretch of host operations at a time. -/
theorem entry_eq (c : Dev nD) (b : Ref sig .tc) : V m c b = StableHlo.after hostOps0_6 (StableHlo.after hostOps0_5 (StableHlo.after hostOps0_4
    (StableHlo.after hostOps0_3 (StableHlo.after hostOps0_2 (StableHlo.after hostOps0_1 (StableHlo.after hostOps0 fun b => m (c, b)))))))
    (Proc.devRef .tc b) := by
  unfold V
  simp only [List.flatten_cons, List.flatten_nil, List.append_nil, StableHlo.after_append]

/-- The host's packed rows, padded weights and rates. -/
def Packed (c : Dev nD) : FVec Ideal S4096x3456 .f32 := V m c main_v8
def Taps (c : Dev nD) : FVec Ideal S8x768 .f32 := V m c main_v0
def Rates (c : Dev nD) : FVec Ideal S1x128 .f32 := V m c main_v2
def Biases (c : Dev nD) : FVec Ideal S1x128 .f32 := V m c main_v4

set_option maxHeartbeats 800000 in
theorem packed_at (c : Dev nD) (i : Fin 4096) (p : Fin 3456) : Packed m c (ix2 i p)
    = if h : p.val < 2304 then 0 else if h : p.val < 3072 then X m c i ⟨p.val - 2304, by omega⟩ else if h : p.val < 3328 then 0
      else if h : p.val < 3332 then Alpha m c i ⟨p.val - 3328, by omega⟩
      else if h : p.val < 3336 then Logit m c i ⟨p.val - 3332, by omega⟩ else 0 := by
  unfold Packed X Alpha Logit
  rw [entry_eq]
  after_reads_simp [hostOps0_6]
  pointwise
  after_reads_simp
  pointwise
  split_ifs <;> first
    | (with_reducible rfl)
    | (rw [dif_pos (by omega)]; done)
    | (rw [dif_neg (by omega), dif_neg (by omega), dif_pos (by omega)]; simp only [Nat.sub_sub]; done)
    | (rw [dif_neg (by omega), dif_neg (by omega), dif_neg (by omega), dif_pos (by omega)]; simp only [Nat.sub_sub]; done)
    | (exfalso; omega)
theorem taps_eq (c : Dev nD) (k : Fin 4) (j : Fin 768) : Taps m c (ix2 ⟨k.val, by omega⟩ j) = W m c k j := by
  unfold Taps W
  rw [entry_eq]
  after_reads_simp [hostOps0, hostOps0_1, hostOps0_2, hostOps0_3, hostOps0_4, hostOps0_5, hostOps0_6]
  simp only [StableHlo.TRef.ofBuf_toBuf]
  show pad (s := S4x768) (α := Ideal .f32) S8x768 ![0, 0] ![4, 0] ![0, 0] _ _ pads_S4x768_S8x768_040_000 h_S_ (ix2 ⟨k.val, _⟩ j) = _
  pointwise
  rfl
theorem rates_eq (c : Dev nD) (h : Fin 4) : Rates m c (ix2 0 ⟨h.val, by omega⟩) = ALog m c h := by
  unfold Rates ALog
  rw [entry_eq]
  after_reads_simp [hostOps0, hostOps0_1, hostOps0_2, hostOps0_3, hostOps0_4, hostOps0_5, hostOps0_6]
  simp only [StableHlo.TRef.ofBuf_toBuf]
  show pad (s := S1x4) (α := Ideal .f32) S1x128 ![0, 0] ![0, 124] ![0, 0] _ _ pads_S1x4_S1x128_000_01240 h_S_ (ix2 0 ⟨h.val, _⟩) = _
  pointwise
  rfl
theorem biases_eq (c : Dev nD) (h : Fin 4) : Biases m c (ix2 0 ⟨h.val, by omega⟩) = Bias m c h := by
  unfold Biases Bias
  rw [entry_eq]
  after_reads_simp [hostOps0, hostOps0_1, hostOps0_2, hostOps0_3, hostOps0_4, hostOps0_5, hostOps0_6]
  simp only [StableHlo.TRef.ofBuf_toBuf]
  show pad (s := S1x4) (α := Ideal .f32) S1x128 ![0, 0] ![0, 124] ![0, 0] _ _ pads_S1x4_S1x128_000_01240 h_S_ (ix2 0 ⟨h.val, _⟩) = _
  pointwise
  rfl

theorem rowLt (t : Fin cfg0.N) (r : Fin 512) : 512 * t.val + r.val < 4096 := by have h : t.val < 8 := t.isLt; omega
def row (t : Fin cfg0.N) (r : Fin 512) : Fin 4096 := ⟨512 * t.val + r.val, rowLt t r⟩
theorem point_lt (t : Fin cfg0.N) : t.val < 8 := t.isLt
theorem idx0 : ∀ t : Fin cfg0.N, (win0_0.index t 0 = t.val ∧ win0_0.index t 1 = 3) ∧ (win0_1.index t 0 = 64 * t.val - 1 ∧ win0_1.index t 1 = 3)
    ∧ (win0_2.index t 0 = t.val ∧ win0_2.index t 1 = 26) ∧ (win0_3.index t 0 = 0 ∧ win0_3.index t 1 = 0)
    ∧ (win0_4.index t 0 = 0 ∧ win0_4.index t 1 = 0) ∧ (win0_5.index t 0 = 0 ∧ win0_5.index t 1 = 0) ∧ (grid0.coords t 0).val = t.val := by
  decide +kernel
theorem idx6 : ∀ t : Fin cfg0.N, (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) := by decide +kernel

theorem blk0 (c : Dev nD) (t : Fin cfg0.N) (r : Fin 512) (j : Fin 768) : X0_0 m c t (ix2 r j) = X m c (row t r) j := by
  have e : Packed m c (ix2 (row t r) ⟨2304 + j.val, by omega⟩) = X m c (row t r) j := by
    rw [packed_at, dif_neg (by dsimp only; omega), dif_pos (by dsimp only; omega)]
    exact congrArg (X m c _) (Fin.ext (by dsimp only; omega))
  rw [← e]
  unfold Packed X0_0 Pipeline.Window.fill
  rw [dif_pos (moved0_0 t _)]
  blk_simp [iblk]
  blk_ext [idx0 t, row] <;> (have := idx0 t; simp only [row]; omega)
theorem haloLt (t : Fin cfg0.N) (r : Fin 8) : 8 * (64 * t.val - 1) + r.val < 4096 := by have := point_lt t; omega
theorem blk1 (c : Dev nD) (t : Fin cfg0.N) (r : Fin 8) (j : Fin 768) :
    X0_1 m c t (ix2 r j) = X m c ⟨8 * (64 * t.val - 1) + r.val, haloLt t r⟩ j := by
  have e : Packed m c (ix2 ⟨8 * (64 * t.val - 1) + r.val, haloLt t r⟩ ⟨2304 + j.val, by omega⟩)
      = X m c ⟨8 * (64 * t.val - 1) + r.val, haloLt t r⟩ j := by
    rw [packed_at, dif_neg (by dsimp only; omega), dif_pos (by dsimp only; omega)]
    exact congrArg (X m c _) (Fin.ext (by dsimp only; omega))
  rw [← e]
  unfold Packed X0_1 Pipeline.Window.fill
  rw [dif_pos (moved0_1 t _)]
  blk_simp [iblk]
  blk_ext [idx0 t] <;> (have := idx0 t; omega)
theorem blk2 (c : Dev nD) (t : Fin cfg0.N) (r : Fin 512) (k : Fin 128) :
    (iblk m c 2 t : FVec Ideal S512x128 .f32) (ix2 r k) = Packed m c (ix2 (row t r) ⟨3328 + k.val, by omega⟩) := by
  unfold Packed
  blk_simp [iblk]
  blk_ext [idx0 t, row] <;> (have := idx0 t; simp only [row]; omega)
theorem blk3 (c : Dev nD) (t : Fin cfg0.N) (k : Fin 4) (j : Fin 768) :
    (iblk m c 3 t : FVec Ideal S8x768 .f32) (ix2 ⟨k.val, by omega⟩ j) = W m c k j := by
  rw [← taps_eq]
  unfold Taps
  blk_simp [iblk]
  blk_ext [idx0 t] <;> (have := idx0 t; omega)
theorem blk4 (c : Dev nD) (t : Fin cfg0.N) (h : Fin 4) :
    (iblk m c 4 t : FVec Ideal S1x128 .f32) (ix2 0 ⟨h.val, by omega⟩) = ALog m c h := by
  rw [← rates_eq]
  unfold Rates
  blk_simp [iblk]
  blk_ext [idx0 t] <;> (have := idx0 t; omega)
theorem blk5 (c : Dev nD) (t : Fin cfg0.N) (h : Fin 4) :
    (iblk m c 5 t : FVec Ideal S1x128 .f32) (ix2 0 ⟨h.val, by omega⟩) = Bias m c h := by
  rw [← biases_eq]
  unfold Biases
  blk_simp [iblk]
  blk_ext [idx0 t] <;> (have := idx0 t; omega)

/-- The rows a point convolves are the whole's rows, five before the tile's first. -/
theorem window_at (c : Dev nD) (t : Fin cfg0.N) (k : ℕ) (hk : k < 4) (r : Fin 512) (j : Fin 768) :
    windowAt (grid0.coords t) (X0_1 m c t) (X0_0 m c t) (5 + k + r.val) j = delayed (fun i => X m c i j) (k + (row t r).val) := by
  have ht := point_lt t
  have hc := (idx0 t).2.2.2.2.2.2
  unfold windowAt delayed getN
  split
  · rw [hc]
    split
    · rw [blk1, if_pos (by simp only [row]; omega), dif_pos (by simp only [row]; omega)]
      exact congrArg (fun i => X m c i j) (Fin.ext (by simp only [row]; omega))
    · rw [if_neg (by simp only [row]; omega)]
  · rw [dif_pos (by omega), blk0, if_pos (by simp only [row]; omega), dif_pos (by simp only [row]; omega)]
    exact congrArg (fun i => X m c i j) (Fin.ext (by simp only [row]; omega))
/-- A point's convolved rows. -/
def tileConv (c : Dev nD) (t : Fin cfg0.N) : FVec Ideal S512x768 .f32 :=
  k0_pay4 (grid0.coords t) (X0_1 m c t) (X0_0 m c t) (iblk m c 3 t)
theorem conv_row (c : Dev nD) (t : Fin cfg0.N) (r : Fin 512) :
    (fun j => tileConv m c t (ix2 r j)) = conv (X m c) (W m c) (row t r).val := by
  funext j
  have hw := fun (k : Fin 4) => blk3 m c t k j
  refine (pay_conv ..).trans ?_
  unfold conv
  refine congrArg₂ (· + ·) (congrArg₂ (· + ·) (congrArg₂ (· + ·) (congrArg₂ (· * ·) ?_ (hw 0)) (congrArg₂ (· * ·) ?_ (hw 1)))
    (congrArg₂ (· * ·) ?_ (hw 2))) (congrArg₂ (· * ·) ?_ (hw 3))
  · exact (window_at m c t 0 (by omega) r j).trans (congrArg _ (Nat.zero_add _))
  · exact window_at m c t 1 (by omega) r j
  · exact window_at m c t 2 (by omega) r j
  · exact window_at m c t 3 (by omega) r j

theorem outs_eq (c : Dev nD) (t : Fin cfg0.N) : outsAt0 m c t
    = (k0_pay6 (tileConv m c t), k0_pay7 (k0_pay5 (tileConv m c t)), k0_pay8 (k0_pay5 (tileConv m c t)),
      k0_pay10 (k0_pay1 (iblk m c 2 t)) (k0_pay3 (iblk m c 5 t)) (k0_pay9 (k0_pay2 (iblk m c 4 t)))) := by
  unfold outsAt0 tileConv
  frame_out

theorem gate_tile (c : Dev nD) (t : Fin cfg0.N) (r : Fin 512) (k : Fin 128) :
    k0_pay10 (F := Ideal) (k0_pay1 (iblk m c 2 t)) (k0_pay3 (iblk m c 5 t)) (k0_pay9 (k0_pay2 (iblk m c 4 t))) (ix2 r k)
      = gateRow (Alpha m c) (Logit m c) (ALog m c) (Bias m c) (row t r) k := by
  have hp (h : k.val < 4) (x : Fin 512) : (iblk m c 2 t : FVec Ideal S512x128 .f32) (ix2 x k) = Alpha m c (row t x) ⟨k.val, h⟩ := by
    rw [blk2, packed_at, dif_neg (by dsimp only; omega), dif_neg (by dsimp only; omega), dif_neg (by dsimp only; omega), dif_pos (by dsimp only; omega)]
    exact congrArg (Alpha m c _) (Fin.ext (by dsimp only; omega))
  have hl (h : ¬k.val < 4) (h' : k.val < 8) : (iblk m c 2 t : FVec Ideal S512x128 .f32) (ix2 r k) = Logit m c (row t r) ⟨k.val - 4, by omega⟩ := by
    rw [blk2, packed_at, dif_neg (by dsimp only; omega), dif_neg (by dsimp only; omega), dif_neg (by dsimp only; omega),
      dif_neg (by dsimp only; omega), dif_pos (by dsimp only; omega)]
    exact congrArg (Logit m c _) (Fin.ext (by dsimp only; omega))
  exact gate_of _ _ _ (Alpha m c) (Logit m c) (ALog m c) (Bias m c) t.val (point_lt t) r k hp hl
    (fun h => blk4 m c t ⟨k.val, h⟩) (fun h => blk5 m c t ⟨k.val, h⟩)

section final
variable (c : Dev nD)
/-- A row's activated entries, and the four results' rows. -/
def Act (i : Fin 4096) : Fin 768 → EReal := silu (conv (X m c) (W m c) i.val)
def Gates (i : Fin 4096) (k : Fin 128) : EReal := gateRow (Alpha m c) (Logit m c) (ALog m c) (Bias m c) i k

theorem final_query : (dats m 0 c).arrAt 6 cfg0.N = fun i : S4096x256.Idx => queryRow (Act m c (i 0)) (i 1) := by
  refine (dats m 0 c).arrAt_eq_of_covers 6 _ (by decide +kernel) fun t hf y => ?_
  blk_simp
  obtain ⟨r, j, rfl⟩ : ∃ (r : Fin 512) (j : Fin 256), y = (ix2 r j : S512x256.Idx) := ⟨y 0, y 1, eq_ix2 (n0 := 512) (n1 := 256) y⟩
  have e : (win0_6.blk t).view.emb (ix2 r j) = (ix2 (row t r) j : S4096x256.Idx) := by
    blk_ext [idx6 t, row] <;> (have := idx6 t; simp only [row]; omega)
  rw [after0_6, outs_eq, e]
  exact (pay_query _ r j).trans (by rw [conv_row]; rfl)
theorem final_key : (dats m 0 c).arrAt 7 cfg0.N = fun i : S4096x256.Idx => keyRow (Act m c (i 0)) (i 1) := by
  refine (dats m 0 c).arrAt_eq_of_covers 7 _ (by decide +kernel) fun t hf y => ?_
  blk_simp
  obtain ⟨r, j, rfl⟩ : ∃ (r : Fin 512) (j : Fin 256), y = (ix2 r j : S512x256.Idx) := ⟨y 0, y 1, eq_ix2 (n0 := 512) (n1 := 256) y⟩
  have e : (win0_7.blk t).view.emb (ix2 r j) = (ix2 (row t r) j : S4096x256.Idx) := by
    blk_ext [idx6 t, row] <;> (have := idx6 t; simp only [row]; omega)
  rw [after0_7, outs_eq, e]
  exact (pay_key _ r j).trans (by rw [conv_row]; rfl)
theorem final_value : (dats m 0 c).arrAt 8 cfg0.N = fun i : S4096x256.Idx => valueRow (Act m c (i 0)) (i 1) := by
  refine (dats m 0 c).arrAt_eq_of_covers 8 _ (by decide +kernel) fun t hf y => ?_
  blk_simp
  obtain ⟨r, j, rfl⟩ : ∃ (r : Fin 512) (j : Fin 256), y = (ix2 r j : S512x256.Idx) := ⟨y 0, y 1, eq_ix2 (n0 := 512) (n1 := 256) y⟩
  have e : (win0_8.blk t).view.emb (ix2 r j) = (ix2 (row t r) j : S4096x256.Idx) := by
    blk_ext [idx6 t, row] <;> (have := idx6 t; simp only [row]; omega)
  rw [after0_8, outs_eq, e]
  exact (pay_value _ r j).trans (by rw [conv_row]; rfl)
theorem final_gates : (dats m 0 c).arrAt 9 cfg0.N = fun i : S4096x128.Idx => Gates m c (i 0) (i 1) := by
  refine (dats m 0 c).arrAt_eq_of_covers 9 _ (by decide +kernel) fun t hf y => ?_
  blk_simp
  obtain ⟨r, j, rfl⟩ : ∃ (r : Fin 512) (j : Fin 128), y = (ix2 r j : S512x128.Idx) := ⟨y 0, y 1, eq_ix2 (n0 := 512) (n1 := 128) y⟩
  have e : (win0_9.blk t).view.emb (ix2 r j) = (ix2 (row t r) j : S4096x128.Idx) := by
    blk_ext [idx6 t, row] <;> (have := idx6 t; simp only [row]; omega)
  rw [after0_9, outs_eq, e]
  exact gate_tile m c t r j

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
end final

/-- The kernel run: its four result arrays as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v9_0) = (fun i : S4096x256.Idx => queryRow (Act m c (i 0)) (i 1))
      ∧ r.2.mem (c.tc.loc main_v9_1) = (fun i : S4096x256.Idx => keyRow (Act m c (i 0)) (i 1))
      ∧ r.2.mem (c.tc.loc main_v9_2) = (fun i : S4096x256.Idx => valueRow (Act m c (i 0)) (i 1))
      ∧ r.2.mem (c.tc.loc main_v9_3) = (fun i : S4096x128.Idx => Gates m c (i 0) (i 1)) ∧ Kept m c r.2 :=
  (θ_run defs _ _).mono (fun _ h c => ⟨(h c).1.trans (final_query m c), (h c).2.1.trans (final_key m c), (h c).2.2.1.trans (final_value m c),
    (h c).2.2.2.1.trans (final_gates m c), (h c).2.2.2.2⟩) (Value.run_blocks m ρ)
end Cert.DnFwd
-- ==== Proof.DnFwdRef.lean ====
module
public import proofs.«01_k».proof.Defs
public import proofs.«01_k».proof.Proof.DnFwd
public import proofs.«01_k».proof.Proof.DnPreRef
public import proofs.«01_k».proof.Proof.Gen.Reference5Ideal.Run
public import proofs.«01_k».proof.Proof.Gen.Reference5Ideal.Read
/-!
The input stage's forward reference, stage by stage, and the two programs' agreement.
-/
@[expose] public section
noncomputable section
namespace Cert.DnFwd.Ref
open Cert.Reference5Ideal Cert.Reference5Ideal.Read Idealize.ShloMosaic Idealize.ShloMosaic.TcCoe Idealize.SL.Sem
open Cert.DnPre (getN delayed sqLen eighth queries keys headAt headLe within conv softplus)
open Cert.DnFwd (unit silu queryRow keyRow valueRow chunkHead decay gateRow)
set_option maxRecDepth 16384
abbrev Rows := (⟨S4096x768, .f32⟩ : BufTy).Contents (Elt Ideal)
abbrev Weights := (⟨S4x768, .f32⟩ : BufTy).Contents (Elt Ideal)
abbrev Gate := (⟨S4096x4, .f32⟩ : BufTy).Contents (Elt Ideal)
abbrev PerHead := (⟨S4, .f32⟩ : BufTy).Contents (Elt Ideal)

section rows
variable (x0 : Rows) (x3 : Weights)
def rX (i : Fin 4096) (c : Fin 768) : EReal := x0 (ix2 i c)
def rW (k : Fin 4) (c : Fin 768) : EReal := x3 (ix2 k c)

theorem delayed_at (n : Fin 4099) (c : Fin 768) :
    val_main_v1 (F := Ideal) x0 (ix2 n c) = delayed (fun i => rX x0 i c) n.val := by
  unfold val_main_v1 val_main_v0 val_main_cst delayed getN rX
  pointwise
  by_cases h : n.val < 3
  · rw [dif_pos h, if_neg (by omega)]
  · rw [dif_neg h]
    rw [if_pos (c := 3 ≤ n.val) (by omega), dif_pos (c := n.val - 3 < 4096) (by omega)]

theorem conv_at (i : Fin 4096) (c : Fin 768) :
    val_main_v28 (F := Ideal) x0 x3 (ix2 i c) = conv (rX x0) (rW x3) i.val c := by
  unfold val_main_v28 val_main_v27 val_main_v26 val_main_v25 val_main_v24 val_main_v23 val_main_v22 val_main_v21
    val_main_v20 val_main_v19 val_main_v18 val_main_v17 val_main_v16 val_main_v15 val_main_v14 val_main_v13
    val_main_v12 val_main_v11 val_main_v10 val_main_v9 val_main_v8 val_main_v7 val_main_v6 val_main_v5 val_main_v4
    val_main_v3 val_main_v2
  pointwise
  unfold conv rW
  rw [delayed_at, delayed_at, delayed_at, delayed_at, mul_comm (x3 _), mul_comm (x3 _), mul_comm (x3 _), mul_comm (x3 _)]
/-- A row's activated entries. -/
def act (i : Fin 4096) : Fin 768 → EReal := silu (conv (rX x0) (rW x3) i.val)
theorem act_at (i : Fin 4096) (c : Fin 768) : val_main_v29 (F := Ideal) x0 x3 (ix2 i c) = act x0 x3 i c := by
  unfold act silu
  rw [← conv_at]
  unfold val_main_v29 val_main_call0_v5 val_main_call0_v4 val_main_call0_v3 val_main_call0_v2 val_main_call0_v1
    val_main_call0_v0 val_main_call0_cst val_main_call0_cst_0
  pointwise
  rfl
theorem query_at (i : Fin 4096) (k : Fin 256) : val_main_v71 (F := Ideal) x0 x3 (ix2 i k) = queryRow (act x0 x3 i) k := by
  unfold val_main_v71 val_main_v44 val_main_v43 val_main_v42 val_main_cst_2 val_main_v41 val_main_v40 val_main_v39
    val_main_v38 val_main_v37 val_main_v36 val_main_v35 val_main_cst_1 val_main_cst_0 val_main_v33 val_main_v30
  pointwise
  simp only [act_at, Fin.sum_univ_one]
  exact congrArg (· * eighth) (unit_of (queries (act x0 x3 i)) k (o := k.val / 64 * 64) (by omega) (by omega))
theorem key_at (i : Fin 4096) (k : Fin 256) : val_main_v72 (F := Ideal) x0 x3 (ix2 i k) = keyRow (act x0 x3 i) k := by
  unfold val_main_v72 val_main_v52 val_main_v51 val_main_v50 val_main_v49 val_main_v48 val_main_v47 val_main_v46
    val_main_v45 val_main_cst_4 val_main_cst_3 val_main_v34 val_main_v31
  pointwise
  simp only [act_at, Fin.sum_univ_one]
  exact unit_of (keys (act x0 x3 i)) k (o := k.val / 64 * 64) (by omega) (by omega)
theorem value_at (i : Fin 4096) (k : Fin 256) : val_main_v32 (F := Ideal) x0 x3 (ix2 i k) = valueRow (act x0 x3 i) k := by
  unfold val_main_v32
  pointwise
  rw [act_at]
  rfl
end rows

/-- A sum over the offsets that reach back within a chunk is the sum over the places up to there. -/
theorem sum_back (p : Fin 64) (f : Fin 64 → EReal) :
    (∑ n : Fin 64, if h : 63 ≤ p.val + n.val then f ⟨p.val + n.val - 63, by omega⟩ else 0) = ∑ q : Fin 64, if q.val ≤ p.val then f q else 0 := by
  refine Eq.trans (Finset.sum_congr rfl fun n _ => ?_) (Equiv.sum_comp (Equiv.addLeft (p + 1)) fun q => if q.val ≤ p.val then f q else 0)
  have e : (p + 1 + n).val = (p.val + 1 + n.val) % 64 := by
    rw [Fin.val_add, Fin.val_add]
    exact Nat.mod_add_mod ..
  rw [Equiv.coe_addLeft]
  dsimp only
  by_cases h : 63 ≤ p.val + n.val
  · rw [dif_pos h, if_pos (by omega)]
    exact congrArg f (Fin.ext (by dsimp only; omega))
  · rw [dif_neg h, if_neg (by omega)]

section gates
variable (x1 x2 : Gate) (x4 x5 : PerHead)
def rG (i : Fin 4096) (h : Fin 4) : EReal := x1 (ix2 i h)
def rH (h : Fin 4) : EReal := x4 (ix1 h)
theorem softplus_at (i : Fin 4096) (h : Fin 4) : val_main_v64 (F := Ideal) x1 x5 (ix2 i h) = softplus (rG x1 i h + rH x5 h) := by
  unfold val_main_v64 val_main_call1_v11 val_main_call1_v10 val_main_call1_v9 val_main_call1_v8 val_main_call1_v7
    val_main_call1_v6 val_main_call1_v5 val_main_call1_v4 val_main_call1_v3 val_main_call1_v2 val_main_call1_v1
    val_main_call1_v0 val_main_call1_cst val_main_v63 val_main_v62 val_main_v61
  pointwise
  rw [if_neg (fun h => h rfl)]
  unfold softplus
  rw [zero_sub]
  rfl
theorem decay_at (i : Fin 4096) (h : Fin 4) : val_main_v67 (F := Ideal) x1 x4 x5 (ix2 i h) = decay (rG x1) (rH x4) (rH x5) h i := by
  unfold val_main_v67 val_main_v66 val_main_v65 val_main_v60 val_main_v59
  pointwise
  rw [softplus_at]
  unfold decay
  rw [zero_sub]
  rfl
theorem window_at (a p : Fin 64) (h : Fin 4) : val_main_v69 (F := Ideal) x1 x4 x5 (ix3 a p h)
    = ∑ q : Fin 64, if q.val ≤ p.val then val_main_v68 (F := Ideal) x1 x4 x5 (ix3 a q h) else 0 := by
  unfold val_main_v69 val_main_call2_call0_v0 val_main_call2_call0_cst
  generalize val_main_v68 (F := Ideal) x1 x4 x5 = y
  have e0 : broadcastInDim S_ ![] Gen.bcast_S_S_ (constant (F := Ideal) S_ FTy.f32 0#32) = fun _ => 0 := by
    funext j
    pointwise
  rw [e0]
  show Host.reduceWindow (· + ·) ![1, 64, 1] ![1, 1, 1] ![0, 63, 0] ![0, 0, 0] y ((fun _ => 0 : S_.Idx → EReal))
    Gen.reduceWindows_S64x64x4_S64x64x4_w1s1p0_0_w64s1p63_0_w1s1p0_0 Gen.h_S_ (ix3 a p h) = _
  unfold Host.reduceWindow
  dsimp only
  rw [Cert.DnPre.Ref.foldl_add, ← Fin.sum_univ_def, zero_add, ← sum_back]
  refine (Fintype.sum_equiv (Shape.rowMajor ⟨3, ![1, 64, 1]⟩).symm _
    (fun w => if hw : 63 ≤ p.val + (w 1).val then y (ix3 a ⟨p.val + (w 1).val - 63, by have : (w 1).val < 64 := (w 1).isLt; omega⟩ h) else 0) fun n => ?_).trans ?_
  · have pt (w : (⟨3, ![1, 64, 1]⟩ : Shape).Idx) : (if hin : ∀ k : Fin 3,
        (![0, 63, 0] : Fin 3 → ℕ) k ≤ (ix3 a p h (Fin.cast rfl k)).val * (![1, 1, 1] : Fin 3 → ℕ) k + (w k).val
          ∧ (ix3 a p h (Fin.cast rfl k)).val * (![1, 1, 1] : Fin 3 → ℕ) k + (w k).val - (![0, 63, 0] : Fin 3 → ℕ) k
            < (![64, 64, 4] : Fin 3 → ℕ) k then y (fun k => ⟨_, (hin k).2⟩) else 0)
        = if hw : 63 ≤ p.val + (w 1).val then y (ix3 a ⟨p.val + (w 1).val - 63, by have : (w 1).val < 64 := (w 1).isLt; omega⟩ h) else 0 := by
      obtain ⟨u, q, v, rfl⟩ : ∃ (u : Fin 1) (q : Fin 64) (v : Fin 1), w = ix3 u q v := ⟨_, _, _, eq_ix3 w⟩
      have hu : u.val = 0 := by omega
      have hv : v.val = 0 := by omega
      by_cases hw : 63 ≤ p.val + q.val
      · rw [dif_pos (c := 63 ≤ p.val + ((ix3 u q v : (⟨3, ![1, 64, 1]⟩ : Shape).Idx) 1).val) hw, dif_pos]
        · refine congrArg y (funext fun k => Fin.ext ?_)
          fin_cases k <;> simp [hu, hv]
        · intro k
          fin_cases k <;> simp [hu, hv, hw]
          omega
      · rw [dif_neg (c := 63 ≤ p.val + ((ix3 u q v : (⟨3, ![1, 64, 1]⟩ : Shape).Idx) 1).val) hw, dif_neg]
        intro hin
        have := (hin 1).1
        simp at this
        omega
    convert pt ((Shape.rowMajor ⟨3, ![1, 64, 1]⟩).symm n)
  · rw [sum_idx3]
    simp only [Fin.sum_univ_one]
    rfl
theorem head_at (i : Fin 4096) (h : Fin 4) : val_main_v70 (F := Ideal) x1 x4 x5 (ix2 i h)
    = chunkHead (decay (rG x1) (rH x4) (rH x5) h) i := by
  unfold val_main_v70
  pointwise
  rw [window_at]
  unfold val_main_v68
  pointwise
  simp only [decay_at]
  unfold chunkHead
  exact Finset.sum_congr rfl fun q _ => by
    by_cases hq : q.val ≤ i.val % 64
    · rw [if_pos hq, if_pos hq]
      exact congrArg (decay (rG x1) (rH x4) (rH x5) h) (Fin.ext (by dsimp only; omega))
    · rw [if_neg hq, if_neg hq]
theorem gates_at (i : Fin 4096) (k : Fin 128) : val_main_v74 (F := Ideal) x1 x2 x4 x5 (ix2 i k)
    = gateRow (rG x1) (rG x2) (rH x4) (rH x5) i k := by
  unfold val_main_v74 val_main_v73 val_main_cst_7 val_main_v58 val_main_v57 val_main_v56 val_main_v55 val_main_v54
    val_main_v53 val_main_cst_5 val_main_cst_6
  pointwise
  unfold gateRow
  by_cases h : k.val < 4
  · rw [dif_pos h, dif_pos h, head_at]
  · rw [dif_neg h, dif_neg h]
    by_cases h' : k.val < 8
    · rw [dif_pos h', dif_pos (by omega)]
      rfl
    · rw [dif_neg h', dif_neg (by omega)]
end gates

variable (m : (ℓ : Loc nD τ sig) → Buf (Elt Ideal) ℓ) (c : Dev nD)
abbrev X : Fin 4096 → Fin 768 → EReal := rX (m (c.tc.loc main_arg0))
abbrev Alpha : Fin 4096 → Fin 4 → EReal := rG (m (c.tc.loc main_arg1))
abbrev Logit : Fin 4096 → Fin 4 → EReal := rG (m (c.tc.loc main_arg2))
abbrev W : Fin 4 → Fin 768 → EReal := rW (m (c.tc.loc main_arg3))
abbrev ALog : Fin 4 → EReal := rH (m (c.tc.loc main_arg4))
abbrev Bias : Fin 4 → EReal := rH (m (c.tc.loc main_arg5))

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)

theorem run_values (ρ : Dev nD → PrngReg) :
    θ_run defs (onTc (τ := τ) (main (F := Ideal))) ⟨m, fun _ => 0, ρ⟩ fun r => ∀ c : Dev nD,
      r.2.mem (c.tc.loc main_v71) = (fun i : S4096x256.Idx => queryRow (silu (conv (X m c) (W m c) (i 0).val)) (i 1))
      ∧ r.2.mem (c.tc.loc main_v72) = (fun i : S4096x256.Idx => keyRow (silu (conv (X m c) (W m c) (i 0).val)) (i 1))
      ∧ r.2.mem (c.tc.loc main_v32) = (fun i : S4096x256.Idx => valueRow (silu (conv (X m c) (W m c) (i 0).val)) (i 1))
      ∧ r.2.mem (c.tc.loc main_v74) = (fun i : S4096x128.Idx => gateRow (Alpha m c) (Logit m c) (ALog m c) (Bias m c) (i 0) (i 1))
      ∧ Kept m c r.2 := by
  refine (θ_run defs _ _).mono (fun r h c => ?_) (Value.run m ρ)
  obtain ⟨h0, h1, h2, h3, h4⟩ := h c
  refine ⟨h0.trans ((val_main_v71_eq m c).trans (funext fun i => ?_)), h1.trans ((val_main_v72_eq m c).trans (funext fun i => ?_)),
    h2.trans ((val_main_v32_eq m c).trans (funext fun i => ?_)), h3.trans ((val_main_v74_eq ..).trans (funext fun i => ?_)), h4⟩
  all_goals obtain ⟨r, j, rfl⟩ : ∃ r j, i = ix2 r j := ⟨_, _, eq_ix2 i⟩
  · exact query_at ..
  · exact key_at ..
  · exact value_at ..
  · exact gates_at ..

theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2.2.2.2, sem_eq_zero_of_no_sems (by decide) r.2⟩) (run_values m ρ)
end Cert.DnFwd.Ref

open Idealize.ShloMosaic Idealize.ShloMosaic.TcCoe Idealize.SL.Sem in
/-- The call computes the activated convolution's normalised queries and keys, its values, and the gates. -/
theorem Cert.DnFwd.value : Cert.algebraic_Kernel5Ideal_Reference5Ideal := by
  intro m g m' g' _ hag
  have e0 (c) : Cert.DnFwd.Ref.X m' c = X m c := by funext i k; exact congrFun (hag c).1 (ix2 i k)
  have e1 (c) : Cert.DnFwd.Ref.Alpha m' c = Alpha m c := by funext i k; exact congrFun (hag c).2.1 (ix2 i k)
  have e2 (c) : Cert.DnFwd.Ref.Logit m' c = Logit m c := by funext i k; exact congrFun (hag c).2.2.1 (ix2 i k)
  have e3 (c) : Cert.DnFwd.Ref.W m' c = W m c := by funext i k; exact congrFun (hag c).2.2.2.1 (ix2 i k)
  have e4 (c) : Cert.DnFwd.Ref.ALog m' c = ALog m c := by funext k; exact congrFun (hag c).2.2.2.2.1 (ix1 k)
  have e5 (c) : Cert.DnFwd.Ref.Bias m' c = Bias m c := by funext k; exact congrFun (hag c).2.2.2.2.2 (ix1 k)
  have hr := Cert.DnFwd.Ref.run_values m' g'
  simp only [e0, e1, e2, e3, e4, e5] at hr
  exact ⟨_, _, _, _, run_values m g, hr⟩
-- ==== Proof.InProj.lean ====
module
public import proofs.«01_k».proof.Proof.Gen.Kernel6Ideal.Value
public import proofs.«01_k».proof.Proof.NormBwd
/-!
The input projection, forward: the normalised rows and their product with the packed weights, as functions of the arguments.
-/
@[expose] public section
noncomputable section
namespace Cert.InProj
open Cert.Kernel6Ideal Cert.Kernel6Ideal.Gen Idealize.ShloMosaic Idealize.ShloMosaic.TcCoe Idealize.SL.Sem
open Idealize.ShloMosaic.Pipeline (Dat)
open Cert.NormBwd (meanSq packed at_column)
set_option maxRecDepth 16384

/-- A normalised row. -/
def normed (x g : Fin 1024 → EReal) (k : Fin 1024) : EReal := x k * Ideal.rsqrt (meanSq x) * g k
/-- A column of the projection. -/
def project (x g : Fin 1024 → EReal) (w : Fin 1024 → Fin 3336 → EReal) (q : Fin 3336) : EReal := ∑ k, normed x g k * w k q

/-- The product with packed weights is the packed product. -/
theorem packed_project (h : Fin 1024 → EReal) (w : Fin 1024 → Fin 3336 → EReal) (p : Fin 3456) :
    ∑ k, h k * packed (w k) p = packed (fun q => ∑ k, h k * w k q) p := by
  unfold packed
  split_ifs
  · rfl
  · simp only [mul_zero, Finset.sum_const_zero]

variable (m : (ℓ : Loc nD τ sig) → Buf (Elt Ideal) ℓ) (c : Dev nD)

/-- The hidden states, the scale and the weights. -/
def X (i : Fin 4096) (k : Fin 1024) : EReal := m (c, Proc.tc.devRef main_arg0) (ix2 i k)
def G (k : Fin 1024) : EReal := m (c, Proc.tc.devRef main_arg1) (ix1 k)
def W (j : Fin 1024) (q : Fin 3336) : EReal := m (c, Proc.tc.devRef main_arg2) (ix2 j q)

section payloads
variable (x : FVec Ideal S512x1024 .f32) (g : FVec Ideal S1x1024 .f32) (w : FVec Ideal S1024x3456 .bf16)
@[pointwise] theorem pay_rows (r : Fin 512) (k : Fin 1024) :
    k0_pay1 (F := Ideal) x g (ix2 r k) = normed (fun k => x (ix2 r k)) (fun k => g (ix2 0 k)) k := by
  unfold k0_pay1
  pointwise
  rfl
theorem pay_proj (r : Fin 512) (p : Fin 3456) :
    k0_pay2 (F := Ideal) x g w (ix2 r p) = ∑ k, normed (fun k => x (ix2 r k)) (fun k => g (ix2 0 k)) k * w (ix2 k p) := by
  unfold k0_pay2
  pointwise
end payloads

def row (t : Fin cfg0.N) (r : Fin 512) : Fin 4096 := ⟨512 * t.val + r.val, by have h : t.val < 8 := t.isLt; omega⟩

theorem idx0 : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) := by decide +kernel

theorem blkX (t : Fin cfg0.N) (r : Fin 512) (j : Fin 1024) : iblk m c 0 t (ix2 r j) = X m c (row t r) j := by
  unfold X
  blk_simp [iblk]
  entry_read
  blk_ext [idx0 t, row] <;> (have := idx0 t; simp only [row]; omega)

theorem blkG (t : Fin cfg0.N) (j : Fin 1024) : iblk m c 1 t (ix2 0 j) = G m c j := by
  unfold G
  blk_simp [iblk]
  entry_read
  pointwise
  blk_ext [idx0 t] <;> (have := idx0 t; omega)

theorem blkW (t : Fin cfg0.N) (j : Fin 1024) (p : Fin 3456) : iblk m c 2 t (ix2 j p) = packed (W m c j) p := by
  unfold W packed
  blk_simp [iblk]
  have e : (win0_2.blk t).view.emb (ix2 j p) = (ix2 j p : S1024x3456.Idx) := by blk_ext [idx0 t] <;> (have := idx0 t; omega)
  rw [e]
  unfold V
  after_reads_simp [hostOps0]
  pointwise
  after_reads_simp
  pointwise
  by_cases hp : p.val < 3336
  · rw [dif_pos hp]
    split_ifs <;> first | exact at_column (W m c j) _ _ _ (by dsimp only; split_ifs <;> omega) | (exfalso; omega)
  · rw [dif_neg hp]
    split_ifs <;> first | rfl | (exfalso; omega)

/-- The two result rows in the arguments. -/
def Rows (i : Fin 4096) (k : Fin 1024) : EReal := normed (X m c i) (G m c) k
def Proj (i : Fin 4096) (p : Fin 3456) : EReal := packed (project (X m c i) (G m c) (W m c)) p

theorem final_proj : (dats m 0 c).arrAt 3 cfg0.N = fun i : S4096x3456.Idx => Proj m c (i 0) (i 1) := by
  refine (dats m 0 c).arrAt_eq_of_covers 3 _ (by decide +kernel) fun t hf y => ?_
  blk_simp
  obtain ⟨r, j, rfl⟩ : ∃ (r : Fin 512) (j : Fin 3456), y = (ix2 r j : S512x3456.Idx) := ⟨y 0, y 1, eq_ix2 (n0 := 512) (n1 := 3456) y⟩
  have e : (win0_3.blk t).view.emb (ix2 r j) = (ix2 (row t r) j : S4096x3456.Idx) := by
    blk_ext [idx0 t, row] <;> (have := idx0 t; simp only [row]; omega)
  rw [after0_3, e]
  unfold out0_3
  frame_out
  refine (pay_proj ..).trans ?_
  simp only [blkX, blkG, blkW, packed_project]
  rfl

theorem final_rows : (dats m 0 c).arrAt 4 cfg0.N = fun i : S4096x1024.Idx => Rows m c (i 0) (i 1) := by
  refine (dats m 0 c).arrAt_eq_of_covers 4 _ (by decide +kernel) fun t hf y => ?_
  blk_simp
  obtain ⟨r, j, rfl⟩ : ∃ (r : Fin 512) (j : Fin 1024), y = (ix2 r j : S512x1024.Idx) := ⟨y 0, y 1, eq_ix2 (n0 := 512) (n1 := 1024) y⟩
  have e : (win0_4.blk t).view.emb (ix2 r j) = (ix2 (row t r) j : S4096x1024.Idx) := by
    blk_ext [idx0 t, row] <;> (have := idx0 t; simp only [row]; omega)
  rw [after0_4, e]
  unfold out0_4
  frame_out
  refine (pay_rows ..).trans ?_
  simp only [blkX, blkG]
  rfl

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2)

/-- The kernel run: its two result arrays as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v7_0) = (fun i : S4096x3456.Idx => Proj m c (i 0) (i 1))
      ∧ r.2.mem (c.tc.loc main_v7_1) = (fun i : S4096x1024.Idx => Rows m c (i 0) (i 1)) ∧ Kept m c r.2 :=
  (θ_run defs _ _).mono (fun _ h c => ⟨(h c).1.trans (final_proj m c), (h c).2.1.trans (final_rows m c), (h c).2.2⟩) (Value.run_blocks m ρ)
end Cert.InProj
-- ==== Proof.InProjRef.lean ====
module
public import proofs.«01_k».proof.Defs
public import proofs.«01_k».proof.Proof.InProj
public import proofs.«01_k».proof.Proof.Gen.Reference6Ideal.Run
/-!
The forward projection's reference: its two results as the same functions of the arguments, and the two programs' agreement.
-/
@[expose] public section
noncomputable section
namespace Cert.InProj.Ref
open Cert.Reference6Ideal Cert.Reference6Ideal.Gen Cert.Reference6Ideal.Value Idealize.ShloMosaic Idealize.ShloMosaic.TcCoe Idealize.SL.Sem
open Cert.InProj (normed project)
open Cert.NormBwd (packed at_column)
set_option maxRecDepth 16384

variable (m : (ℓ : Loc nD τ sig) → Buf (Elt Ideal) ℓ) (c : Dev nD)

def X (i : Fin 4096) (k : Fin 1024) : EReal := m (c.tc.loc main_arg0) (ix2 i k)
def G (k : Fin 1024) : EReal := m (c.tc.loc main_arg1) (ix1 k)
def W (j : Fin 1024) (q : Fin 3336) : EReal := m (c.tc.loc main_arg2) (ix2 j q)

def Rows (i : Fin 4096) (k : Fin 1024) : EReal := normed (X m c i) (G m c) k
def Proj (i : Fin 4096) (p : Fin 3456) : EReal := packed (project (X m c i) (G m c) (W m c)) p

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2)

theorem run_values (ρ : Dev nD → PrngReg) :
    θ_run defs (onTc (τ := τ) (main (F := Ideal))) ⟨m, fun _ => 0, ρ⟩ fun r => ∀ c : Dev nD,
      r.2.mem (c.tc.loc main_v18) = (fun i : S4096x3456.Idx => Proj m c (i 0) (i 1))
      ∧ r.2.mem (c.tc.loc main_v19) = (fun i : S4096x1024.Idx => Rows m c (i 0) (i 1)) ∧ Kept m c r.2 := by
  refine (θ_run defs _ _).mono (fun r h c => ?_) (run m ρ)
  obtain ⟨h0, h1, h2⟩ := h c
  refine ⟨h0.trans (funext fun i => ?_), h1.trans (funext fun i => ?_), h2⟩
  · obtain ⟨r, p, rfl⟩ : ∃ (r : Fin 4096) (p : Fin 3456), i = (ix2 r p : S4096x3456.Idx) := ⟨i 0, i 1, eq_ix2 (n0 := 4096) (n1 := 3456) i⟩
    change _ = Proj m c r p
    clear h0 h1 h2
    unfold Proj packed
    pointwise
    by_cases hp : p.val < 3336
    · rw [dif_pos hp]
      split_ifs <;> first | exact at_column (project (X m c r) (G m c) (W m c)) _ _ _ (by dsimp only; split_ifs <;> omega) | (exfalso; omega)
    · rw [dif_neg hp]
      split_ifs <;> first | rfl | (exfalso; omega)
  · obtain ⟨r, j, rfl⟩ : ∃ (r : Fin 4096) (j : Fin 1024), i = (ix2 r j : S4096x1024.Idx) := ⟨i 0, i 1, eq_ix2 (n0 := 4096) (n1 := 1024) i⟩
    pointwise
    rfl

theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2.2, sem_eq_zero_of_no_sems (by decide) r.2⟩) (run_values m ρ)
end Cert.InProj.Ref

open Idealize.ShloMosaic Idealize.ShloMosaic.TcCoe Idealize.SL.Sem in
/-- The fused call computes the normalised rows and their packed projection. -/
theorem Cert.InProj.value : Cert.algebraic_Kernel6Ideal_Reference6Ideal := by
  intro m g m' g' _ hag
  have e0 (c) : Cert.InProj.Ref.X m' c = X m c := by funext i k; exact congrFun (hag c).1 (ix2 i k)
  have e1 (c) : Cert.InProj.Ref.G m' c = G m c := by funext k; exact congrFun (hag c).2.1 (ix1 k)
  have e2 (c) : Cert.InProj.Ref.W m' c = W m c := by funext i k; exact congrFun (hag c).2.2 (ix2 i k)
  have hr := Cert.InProj.Ref.run_values m' g'
  simp only [Cert.InProj.Ref.Proj, Cert.InProj.Ref.Rows, e0, e1, e2] at hr
  exact ⟨_, _, run_values m g, hr⟩
-- ==== Proof.AcFwd.lean ====
module
public import proofs.«01_k».proof.Defs
public import proofs.«01_k».proof.Proof.DnFwd
public import proofs.«01_k».proof.Proof.Gen.Kernel7Ideal.Value
public import Idealize.ShloMosaic.Lib.StableHlo.RunRead
/-!
The forward call of the two convolutional branches: its two result arrays as functions of its arguments.
-/
@[expose] public section
noncomputable section
namespace Cert.AcFwd
open Cert.Kernel7Ideal Cert.Kernel7Ideal.Gen Idealize.ShloMosaic Idealize.ShloMosaic.TcCoe Idealize.SL.Sem
open Idealize.ShloMosaic.Pipeline (Dat)
open Cert.DnFwd (silu)
set_option maxRecDepth 16384

/-- The sum of the terms `0 … n`, added from the left. -/
def upTo (T : ℕ → EReal) : ℕ → EReal
  | 0 => T 0
  | n + 1 => upTo T n + T (n + 1)
/-- A column read `d` rows back, zero before its start. -/
def back (d : ℕ) (x : Fin 4096 → EReal) (n : ℕ) : EReal := if h : d ≤ n ∧ n - d < 4096 then x ⟨n - d, h.2⟩ else 0
/-- A causal convolution with `d + 1` taps at row `i`. -/
def conv (d : ℕ) (x : Fin 4096 → EReal) (w : ℕ → EReal) (i : ℕ) : EReal := upTo (fun k => back d x (k + i) * w k) d

/-- A row's mean, and the row normalised, scaled and shifted. -/
def mean (a : Fin 256 → EReal) : EReal := Ideal.div (∑ k, a k) (Ideal.ofBits FTy.f32 0x43800000#32)
def norm (a g b : Fin 256 → EReal) (k : Fin 256) : EReal :=
  (a k - mean a) * Ideal.rsqrt (mean (fun k => (a k - mean a) * (a k - mean a)) + Ideal.ofBits FTy.f32 0x358637BD#32) * g k + b k
/-- The first branch of a row from its convolution `a` and its gate `z`; the second from its three factors. -/
def rowA (a g b : Fin 256 → EReal) (w : Fin 256 → Fin 256 → EReal) (e z : Fin 256 → EReal) (j : Fin 256) : EReal :=
  ((∑ k, silu (norm a g b) k * w k j) + e j) * silu z j
def rowC (b y z : EReal) : EReal := b * y * (z * Ideal.logistic z)
def glu (x g : EReal) : EReal := x * Ideal.logistic g

/-- A tap table's column. -/
def tapN {n : ℕ} (w : Fin n → EReal) (k : ℕ) : EReal := if h : k < n then w ⟨k, h⟩ else 0
/-- A table of 4096 rows, and the two results as functions of the arguments. -/
abbrev Table := Fin 4096 → Fin 256 → EReal
def longConv (x g : Table) (w : Fin 31 → Fin 256 → EReal) (i : Fin 4096) (j : Fin 256) : EReal :=
  conv 30 (fun i => glu (x i j) (g i j)) (tapN fun k => w k j) i.val
def branchA (x g z : Table) (w : Fin 31 → Fin 256 → EReal) (cb lg lb : Fin 256 → EReal) (pw : Fin 256 → Fin 256 → EReal) (e : Fin 256 → EReal)
    (i : Fin 4096) (j : Fin 256) : EReal := rowA (fun k => longConv x g w i k + cb k) lg lb pw e (z i) j
def branchC (b x y z : Table) (w : Fin 3 → Fin 256 → EReal) (i : Fin 4096) (j : Fin 256) : EReal :=
  rowC (b i j) (conv 2 (fun i => x i j * y i j) (tapN fun k => w k j) i.val) (z i j)
theorem upTo_congr {T T' : ℕ → EReal} : ∀ n, (∀ k ≤ n, T k = T' k) → upTo T n = upTo T' n
  | 0, h => h 0 le_rfl
  | n + 1, h => congrArg₂ (· + ·) (upTo_congr n fun k hk => h k (by omega)) (h (n + 1) le_rfl)

section payloads
variable (r : Fin 512) (c : Fin 256) (taps : FVec Ideal S32x256 .f32) (rows : FVec Ideal S544x256 .f32) (x w : ℕ → EReal)
abbrev term (k : ℕ) : EReal := x (2 + k + r.val) * w k
section chain
variable (hx : ∀ n (h : n < 544), rows (ix2 ⟨n, h⟩ c) = x n) (hw : ∀ k (h : k < 32), taps (ix2 ⟨k, h⟩ c) = w k)
include hx hw
theorem pay_first (v : FVec Ideal S544x256 .f32) (hv : v (ix2 ⟨r.val, by omega⟩ c) = x (2 + r.val)) :
    k0_pay12 taps rows v (ix2 r c) = upTo (term r x w) 7 := by
  unfold k0_pay12
  pointwise
  simp (disch := omega) only [dif_pos, hx, hw]
  rw [hv]
  rfl
theorem pay_second (v : FVec Ideal S512x256 .f32) (hv : v (ix2 r c) = upTo (term r x w) 7) :
    k0_pay13 taps rows v (ix2 r c) = upTo (term r x w) 14 := by
  unfold k0_pay13
  pointwise
  simp (disch := omega) only [dif_pos, hx, hw, hv]
  rfl
theorem pay_third (v : FVec Ideal S512x256 .f32) (hv : v (ix2 r c) = upTo (term r x w) 14) :
    k0_pay15 taps rows v (k0_pay14 rows) (ix2 r c) = upTo (term r x w) 22 := by
  simp only [k0_pay15, k0_pay14]
  pointwise
  simp (disch := omega) only [dif_pos, hx, hw, hv]
  rfl
theorem pay_fourth (v : FVec Ideal S512x256 .f32) (hv : v (ix2 r c) = upTo (term r x w) 22) :
    k0_pay16 taps rows v (ix2 r c) = upTo (term r x w) 29 := by
  unfold k0_pay16
  pointwise
  simp (disch := omega) only [dif_pos, hx, hw, hv]
  rfl
theorem pay_last : k0_pay17 taps rows (ix2 r c) = term r x w 30 := by
  unfold k0_pay17
  pointwise
  simp (disch := omega) only [dif_pos, hx, hw]
  rfl
end chain

/-- A tile's convolved rows. -/
def tileConv (rolled : FVec Ideal S544x256 .f32) : FVec Ideal S512x256 .f32 :=
  k0_pay16 taps rows (k0_pay15 taps rows (k0_pay13 taps rows (k0_pay12 taps rows rolled)) (k0_pay14 rows))

/-- The mask of the first tile. -/
theorem mask (i : grid0.Coords) (y : EReal) :
    y * (((Scalar.extui (Scalar.cmpi CmpIPredicate.sgt (BitVec.ofNat 32 (i 0).val) 0#32) : BitVec 32).toInt : ℝ) : EReal)
      = if 0 < (i 0).val then y else 0 := by
  have e : Scalar.cmpi CmpIPredicate.sgt (BitVec.ofNat 32 (i 0).val) 0#32 = BitVec.ofBool (decide (0 < (i 0).val)) :=
    WordCmp.cmpi_sgt_ofNat (by have : (i 0).val < 8 := (i 0).isLt; omega) (by omega)
  rw [e, mul_comm]
  exact (Cert.DnPre.mask_mul _ y).trans (by simp)

theorem pay_rows (i : grid0.Coords) (h hg : FVec Ideal S32x256 .f32) (v vg : FVec Ideal S512x256 .f32) (n : ℕ) (hn : n < 544) :
    k0_pay10 (F := Ideal) i h v hg vg (ix2 ⟨n, hn⟩ c) = if h32 : n < 32 then (if 0 < (i 0).val then glu (h (ix2 ⟨n, h32⟩ c)) (hg (ix2 ⟨n, h32⟩ c)) else 0)
      else glu (v (ix2 ⟨n - 32, by omega⟩ c)) (vg (ix2 ⟨n - 32, by omega⟩ c)) := by
  unfold k0_pay10
  pointwise
  have hm (y : EReal) : y * k0_pay2 (F := Ideal) i = if 0 < (i 0).val then y else 0 := mask i y
  by_cases h32 : n < 32
  · refine (congrArg₂ (fun a b => a * Ideal.logistic b) (dif_pos h32) (dif_pos h32)).trans ?_
    rw [dif_pos h32, hm, hm]
    split
    · rfl
    · exact zero_mul _
  · refine (congrArg₂ (fun a b => a * Ideal.logistic b) (dif_neg h32) (dif_neg h32)).trans ?_
    rw [dif_neg h32]
    rfl
theorem pay_rolled (i : grid0.Coords) (h hg : FVec Ideal S32x256 .f32) (v vg : FVec Ideal S512x256 .f32) :
    k0_pay11 (F := Ideal) i h v hg vg (ix2 ⟨r.val, by omega⟩ c) = k0_pay10 (F := Ideal) i h v hg vg (ix2 ⟨2 + r.val, by omega⟩ c) := by
  unfold k0_pay11
  pointwise
  rw [dif_pos (by omega)]
theorem pay_branch (z a t : FVec Ideal S512x256 .f32) (cb g b e : FVec Ideal S1x256 .f32) (pw : FVec Ideal S256x256 .bf16) :
    k0_pay18 (F := Ideal) (k0_pay3 z) (k0_pay5 cb) (k0_pay6 g) (k0_pay7 b) (k0_pay8 pw) (k0_pay9 e) a t (ix2 r c)
      = rowA (fun k => a (ix2 r k) + t (ix2 r k) + cb (ix2 0 k)) (fun k => g (ix2 0 k)) (fun k => b (ix2 0 k)) (fun k j => pw (ix2 k j))
          (fun k => e (ix2 0 k)) (fun k => z (ix2 r k)) c := by
  simp only [k0_pay18, k0_pay3, k0_pay5, k0_pay6, k0_pay7, k0_pay8, k0_pay9]
  pointwise
  rfl
theorem pay_short (i : grid0.Coords) (bg z cc cx : FVec Ideal S512x256 .f32) (hc hx : FVec Ideal S32x256 .f32) (ct : FVec Ideal S8x256 .f32)
    (hy : ∀ n (h : n < 544), (if h32 : n < 32 then (if 0 < (i 0).val then hc (ix2 ⟨n, h32⟩ c) * hx (ix2 ⟨n, h32⟩ c) else 0)
      else cc (ix2 ⟨n - 32, by omega⟩ c) * cx (ix2 ⟨n - 32, by omega⟩ c)) = x n) (hw : ∀ k (h : k < 8), ct (ix2 ⟨k, h⟩ c) = w k) :
    k0_pay1 (F := Ideal) (k0_pay2 i) (k0_pay19 bg) (k0_pay20 (k0_pay2 i) hc cc) hx cx z ct (ix2 r c)
      = rowC (bg (ix2 r c)) (upTo (fun k => x (30 + k + r.val) * w k) 2) (z (ix2 r c)) := by
  simp only [k0_pay1, k0_pay2, k0_pay19, k0_pay20]
  pointwise
  have w0 : ct (ix2 0 c) = w 0 := hw 0 (by omega)
  have w1 : ct (ix2 1 c) = w 1 := hw 1 (by omega)
  have w2 : ct (ix2 2 c) = w 2 := hw 2 (by omega)
  have hy' (n : ℕ) (h : n < 544) : (if h32 : n < 32 then (if 0 < (i 0).val then hc (ix2 ⟨n, h32⟩ c) else 0) else cc (ix2 ⟨n - 32, by omega⟩ c))
      * (if h32 : n < 32 then (if 0 < (i 0).val then hx (ix2 ⟨n, h32⟩ c) else 0) else cx (ix2 ⟨n - 32, by omega⟩ c)) = x n := by
    rw [← hy n h]
    split_ifs <;> first | rfl | exact zero_mul _
  have w2x : cc (ix2 r c) * cx (ix2 r c) = x (32 + r.val) := by
    rw [← hy (32 + r.val) (by omega), dif_neg (by omega)]
    have e : (⟨32 + r.val - 32, by omega⟩ : Fin 512) = r := Fin.ext (by dsimp only; omega)
    rw [e]
  simp (disch := omega) only [dif_pos, mask]
  rw [hy' (30 + r.val) (by omega), hy' (31 + r.val) (by omega), w2x, w0, w1, w2]
  rfl
end payloads

/-- The packed row: three slots, a gap, four slots, zeros. -/
def pack (a : Fin 7 → Fin 256 → EReal) (p : Fin 3456) : EReal :=
  if h : p.val < 256 then a 0 ⟨p.val, h⟩
  else if h : p.val - 256 < 256 then a 1 ⟨p.val - 256, h⟩
  else if h : p.val - 256 - 256 < 256 then a 2 ⟨p.val - 256 - 256, h⟩
  else if p.val - 256 - 256 - 256 < 512 then 0
  else if h : p.val - 256 - 256 - 256 - 512 < 256 then a 3 ⟨p.val - 256 - 256 - 256 - 512, h⟩
  else if h : p.val - 256 - 256 - 256 - 512 - 256 < 256 then a 4 ⟨p.val - 256 - 256 - 256 - 512 - 256, h⟩
  else if h : p.val - 256 - 256 - 256 - 512 - 256 - 256 < 256 then a 5 ⟨p.val - 256 - 256 - 256 - 512 - 256 - 256, h⟩
  else if h : p.val - 256 - 256 - 256 - 512 - 256 - 256 - 256 < 256 then a 6 ⟨p.val - 256 - 256 - 256 - 512 - 256 - 256 - 256, h⟩ else 0
theorem pack_slots (a : Fin 7 → Fin 256 → EReal) (j : Fin 256) : pack a ⟨0 + j.val, by omega⟩ = a 0 j ∧ pack a ⟨256 + j.val, by omega⟩ = a 1 j
    ∧ pack a ⟨512 + j.val, by omega⟩ = a 2 j ∧ pack a ⟨1280 + j.val, by omega⟩ = a 3 j ∧ pack a ⟨1536 + j.val, by omega⟩ = a 4 j
    ∧ pack a ⟨1792 + j.val, by omega⟩ = a 5 j ∧ pack a ⟨2048 + j.val, by omega⟩ = a 6 j := by
  unfold pack
  refine ⟨?_, ?_, ?_, ?_, ?_, ?_, ?_⟩ <;> simp (disch := omega) only [dif_pos, dif_neg, if_neg] <;>
    exact congrArg _ (Fin.ext (by dsimp only; omega))

variable (m : (ℓ : Loc nD τ sig) → Buf (Elt Ideal) ℓ)
def Val (c : Dev nD) (i : Fin 4096) (k : Fin 256) : EReal := m (c, Proc.tc.devRef main_arg0) (ix2 i k)
def Gate (c : Dev nD) (i : Fin 4096) (k : Fin 256) : EReal := m (c, Proc.tc.devRef main_arg1) (ix2 i k)
def ZA (c : Dev nD) (i : Fin 4096) (k : Fin 256) : EReal := m (c, Proc.tc.devRef main_arg2) (ix2 i k)
def CB (c : Dev nD) (i : Fin 4096) (k : Fin 256) : EReal := m (c, Proc.tc.devRef main_arg3) (ix2 i k)
def CC (c : Dev nD) (i : Fin 4096) (k : Fin 256) : EReal := m (c, Proc.tc.devRef main_arg4) (ix2 i k)
def CX (c : Dev nD) (i : Fin 4096) (k : Fin 256) : EReal := m (c, Proc.tc.devRef main_arg5) (ix2 i k)
def CZ (c : Dev nD) (i : Fin 4096) (k : Fin 256) : EReal := m (c, Proc.tc.devRef main_arg6) (ix2 i k)
def TapsA (c : Dev nD) (k : Fin 31) (j : Fin 256) : EReal := m (c, Proc.tc.devRef main_arg7) (ix2 k j)
def Bias (c : Dev nD) (j : Fin 256) : EReal := m (c, Proc.tc.devRef main_arg8) (ix1 j)
def LnG (c : Dev nD) (j : Fin 256) : EReal := m (c, Proc.tc.devRef main_arg9) (ix1 j)
def LnB (c : Dev nD) (j : Fin 256) : EReal := m (c, Proc.tc.devRef main_arg10) (ix1 j)
def PwB (c : Dev nD) (j : Fin 256) : EReal := m (c, Proc.tc.devRef main_arg12) (ix1 j)
def Pw (c : Dev nD) (k j : Fin 256) : EReal := m (c, Proc.tc.devRef main_arg11) (ix2 k j)
def TapsC (c : Dev nD) (k : Fin 3) (j : Fin 256) : EReal := m (c, Proc.tc.devRef main_arg13) (ix2 k j)
/-- A row of the seven arguments the host packs. -/
def slots (c : Dev nD) (i : Fin 4096) : Fin 7 → Fin 256 → EReal :=
  ![Val m c i, Gate m c i, ZA m c i, CB m c i, CC m c i, CX m c i, CZ m c i]

/-- The region's entry, one stretch of host operations at a time. -/
theorem entry_eq (c : Dev nD) (b : Ref sig .tc) : V m c b = StableHlo.after hostOps0_4 (StableHlo.after hostOps0_3 (StableHlo.after hostOps0_2
    (StableHlo.after hostOps0_1 (StableHlo.after hostOps0 fun b => m (c, b))))) (Proc.devRef .tc b) := by
  unfold V
  simp only [List.flatten_cons, List.flatten_nil, List.append_nil, StableHlo.after_append]
/-- The arrays the region stages. -/
def Packed (c : Dev nD) : FVec Ideal S4096x3456 .f32 := V m c main_v9
def Taps (c : Dev nD) : FVec Ideal S32x256 .f32 := V m c main_v0
def Short (c : Dev nD) : FVec Ideal S8x256 .f32 := V m c main_v6
theorem packed_at (c : Dev nD) (i : Fin 4096) (p : Fin 3456) : Packed m c (ix2 i p) = pack (slots m c i) p := by
  unfold Packed
  rw [entry_eq]
  after_reads_simp [hostOps0_4]
  pointwise
  after_reads_simp
  pointwise
  rfl
theorem taps_eq (c : Dev nD) (k : Fin 31) (j : Fin 256) : Taps m c (ix2 ⟨k.val, by omega⟩ j) = TapsA m c k j := by
  unfold Taps TapsA
  rw [entry_eq]
  after_reads_simp [hostOps0, hostOps0_1, hostOps0_2, hostOps0_3, hostOps0_4]
  simp only [StableHlo.TRef.ofBuf_toBuf]
  show pad (s := S31x256) (α := Ideal .f32) S32x256 ![0, 0] ![1, 0] ![0, 0] _ _ pads_S31x256_S32x256_010_000 h_S_ (ix2 ⟨k.val, _⟩ j) = _
  pointwise
  rfl
theorem short_eq (c : Dev nD) (k : Fin 3) (j : Fin 256) : Short m c (ix2 ⟨k.val, by omega⟩ j) = TapsC m c k j := by
  unfold Short TapsC
  rw [entry_eq]
  after_reads_simp [hostOps0, hostOps0_1, hostOps0_2, hostOps0_3, hostOps0_4]
  simp only [StableHlo.TRef.ofBuf_toBuf]
  show pad (s := S3x256) (α := Ideal .f32) S8x256 ![0, 0] ![5, 0] ![0, 0] _ _ pads_S3x256_S8x256_050_000 h_S_ (ix2 ⟨k.val, _⟩ j) = _
  pointwise
  rfl
theorem rows_eq (c : Dev nD) (j : Fin 256) : (V m c main_v1 : FVec Ideal S1x256 .f32) (ix2 0 j) = Bias m c j
    ∧ (V m c main_v2 : FVec Ideal S1x256 .f32) (ix2 0 j) = LnG m c j ∧ (V m c main_v3 : FVec Ideal S1x256 .f32) (ix2 0 j) = LnB m c j
    ∧ (V m c main_v5 : FVec Ideal S1x256 .f32) (ix2 0 j) = PwB m c j
    ∧ ∀ k, (V m c main_v4 : FVec Ideal S256x256 .bf16) (ix2 k j) = Pw m c k j := by
  refine ⟨?_, ?_, ?_, ?_, fun k => ?_⟩ <;> rw [entry_eq] <;>
    after_reads_simp [hostOps0, hostOps0_1, hostOps0_2, hostOps0_3, hostOps0_4] <;> pointwise <;> rfl
theorem point_lt (t : Fin cfg0.N) : t.val < 8 := t.isLt
theorem rowLt (t : Fin cfg0.N) (r : Fin 512) : 512 * t.val + r.val < 4096 := by have := point_lt t; omega
theorem haloLt (t : Fin cfg0.N) (r : Fin 32) : 32 * (16 * t.val - 1) + r.val < 4096 := by have := point_lt t; omega
def row (t : Fin cfg0.N) (r : Fin 512) : Fin 4096 := ⟨512 * t.val + r.val, rowLt t r⟩
def halo (t : Fin cfg0.N) (r : Fin 32) : Fin 4096 := ⟨32 * (16 * t.val - 1) + r.val, haloLt t r⟩
theorem idxRows : ∀ t : Fin cfg0.N, (win0_0.index t 0 = t.val ∧ win0_0.index t 1 = 0) ∧ (win0_1.index t 0 = t.val ∧ win0_1.index t 1 = 1) ∧ (win0_2.index t 0 = t.val ∧ win0_2.index t 1 = 2)
    ∧ (win0_5.index t 0 = t.val ∧ win0_5.index t 1 = 5) ∧ (win0_6.index t 0 = t.val ∧ win0_6.index t 1 = 6) ∧ (win0_7.index t 0 = t.val ∧ win0_7.index t 1 = 7)
    ∧ (win0_8.index t 0 = t.val ∧ win0_8.index t 1 = 8) ∧ (win0_3.index t 0 = 16 * t.val - 1 ∧ win0_3.index t 1 = 0) ∧ (win0_4.index t 0 = 16 * t.val - 1 ∧ win0_4.index t 1 = 1)
    ∧ (win0_9.index t 0 = 16 * t.val - 1 ∧ win0_9.index t 1 = 6) ∧ (win0_10.index t 0 = 16 * t.val - 1 ∧ win0_10.index t 1 = 7) ∧ (grid0.coords t 0).val = t.val := by
  decide +kernel
theorem idxRest : ∀ t : Fin cfg0.N, (win0_11.index t 0 = 0 ∧ win0_11.index t 1 = 0) ∧ (win0_12.index t 0 = 0 ∧ win0_12.index t 1 = 0) ∧ (win0_13.index t 0 = 0 ∧ win0_13.index t 1 = 0)
    ∧ (win0_14.index t 0 = 0 ∧ win0_14.index t 1 = 0) ∧ (win0_15.index t 0 = 0 ∧ win0_15.index t 1 = 0) ∧ (win0_16.index t 0 = 0 ∧ win0_16.index t 1 = 0)
    ∧ (win0_17.index t 0 = 0 ∧ win0_17.index t 1 = 0) ∧ (win0_18.index t 0 = t.val ∧ win0_18.index t 1 = 0) ∧ (win0_19.index t 0 = t.val ∧ win0_19.index t 1 = 0) := by decide +kernel
theorem blk0 (c : Dev nD) (t : Fin cfg0.N) (r : Fin 512) (j : Fin 256) :
    X0_0 m c t (ix2 r j) = Packed m c (ix2 (row t r) ⟨0 + j.val, by omega⟩) := by
  unfold Packed X0_0 Pipeline.Window.fill
  rw [dif_pos (moved0_0 t _)]
  blk_simp [iblk]
  blk_ext [idxRows t, row] <;> (have := idxRows t; simp only [row]; omega)
theorem blk1 (c : Dev nD) (t : Fin cfg0.N) (r : Fin 512) (j : Fin 256) :
    X0_1 m c t (ix2 r j) = Packed m c (ix2 (row t r) ⟨256 + j.val, by omega⟩) := by
  unfold Packed X0_1 Pipeline.Window.fill
  rw [dif_pos (moved0_1 t _)]
  blk_simp [iblk]
  blk_ext [idxRows t, row] <;> (have := idxRows t; simp only [row]; omega)
theorem blk2 (c : Dev nD) (t : Fin cfg0.N) (r : Fin 512) (j : Fin 256) :
    X0_2 m c t (ix2 r j) = Packed m c (ix2 (row t r) ⟨512 + j.val, by omega⟩) := by
  unfold Packed X0_2 Pipeline.Window.fill
  rw [dif_pos (moved0_2 t _)]
  blk_simp [iblk]
  blk_ext [idxRows t, row] <;> (have := idxRows t; simp only [row]; omega)
theorem blk5 (c : Dev nD) (t : Fin cfg0.N) (r : Fin 512) (j : Fin 256) :
    X0_5 m c t (ix2 r j) = Packed m c (ix2 (row t r) ⟨1280 + j.val, by omega⟩) := by
  unfold Packed X0_5 Pipeline.Window.fill
  rw [dif_pos (moved0_5 t _)]
  blk_simp [iblk]
  blk_ext [idxRows t, row] <;> (have := idxRows t; simp only [row]; omega)
theorem blk6 (c : Dev nD) (t : Fin cfg0.N) (r : Fin 512) (j : Fin 256) :
    X0_6 m c t (ix2 r j) = Packed m c (ix2 (row t r) ⟨1536 + j.val, by omega⟩) := by
  unfold Packed X0_6 Pipeline.Window.fill
  rw [dif_pos (moved0_6 t _)]
  blk_simp [iblk]
  blk_ext [idxRows t, row] <;> (have := idxRows t; simp only [row]; omega)
theorem blk7 (c : Dev nD) (t : Fin cfg0.N) (r : Fin 512) (j : Fin 256) :
    X0_7 m c t (ix2 r j) = Packed m c (ix2 (row t r) ⟨1792 + j.val, by omega⟩) := by
  unfold Packed X0_7 Pipeline.Window.fill
  rw [dif_pos (moved0_7 t _)]
  blk_simp [iblk]
  blk_ext [idxRows t, row] <;> (have := idxRows t; simp only [row]; omega)
theorem blk8 (c : Dev nD) (t : Fin cfg0.N) (r : Fin 512) (j : Fin 256) :
    X0_8 m c t (ix2 r j) = Packed m c (ix2 (row t r) ⟨2048 + j.val, by omega⟩) := by
  unfold Packed X0_8 Pipeline.Window.fill
  rw [dif_pos (moved0_8 t _)]
  blk_simp [iblk]
  blk_ext [idxRows t, row] <;> (have := idxRows t; simp only [row]; omega)
theorem blk3 (c : Dev nD) (t : Fin cfg0.N) (r : Fin 32) (j : Fin 256) :
    X0_3 m c t (ix2 r j) = Packed m c (ix2 (halo t r) ⟨0 + j.val, by omega⟩) := by
  unfold Packed X0_3 Pipeline.Window.fill
  rw [dif_pos (moved0_3 t _)]
  blk_simp [iblk]
  blk_ext [idxRows t, halo] <;> (have := idxRows t; simp only [halo]; omega)
theorem blk4 (c : Dev nD) (t : Fin cfg0.N) (r : Fin 32) (j : Fin 256) :
    X0_4 m c t (ix2 r j) = Packed m c (ix2 (halo t r) ⟨256 + j.val, by omega⟩) := by
  unfold Packed X0_4 Pipeline.Window.fill
  rw [dif_pos (moved0_4 t _)]
  blk_simp [iblk]
  blk_ext [idxRows t, halo] <;> (have := idxRows t; simp only [halo]; omega)
theorem blk9 (c : Dev nD) (t : Fin cfg0.N) (r : Fin 32) (j : Fin 256) :
    X0_9 m c t (ix2 r j) = Packed m c (ix2 (halo t r) ⟨1536 + j.val, by omega⟩) := by
  unfold Packed X0_9 Pipeline.Window.fill
  rw [dif_pos (moved0_9 t _)]
  blk_simp [iblk]
  blk_ext [idxRows t, halo] <;> (have := idxRows t; simp only [halo]; omega)
theorem blk10 (c : Dev nD) (t : Fin cfg0.N) (r : Fin 32) (j : Fin 256) :
    X0_10 m c t (ix2 r j) = Packed m c (ix2 (halo t r) ⟨1792 + j.val, by omega⟩) := by
  unfold Packed X0_10 Pipeline.Window.fill
  rw [dif_pos (moved0_10 t _)]
  blk_simp [iblk]
  blk_ext [idxRows t, halo] <;> (have := idxRows t; simp only [halo]; omega)
theorem blk11 (c : Dev nD) (t : Fin cfg0.N) (k : Fin 31) (j : Fin 256) :
    (iblk m c 11 t : FVec Ideal S32x256 .f32) (ix2 ⟨k.val, by omega⟩ j) = TapsA m c k j := by
  rw [← taps_eq]
  unfold Taps
  blk_simp [iblk]
  blk_ext [idxRest t] <;> (have := idxRest t; omega)
theorem blk17 (c : Dev nD) (t : Fin cfg0.N) (k : Fin 3) (j : Fin 256) :
    (iblk m c 17 t : FVec Ideal S8x256 .f32) (ix2 ⟨k.val, by omega⟩ j) = TapsC m c k j := by
  rw [← short_eq]
  unfold Short
  blk_simp [iblk]
  blk_ext [idxRest t] <;> (have := idxRest t; omega)
set_option maxHeartbeats 800000 in
theorem blk_params (c : Dev nD) (t : Fin cfg0.N) (j : Fin 256) : (iblk m c 12 t : FVec Ideal S1x256 .f32) (ix2 0 j) = Bias m c j
    ∧ (iblk m c 13 t : FVec Ideal S1x256 .f32) (ix2 0 j) = LnG m c j ∧ (iblk m c 14 t : FVec Ideal S1x256 .f32) (ix2 0 j) = LnB m c j
    ∧ (iblk m c 16 t : FVec Ideal S1x256 .f32) (ix2 0 j) = PwB m c j
    ∧ ∀ k, (iblk m c 15 t : FVec Ideal S256x256 .bf16) (ix2 k j) = Pw m c k j := by
  obtain ⟨h1, h2, h3, h4, h5⟩ := rows_eq m c j
  rw [← h1, ← h2, ← h3, ← h4]
  simp only [← h5]
  refine ⟨?_, ?_, ?_, ?_, fun k => ?_⟩ <;> blk_simp [iblk] <;> blk_ext [idxRest t] <;> (have := idxRest t; omega)

/-- The rows a point reads, halo and tile, are the whole's rows from 32 before the tile's first, zero before the start. -/
theorem window (t : Fin cfg0.N) (n : ℕ) (hn : n < 544) (G : Fin 4096 → EReal) (hp : Fin 32 → EReal) (mp : Fin 512 → EReal)
    (hh : ∀ r, hp r = G (halo t r)) (hm : ∀ r, mp r = G (row t r)) :
    (if h32 : n < 32 then (if 0 < (grid0.coords t 0).val then hp ⟨n, h32⟩ else 0) else mp ⟨n - 32, by omega⟩) = back 32 G (512 * t.val + n) := by
  have ht := point_lt t
  have hc := (idxRows t).2.2.2.2.2.2.2.2.2.2.2
  unfold back
  rw [hc]
  split
  · split
    · rw [hh, dif_pos (by omega)]
      exact congrArg G (Fin.ext (by simp only [halo]; omega))
    · rw [dif_neg (by omega)]
  · rw [hm, dif_pos (by omega)]
    exact congrArg G (Fin.ext (by simp only [row]; omega))
theorem back_shift (t : Fin cfg0.N) (r : Fin 512) (G : Fin 4096 → EReal) (d k e : ℕ) (he : e = 32 - d + k + r.val) (hd : d ≤ 32) :
    back 32 G (512 * t.val + e) = back d G (k + (row t r).val) := by
  subst he
  unfold back
  have e (n : ℕ) (hn : n = k + (row t r).val - d) (h : n < 4096) (h' : k + (row t r).val - d < 4096) : G ⟨n, h⟩ = G ⟨k + (row t r).val - d, h'⟩ := by
    subst hn
    rfl
  by_cases h : d ≤ k + (row t r).val ∧ k + (row t r).val - d < 4096
  · rw [dif_pos h, dif_pos (by simp only [row] at h; omega)]
    exact e _ (by simp only [row]; omega) _ _
  · rw [dif_neg h, dif_neg (by simp only [row] at h; omega)]

section slot
variable (c : Dev nD) (i : Fin 4096) (j : Fin 256)
theorem slot_at : Packed m c (ix2 i ⟨0 + j.val, by omega⟩) = Val m c i j ∧ Packed m c (ix2 i ⟨256 + j.val, by omega⟩) = Gate m c i j
    ∧ Packed m c (ix2 i ⟨512 + j.val, by omega⟩) = ZA m c i j ∧ Packed m c (ix2 i ⟨1280 + j.val, by omega⟩) = CB m c i j
    ∧ Packed m c (ix2 i ⟨1536 + j.val, by omega⟩) = CC m c i j ∧ Packed m c (ix2 i ⟨1792 + j.val, by omega⟩) = CX m c i j
    ∧ Packed m c (ix2 i ⟨2048 + j.val, by omega⟩) = CZ m c i j := by
  simp only [packed_at]
  exact pack_slots (slots m c i) j
end slot

section tile
variable (c : Dev nD) (t : Fin cfg0.N)
/-- A point's gated rows with their halo. -/
def tileRows : FVec Ideal S544x256 .f32 := k0_pay10 (F := Ideal) (grid0.coords t) (X0_3 m c t) (X0_0 m c t) (X0_4 m c t) (X0_1 m c t)
theorem rows_at (j : Fin 256) (n : ℕ) (hn : n < 544) : tileRows m c t (ix2 ⟨n, hn⟩ j)
    = back 32 (fun i => glu (Val m c i j) (Gate m c i j)) (512 * t.val + n) := by
  refine (pay_rows j _ _ _ _ _ n hn).trans ?_
  exact window t n hn (fun i => glu (Val m c i j) (Gate m c i j)) (fun r => glu (X0_3 m c t (ix2 r j)) (X0_4 m c t (ix2 r j)))
    (fun r => glu (X0_0 m c t (ix2 r j)) (X0_1 m c t (ix2 r j)))
    (fun r => by rw [blk3, blk4, (slot_at m c _ j).1, (slot_at m c _ j).2.1]) (fun r => by rw [blk0, blk1, (slot_at m c _ j).1, (slot_at m c _ j).2.1])
theorem long_at (r : Fin 512) (j : Fin 256) :
    tileConv (k0_pay4 (iblk m c 11 t)) (tileRows m c t) (k0_pay11 (F := Ideal) (grid0.coords t) (X0_3 m c t) (X0_0 m c t) (X0_4 m c t) (X0_1 m c t)) (ix2 r j)
      + k0_pay17 (k0_pay4 (iblk m c 11 t)) (tileRows m c t) (ix2 r j) = longConv (Val m c) (Gate m c) (TapsA m c) (row t r) j := by
  have hx := rows_at m c t j
  have hw (k : ℕ) (h : k < 32) : k0_pay4 (F := Ideal) (iblk m c 11 t) (ix2 ⟨k, h⟩ j)
      = tapN (fun k : Fin 32 => (iblk m c 11 t : FVec Ideal S32x256 .f32) (ix2 k j)) k := by
    unfold k0_pay4 tapN
    pointwise
    rw [dif_pos h]
  rw [pay_last r j _ _ _ _ hx hw]
  unfold tileConv
  rw [pay_fourth r j _ _ _ _ hx hw _ (pay_third r j _ _ _ _ hx hw _ (pay_second r j _ _ _ _ hx hw _
    (pay_first r j _ _ _ _ hx hw _ ((pay_rolled r j ..).trans (hx _ _)))))]
  refine upTo_congr 30 fun k hk => congrArg₂ (· * ·) (back_shift t r _ 30 k _ (by omega) (by omega)) ?_
  unfold tapN
  rw [dif_pos (by omega), dif_pos (by omega)]
  exact blk11 m c t ⟨k, by omega⟩ j
theorem branchA_at (r : Fin 512) (j : Fin 256) : (outsAt0 m c t).1 (ix2 r j)
    = branchA (Val m c) (Gate m c) (ZA m c) (TapsA m c) (Bias m c) (LnG m c) (LnB m c) (Pw m c) (PwB m c) (row t r) j := by
  have e : (outsAt0 m c t).1 = k0_pay18 (k0_pay3 (X0_2 m c t)) (k0_pay5 (iblk m c 12 t)) (k0_pay6 (iblk m c 13 t)) (k0_pay7 (iblk m c 14 t))
      (k0_pay8 (iblk m c 15 t)) (k0_pay9 (iblk m c 16 t))
      (tileConv (k0_pay4 (iblk m c 11 t)) (tileRows m c t) (k0_pay11 (F := Ideal) (grid0.coords t) (X0_3 m c t) (X0_0 m c t) (X0_4 m c t) (X0_1 m c t)))
      (k0_pay17 (k0_pay4 (iblk m c 11 t)) (tileRows m c t)) := by
    unfold outsAt0 tileConv tileRows
    frame_out
  have hb := blk_params m c t
  rw [e]
  refine (pay_branch ..).trans ?_
  simp only [long_at, (hb _).1, (hb _).2.1, (hb _).2.2.1, (hb _).2.2.2.1, (hb _).2.2.2.2, blk2, (slot_at m c _ _).2.2.1]
  rfl
theorem branchC_at (r : Fin 512) (j : Fin 256) : (outsAt0 m c t).2 (ix2 r j)
    = branchC (CB m c) (CC m c) (CX m c) (CZ m c) (TapsC m c) (row t r) j := by
  have e : (outsAt0 m c t).2 = k0_pay1 (F := Ideal) (k0_pay2 (grid0.coords t)) (k0_pay19 (X0_5 m c t))
      (k0_pay20 (k0_pay2 (grid0.coords t)) (X0_9 m c t) (X0_6 m c t)) (X0_10 m c t) (X0_7 m c t) (X0_8 m c t) (iblk m c 17 t) := by
    unfold outsAt0
    frame_out
  rw [e]
  have hx (n : ℕ) (hn : n < 544) := window t n hn (fun i => CC m c i j * CX m c i j) (fun r => @HMul.hMul EReal EReal EReal _ (X0_9 m c t (ix2 r j)) (X0_10 m c t (ix2 r j)))
    (fun r => @HMul.hMul EReal EReal EReal _ (X0_6 m c t (ix2 r j)) (X0_7 m c t (ix2 r j)))
    (fun r => by rw [blk9, blk10, (slot_at m c _ j).2.2.2.2.1, (slot_at m c _ j).2.2.2.2.2.1])
    (fun r => by rw [blk6, blk7, (slot_at m c _ j).2.2.2.2.1, (slot_at m c _ j).2.2.2.2.2.1])
  have hw (k : ℕ) (h : k < 8) : (iblk m c 17 t : FVec Ideal S8x256 .f32) (ix2 ⟨k, h⟩ j)
      = tapN (fun k : Fin 8 => (iblk m c 17 t : FVec Ideal S8x256 .f32) (ix2 k j)) k := by
    unfold tapN
    rw [dif_pos h]
  refine (pay_short r j _ _ _ _ _ _ _ _ _ _ hx hw).trans ?_
  unfold branchC
  rw [blk5, blk8, (slot_at m c _ j).2.2.2.1, (slot_at m c _ j).2.2.2.2.2.2]
  refine congrArg (rowC _ · _) (upTo_congr 2 fun k hk => congrArg₂ (· * ·) (back_shift t r _ 2 k _ (by omega) (by omega)) ?_)
  unfold tapN
  rw [dif_pos (by omega), dif_pos (by omega)]
  exact blk17 m c t ⟨k, by omega⟩ j
end tile

section final
variable (c : Dev nD)
def YA : Table := branchA (Val m c) (Gate m c) (ZA m c) (TapsA m c) (Bias m c) (LnG m c) (LnB m c) (Pw m c) (PwB m c)
def YC : Table := branchC (CB m c) (CC m c) (CX m c) (CZ m c) (TapsC m c)
theorem final_a : (dats m 0 c).arrAt 18 cfg0.N = fun i : S4096x256.Idx => YA m c (i 0) (i 1) := by
  refine (dats m 0 c).arrAt_eq_of_covers 18 _ (by decide +kernel) fun t hf y => ?_
  blk_simp
  obtain ⟨r, j, rfl⟩ : ∃ (r : Fin 512) (j : Fin 256), y = (ix2 r j : S512x256.Idx) := ⟨y 0, y 1, eq_ix2 (n0 := 512) (n1 := 256) y⟩
  have e : (win0_18.blk t).view.emb (ix2 r j) = (ix2 (row t r) j : S4096x256.Idx) := by
    blk_ext [idxRest t, row] <;> (have := idxRest t; simp only [row]; omega)
  rw [after0_18, e]
  exact branchA_at m c t r j
theorem final_c : (dats m 0 c).arrAt 19 cfg0.N = fun i : S4096x256.Idx => YC m c (i 0) (i 1) := by
  refine (dats m 0 c).arrAt_eq_of_covers 19 _ (by decide +kernel) fun t hf y => ?_
  blk_simp
  obtain ⟨r, j, rfl⟩ : ∃ (r : Fin 512) (j : Fin 256), y = (ix2 r j : S512x256.Idx) := ⟨y 0, y 1, eq_ix2 (n0 := 512) (n1 := 256) y⟩
  have e : (win0_19.blk t).view.emb (ix2 r j) = (ix2 (row t r) j : S4096x256.Idx) := by
    blk_ext [idxRest t, row] <;> (have := idxRest t; simp only [row]; omega)
  rw [after0_19, e]
  exact branchC_at m c t r j
/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
  ∧ s.mem (c.tc.loc main_arg6) = m (c.tc.loc main_arg6) ∧ s.mem (c.tc.loc main_arg7) = m (c.tc.loc main_arg7)
  ∧ s.mem (c.tc.loc main_arg8) = m (c.tc.loc main_arg8) ∧ s.mem (c.tc.loc main_arg9) = m (c.tc.loc main_arg9)
  ∧ s.mem (c.tc.loc main_arg10) = m (c.tc.loc main_arg10) ∧ s.mem (c.tc.loc main_arg11) = m (c.tc.loc main_arg11)
  ∧ s.mem (c.tc.loc main_arg12) = m (c.tc.loc main_arg12) ∧ s.mem (c.tc.loc main_arg13) = m (c.tc.loc main_arg13)
end final

/-- The kernel run: its two result arrays as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v10_0) = (fun i : S4096x256.Idx => YA m c (i 0) (i 1))
      ∧ r.2.mem (c.tc.loc main_v10_1) = (fun i : S4096x256.Idx => YC m c (i 0) (i 1)) ∧ Kept m c r.2 :=
  (θ_run defs _ _).mono (fun _ h c => ⟨(h c).1.trans (final_a m c), (h c).2.1.trans (final_c m c), (h c).2.2⟩) (Value.run_blocks m ρ)
end Cert.AcFwd
-- ==== Proof.AcFwdRef.lean ====
module
public import proofs.«01_k».proof.Defs
public import proofs.«01_k».proof.Proof.AcFwd
public import proofs.«01_k».proof.Proof.Gen.Reference7Ideal.Run
public import proofs.«01_k».proof.Proof.Gen.Reference7Ideal.Read
/-!
The two branches' reference: its two results as the same functions of the arguments, and the two programs' agreement.
-/
@[expose] public section
noncomputable section
namespace Cert.AcFwd.Ref
open Cert.Reference7Ideal Cert.Reference7Ideal.Gen Cert.Reference7Ideal.Read Idealize.ShloMosaic Idealize.ShloMosaic.TcCoe Idealize.SL.Sem
open Cert.AcFwd (Table upTo back conv glu mean norm rowA rowC tapN longConv branchA branchC)
open Cert.DnFwd (silu)
set_option maxRecDepth 16384

abbrev Big := (⟨S4096x256, .f32⟩ : BufTy).Contents (Elt Ideal)
abbrev Small := (⟨S256, .f32⟩ : BufTy).Contents (Elt Ideal)
abbrev Square := (⟨S256x256, .f32⟩ : BufTy).Contents (Elt Ideal)
abbrev Long := (⟨S31x256, .f32⟩ : BufTy).Contents (Elt Ideal)
abbrev Short := (⟨S3x256, .f32⟩ : BufTy).Contents (Elt Ideal)
def rB (x : Big) (i : Fin 4096) (j : Fin 256) : EReal := x (ix2 i j)
def rS (x : Small) (j : Fin 256) : EReal := x (ix1 j)
def rQ (x : Square) (k j : Fin 256) : EReal := x (ix2 k j)
def rL (x : Long) (k : Fin 31) (j : Fin 256) : EReal := x (ix2 k j)
def rT (x : Short) (k : Fin 3) (j : Fin 256) : EReal := x (ix2 k j)

theorem from_zero (d : ℕ) (x : Fin 4096 → EReal) (i : Fin 4096) : back d x i.val = back d x (0 + i.val) := by rw [Nat.zero_add]

section branches
variable (x0 x1 x2 x3 x4 x5 x6 : Big) (x7 : Long) (x8 x9 x10 : Small) (x11 : Square) (x12 : Small) (x13 : Short)
theorem gated_at (i : Fin 4096) (c : Fin 256) : val_main_v6 (F := Ideal) x0 x1 (ix2 i c) = glu (rB x0 i c) (rB x1 i c) := by
  unfold val_main_v6 val_main_v5 val_main_v4 val_main_v3 val_main_v2 val_main_v1 val_main_v0 val_main_cst val_main_cst_0
  pointwise
  rfl
theorem padded_at (n : ℕ) (h : n < 4126) (c : Fin 256) : val_main_v8 (F := Ideal) x0 x1 (ix2 ⟨n, h⟩ c)
    = back 30 (fun i => glu (rB x0 i c) (rB x1 i c)) n := by
  unfold back
  unfold val_main_v8 val_main_v7 val_main_cst_1
  pointwise
  by_cases hn : n < 30
  · rw [dif_pos hn, dif_neg (by omega)]
  · rw [dif_neg hn, dif_pos (by omega)]
    exact gated_at ..
theorem short_at (n : ℕ) (h : n < 4098) (c : Fin 256) : val_main_v259 (F := Ideal) x4 x5 (ix2 ⟨n, h⟩ c)
    = back 2 (fun i => rB x4 i c * rB x5 i c) n := by
  unfold back
  unfold val_main_v259 val_main_v258 val_main_v257 val_main_cst_7
  pointwise
  by_cases hn : n < 2
  · rw [dif_pos hn, dif_neg (by omega)]
  · rw [dif_neg hn, dif_pos (by omega)]
    rfl
/-- A term of the long convolution. -/
abbrev term (i : Fin 4096) (c : Fin 256) (k : ℕ) : EReal := back 30 (fun i => glu (rB x0 i c) (rB x1 i c)) (k + i.val) * tapN (fun k => rL x7 k c) k
theorem taps7_at (i : Fin 4096) (c : Fin 256) : val_main_v63 (F := Ideal) x0 x1 x7 (ix2 i c) = upTo (term x0 x1 x7 i c) 7 := by
  unfold val_main_v63 val_main_v62 val_main_v61 val_main_v60 val_main_v59 val_main_v58 val_main_v57 val_main_v56 val_main_v55
    val_main_v54 val_main_v53 val_main_v52 val_main_v51 val_main_v50 val_main_v49 val_main_v48 val_main_v47 val_main_v46
    val_main_v45 val_main_v44 val_main_v43 val_main_v42 val_main_v41 val_main_v40 val_main_v39 val_main_v38 val_main_v37
    val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10
    val_main_v9
  pointwise
  simp only [padded_at, mul_comm (x7 _)]
  rw [from_zero 30]
  rfl
theorem taps15_at (i : Fin 4096) (c : Fin 256) : val_main_v119 (F := Ideal) x0 x1 x7 (ix2 i c) = upTo (term x0 x1 x7 i c) 15 := by
  unfold val_main_v119 val_main_v118 val_main_v117 val_main_v116 val_main_v115 val_main_v114 val_main_v113 val_main_v112
    val_main_v111 val_main_v110 val_main_v109 val_main_v108 val_main_v107 val_main_v106 val_main_v105 val_main_v104 val_main_v103
    val_main_v102 val_main_v101 val_main_v100 val_main_v99 val_main_v98 val_main_v97 val_main_v96 val_main_v95 val_main_v94
    val_main_v93 val_main_v92 val_main_v91 val_main_v90 val_main_v89 val_main_v88 val_main_v87 val_main_v86 val_main_v85
    val_main_v84 val_main_v83 val_main_v82 val_main_v81 val_main_v80 val_main_v79 val_main_v78 val_main_v77 val_main_v76
    val_main_v75 val_main_v74 val_main_v73 val_main_v72 val_main_v71 val_main_v70 val_main_v69 val_main_v68 val_main_v67
    val_main_v66 val_main_v65 val_main_v64
  pointwise
  simp only [padded_at, taps7_at, mul_comm (x7 _)]
  rfl
theorem taps23_at (i : Fin 4096) (c : Fin 256) : val_main_v175 (F := Ideal) x0 x1 x7 (ix2 i c) = upTo (term x0 x1 x7 i c) 23 := by
  unfold val_main_v175 val_main_v174 val_main_v173 val_main_v172 val_main_v171 val_main_v170 val_main_v169 val_main_v168
    val_main_v167 val_main_v166 val_main_v165 val_main_v164 val_main_v163 val_main_v162 val_main_v161 val_main_v160 val_main_v159
    val_main_v158 val_main_v157 val_main_v156 val_main_v155 val_main_v154 val_main_v153 val_main_v152 val_main_v151 val_main_v150
    val_main_v149 val_main_v148 val_main_v147 val_main_v146 val_main_v145 val_main_v144 val_main_v143 val_main_v142 val_main_v141
    val_main_v140 val_main_v139 val_main_v138 val_main_v137 val_main_v136 val_main_v135 val_main_v134 val_main_v133 val_main_v132
    val_main_v131 val_main_v130 val_main_v129 val_main_v128 val_main_v127 val_main_v126 val_main_v125 val_main_v124 val_main_v123
    val_main_v122 val_main_v121 val_main_v120
  pointwise
  simp only [padded_at, taps15_at, mul_comm (x7 _)]
  rfl
theorem taps30_at (i : Fin 4096) (c : Fin 256) : val_main_v224 (F := Ideal) x0 x1 x7 (ix2 i c) = upTo (term x0 x1 x7 i c) 30 := by
  unfold val_main_v224 val_main_v223 val_main_v222 val_main_v221 val_main_v220 val_main_v219 val_main_v218 val_main_v217
    val_main_v216 val_main_v215 val_main_v214 val_main_v213 val_main_v212 val_main_v211 val_main_v210 val_main_v209 val_main_v208
    val_main_v207 val_main_v206 val_main_v205 val_main_v204 val_main_v203 val_main_v202 val_main_v201 val_main_v200 val_main_v199
    val_main_v198 val_main_v197 val_main_v196 val_main_v195 val_main_v194 val_main_v193 val_main_v192 val_main_v191 val_main_v190
    val_main_v189 val_main_v188 val_main_v187 val_main_v186 val_main_v185 val_main_v184 val_main_v183 val_main_v182 val_main_v181
    val_main_v180 val_main_v179 val_main_v178 val_main_v177 val_main_v176
  pointwise
  simp only [padded_at, taps23_at, mul_comm (x7 _)]
  rfl
theorem conv_at (i : Fin 4096) (c : Fin 256) : val_main_v227 (F := Ideal) x0 x1 x7 x8 (ix2 i c)
    = longConv (rB x0) (rB x1) (rL x7) i c + rS x8 c := by
  unfold val_main_v227 val_main_v226 val_main_v225
  pointwise
  rw [taps30_at]
  rfl
theorem norm_at (i : Fin 4096) (c : Fin 256) : val_main_v249 (F := Ideal) x0 x1 x7 x8 x9 x10 (ix2 i c)
    = norm (fun k => longConv (rB x0) (rB x1) (rL x7) i k + rS x8 k) (rS x9) (rS x10) c := by
  unfold val_main_v249 val_main_v248 val_main_v247 val_main_v246 val_main_v245 val_main_v244 val_main_v243 val_main_v242
    val_main_v241 val_main_v240 val_main_v239 val_main_v238 val_main_v237 val_main_v236 val_main_v235 val_main_v234 val_main_v233
    val_main_v232 val_main_v231 val_main_v230 val_main_v229 val_main_v228 val_main_cst_2 val_main_cst_3 val_main_cst_4
    val_main_cst_5 val_main_cst_6
  pointwise
  simp only [conv_at]
  rfl
theorem branchA_at (i : Fin 4096) (c : Fin 256) : val_main_v256 (F := Ideal) x0 x1 x2 x7 x8 x9 x10 x11 x12 (ix2 i c)
    = branchA (rB x0) (rB x1) (rB x2) (rL x7) (rS x8) (rS x9) (rS x10) (rQ x11) (rS x12) i c := by
  unfold val_main_v256 val_main_v255 val_main_v254 val_main_v253 val_main_v252 val_main_v251 val_main_v250 val_main_call0_v5
    val_main_call0_v4 val_main_call0_v3 val_main_call0_v2 val_main_call0_v1 val_main_call0_v0 val_main_call0_cst
    val_main_call0_cst_0 val_main_call1_v5 val_main_call1_v4 val_main_call1_v3 val_main_call1_v2 val_main_call1_v1
    val_main_call1_v0 val_main_call1_cst val_main_call1_cst_0
  pointwise
  simp only [norm_at]
  rfl
theorem branchC_at (i : Fin 4096) (c : Fin 256) : val_main_v282 (F := Ideal) x3 x4 x5 x6 x13 (ix2 i c)
    = branchC (rB x3) (rB x4) (rB x5) (rB x6) (rT x13) i c := by
  unfold val_main_v282 val_main_v281 val_main_v280 val_main_v279 val_main_v278 val_main_v277 val_main_v276 val_main_v275
    val_main_v274 val_main_v273 val_main_v272 val_main_v271 val_main_v270 val_main_v269 val_main_v268 val_main_v267 val_main_v266
    val_main_v265 val_main_v264 val_main_v263 val_main_v262 val_main_v261 val_main_v260 val_main_call2_v5 val_main_call2_v4
    val_main_call2_v3 val_main_call2_v2 val_main_call2_v1 val_main_call2_v0 val_main_call2_cst val_main_call2_cst_0
  pointwise
  simp only [short_at, mul_comm (x13 _)]
  rw [from_zero 2]
  rfl
end branches

variable (m : (ℓ : Loc nD τ sig) → Buf (Elt Ideal) ℓ) (c : Dev nD)
abbrev Val : Table := rB (m (c.tc.loc main_arg0))
abbrev Gate : Table := rB (m (c.tc.loc main_arg1))
abbrev ZA : Table := rB (m (c.tc.loc main_arg2))
abbrev CB : Table := rB (m (c.tc.loc main_arg3))
abbrev CC : Table := rB (m (c.tc.loc main_arg4))
abbrev CX : Table := rB (m (c.tc.loc main_arg5))
abbrev CZ : Table := rB (m (c.tc.loc main_arg6))
abbrev TapsA : Fin 31 → Fin 256 → EReal := rL (m (c.tc.loc main_arg7))
abbrev Bias : Fin 256 → EReal := rS (m (c.tc.loc main_arg8))
abbrev LnG : Fin 256 → EReal := rS (m (c.tc.loc main_arg9))
abbrev LnB : Fin 256 → EReal := rS (m (c.tc.loc main_arg10))
abbrev Pw : Fin 256 → Fin 256 → EReal := rQ (m (c.tc.loc main_arg11))
abbrev PwB : Fin 256 → EReal := rS (m (c.tc.loc main_arg12))
abbrev TapsC : Fin 3 → Fin 256 → EReal := rT (m (c.tc.loc main_arg13))
/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
  ∧ s.mem (c.tc.loc main_arg6) = m (c.tc.loc main_arg6) ∧ s.mem (c.tc.loc main_arg7) = m (c.tc.loc main_arg7)
  ∧ s.mem (c.tc.loc main_arg8) = m (c.tc.loc main_arg8) ∧ s.mem (c.tc.loc main_arg9) = m (c.tc.loc main_arg9)
  ∧ s.mem (c.tc.loc main_arg10) = m (c.tc.loc main_arg10) ∧ s.mem (c.tc.loc main_arg11) = m (c.tc.loc main_arg11)
  ∧ s.mem (c.tc.loc main_arg12) = m (c.tc.loc main_arg12) ∧ s.mem (c.tc.loc main_arg13) = m (c.tc.loc main_arg13)

theorem run_values (ρ : Dev nD → PrngReg) :
    θ_run defs (onTc (τ := τ) (main (F := Ideal))) ⟨m, fun _ => 0, ρ⟩ fun r => ∀ c : Dev nD,
      r.2.mem (c.tc.loc main_v256) = (fun i : S4096x256.Idx => branchA (Val m c) (Gate m c) (ZA m c) (TapsA m c) (Bias m c) (LnG m c) (LnB m c)
          (Pw m c) (PwB m c) (i 0) (i 1))
      ∧ r.2.mem (c.tc.loc main_v282) = (fun i : S4096x256.Idx => branchC (CB m c) (CC m c) (CX m c) (CZ m c) (TapsC m c) (i 0) (i 1))
      ∧ Kept m c r.2 := by
  refine (θ_run defs _ _).mono (fun r h c => ?_) (Value.run m ρ)
  obtain ⟨h0, h1, h2⟩ := h c
  refine ⟨h0.trans ((val_main_v256_eq _).trans (funext fun i => ?_)), h1.trans ((val_main_v282_eq _).trans (funext fun i => ?_)), h2⟩ <;>
    obtain ⟨r, j, rfl⟩ : ∃ r j, i = ix2 r j := ⟨_, _, eq_ix2 i⟩
  · exact branchA_at ..
  · exact branchC_at ..

theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2.2, sem_eq_zero_of_no_sems (by decide) r.2⟩) (run_values m ρ)
end Cert.AcFwd.Ref

open Idealize.ShloMosaic Idealize.ShloMosaic.TcCoe Idealize.SL.Sem in
/-- The fused call computes the two convolutional branches. -/
theorem Cert.AcFwd.value : Cert.algebraic_Kernel7Ideal_Reference7Ideal := by
  intro m g m' g' _ hag
  have e0 (c) : Cert.AcFwd.Ref.Val m' c = Val m c := by funext i k; exact congrFun (hag c).1 (ix2 i k)
  have e1 (c) : Cert.AcFwd.Ref.Gate m' c = Gate m c := by funext i k; exact congrFun (hag c).2.1 (ix2 i k)
  have e2 (c) : Cert.AcFwd.Ref.ZA m' c = ZA m c := by funext i k; exact congrFun (hag c).2.2.1 (ix2 i k)
  have e3 (c) : Cert.AcFwd.Ref.CB m' c = CB m c := by funext i k; exact congrFun (hag c).2.2.2.1 (ix2 i k)
  have e4 (c) : Cert.AcFwd.Ref.CC m' c = CC m c := by funext i k; exact congrFun (hag c).2.2.2.2.1 (ix2 i k)
  have e5 (c) : Cert.AcFwd.Ref.CX m' c = CX m c := by funext i k; exact congrFun (hag c).2.2.2.2.2.1 (ix2 i k)
  have e6 (c) : Cert.AcFwd.Ref.CZ m' c = CZ m c := by funext i k; exact congrFun (hag c).2.2.2.2.2.2.1 (ix2 i k)
  have e7 (c) : Cert.AcFwd.Ref.TapsA m' c = TapsA m c := by funext i k; exact congrFun (hag c).2.2.2.2.2.2.2.1 (ix2 i k)
  have e8 (c) : Cert.AcFwd.Ref.Bias m' c = Bias m c := by funext k; exact congrFun (hag c).2.2.2.2.2.2.2.2.1 (ix1 k)
  have e9 (c) : Cert.AcFwd.Ref.LnG m' c = LnG m c := by funext k; exact congrFun (hag c).2.2.2.2.2.2.2.2.2.1 (ix1 k)
  have e10 (c) : Cert.AcFwd.Ref.LnB m' c = LnB m c := by funext k; exact congrFun (hag c).2.2.2.2.2.2.2.2.2.2.1 (ix1 k)
  have e11 (c) : Cert.AcFwd.Ref.Pw m' c = Pw m c := by funext i k; exact congrFun (hag c).2.2.2.2.2.2.2.2.2.2.2.1 (ix2 i k)
  have e12 (c) : Cert.AcFwd.Ref.PwB m' c = PwB m c := by funext k; exact congrFun (hag c).2.2.2.2.2.2.2.2.2.2.2.2.1 (ix1 k)
  have e13 (c) : Cert.AcFwd.Ref.TapsC m' c = TapsC m c := by funext i k; exact congrFun (hag c).2.2.2.2.2.2.2.2.2.2.2.2.2 (ix2 i k)
  have hr := Cert.AcFwd.Ref.run_values m' g'
  simp only [e0, e1, e2, e3, e4, e5, e6, e7, e8, e9, e10, e11, e12, e13] at hr
  exact ⟨_, _, run_values m g, hr⟩
-- ==== Proof.OutProj.lean ====
module
public import proofs.«01_k».proof.Proof.Gen.Kernel8Ideal.Value
public import proofs.«01_k».proof.Defs
public import proofs.«01_k».proof.Proof.DnFwd
public import Idealize.ShloMosaic.Lib.StableHlo.RunRead
/-!
The output projection: the four branches side by side, their product with the weights, and the hidden states added, as a function of the arguments.
-/
@[expose] public section
noncomputable section
namespace Cert.OutProj
open Cert.Kernel8Ideal Cert.Kernel8Ideal.Gen Idealize.ShloMosaic Idealize.ShloMosaic.TcCoe Idealize.SL.Sem
open Idealize.ShloMosaic.Pipeline (Dat)
set_option maxRecDepth 16384

/-- Four rows of 256 side by side. -/
def beside (y : Fin 4 → Fin 256 → EReal) (j : Fin 1024) : EReal := y ⟨j.val / 256, by omega⟩ ⟨j.val % 256, by omega⟩
/-- An output of the projection. -/
def project (x : EReal) (y : Fin 4 → Fin 256 → EReal) (w : Fin 1024 → EReal) : EReal := x + ∑ j, beside y j * w j

/-- An entry of the branch `b` stands at `256 b` places to the right. -/
theorem beside_at (y : Fin 4 → Fin 256 → EReal) (j : Fin 1024) (b : Fin 4) (k : Fin 256) (h : j.val = 256 * b.val + k.val) : y b k = beside y j := by
  unfold beside
  congr 1 <;> exact Fin.ext (by dsimp only; omega)

/-- The four rows found by comparing the place with each row's end. -/
theorem beside_cases (ya yb yc yd : Fin 256 → EReal) (j : Fin 1024) (z : EReal)
    (h0 : ∀ h : j.val < 256, z = ya ⟨j.val, h⟩) (h1 : ∀ h : j.val - 256 < 256, ¬ j.val < 256 → z = yb ⟨j.val - 256, h⟩)
    (h2 : ∀ h : j.val - 256 - 256 < 256, ¬ j.val < 256 → ¬ j.val - 256 < 256 → z = yc ⟨j.val - 256 - 256, h⟩)
    (h3 : ∀ h : j.val - 256 - 256 - 256 < 256, ¬ j.val < 256 → ¬ j.val - 256 < 256 → ¬ j.val - 256 - 256 < 256 → z = yd ⟨j.val - 256 - 256 - 256, h⟩) :
    z = beside ![ya, yb, yc, yd] j := by
  by_cases c0 : j.val < 256
  · exact (h0 c0).trans (beside_at ![ya, yb, yc, yd] j 0 _ (by simp))
  by_cases c1 : j.val - 256 < 256
  · exact (h1 c1 c0).trans (beside_at ![ya, yb, yc, yd] j 1 _ (by simp; omega))
  by_cases c2 : j.val - 256 - 256 < 256
  · exact (h2 c2 c0 c1).trans (beside_at ![ya, yb, yc, yd] j 2 _ (by simp; omega))
  · exact (h3 (by omega) c0 c1 c2).trans (beside_at ![ya, yb, yc, yd] j 3 _ (by simp; omega))

theorem pay_out (ya yb yc yd : FVec Ideal S512x256 .f32) (x : FVec Ideal S512x1024 .f32) (w : FVec Ideal S1024x1024 .bf16) (r : Fin 512) (k : Fin 1024) :
    k0_pay1 (F := Ideal) ya yb yc yd x w (ix2 r k)
      = project (x (ix2 r k)) ![fun i => ya (ix2 r i), fun i => yb (ix2 r i), fun i => yc (ix2 r i), fun i => yd (ix2 r i)] (fun j => w (ix2 j k)) := by
  unfold k0_pay1 project
  pointwise
  refine congrArg _ (Finset.sum_congr rfl fun j _ => congrArg (· * _) ?_)
  refine beside_cases _ _ _ _ j _ (fun h => ?_) (fun h n0 => ?_) (fun h n0 n1 => ?_) (fun h n0 n1 n2 => ?_)
  all_goals simp only [*, dite_true, dite_false, if_true]

variable (m : (ℓ : Loc nD τ sig) → Buf (Elt Ideal) ℓ) (c : Dev nD)

/-- The hidden states, the branches' outputs and the weights. -/
def X (i : Fin 4096) (k : Fin 1024) : EReal := m (c, Proc.tc.devRef main_arg0) (ix2 i k)
def Ya (i : Fin 4096) (k : Fin 256) : EReal := m (c, Proc.tc.devRef main_arg1) (ix2 i k)
def Yb (i : Fin 4096) (k : Fin 256) : EReal := m (c, Proc.tc.devRef main_arg2) (ix2 i k)
def Yc (i : Fin 4096) (k : Fin 256) : EReal := m (c, Proc.tc.devRef main_arg3) (ix2 i k)
def Yd (i : Fin 4096) (k : Fin 256) : EReal := m (c, Proc.tc.devRef main_arg4) (ix2 i k)
def W (j k : Fin 1024) : EReal := m (c, Proc.tc.devRef main_arg5) (ix2 j k)
/-- The result. -/
def Out (i : Fin 4096) (k : Fin 1024) : EReal := project (X m c i k) ![Ya m c i, Yb m c i, Yc m c i, Yd m c i] (fun j => W m c j k)

def row (t : Fin cfg0.N) (r : Fin 512) : Fin 4096 := ⟨512 * t.val + r.val, by have h : t.val < 8 := t.isLt; omega⟩

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) := by decide +kernel

theorem blkX (t : Fin cfg0.N) (r : Fin 512) (j : Fin 1024) : iblk m c 0 t (ix2 r j) = X m c (row t r) j := by
  unfold X
  blk_simp [iblk]
  entry_read
  blk_ext [idx t, row] <;> (have := idx t; simp only [row]; omega)

theorem blkYa (t : Fin cfg0.N) (r : Fin 512) (j : Fin 256) : iblk m c 1 t (ix2 r j) = Ya m c (row t r) j := by
  unfold Ya
  blk_simp [iblk]
  entry_read
  blk_ext [idx t, row] <;> (have := idx t; simp only [row]; omega)

theorem blkYb (t : Fin cfg0.N) (r : Fin 512) (j : Fin 256) : iblk m c 2 t (ix2 r j) = Yb m c (row t r) j := by
  unfold Yb
  blk_simp [iblk]
  entry_read
  blk_ext [idx t, row] <;> (have := idx t; simp only [row]; omega)

theorem blkYc (t : Fin cfg0.N) (r : Fin 512) (j : Fin 256) : iblk m c 3 t (ix2 r j) = Yc m c (row t r) j := by
  unfold Yc
  blk_simp [iblk]
  entry_read
  blk_ext [idx t, row] <;> (have := idx t; simp only [row]; omega)

theorem blkYd (t : Fin cfg0.N) (r : Fin 512) (j : Fin 256) : iblk m c 4 t (ix2 r j) = Yd m c (row t r) j := by
  unfold Yd
  blk_simp [iblk]
  entry_read
  blk_ext [idx t, row] <;> (have := idx t; simp only [row]; omega)

theorem blkW (t : Fin cfg0.N) (j k : Fin 1024) : iblk m c 5 t (ix2 j k) = W m c j k := by
  unfold W
  blk_simp [iblk]
  entry_read
  pointwise
  blk_ext [idx t] <;> (have := idx t; omega)

theorem final_out : (dats m 0 c).arrAt 6 cfg0.N = fun i : S4096x1024.Idx => Out m c (i 0) (i 1) := by
  refine (dats m 0 c).arrAt_eq_of_covers 6 _ (by decide +kernel) fun t hf y => ?_
  blk_simp
  obtain ⟨r, j, rfl⟩ : ∃ (r : Fin 512) (j : Fin 1024), y = (ix2 r j : S512x1024.Idx) := ⟨y 0, y 1, eq_ix2 (n0 := 512) (n1 := 1024) y⟩
  have e : (win0_6.blk t).view.emb (ix2 r j) = (ix2 (row t r) j : S4096x1024.Idx) := by
    blk_ext [idx t, row] <;> (have := idx t; simp only [row]; omega)
  rw [after0_6, e]
  unfold out0_6
  frame_out
  refine (pay_out ..).trans ?_
  simp only [blkX, blkYa, blkYb, blkYc, blkYd, blkW]
  rfl

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)

/-- The kernel run: its result as a function of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v1) = (fun i : S4096x1024.Idx => Out m c (i 0) (i 1)) ∧ Kept m c r.2 :=
  (θ_run defs _ _).mono (fun _ h c => ⟨(h c).1.trans (final_out m c), (h c).2⟩) (Value.run_blocks m ρ)
end Cert.OutProj
-- ==== Proof.OutProjRef.lean ====
module
public import proofs.«01_k».proof.Defs
public import proofs.«01_k».proof.Proof.OutProj
public import proofs.«01_k».proof.Proof.Gen.Reference8Ideal.Run
/-!
The output projection's reference: the same function of the arguments, and the two programs' agreement.
-/
@[expose] public section
noncomputable section
namespace Cert.OutProj.Ref
open Cert.Reference8Ideal Cert.Reference8Ideal.Gen Cert.Reference8Ideal.Value Idealize.ShloMosaic Idealize.ShloMosaic.TcCoe Idealize.SL.Sem
open Cert.OutProj (project beside_cases)
set_option maxRecDepth 16384

variable (m : (ℓ : Loc nD τ sig) → Buf (Elt Ideal) ℓ) (c : Dev nD)

def X (i : Fin 4096) (k : Fin 1024) : EReal := m (c.tc.loc main_arg0) (ix2 i k)
def Ya (i : Fin 4096) (k : Fin 256) : EReal := m (c.tc.loc main_arg1) (ix2 i k)
def Yb (i : Fin 4096) (k : Fin 256) : EReal := m (c.tc.loc main_arg2) (ix2 i k)
def Yc (i : Fin 4096) (k : Fin 256) : EReal := m (c.tc.loc main_arg3) (ix2 i k)
def Yd (i : Fin 4096) (k : Fin 256) : EReal := m (c.tc.loc main_arg4) (ix2 i k)
def W (j k : Fin 1024) : EReal := m (c.tc.loc main_arg5) (ix2 j k)
def Out (i : Fin 4096) (k : Fin 1024) : EReal := project (X m c i k) ![Ya m c i, Yb m c i, Yc m c i, Yd m c i] (fun j => W m c j k)

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)

theorem run_values (ρ : Dev nD → PrngReg) :
    θ_run defs (onTc (τ := τ) (main (F := Ideal))) ⟨m, fun _ => 0, ρ⟩ fun r => ∀ c : Dev nD,
      r.2.mem (c.tc.loc main_v2) = (fun i : S4096x1024.Idx => Out m c (i 0) (i 1)) ∧ Kept m c r.2 := by
  refine (θ_run defs _ _).mono (fun r h c => ?_) (run m ρ)
  refine ⟨(h c).1.trans (funext fun i => ?_), (h c).2⟩
  clear h
  obtain ⟨r, k, rfl⟩ : ∃ (r : Fin 4096) (k : Fin 1024), i = (ix2 r k : S4096x1024.Idx) := ⟨i 0, i 1, eq_ix2 (n0 := 4096) (n1 := 1024) i⟩
  change _ = Out m c r k
  unfold Out project
  pointwise
  refine congrArg _ (Finset.sum_congr rfl fun j _ => congrArg (· * _) ?_)
  refine beside_cases _ _ _ _ j _ (fun h => ?_) (fun h n0 => ?_) (fun h n0 n1 => ?_) (fun h n0 n1 n2 => ?_)
  all_goals (simp only [*, dite_true, dite_false, if_true]; rfl)

theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2, sem_eq_zero_of_no_sems (by decide) r.2⟩) (run_values m ρ)
end Cert.OutProj.Ref

open Idealize.ShloMosaic Idealize.ShloMosaic.TcCoe Idealize.SL.Sem in
/-- The call computes the product of the branches' outputs with the weights, added to the hidden states. -/
theorem Cert.OutProj.value : Cert.algebraic_Kernel8Ideal_Reference8Ideal := by
  intro m g m' g' _ hag
  have e0 (c) : Cert.OutProj.Ref.X m' c = X m c := by funext i k; exact congrFun (hag c).1 (ix2 i k)
  have e1 (c) : Cert.OutProj.Ref.Ya m' c = Ya m c := by funext i k; exact congrFun (hag c).2.1 (ix2 i k)
  have e2 (c) : Cert.OutProj.Ref.Yb m' c = Yb m c := by funext i k; exact congrFun (hag c).2.2.1 (ix2 i k)
  have e3 (c) : Cert.OutProj.Ref.Yc m' c = Yc m c := by funext i k; exact congrFun (hag c).2.2.2.1 (ix2 i k)
  have e4 (c) : Cert.OutProj.Ref.Yd m' c = Yd m c := by funext i k; exact congrFun (hag c).2.2.2.2.1 (ix2 i k)
  have e5 (c) : Cert.OutProj.Ref.W m' c = W m c := by funext i k; exact congrFun (hag c).2.2.2.2.2 (ix2 i k)
  have hr := Cert.OutProj.Ref.run_values m' g'
  simp only [Cert.OutProj.Ref.Out, e0, e1, e2, e3, e4, e5] at hr
  exact ⟨_, run_values m g, hr⟩
-- ==== Proof.Adam.lean ====
module
public import proofs.«01_k».proof.Defs
public import proofs.«01_k».proof.Proof.DnFwd
public import proofs.«01_k».proof.Proof.Gen.Kernel9Ideal.Value
public import Idealize.ShloMosaic.Lib.StableHlo.RunRead
/-!
The optimiser's call: the devices' gradients added up and one step taken, as functions of the arguments.
-/
@[expose] public section
noncomputable section
namespace Cert.Adam
open Cert.Kernel9Ideal Cert.Kernel9Ideal.Gen Idealize.ShloMosaic Idealize.ShloMosaic.TcCoe Idealize.SL.Sem
open Idealize.ShloMosaic.Pipeline (Dat)
set_option maxRecDepth 16384

/-- A constant of the programs by its bits. -/
abbrev lit (b : BitVec 32) : EReal := Ideal.ofBits FTy.f32 b
/-- The first moment after the step. -/
def first (g m : EReal) : EReal := lit 0x3F666666#32 * m + lit 0x3DCCCCCD#32 * g
/-- The second moment after the step. -/
def second (g v : EReal) : EReal := lit 0x3F7FBE77#32 * v + lit 0x3A83126F#32 * (g * g)
/-- The change of the weight, from the new moments. -/
def change (w m v : EReal) : EReal :=
  lit 0xBA83126F#32 * (Ideal.div (Ideal.div m (lit 0x3F26BD02#32)) (Ideal.sqrt (Ideal.div v (lit 0x3C231ACC#32)) + lit 0x322BCC77#32)
    + lit 0x3C23D70A#32 * w)

section payloads
variable (g m : FVec Ideal S256x417 .f32) (v w : Vec Ideal S1x256x417 .f32) (r : Fin 256) (j : Fin 417)
@[pointwise] theorem pay_first : k0_pay7 (F := Ideal) g m (ix2 r j) = first (g (ix2 r j)) (m (ix2 r j)) := by
  unfold k0_pay7; pointwise; rfl
@[pointwise] theorem pay_second : k0_pay8 (F := Ideal) g v (ix2 r j) = second (g (ix2 r j)) (v (ix3 0 r j)) := by
  unfold k0_pay8; pointwise; rfl
theorem pay_change : k0_pay1 (F := Ideal) (k0_pay12 g m v) (k0_pay13 w) (ix3 0 r j)
    = change (w (ix3 0 r j)) (first (g (ix2 r j)) (m (ix2 r j))) (second (g (ix2 r j)) (v (ix3 0 r j))) := by
  unfold k0_pay1 k0_pay12 k0_pay13; pointwise; rfl
/-- The devices' gradients of a block, added up. -/
def total (P : Vec Ideal S8x256x417 .bf16) : FVec Ideal S256x417 .f32 :=
  k0_pay5 (View.ld P (Rect.unit ![0, 0, 0] ![1, 256, 417] inb_S8x256x417_S1x256x417_0_0_0))
    (View.ld P (Rect.unit ![1, 0, 0] ![1, 256, 417] inb_S8x256x417_S1x256x417_1_0_0))
    (View.ld P (Rect.unit ![2, 0, 0] ![1, 256, 417] inb_S8x256x417_S1x256x417_2_0_0))
    (View.ld P (Rect.unit ![3, 0, 0] ![1, 256, 417] inb_S8x256x417_S1x256x417_3_0_0))
    (View.ld P (Rect.unit ![4, 0, 0] ![1, 256, 417] inb_S8x256x417_S1x256x417_4_0_0))
    (View.ld P (Rect.unit ![5, 0, 0] ![1, 256, 417] inb_S8x256x417_S1x256x417_5_0_0))
    (View.ld P (Rect.unit ![6, 0, 0] ![1, 256, 417] inb_S8x256x417_S1x256x417_6_0_0))
    (View.ld P (Rect.unit ![7, 0, 0] ![1, 256, 417] inb_S8x256x417_S1x256x417_7_0_0))
theorem total_at (P : Vec Ideal S8x256x417 .bf16) : total P (ix2 r j) = ∑ k, P (ix3 k r j) := by
  unfold total k0_pay5; pointwise; rw [Fin.sum_univ_eight]
end payloads

/-- The four layers' branches compute the same. -/
theorem layers_alike :
    @k0_pay14 = @k0_pay5 ∧ @k0_pay15 = @k0_pay6 ∧ @k0_pay16 = @k0_pay7 ∧ @k0_pay17 = @k0_pay8 ∧ @k0_pay18 = @k0_pay9 ∧
    @k0_pay19 = @k0_pay10 ∧ @k0_pay20 = @k0_pay11 ∧ @k0_pay21 = @k0_pay12 ∧ @k0_pay22 = @k0_pay13 ∧ @k0_pay2 = @k0_pay1 ∧
    @k0_pay23 = @k0_pay5 ∧ @k0_pay24 = @k0_pay6 ∧ @k0_pay25 = @k0_pay7 ∧ @k0_pay26 = @k0_pay8 ∧ @k0_pay27 = @k0_pay9 ∧
    @k0_pay28 = @k0_pay10 ∧ @k0_pay29 = @k0_pay11 ∧ @k0_pay30 = @k0_pay12 ∧ @k0_pay31 = @k0_pay13 ∧ @k0_pay3 = @k0_pay1 ∧
    @k0_pay32 = @k0_pay5 ∧ @k0_pay33 = @k0_pay6 ∧ @k0_pay34 = @k0_pay7 ∧ @k0_pay35 = @k0_pay8 ∧ @k0_pay36 = @k0_pay9 ∧
    @k0_pay37 = @k0_pay10 ∧ @k0_pay38 = @k0_pay11 ∧ @k0_pay39 = @k0_pay12 ∧ @k0_pay40 = @k0_pay13 ∧ @k0_pay4 = @k0_pay1 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

variable (m : (ℓ : Loc nD τ sig) → Buf (Elt Ideal) ℓ) (c : Dev nD)

/-- The devices' gradients of a layer, the weights and the two moments. -/
def Parts (l : Fin 4) (k : Fin 8) (i : Fin 1024) (j : Fin 417) : EReal :=
  ![m (c, Proc.tc.devRef main_arg0) (ix3 k i j), m (c, Proc.tc.devRef main_arg1) (ix3 k i j),
    m (c, Proc.tc.devRef main_arg2) (ix3 k i j), m (c, Proc.tc.devRef main_arg3) (ix3 k i j)] l
def W (l : Fin 4) (i : Fin 1024) (j : Fin 417) : EReal := m (c, Proc.tc.devRef main_arg4) (ix3 l i j)
def M (l : Fin 4) (i : Fin 1024) (j : Fin 417) : EReal := m (c, Proc.tc.devRef main_arg5) (ix3 l i j)
def V2 (l : Fin 4) (i : Fin 1024) (j : Fin 417) : EReal := m (c, Proc.tc.devRef main_arg6) (ix3 l i j)
/-- The four results. -/
def Grad (l : Fin 4) (i : Fin 1024) (j : Fin 417) : EReal := ∑ k, Parts m c l k i j
def First (l : Fin 4) (i : Fin 1024) (j : Fin 417) : EReal := first (Grad m c l i j) (M m c l i j)
def Second (l : Fin 4) (i : Fin 1024) (j : Fin 417) : EReal := second (Grad m c l i j) (V2 m c l i j)
def Change (l : Fin 4) (i : Fin 1024) (j : Fin 417) : EReal := change (W m c l i j) (First m c l i j) (Second m c l i j)

/-- The layer a point works on, and the row of the array its row `r` is. -/
def layer (t : Fin cfg0.N) : Fin 4 := ⟨t.val / 4, by have h : t.val < 16 := t.isLt; omega⟩
def row (t : Fin cfg0.N) (r : Fin 256) : Fin 1024 := ⟨256 * (t.val % 4) + r.val, by omega⟩

theorem idxP : ∀ t : Fin cfg0.N, (t.val / 4 = 0 → win0_0.index t 0 = 0 ∧ win0_0.index t 1 = t.val % 4 ∧ win0_0.index t 2 = 0)
    ∧ (t.val / 4 = 1 → win0_1.index t 0 = 0 ∧ win0_1.index t 1 = t.val % 4 ∧ win0_1.index t 2 = 0)
    ∧ (t.val / 4 = 2 → win0_2.index t 0 = 0 ∧ win0_2.index t 1 = t.val % 4 ∧ win0_2.index t 2 = 0)
    ∧ (t.val / 4 = 3 → win0_3.index t 0 = 0 ∧ win0_3.index t 1 = t.val % 4 ∧ win0_3.index t 2 = 0) := by decide +kernel
theorem idx : ∀ t : Fin cfg0.N, (win0_4.index t 0 = t.val / 4 ∧ win0_4.index t 1 = t.val % 4 ∧ win0_4.index t 2 = 0)
    ∧ (win0_5.index t 0 = t.val / 4 ∧ win0_5.index t 1 = t.val % 4 ∧ win0_5.index t 2 = 0)
    ∧ (win0_6.index t 0 = t.val / 4 ∧ win0_6.index t 1 = t.val % 4 ∧ win0_6.index t 2 = 0)
    ∧ (win0_7.index t 0 = t.val / 4 ∧ win0_7.index t 1 = t.val % 4 ∧ win0_7.index t 2 = 0)
    ∧ (win0_8.index t 0 = t.val / 4 ∧ win0_8.index t 1 = t.val % 4 ∧ win0_8.index t 2 = 0)
    ∧ (win0_9.index t 0 = t.val / 4 ∧ win0_9.index t 1 = t.val % 4 ∧ win0_9.index t 2 = 0)
    ∧ (win0_10.index t 0 = t.val / 4 ∧ win0_10.index t 1 = t.val % 4 ∧ win0_10.index t 2 = 0) := by decide +kernel

theorem blkP0 (t : Fin cfg0.N) (k : Fin 8) (r : Fin 256) (j : Fin 417) (e : t.val / 4 = 0) :
    iblk m c 0 t (ix3 k r j) = Parts m c (layer t) k (row t r) j := by
  rw [show layer t = 0 from Fin.ext e]
  show _ = m (c, Proc.tc.devRef main_arg0) (ix3 k (row t r) j)
  blk_simp [iblk]
  entry_read
  blk_ext [row] <;> (have := idxP t; (try simp only [row]); omega)

theorem blkP1 (t : Fin cfg0.N) (k : Fin 8) (r : Fin 256) (j : Fin 417) (e : t.val / 4 = 1) :
    iblk m c 1 t (ix3 k r j) = Parts m c (layer t) k (row t r) j := by
  rw [show layer t = 1 from Fin.ext e]
  show _ = m (c, Proc.tc.devRef main_arg1) (ix3 k (row t r) j)
  blk_simp [iblk]
  entry_read
  blk_ext [row] <;> (have := idxP t; (try simp only [row]); omega)

theorem blkP2 (t : Fin cfg0.N) (k : Fin 8) (r : Fin 256) (j : Fin 417) (e : t.val / 4 = 2) :
    iblk m c 2 t (ix3 k r j) = Parts m c (layer t) k (row t r) j := by
  rw [show layer t = 2 from Fin.ext e]
  show _ = m (c, Proc.tc.devRef main_arg2) (ix3 k (row t r) j)
  blk_simp [iblk]
  entry_read
  blk_ext [row] <;> (have := idxP t; (try simp only [row]); omega)

theorem blkP3 (t : Fin cfg0.N) (k : Fin 8) (r : Fin 256) (j : Fin 417) (e : t.val / 4 = 3) :
    iblk m c 3 t (ix3 k r j) = Parts m c (layer t) k (row t r) j := by
  rw [show layer t = 3 from Fin.ext e]
  show _ = m (c, Proc.tc.devRef main_arg3) (ix3 k (row t r) j)
  blk_simp [iblk]
  entry_read
  blk_ext [row] <;> (have := idxP t; (try simp only [row]); omega)

theorem blkW (t : Fin cfg0.N) (r : Fin 256) (j : Fin 417) : iblk m c 4 t (ix3 0 r j) = W m c (layer t) (row t r) j := by
  unfold W
  blk_simp [iblk]
  entry_read
  blk_ext [idx t, row, layer] <;> (have := idx t; simp only [row, layer]; omega)

theorem blkM (t : Fin cfg0.N) (r : Fin 256) (j : Fin 417) : iblk m c 5 t (ix3 0 r j) = M m c (layer t) (row t r) j := by
  unfold M
  blk_simp [iblk]
  entry_read
  blk_ext [idx t, row, layer] <;> (have := idx t; simp only [row, layer]; omega)

theorem blkV2 (t : Fin cfg0.N) (r : Fin 256) (j : Fin 417) : iblk m c 6 t (ix3 0 r j) = V2 m c (layer t) (row t r) j := by
  unfold V2
  blk_simp [iblk]
  entry_read
  blk_ext [idx t, row, layer] <;> (have := idx t; simp only [row, layer]; omega)

/-- The layer's branch is the one taken at its points. -/
theorem at_layer (t : Fin cfg0.N) :
    (t.val / 4 = 0 ∧ t.val < 4 ∧ ¬ t.val / 4 % 4 = 1 ∧ ¬ t.val / 4 % 4 = 2 ∧ ¬ 12 ≤ t.val)
    ∨ (t.val / 4 = 1 ∧ ¬ t.val < 4 ∧ t.val / 4 % 4 = 1 ∧ ¬ t.val / 4 % 4 = 2 ∧ ¬ 12 ≤ t.val)
    ∨ (t.val / 4 = 2 ∧ ¬ t.val < 4 ∧ ¬ t.val / 4 % 4 = 1 ∧ t.val / 4 % 4 = 2 ∧ ¬ 12 ≤ t.val)
    ∨ (t.val / 4 = 3 ∧ ¬ t.val < 4 ∧ ¬ t.val / 4 % 4 = 1 ∧ ¬ t.val / 4 % 4 = 2 ∧ 12 ≤ t.val) := by
  have h : t.val < 16 := t.isLt
  omega

/-- The blocks a point's branch leaves, from the parts it adds up and what it stores. -/
theorem leaves (t : Fin cfg0.N) (r : Fin 256) (j : Fin 417) {P : Vec Ideal S8x256x417 .bf16} {o : Vec Ideal S1x256x417 .f32 × Vec Ideal S1x256x417 .f32 × Vec Ideal S1x256x417 .f32 × Vec Ideal S1x256x417 .f32}
    (hP : ∀ k, P (ix3 k r j) = Parts m c (layer t) k (row t r) j)
    (h0 : o.1 (ix3 0 r j) = k0_pay9 (F := Ideal) (total P) (ix3 0 r j))
    (h1 : o.2.1 (ix3 0 r j) = k0_pay1 (F := Ideal) (k0_pay12 (total P) (k0_pay6 (iblk m c 5 t)) (iblk m c 6 t)) (k0_pay13 (iblk m c 4 t)) (ix3 0 r j))
    (h2 : o.2.2.1 (ix3 0 r j) = k0_pay10 (F := Ideal) (total P) (k0_pay6 (iblk m c 5 t)) (ix3 0 r j))
    (h3 : o.2.2.2 (ix3 0 r j) = k0_pay11 (F := Ideal) (total P) (iblk m c 6 t) (ix3 0 r j)) :
    o.1 (ix3 0 r j) = Grad m c (layer t) (row t r) j ∧ o.2.1 (ix3 0 r j) = Change m c (layer t) (row t r) j
    ∧ o.2.2.1 (ix3 0 r j) = First m c (layer t) (row t r) j ∧ o.2.2.2 (ix3 0 r j) = Second m c (layer t) (row t r) j := by
  have g : total P (ix2 r j) = Grad m c (layer t) (row t r) j := (total_at r j P).trans (Finset.sum_congr rfl fun k _ => hP k)
  have f : k0_pay6 (F := Ideal) (iblk m c 5 t) (ix2 r j) = M m c (layer t) (row t r) j := by
    unfold k0_pay6; pointwise; exact blkM m c t r j
  have s : iblk m c 6 t (ix3 0 r j) = V2 m c (layer t) (row t r) j := blkV2 m c t r j
  refine ⟨h0.trans ?_, h1.trans ?_, h2.trans ?_, h3.trans ?_⟩
  · unfold k0_pay9; pointwise; exact g
  · rw [pay_change, g, f, s, blkW]; rfl
  · unfold k0_pay10; pointwise; rw [g, f]; rfl
  · unfold k0_pay11; pointwise; rw [g, s]; rfl

/-- What a point leaves in the four output blocks. -/
theorem outs (t : Fin cfg0.N) (r : Fin 256) (j : Fin 417) :
    (outsAt0 m c t.val t.isLt).1 (ix3 0 r j) = Grad m c (layer t) (row t r) j
    ∧ (outsAt0 m c t.val t.isLt).2.1 (ix3 0 r j) = Change m c (layer t) (row t r) j
    ∧ (outsAt0 m c t.val t.isLt).2.2.1 (ix3 0 r j) = First m c (layer t) (row t r) j
    ∧ (outsAt0 m c t.val t.isLt).2.2.2 (ix3 0 r j) = Second m c (layer t) (row t r) j := by
  rcases at_layer t with ⟨e, h0, h1, h2, h3⟩ | ⟨e, h0, h1, h2, h3⟩ | ⟨e, h0, h1, h2, h3⟩ | ⟨e, h0, h1, h2, h3⟩
  · rw [outsAt0_A m c t h0 h1 h2 h3]
    exact leaves m c t r j (fun k => blkP0 m c t k r j e) (by unfold out0_A_7; frame_out; rfl) (by unfold out0_A_8; frame_out; rfl)
      (by unfold out0_A_9; frame_out; rfl) (by unfold out0_A_10; frame_out; rfl)
  · rw [outsAt0_B m c t h0 h1 h2 h3]
    exact leaves m c t r j (fun k => blkP1 m c t k r j e) (by unfold out0_B_7; frame_out; simp only [layers_alike]; rfl)
      (by unfold out0_B_8; frame_out; simp only [layers_alike]; rfl) (by unfold out0_B_9; frame_out; simp only [layers_alike]; rfl)
      (by unfold out0_B_10; frame_out; simp only [layers_alike]; rfl)
  · rw [outsAt0_C m c t h0 h1 h2 h3]
    exact leaves m c t r j (fun k => blkP2 m c t k r j e) (by unfold out0_C_7; frame_out; simp only [layers_alike]; rfl)
      (by unfold out0_C_8; frame_out; simp only [layers_alike]; rfl) (by unfold out0_C_9; frame_out; simp only [layers_alike]; rfl)
      (by unfold out0_C_10; frame_out; simp only [layers_alike]; rfl)
  · rw [outsAt0_D m c t h0 h1 h2 h3]
    exact leaves m c t r j (fun k => blkP3 m c t k r j e) (by unfold out0_D_7; frame_out; simp only [layers_alike]; rfl)
      (by unfold out0_D_8; frame_out; simp only [layers_alike]; rfl) (by unfold out0_D_9; frame_out; simp only [layers_alike]; rfl)
      (by unfold out0_D_10; frame_out; simp only [layers_alike]; rfl)

/-- A place of an output block: its first axis has one entry. -/
theorem block_place (y : S1x256x417.Idx) : ∃ (r : Fin 256) (j : Fin 417), y = (ix3 0 r j : S1x256x417.Idx) :=
  ⟨y 1, y 2, (eq_ix3 (n0 := 1) (n1 := 256) (n2 := 417) y).trans (congrArg (ix3 · _ _) (Subsingleton.elim (α := Fin 1) _ _))⟩

theorem final7 : (dats m 0 c).arrAt 7 cfg0.N = fun i : S4x1024x417.Idx => Grad m c (i 0) (i 1) (i 2) := by
  refine (dats m 0 c).arrAt_eq_of_covers 7 _ (by decide +kernel) fun t hf y => ?_
  blk_simp
  obtain ⟨r, j, rfl⟩ := block_place y
  have e : (win0_7.blk t).view.emb (ix3 0 r j) = (ix3 (layer t) (row t r) j : S4x1024x417.Idx) := by
    blk_ext [idx t, row, layer] <;> (have := idx t; simp only [row, layer]; omega)
  rw [after0_7, e]
  exact (outs m c t r j).1

theorem final8 : (dats m 0 c).arrAt 8 cfg0.N = fun i : S4x1024x417.Idx => Change m c (i 0) (i 1) (i 2) := by
  refine (dats m 0 c).arrAt_eq_of_covers 8 _ (by decide +kernel) fun t hf y => ?_
  blk_simp
  obtain ⟨r, j, rfl⟩ := block_place y
  have e : (win0_8.blk t).view.emb (ix3 0 r j) = (ix3 (layer t) (row t r) j : S4x1024x417.Idx) := by
    blk_ext [idx t, row, layer] <;> (have := idx t; simp only [row, layer]; omega)
  rw [after0_8, e]
  exact (outs m c t r j).2.1

theorem final9 : (dats m 0 c).arrAt 9 cfg0.N = fun i : S4x1024x417.Idx => First m c (i 0) (i 1) (i 2) := by
  refine (dats m 0 c).arrAt_eq_of_covers 9 _ (by decide +kernel) fun t hf y => ?_
  blk_simp
  obtain ⟨r, j, rfl⟩ := block_place y
  have e : (win0_9.blk t).view.emb (ix3 0 r j) = (ix3 (layer t) (row t r) j : S4x1024x417.Idx) := by
    blk_ext [idx t, row, layer] <;> (have := idx t; simp only [row, layer]; omega)
  rw [after0_9, e]
  exact (outs m c t r j).2.2.1

theorem final10 : (dats m 0 c).arrAt 10 cfg0.N = fun i : S4x1024x417.Idx => Second m c (i 0) (i 1) (i 2) := by
  refine (dats m 0 c).arrAt_eq_of_covers 10 _ (by decide +kernel) fun t hf y => ?_
  blk_simp
  obtain ⟨r, j, rfl⟩ := block_place y
  have e : (win0_10.blk t).view.emb (ix3 0 r j) = (ix3 (layer t) (row t r) j : S4x1024x417.Idx) := by
    blk_ext [idx t, row, layer] <;> (have := idx t; simp only [row, layer]; omega)
  rw [after0_10, e]
  exact (outs m c t r j).2.2.2

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
  ∧ s.mem (c.tc.loc main_arg6) = m (c.tc.loc main_arg6)

/-- The kernel run: its four results as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v0_0) = (fun i : S4x1024x417.Idx => Grad m c (i 0) (i 1) (i 2))
      ∧ r.2.mem (c.tc.loc main_v0_1) = (fun i : S4x1024x417.Idx => Change m c (i 0) (i 1) (i 2))
      ∧ r.2.mem (c.tc.loc main_v0_2) = (fun i : S4x1024x417.Idx => First m c (i 0) (i 1) (i 2))
      ∧ r.2.mem (c.tc.loc main_v0_3) = (fun i : S4x1024x417.Idx => Second m c (i 0) (i 1) (i 2)) ∧ Kept m c r.2 :=
  (θ_run defs _ _).mono (fun _ h c => ⟨(h c).1.trans (final7 m c), (h c).2.1.trans (final8 m c), (h c).2.2.1.trans (final9 m c),
    (h c).2.2.2.1.trans (final10 m c), (h c).2.2.2.2⟩) (Value.run_blocks m ρ)
end Cert.Adam
-- ==== Proof.AdamRef.lean ====
module
public import proofs.«01_k».proof.Defs
public import proofs.«01_k».proof.Proof.Adam
public import proofs.«01_k».proof.Proof.Gen.Reference9Ideal.Run
public import proofs.«01_k».proof.Proof.Gen.Reference9Ideal.Read
/-!
The optimiser's reference: its four results as the same functions of the arguments, and the two programs' agreement.
-/
@[expose] public section
noncomputable section
namespace Cert.Adam.Ref
open Cert.Reference9Ideal Cert.Reference9Ideal.Gen Cert.Reference9Ideal.Value Cert.Reference9Ideal.Read Idealize.ShloMosaic Idealize.ShloMosaic.TcCoe Idealize.SL.Sem
open Cert.Adam (first second change)
set_option maxRecDepth 16384

section stages
variable (p0 p1 p2 p3 : (⟨S8x1024x417, .bf16⟩ : BufTy).Contents (Elt Ideal)) (w m v : (⟨S4x1024x417, .f32⟩ : BufTy).Contents (Elt Ideal))
  (l : Fin 4) (i : Fin 1024) (j : Fin 417)

/-- A layer's gradient: the devices' parts added up. -/
theorem grad_at : val_main_v12 (F := Ideal) p0 p1 p2 p3 (ix3 l i j) = ∑ k : Fin 8, ![p0 (ix3 k i j), p1 (ix3 k i j), p2 (ix3 k i j), p3 (ix3 k i j)] l := by
  unfold val_main_v12 val_main_v8 val_main_v9 val_main_v10 val_main_v11 val_main_v1 val_main_v3 val_main_v5 val_main_v7
    val_main_v0 val_main_v2 val_main_v4 val_main_v6 val_main_cst val_main_cst_0 val_main_cst_1 val_main_cst_2
  pointwise
  fin_cases l
  all_goals rfl

/-- The reference's running average. -/
theorem first_at : val_main_v17 (F := Ideal) p0 p1 p2 p3 m (ix3 l i j) = first (val_main_v12 (F := Ideal) p0 p1 p2 p3 (ix3 l i j)) (m (ix3 l i j)) := by
  unfold val_main_v17 val_main_v16 val_main_v15 val_main_v14 val_main_v13 val_main_cst_3 val_main_cst_4
  pointwise
  rfl

/-- The reference's running square. -/
theorem second_at : val_main_v23 (F := Ideal) p0 p1 p2 p3 v (ix3 l i j) = second (val_main_v12 (F := Ideal) p0 p1 p2 p3 (ix3 l i j)) (v (ix3 l i j)) := by
  unfold val_main_v23 val_main_v22 val_main_v21 val_main_v20 val_main_v19 val_main_v18 val_main_cst_5 val_main_cst_6
  pointwise
  rfl

/-- The reference's step. -/
theorem change_at : val_main_v36 (F := Ideal) p0 p1 p2 p3 w m v (ix3 l i j)
    = change (w (ix3 l i j)) (val_main_v17 (F := Ideal) p0 p1 p2 p3 m (ix3 l i j)) (val_main_v23 (F := Ideal) p0 p1 p2 p3 v (ix3 l i j)) := by
  unfold val_main_v36 val_main_v35 val_main_v34 val_main_v33 val_main_v32 val_main_v31 val_main_v30 val_main_v29 val_main_v28 val_main_v27 val_main_v26
    val_main_v25 val_main_v24 val_main_cst_7 val_main_cst_8 val_main_cst_9 val_main_cst_10 val_main_cst_11
  pointwise
  rfl
end stages

variable (m : (ℓ : Loc nD τ sig) → Buf (Elt Ideal) ℓ) (c : Dev nD)

/-- What each device holds of a layer's gradient. -/
def Parts (l : Fin 4) (k : Fin 8) (i : Fin 1024) (j : Fin 417) : EReal :=
  ![m (c.tc.loc main_arg0) (ix3 k i j), m (c.tc.loc main_arg1) (ix3 k i j), m (c.tc.loc main_arg2) (ix3 k i j), m (c.tc.loc main_arg3) (ix3 k i j)] l
/-- The weights. -/
def W (l : Fin 4) (i : Fin 1024) (j : Fin 417) : EReal := m (c.tc.loc main_arg4) (ix3 l i j)
/-- The running averages. -/
def M (l : Fin 4) (i : Fin 1024) (j : Fin 417) : EReal := m (c.tc.loc main_arg5) (ix3 l i j)
/-- The running squares. -/
def V2 (l : Fin 4) (i : Fin 1024) (j : Fin 417) : EReal := m (c.tc.loc main_arg6) (ix3 l i j)
/-- The gradient, the new averages and the step. -/
def Grad (l : Fin 4) (i : Fin 1024) (j : Fin 417) : EReal := ∑ k, Parts m c l k i j
def First (l : Fin 4) (i : Fin 1024) (j : Fin 417) : EReal := first (Grad m c l i j) (M m c l i j)
def Second (l : Fin 4) (i : Fin 1024) (j : Fin 417) : EReal := second (Grad m c l i j) (V2 m c l i j)
def Change (l : Fin 4) (i : Fin 1024) (j : Fin 417) : EReal := change (W m c l i j) (First m c l i j) (Second m c l i j)

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
  ∧ s.mem (c.tc.loc main_arg6) = m (c.tc.loc main_arg6)

/-- The reference's run: its four results. -/
theorem run_values (ρ : Dev nD → PrngReg) :
    θ_run defs (onTc (τ := τ) (main (F := Ideal))) ⟨m, fun _ => 0, ρ⟩ fun r => ∀ c : Dev nD,
      r.2.mem (c.tc.loc main_v12) = (fun i : S4x1024x417.Idx => Grad m c (i 0) (i 1) (i 2))
      ∧ r.2.mem (c.tc.loc main_v36) = (fun i : S4x1024x417.Idx => Change m c (i 0) (i 1) (i 2))
      ∧ r.2.mem (c.tc.loc main_v17) = (fun i : S4x1024x417.Idx => First m c (i 0) (i 1) (i 2))
      ∧ r.2.mem (c.tc.loc main_v23) = (fun i : S4x1024x417.Idx => Second m c (i 0) (i 1) (i 2)) ∧ Kept m c r.2 := by
  refine (θ_run defs _ _).mono (fun r h c => ?_) (run m ρ)
  obtain ⟨h0, h1, h2, h3, h4⟩ := h c
  have g (l i j) : val_main_v12 (F := Ideal) (m (c.tc.loc main_arg0)) (m (c.tc.loc main_arg1)) (m (c.tc.loc main_arg2)) (m (c.tc.loc main_arg3)) (ix3 l i j)
    = Grad m c l i j := grad_at ..
  refine ⟨(h0.trans (val_main_v12_eq ..)).trans (funext fun i => ?_), (h1.trans (val_main_v36_eq ..)).trans (funext fun i => ?_),
    (h2.trans (val_main_v17_eq ..)).trans (funext fun i => ?_), (h3.trans (val_main_v23_eq ..)).trans (funext fun i => ?_), h4⟩
  all_goals
    obtain ⟨l, r, j, rfl⟩ : ∃ (l : Fin 4) (r : Fin 1024) (j : Fin 417), i = (ix3 l r j : S4x1024x417.Idx) :=
      ⟨i 0, i 1, i 2, eq_ix3 (n0 := 4) (n1 := 1024) (n2 := 417) i⟩
  · exact g l r j
  · rw [change_at, first_at, second_at, g]; rfl
  · rw [first_at, g]; rfl
  · rw [second_at, g]; rfl

/-- The reference leaves its arguments and the semaphores alone. -/
theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2.2.2.2, sem_eq_zero_of_no_sems (by decide) r.2⟩) (run_values m ρ)
end Cert.Adam.Ref

open Idealize.ShloMosaic Idealize.ShloMosaic.TcCoe Idealize.SL.Sem in
/-- The call adds up the devices' gradients and takes the optimiser's step. -/
theorem Cert.Adam.value : Cert.algebraic_Kernel9Ideal_Reference9Ideal := by
  intro m g m' g' _ hag
  have e0 (c) : Cert.Adam.Ref.Parts m' c = Parts m c := by
    funext l k i j
    obtain ⟨a0, a1, a2, a3, _⟩ := hag c
    fin_cases l
    · exact congrFun a0 (ix3 k i j)
    · exact congrFun a1 (ix3 k i j)
    · exact congrFun a2 (ix3 k i j)
    · exact congrFun a3 (ix3 k i j)
  have e1 (c) : Cert.Adam.Ref.W m' c = W m c := by funext l i j; exact congrFun (hag c).2.2.2.2.1 (ix3 l i j)
  have e2 (c) : Cert.Adam.Ref.M m' c = M m c := by funext l i j; exact congrFun (hag c).2.2.2.2.2.1 (ix3 l i j)
  have e3 (c) : Cert.Adam.Ref.V2 m' c = V2 m c := by funext l i j; exact congrFun (hag c).2.2.2.2.2.2 (ix3 l i j)
  have hr := Cert.Adam.Ref.run_values m' g'
  simp only [Cert.Adam.Ref.Change, Cert.Adam.Ref.First, Cert.Adam.Ref.Second, Cert.Adam.Ref.Grad, e0, e1, e2, e3] at hr
  exact ⟨_, _, _, _, run_values m g, hr⟩
-- ==== Proof.InWeight.lean ====
module

public import proofs.«01_k».proof.Proof.Gen.Kernel10Ideal.Value
public import proofs.«01_k».proof.Defs
public import proofs.«01_k».proof.Proof.NormBwd
public import proofs.«01_k».proof.Proof.Common
public import Idealize.ShloMosaic.Lib.Pipeline.ReadBack

/-!
# The gradient of the input projection's weights

Every block of 512 rows adds, to each column of the packed result, the products of the rows' entries with the
cotangent's column that the packed column holds: six stores, one for each slab of columns. The first block adds to
zeros, so the result is the sum over all 4096 rows.
-/

@[expose] public section
noncomputable section
namespace Cert.InWeight
open Cert.Kernel10Ideal Cert.Kernel10Ideal.Gen Idealize.ShloMosaic Idealize.ShloMosaic.TcCoe Idealize.SL.Sem
open Cert.NormBwd (packed column at_column)
set_option maxRecDepth 16384

variable (m : (ℓ : Loc nD τ sig) → Buf (Elt Ideal) ℓ) (c : Dev nD)

/-- The normalised rows and the projection's cotangent. -/
def H (i : Fin 4096) (j : Fin 1024) : EReal := m (c, Proc.tc.devRef main_arg0) (ix2 i j)
def P (i : Fin 4096) (q : Fin 3336) : EReal := m (c, Proc.tc.devRef main_arg1) (ix2 i q)

def row (t : Fin cfg0.N) (r : Fin 512) : Fin 4096 := ⟨512 * t.val + r.val, by have h : t.val < 8 := t.isLt; omega⟩

theorem idx0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) := by decide +kernel

/-- The packed column `p` of the cotangent's rows that block `t` holds. -/
def slab (t : Fin cfg0.N) (r : Fin 512) (p : Fin 3456) : EReal := packed (P m c (row t r)) p

theorem blkH (t : Fin cfg0.N) (r : Fin 512) (j : Fin 1024) : iblk m c 0 t (ix2 r j) = H m c (row t r) j := by
  unfold H
  blk_simp [iblk]
  entry_read
  blk_ext [idx0 t, row] <;> (have := idx0 t; simp only [row]; omega)

theorem slab_eq (t : Fin cfg0.N) (r : Fin 512) (p : Fin 3456) (a : Fin 3336) (hp : p.val < 3336)
    (h : a.val = if p.val < 3072 then p.val else if p.val < 3328 then p.val + 8 else p.val - 256) : slab m c t r p = P m c (row t r) a := by
  unfold slab packed
  rw [dif_pos hp]
  exact (at_column _ a p.val hp h).symm

theorem blk1 (t : Fin cfg0.N) (r : Fin 512) (k : Fin 768) : iblk m c 1 t (ix2 r k) = slab m c t r ⟨k.val, by omega⟩ := by
  rw [slab_eq m c t r ⟨k.val, by omega⟩ ⟨k.val, by omega⟩ (by dsimp only; omega) (by dsimp only; split_ifs <;> omega)]
  unfold P
  blk_simp [iblk]
  entry_read
  pointwise
  blk_ext [idx0 t, row] <;> (have := idx0 t; simp only [row]; omega)

theorem blk2 (t : Fin cfg0.N) (r : Fin 512) (k : Fin 512) : iblk m c 2 t (ix2 r k) = slab m c t r ⟨768 + k.val, by omega⟩ := by
  rw [slab_eq m c t r ⟨768 + k.val, by omega⟩ ⟨768 + k.val, by omega⟩ (by dsimp only; omega) (by dsimp only; split_ifs <;> omega)]
  unfold P
  blk_simp [iblk]
  entry_read
  pointwise
  blk_ext [idx0 t, row] <;> (have := idx0 t; simp only [row]; omega)

theorem blk3 (t : Fin cfg0.N) (r : Fin 512) (k : Fin 1024) : iblk m c 3 t (ix2 r k) = slab m c t r ⟨1280 + k.val, by omega⟩ := by
  rw [slab_eq m c t r ⟨1280 + k.val, by omega⟩ ⟨1280 + k.val, by omega⟩ (by dsimp only; omega) (by dsimp only; split_ifs <;> omega)]
  unfold P
  blk_simp [iblk]
  entry_read
  pointwise
  blk_ext [idx0 t, row] <;> (have := idx0 t; simp only [row]; omega)

theorem blk4 (t : Fin cfg0.N) (r : Fin 512) (k : Fin 768) : iblk m c 4 t (ix2 r k) = slab m c t r ⟨2304 + k.val, by omega⟩ := by
  rw [slab_eq m c t r ⟨2304 + k.val, by omega⟩ ⟨2304 + k.val, by omega⟩ (by dsimp only; omega) (by dsimp only; split_ifs <;> omega)]
  unfold P
  blk_simp [iblk]
  entry_read
  pointwise
  blk_ext [idx0 t, row] <;> (have := idx0 t; simp only [row]; omega)

theorem blk5 (t : Fin cfg0.N) (r : Fin 512) (k : Fin 256) : iblk m c 5 t (ix2 r k) = slab m c t r ⟨3072 + k.val, by omega⟩ := by
  rw [slab_eq m c t r ⟨3072 + k.val, by omega⟩ ⟨3080 + k.val, by omega⟩ (by dsimp only; omega) (by dsimp only; split_ifs <;> omega)]
  unfold P
  blk_simp [iblk]
  entry_read
  pointwise
  blk_ext [idx0 t, row] <;> (have := idx0 t; simp only [row]; omega)

theorem blk6 (t : Fin cfg0.N) (r : Fin 512) (k : Fin 128) : iblk m c 6 t (ix2 r k) = slab m c t r ⟨3328 + k.val, by omega⟩ := by
  refine Eq.trans (b := if h : k.val < 8 then P m c (row t r) ⟨3072 + k.val, by omega⟩ else 0) ?_ ?_
  · unfold P
    blk_simp [iblk]
    have e : (win0_6.blk t).view.emb (ix2 r k) = (ix2 (row t r) k : S4096x128.Idx) := by
      blk_ext [idx0 t, row] <;> (have := idx0 t; simp only [row]; omega)
    rw [e]
    entry_read
    pointwise
  · split_ifs with h
    · exact (slab_eq m c t r ⟨3328 + k.val, by omega⟩ ⟨3072 + k.val, by omega⟩ (by dsimp only; omega) (by dsimp only; split_ifs <;> omega)).symm
    · unfold slab packed
      rw [dif_neg (by dsimp only; omega)]

/-- A block's addition to the packed result. -/
def add (t : Fin cfg0.N) (j : Fin 1024) (p : Fin 3456) : EReal := ∑ r : Fin 512, H m c (row t r) j * slab m c t r p
def sumTo (old : FVec Ideal S1024x3456 .f32) (t : Fin cfg0.N) : FVec Ideal S1024x3456 .f32 := fun i => old i + add m c t (i 0) (i 1)

theorem sumTo_at (old : FVec Ideal S1024x3456 .f32) (t : Fin cfg0.N) (i : S1024x3456.Idx) (j : Fin 1024) (p : Fin 3456)
    (h : i = ix2 j p) : old (ix2 j p) + add m c t j p = sumTo m c old t i := by
  subst h
  rfl

/-- Where each slab lies in the packed result. -/
abbrev place1 : Rect S1024x3456 := Rect.unit (s := S1024x3456) ![0, 0] ![1024, 768] inb_S1024x3456_S1024x768_0_0
abbrev place2 : Rect S1024x3456 := Rect.unit (s := S1024x3456) ![0, 768] ![1024, 512] inb_S1024x3456_S1024x512_0_768
abbrev place3 : Rect S1024x3456 := Rect.unit (s := S1024x3456) ![0, 1280] ![1024, 1024] inb_S1024x3456_S1024x1024_0_1280
abbrev place4 : Rect S1024x3456 := Rect.unit (s := S1024x3456) ![0, 2304] ![1024, 768] inb_S1024x3456_S1024x768_0_2304
abbrev place5 : Rect S1024x3456 := Rect.unit (s := S1024x3456) ![0, 3072] ![1024, 256] inb_S1024x3456_S1024x256_0_3072
abbrev place6 : Rect S1024x3456 := Rect.unit (s := S1024x3456) ![0, 3328] ![1024, 128] inb_S1024x3456_S1024x128_0_3328

theorem ix2_of (i : S1024x3456.Idx) (j : Fin 1024) (p : Fin 3456) (h0 : (i 0).val = j.val) (h1 : (i 1).val = p.val) : i = ix2 j p := by
  rw [eq_ix2 i]
  exact congrArg₂ (fun a b => (ix2 a b : S1024x3456.Idx)) (Fin.ext h0) (Fin.ext h1)

theorem piece1 (old : FVec Ideal S1024x3456 .f32) (t : Fin cfg0.N) (x : S1024x768.Idx) :
    k0_pay5 (F := Ideal) (iblk m c 0 t) (View.ld (Val := Elt Ideal) old place1) (iblk m c 1 t) x = sumTo m c old t (place1.emb x) := by
  obtain ⟨j, k, rfl⟩ : ∃ (j : Fin 1024) (k : Fin 768), x = (ix2 j k : S1024x768.Idx) := ⟨x 0, x 1, eq_ix2 (n0 := 1024) (n1 := 768) x⟩
  unfold_payloads
  pointwise
  simp only [blkH, blk1]
  refine sumTo_at m c old t _ j ⟨k.val, by omega⟩ (ix2_of _ _ _ ?_ ?_)
  · exact (Rect.idx_unit_val ..).trans (Nat.zero_add _)
  · exact (Rect.idx_unit_val ..).trans (Nat.zero_add _)

theorem piece2 (old : FVec Ideal S1024x3456 .f32) (t : Fin cfg0.N) (x : S1024x512.Idx) :
    k0_pay6 (F := Ideal) (iblk m c 0 t) (View.ld (Val := Elt Ideal) old place2) (iblk m c 2 t) x = sumTo m c old t (place2.emb x) := by
  obtain ⟨j, k, rfl⟩ : ∃ (j : Fin 1024) (k : Fin 512), x = (ix2 j k : S1024x512.Idx) := ⟨x 0, x 1, eq_ix2 (n0 := 1024) (n1 := 512) x⟩
  unfold_payloads
  pointwise
  simp only [blkH, blk2]
  refine sumTo_at m c old t _ j ⟨768 + k.val, by omega⟩ (ix2_of _ _ _ ?_ ?_)
  · exact (Rect.idx_unit_val ..).trans (Nat.zero_add _)
  · exact Rect.idx_unit_val ..

theorem piece3 (old : FVec Ideal S1024x3456 .f32) (t : Fin cfg0.N) (x : S1024x1024.Idx) :
    k0_pay7 (F := Ideal) (iblk m c 0 t) (View.ld (Val := Elt Ideal) old place3) (iblk m c 3 t) x = sumTo m c old t (place3.emb x) := by
  obtain ⟨j, k, rfl⟩ : ∃ (j : Fin 1024) (k : Fin 1024), x = (ix2 j k : S1024x1024.Idx) := ⟨x 0, x 1, eq_ix2 (n0 := 1024) (n1 := 1024) x⟩
  unfold_payloads
  pointwise
  simp only [blkH, blk3]
  refine sumTo_at m c old t _ j ⟨1280 + k.val, by omega⟩ (ix2_of _ _ _ ?_ ?_)
  · exact (Rect.idx_unit_val ..).trans (Nat.zero_add _)
  · exact Rect.idx_unit_val ..

theorem piece4 (old : FVec Ideal S1024x3456 .f32) (t : Fin cfg0.N) (x : S1024x768.Idx) :
    k0_pay1 (F := Ideal) (iblk m c 0 t) (k0_pay8 (View.ld (Val := Elt Ideal) old place4)) (iblk m c 4 t) x = sumTo m c old t (place4.emb x) := by
  obtain ⟨j, k, rfl⟩ : ∃ (j : Fin 1024) (k : Fin 768), x = (ix2 j k : S1024x768.Idx) := ⟨x 0, x 1, eq_ix2 (n0 := 1024) (n1 := 768) x⟩
  unfold_payloads
  pointwise
  simp only [blkH, blk4]
  refine sumTo_at m c old t _ j ⟨2304 + k.val, by omega⟩ (ix2_of _ _ _ ?_ ?_)
  · exact (Rect.idx_unit_val ..).trans (Nat.zero_add _)
  · exact Rect.idx_unit_val ..

theorem piece5 (old : FVec Ideal S1024x3456 .f32) (t : Fin cfg0.N) (x : S1024x256.Idx) :
    k0_pay2 (F := Ideal) (iblk m c 0 t) (View.ld (Val := Elt Ideal) old place5) (iblk m c 5 t) x = sumTo m c old t (place5.emb x) := by
  obtain ⟨j, k, rfl⟩ : ∃ (j : Fin 1024) (k : Fin 256), x = (ix2 j k : S1024x256.Idx) := ⟨x 0, x 1, eq_ix2 (n0 := 1024) (n1 := 256) x⟩
  unfold_payloads
  pointwise
  simp only [blkH, blk5]
  refine sumTo_at m c old t _ j ⟨3072 + k.val, by omega⟩ (ix2_of _ _ _ ?_ ?_)
  · exact (Rect.idx_unit_val ..).trans (Nat.zero_add _)
  · exact Rect.idx_unit_val ..

theorem piece6 (old : FVec Ideal S1024x3456 .f32) (t : Fin cfg0.N) (x : S1024x128.Idx) :
    k0_pay3 (F := Ideal) (iblk m c 0 t) (View.ld (Val := Elt Ideal) old place6) (iblk m c 6 t) x = sumTo m c old t (place6.emb x) := by
  obtain ⟨j, k, rfl⟩ : ∃ (j : Fin 1024) (k : Fin 128), x = (ix2 j k : S1024x128.Idx) := ⟨x 0, x 1, eq_ix2 (n0 := 1024) (n1 := 128) x⟩
  unfold_payloads
  pointwise
  simp only [blkH, blk6]
  refine sumTo_at m c old t _ j ⟨3328 + k.val, by omega⟩ (ix2_of _ _ _ ?_ ?_)
  · exact (Rect.idx_unit_val ..).trans (Nat.zero_add _)
  · exact Rect.idx_unit_val ..

/-- The six stores, the last first. -/
def stores (old : FVec Ideal S1024x3456 .f32) (t : Fin cfg0.N) : List (View.Piece (Elt Ideal) S1024x3456 .f32) :=
  [⟨place6, k0_pay3 (F := Ideal) (iblk m c 0 t) (View.ld (Val := Elt Ideal) old place6) (iblk m c 6 t)⟩,
    ⟨place5, k0_pay2 (F := Ideal) (iblk m c 0 t) (View.ld (Val := Elt Ideal) old place5) (iblk m c 5 t)⟩,
    ⟨place4, k0_pay1 (F := Ideal) (iblk m c 0 t) (k0_pay8 (View.ld (Val := Elt Ideal) old place4)) (iblk m c 4 t)⟩,
    ⟨place3, k0_pay7 (F := Ideal) (iblk m c 0 t) (View.ld (Val := Elt Ideal) old place3) (iblk m c 3 t)⟩,
    ⟨place2, k0_pay6 (F := Ideal) (iblk m c 0 t) (View.ld (Val := Elt Ideal) old place2) (iblk m c 2 t)⟩,
    ⟨place1, k0_pay5 (F := Ideal) (iblk m c 0 t) (View.ld (Val := Elt Ideal) old place1) (iblk m c 1 t)⟩]

theorem covered (t : Fin cfg0.N) (old : FVec Ideal S1024x3456 .f32) (L : List (View.Piece (Elt Ideal) S1024x3456 .f32)) (j : Fin 1024) (p : Fin 3456) :
    View.canon (stores m c old t ++ L) (ix2 j p)
      = old (ix2 j p) + add m c t j p := by
  have hs : View.PiecesOf (sumTo m c old t) (stores m c old t) := by
    simp only [stores, View.PiecesOf]
    exact ⟨piece6 m c old t, piece5 m c old t, piece4 m c old t, piece3 m c old t, piece2 m c old t, piece1 m c old t, trivial⟩
  refine View.canon_append_of_piecesOf (sumTo m c old t) L _ hs _ ?_
  have hj := j.isLt
  have hp := p.isLt
  simp only [stores, List.mem_cons, List.not_mem_nil, or_false, exists_eq_or_imp, exists_eq_left, Rect.mem_set_unit, Fin.forall_fin_two]
  change (((0 ≤ j.val ∧ j.val < 0 + 1024) ∧ (3328 ≤ p.val ∧ p.val < 3328 + 128)) ∨ ((0 ≤ j.val ∧ j.val < 0 + 1024) ∧ (3072 ≤ p.val ∧ p.val < 3072 + 256))
    ∨ ((0 ≤ j.val ∧ j.val < 0 + 1024) ∧ (2304 ≤ p.val ∧ p.val < 2304 + 768)) ∨ ((0 ≤ j.val ∧ j.val < 0 + 1024) ∧ (1280 ≤ p.val ∧ p.val < 1280 + 1024))
    ∨ ((0 ≤ j.val ∧ j.val < 0 + 1024) ∧ (768 ≤ p.val ∧ p.val < 768 + 512)) ∨ ((0 ≤ j.val ∧ j.val < 0 + 1024) ∧ (0 ≤ p.val ∧ p.val < 0 + 768)))
  omega

theorem outA (t : Fin cfg0.N) (h : t.val % 8 = 0) (j : Fin 1024) (p : Fin 3456) :
    outsAt0 m c t.val t.isLt (ix2 j p) = 0 + add m c t j p := by
  rw [outsAt0_A m c t h]
  unfold out0_A_7
  frame_out
  simp (disch := decide) only [↓View.readCov_skip, View.readCov_fill]
  refine (covered m c t k0_pay4 [_] j p).trans (congrArg (· + _) ?_)
  unfold_payloads
  pointwise

theorem outB (t : Fin cfg0.N) (h : ¬ t.val % 8 = 0) (j : Fin 1024) (p : Fin 3456) :
    outsAt0 m c t.val t.isLt (ix2 j p) = outsAt0 m c (t.val - 1) (lt_of_le_of_lt (Nat.sub_le _ _) t.isLt) (ix2 j p) + add m c t j p := by
  rw [outsAt0_B m c t h]
  unfold out0_B_7
  frame_out
  exact covered m c t _ [] j p

theorem total (j : Fin 1024) (p : Fin 3456) (n : ℕ) (h : n < cfg0.N) : outsAt0 m c n h (ix2 j p)
    = ∑ s : Fin (n + 1), add m c ⟨s.val, lt_of_le_of_lt (Nat.le_of_lt_succ s.isLt) h⟩ j p := by
  refine Common.acc_eq_sum (fun n h => outsAt0 m c n h (ix2 j p)) (fun n h => add m c ⟨n, h⟩ j p) (fun h => ?_) (fun n h => ?_) n h
  · exact (outA m c ⟨0, h⟩ rfl j p).trans (zero_add _)
  · exact outB m c ⟨n + 1, h⟩ (by have : n + 1 < 8 := h; dsimp only; omega) j p

/-- The whole gradient in packed columns: the padding columns are zero. -/
def Dw (j : Fin 1024) (p : Fin 3456) : EReal := ∑ i : Fin 4096, H m c i j * packed (P m c i) p

theorem final : (dats m 0 c).arrAt 7 cfg0.N = fun i : S1024x3456.Idx => Dw m c (i 0) (i 1) := by
  refine (dats m 0 c).arrAt_eq_of_after_last 7 t0_7 (by decide +kernel) _ fun i => ?_
  blk_simp
  obtain ⟨j, p, rfl⟩ : ∃ (j : Fin 1024) (p : Fin 3456), i = (ix2 j p : S1024x3456.Idx) := ⟨i 0, i 1, eq_ix2 (n0 := 1024) (n1 := 3456) i⟩
  rw [after0_7]
  refine (total m c j p 7 t0_7.isLt).trans ?_
  exact Common.sum_blocks (m := 8) (n := 512) rfl (fun i => H m c i j * packed (P m c i) p) (fun s r => (row ⟨s.val, s.isLt⟩ r).isLt)

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)

/-- The kernel run: its result as a function of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v14) = (fun i : S1024x3456.Idx => Dw m c (i 0) (i 1)) ∧ Kept m c r.2 :=
  (θ_run defs _ _).mono (fun _ h c => ⟨(h c).1.trans (final m c), (h c).2⟩) (Value.run_blocks m ρ)
end Cert.InWeight
-- ==== Proof.InWeightRef.lean ====
module

public import proofs.«01_k».proof.Defs
public import proofs.«01_k».proof.Proof.InWeight
public import proofs.«01_k».proof.Proof.Gen.Reference10Ideal.Run

/-!
The reference of the gradient of the input projection's weights: the same function of the arguments, and the two
programs' agreement.
-/

@[expose] public section
noncomputable section
namespace Cert.InWeight.Ref
open Cert.Reference10Ideal Cert.Reference10Ideal.Gen Cert.Reference10Ideal.Value Idealize.ShloMosaic Idealize.ShloMosaic.TcCoe Idealize.SL.Sem
open Cert.NormBwd (packed at_column)
set_option maxRecDepth 16384

variable (m : (ℓ : Loc nD τ sig) → Buf (Elt Ideal) ℓ) (c : Dev nD)

def H (i : Fin 4096) (j : Fin 1024) : EReal := m (c.tc.loc main_arg0) (ix2 i j)
def P (i : Fin 4096) (q : Fin 3336) : EReal := m (c.tc.loc main_arg1) (ix2 i q)
def Dw (j : Fin 1024) (p : Fin 3456) : EReal := ∑ i : Fin 4096, H m c i j * packed (P m c i) p

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)

/-- One column of the weights' gradient. -/
theorem at_packed (j : Fin 1024) (p : Fin 3456) (q : Fin 3336) (hp : p.val < 3336)
    (h : q.val = if p.val < 3072 then p.val else if p.val < 3328 then p.val + 8 else p.val - 256) :
    ∑ i, P m c i q * H m c i j = Dw m c j p := by
  unfold Dw packed
  simp only [dif_pos hp]
  exact Finset.sum_congr rfl fun i _ => (mul_comm _ _).trans (congrArg (H m c i j * ·) (at_column (P m c i) q p.val hp h))

theorem padding (j : Fin 1024) (p : Fin 3456) (hp : ¬ p.val < 3336) : 0 = Dw m c j p := by
  unfold Dw packed
  simp only [dif_neg hp]
  exact (Finset.sum_eq_zero fun i _ => mul_zero _).symm

/-- The reference's run: its result. -/
theorem run_values (ρ : Dev nD → PrngReg) :
    θ_run defs (onTc (τ := τ) (main (F := Ideal))) ⟨m, fun _ => 0, ρ⟩ fun r => ∀ c : Dev nD,
      r.2.mem (c.tc.loc main_v9) = (fun i : S1024x3456.Idx => Dw m c (i 0) (i 1)) ∧ Kept m c r.2 := by
  refine (θ_run defs _ _).mono (fun r h c => ⟨(h c).1.trans (funext fun i => ?_), (h c).2⟩) (run m ρ)
  obtain ⟨j, p, rfl⟩ : ∃ (j : Fin 1024) (p : Fin 3456), i = (ix2 j p : S1024x3456.Idx) := ⟨i 0, i 1, eq_ix2 (n0 := 1024) (n1 := 3456) i⟩
  change _ = Dw m c j p
  have hp := p.isLt
  pointwise
  split_ifs
  all_goals first
    | exact padding m c j p (by omega)
    | exact at_packed m c j p _ (by omega) (by dsimp only; split_ifs <;> omega)

/-- The reference leaves its arguments and the semaphores alone. -/
theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2, sem_eq_zero_of_no_sems (by decide) r.2⟩) (run_values m ρ)
end Cert.InWeight.Ref

open Idealize.ShloMosaic Idealize.ShloMosaic.TcCoe Idealize.SL.Sem in
/-- The call computes the gradient of the input projection's weights, its columns in packed order. -/
theorem Cert.InWeight.value : Cert.algebraic_Kernel10Ideal_Reference10Ideal := by
  intro m g m' g' _ hag
  have e0 (c) : Cert.InWeight.Ref.H m' c = H m c := by funext i k; exact congrFun (hag c).1 (ix2 i k)
  have e1 (c) : Cert.InWeight.Ref.P m' c = P m c := by funext i k; exact congrFun (hag c).2 (ix2 i k)
  have hr := Cert.InWeight.Ref.run_values m' g'
  simp only [Cert.InWeight.Ref.Dw, e0, e1] at hr
  exact ⟨_, run_values m g, hr⟩
-- ==== Proof.OutWeight.lean ====
module
public import proofs.«01_k».proof.Proof.Gen.Kernel11Ideal.Value
public import proofs.«01_k».proof.Defs
public import proofs.«01_k».proof.Proof.OutProj
public import proofs.«01_k».proof.Proof.Common
/-!
The output projection's gradient: the cotangents of the four branches' outputs and of the weights, as functions of the arguments.
-/
@[expose] public section
noncomputable section
namespace Cert.OutWeight
open Cert.Kernel11Ideal Cert.Kernel11Ideal.Gen Idealize.ShloMosaic Idealize.ShloMosaic.TcCoe Idealize.SL.Sem
open Cert.OutProj (beside beside_cases)
set_option maxRecDepth 16384

/-- The place of the branch `b`'s output `k` among the four side by side. -/
def spot (b : Fin 4) (k : Fin 256) : Fin 1024 := ⟨256 * b.val + k.val, by omega⟩
/-- The cotangent of the outputs side by side, for the cotangent `d` of a row of the product. -/
def back (d : Fin 1024 → EReal) (w : Fin 1024 → Fin 1024 → EReal) (j : Fin 1024) : EReal := ∑ k, d k * w j k

section payloads
variable (x : FVec Ideal S512x1024 .f32) (w : FVec Ideal S1024x1024 .bf16)

theorem pay_back (r : Fin 512) (j : Fin 1024) : k0_pay4 (F := Ideal) x w (ix2 r j) = back (fun k => x (ix2 r k)) (fun j k => w (ix2 j k)) j := by
  unfold k0_pay4 k0_pay3 back
  pointwise

theorem pay_Ya (r : Fin 512) (k : Fin 256) :
    k0_pay5 (F := Ideal) x w (ix2 r k) = back (fun k => x (ix2 r k)) (fun j k => w (ix2 j k)) (spot 0 k) := by
  unfold k0_pay5
  pointwise
  exact (congrArg (k0_pay4 (F := Ideal) x w) (congrArg (ix2 r) (Fin.ext (by simp [spot])))).trans (pay_back x w r (spot 0 k))

theorem pay_Yb (r : Fin 512) (k : Fin 256) :
    k0_pay6 (F := Ideal) x w (ix2 r k) = back (fun k => x (ix2 r k)) (fun j k => w (ix2 j k)) (spot 1 k) := by
  unfold k0_pay6
  pointwise
  exact (congrArg (k0_pay4 (F := Ideal) x w) (congrArg (ix2 r) (Fin.ext (by simp [spot])))).trans (pay_back x w r (spot 1 k))

theorem pay_Yc (r : Fin 512) (k : Fin 256) :
    k0_pay7 (F := Ideal) x w (ix2 r k) = back (fun k => x (ix2 r k)) (fun j k => w (ix2 j k)) (spot 2 k) := by
  unfold k0_pay7
  pointwise
  exact (congrArg (k0_pay4 (F := Ideal) x w) (congrArg (ix2 r) (Fin.ext (by simp [spot])))).trans (pay_back x w r (spot 2 k))

theorem pay_Yd (r : Fin 512) (k : Fin 256) :
    k0_pay8 (F := Ideal) x w (ix2 r k) = back (fun k => x (ix2 r k)) (fun j k => w (ix2 j k)) (spot 3 k) := by
  unfold k0_pay8
  pointwise
  exact (congrArg (k0_pay4 (F := Ideal) x w) (congrArg (ix2 r) (Fin.ext (by simp [spot])))).trans (pay_back x w r (spot 3 k))

/-- A block's rows added to the gradient of the weights. -/
theorem pay_dw (ya yb yc yd : FVec Ideal S512x256 .f32) (old : FVec Ideal S1024x1024 .f32) (j k : Fin 1024) :
    k0_pay1 (F := Ideal) (k0_pay9 old) (k0_pay10 x ya yb yc yd) (ix2 j k) = old (ix2 j k)
      + ∑ r, beside ![fun i => ya (ix2 r i), fun i => yb (ix2 r i), fun i => yc (ix2 r i), fun i => yd (ix2 r i)] j * x (ix2 r k) := by
  unfold k0_pay1 k0_pay9 k0_pay10 k0_pay3
  pointwise
  refine congrArg _ (Finset.sum_congr rfl fun r _ => congrArg (· * _) ?_)
  refine beside_cases _ _ _ _ j _ (fun h => ?_) (fun h n0 => ?_) (fun h n0 n1 => ?_) (fun h n0 n1 n2 => ?_)
  all_goals simp only [*, dite_true, dite_false, if_true]
end payloads

variable (m : (ℓ : Loc nD τ sig) → Buf (Elt Ideal) ℓ) (c : Dev nD)

theorem outA (t : Fin cfg0.N) (h : t.val % 8 = 0) : outsAt0 m c t.val t.isLt =
   let x := iblk m c 0 t
   let w := iblk m c 5 t
   (k0_pay5 x w, k0_pay6 x w, k0_pay7 x w, k0_pay8 x w, k0_pay1 (k0_pay9 (k0_pay2 (F := Ideal))) (k0_pay10 x (iblk m c 1 t) (iblk m c 2 t) (iblk m c 3 t) (iblk m c 4 t))) := by
  rw [outsAt0_A m c t h]
  frame_out

theorem outB (t : Fin cfg0.N) (h : ¬ t.val % 8 = 0) : outsAt0 m c t.val t.isLt =
   let x := iblk m c 0 t
   let w := iblk m c 5 t
   (k0_pay5 x w, k0_pay6 x w, k0_pay7 x w, k0_pay8 x w, k0_pay1 (k0_pay9 (outsAt0 m c (t.val - 1) (Nat.lt_of_le_of_lt (Nat.sub_le _ _) t.isLt)).2.2.2.2) (k0_pay10 x (iblk m c 1 t) (iblk m c 2 t) (iblk m c 3 t) (iblk m c 4 t))) := by
  rw [outsAt0_B m c t h]
  frame_out

/-- The cotangent of the hidden states, the branches' outputs and the weights. -/
def X (i : Fin 4096) (k : Fin 1024) : EReal := m (c, Proc.tc.devRef main_arg0) (ix2 i k)
def Ya (i : Fin 4096) (k : Fin 256) : EReal := m (c, Proc.tc.devRef main_arg1) (ix2 i k)
def Yb (i : Fin 4096) (k : Fin 256) : EReal := m (c, Proc.tc.devRef main_arg2) (ix2 i k)
def Yc (i : Fin 4096) (k : Fin 256) : EReal := m (c, Proc.tc.devRef main_arg3) (ix2 i k)
def Yd (i : Fin 4096) (k : Fin 256) : EReal := m (c, Proc.tc.devRef main_arg4) (ix2 i k)
def W (j k : Fin 1024) : EReal := m (c, Proc.tc.devRef main_arg5) (ix2 j k)
/-- The cotangent of the branch `b`'s output, and a row's part of the gradient of the weights. -/
def Dy (b : Fin 4) (i : Fin 4096) (k : Fin 256) : EReal := back (X m c i) (W m c) (spot b k)
def Dw (i : Fin 4096) (j k : Fin 1024) : EReal := beside ![Ya m c i, Yb m c i, Yc m c i, Yd m c i] j * X m c i k

def row (t : Fin cfg0.N) (r : Fin 512) : Fin 4096 := ⟨512 * t.val + r.val, by have h : t.val < 8 := t.isLt; omega⟩

theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = 0 ∧ win0_10.index t 1 = 0) := by decide +kernel

theorem blkX (t : Fin cfg0.N) (r : Fin 512) (j : Fin 1024) : iblk m c 0 t (ix2 r j) = X m c (row t r) j := by
  unfold X
  blk_simp [iblk]
  entry_read
  blk_ext [idx t, row] <;> (have := idx t; simp only [row]; omega)

theorem blkYa (t : Fin cfg0.N) (r : Fin 512) (j : Fin 256) : iblk m c 1 t (ix2 r j) = Ya m c (row t r) j := by
  unfold Ya
  blk_simp [iblk]
  entry_read
  blk_ext [idx t, row] <;> (have := idx t; simp only [row]; omega)

theorem blkYb (t : Fin cfg0.N) (r : Fin 512) (j : Fin 256) : iblk m c 2 t (ix2 r j) = Yb m c (row t r) j := by
  unfold Yb
  blk_simp [iblk]
  entry_read
  blk_ext [idx t, row] <;> (have := idx t; simp only [row]; omega)

theorem blkYc (t : Fin cfg0.N) (r : Fin 512) (j : Fin 256) : iblk m c 3 t (ix2 r j) = Yc m c (row t r) j := by
  unfold Yc
  blk_simp [iblk]
  entry_read
  blk_ext [idx t, row] <;> (have := idx t; simp only [row]; omega)

theorem blkYd (t : Fin cfg0.N) (r : Fin 512) (j : Fin 256) : iblk m c 4 t (ix2 r j) = Yd m c (row t r) j := by
  unfold Yd
  blk_simp [iblk]
  entry_read
  blk_ext [idx t, row] <;> (have := idx t; simp only [row]; omega)

theorem blkW (t : Fin cfg0.N) (j k : Fin 1024) : iblk m c 5 t (ix2 j k) = W m c j k := by
  unfold W
  blk_simp [iblk]
  entry_read
  pointwise
  blk_ext [idx t] <;> (have := idx t; omega)

theorem final_Ya : (dats m 0 c).arrAt 6 cfg0.N = fun i : S4096x256.Idx => Dy m c 0 (i 0) (i 1) := by
  refine (dats m 0 c).arrAt_eq_of_covers 6 _ (by decide +kernel) fun t hf y => ?_
  blk_simp
  obtain ⟨r, k, rfl⟩ : ∃ (r : Fin 512) (k : Fin 256), y = (ix2 r k : S512x256.Idx) := ⟨y 0, y 1, eq_ix2 (n0 := 512) (n1 := 256) y⟩
  have e : (win0_6.blk t).view.emb (ix2 r k) = (ix2 (row t r) k : S4096x256.Idx) := by
    blk_ext [idx t, row] <;> (have := idx t; simp only [row]; omega)
  rw [after0_6, e]
  by_cases h : t.val % 8 = 0
  · rw [outA m c t h]
    refine (pay_Ya ..).trans ?_
    simp only [blkX, blkW]; rfl
  · rw [outB m c t h]
    refine (pay_Ya ..).trans ?_
    simp only [blkX, blkW]; rfl

theorem final_Yb : (dats m 0 c).arrAt 7 cfg0.N = fun i : S4096x256.Idx => Dy m c 1 (i 0) (i 1) := by
  refine (dats m 0 c).arrAt_eq_of_covers 7 _ (by decide +kernel) fun t hf y => ?_
  blk_simp
  obtain ⟨r, k, rfl⟩ : ∃ (r : Fin 512) (k : Fin 256), y = (ix2 r k : S512x256.Idx) := ⟨y 0, y 1, eq_ix2 (n0 := 512) (n1 := 256) y⟩
  have e : (win0_7.blk t).view.emb (ix2 r k) = (ix2 (row t r) k : S4096x256.Idx) := by
    blk_ext [idx t, row] <;> (have := idx t; simp only [row]; omega)
  rw [after0_7, e]
  by_cases h : t.val % 8 = 0
  · rw [outA m c t h]
    refine (pay_Yb ..).trans ?_
    simp only [blkX, blkW]; rfl
  · rw [outB m c t h]
    refine (pay_Yb ..).trans ?_
    simp only [blkX, blkW]; rfl

theorem final_Yc : (dats m 0 c).arrAt 8 cfg0.N = fun i : S4096x256.Idx => Dy m c 2 (i 0) (i 1) := by
  refine (dats m 0 c).arrAt_eq_of_covers 8 _ (by decide +kernel) fun t hf y => ?_
  blk_simp
  obtain ⟨r, k, rfl⟩ : ∃ (r : Fin 512) (k : Fin 256), y = (ix2 r k : S512x256.Idx) := ⟨y 0, y 1, eq_ix2 (n0 := 512) (n1 := 256) y⟩
  have e : (win0_8.blk t).view.emb (ix2 r k) = (ix2 (row t r) k : S4096x256.Idx) := by
    blk_ext [idx t, row] <;> (have := idx t; simp only [row]; omega)
  rw [after0_8, e]
  by_cases h : t.val % 8 = 0
  · rw [outA m c t h]
    refine (pay_Yc ..).trans ?_
    simp only [blkX, blkW]; rfl
  · rw [outB m c t h]
    refine (pay_Yc ..).trans ?_
    simp only [blkX, blkW]; rfl

theorem final_Yd : (dats m 0 c).arrAt 9 cfg0.N = fun i : S4096x256.Idx => Dy m c 3 (i 0) (i 1) := by
  refine (dats m 0 c).arrAt_eq_of_covers 9 _ (by decide +kernel) fun t hf y => ?_
  blk_simp
  obtain ⟨r, k, rfl⟩ : ∃ (r : Fin 512) (k : Fin 256), y = (ix2 r k : S512x256.Idx) := ⟨y 0, y 1, eq_ix2 (n0 := 512) (n1 := 256) y⟩
  have e : (win0_9.blk t).view.emb (ix2 r k) = (ix2 (row t r) k : S4096x256.Idx) := by
    blk_ext [idx t, row] <;> (have := idx t; simp only [row]; omega)
  rw [after0_9, e]
  by_cases h : t.val % 8 = 0
  · rw [outA m c t h]
    refine (pay_Yd ..).trans ?_
    simp only [blkX, blkW]; rfl
  · rw [outB m c t h]
    refine (pay_Yd ..).trans ?_
    simp only [blkX, blkW]; rfl

theorem total (j k : Fin 1024) (n : ℕ) (h : n < cfg0.N) : (outsAt0 m c n h).2.2.2.2 (ix2 j k)
    = ∑ s : Fin (n + 1), ∑ r : Fin 512, Dw m c (row ⟨s.val, lt_of_le_of_lt (Nat.le_of_lt_succ s.isLt) h⟩ r) j k := by
  refine Common.acc_eq_sum (fun n h => (outsAt0 m c n h).2.2.2.2 (ix2 j k)) (fun n h => ∑ r : Fin 512, Dw m c (row ⟨n, h⟩ r) j k)
    (fun h => ?_) (fun n h => ?_) n h
  · refine (congrFun (congrArg (fun o => o.2.2.2.2) (outA m c ⟨0, h⟩ rfl)) (ix2 j k)).trans ((pay_dw ..).trans ?_)
    simp only [blkX, blkYa, blkYb, blkYc, blkYd]
    unfold k0_pay2
    pointwise
    rfl
  · refine (congrFun (congrArg (fun o => o.2.2.2.2) (outB m c ⟨n + 1, h⟩
      (by have : n + 1 < 8 := h; dsimp only; omega))) (ix2 j k)).trans ((pay_dw ..).trans ?_)
    simp only [blkX, blkYa, blkYb, blkYc, blkYd]
    rfl

theorem final_dw : (dats m 0 c).arrAt 10 cfg0.N = fun i : S1024x1024.Idx => ∑ r : Fin 4096, Dw m c r (i 0) (i 1) := by
  refine (dats m 0 c).arrAt_eq_of_after_last 10 t0_7 (by decide +kernel) _ fun i => ?_
  blk_simp
  obtain ⟨j, k, rfl⟩ : ∃ (j k : Fin 1024), i = (ix2 j k : S1024x1024.Idx) := ⟨i 0, i 1, eq_ix2 (n0 := 1024) (n1 := 1024) i⟩
  rw [after0_10]
  refine (total m c j k 7 t0_7.isLt).trans ?_
  exact Common.sum_blocks (m := 8) (n := 512) rfl (fun r => Dw m c r j k) (fun s r => (row ⟨s.val, s.isLt⟩ r).isLt)

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)

/-- The kernel run: its five results as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v1_0) = (fun i : S4096x256.Idx => Dy m c 0 (i 0) (i 1))
      ∧ r.2.mem (c.tc.loc main_v1_1) = (fun i : S4096x256.Idx => Dy m c 1 (i 0) (i 1))
      ∧ r.2.mem (c.tc.loc main_v1_2) = (fun i : S4096x256.Idx => Dy m c 2 (i 0) (i 1))
      ∧ r.2.mem (c.tc.loc main_v1_3) = (fun i : S4096x256.Idx => Dy m c 3 (i 0) (i 1))
      ∧ r.2.mem (c.tc.loc main_v1_4) = (fun i : S1024x1024.Idx => ∑ r : Fin 4096, Dw m c r (i 0) (i 1)) ∧ Kept m c r.2 :=
  (θ_run defs _ _).mono (fun _ h c => ⟨(h c).1.trans (final_Ya m c), (h c).2.1.trans (final_Yb m c), (h c).2.2.1.trans (final_Yc m c),
    (h c).2.2.2.1.trans (final_Yd m c), (h c).2.2.2.2.1.trans (final_dw m c), (h c).2.2.2.2.2⟩) (Value.run_blocks m ρ)
end Cert.OutWeight
-- ==== Proof.OutWeightRef.lean ====
module
public import proofs.«01_k».proof.Defs
public import proofs.«01_k».proof.Proof.OutWeight
public import proofs.«01_k».proof.Proof.Gen.Reference11Ideal.Run
/-!
The reference of the output projection's gradient: the same functions of the arguments, and the two programs' agreement.
-/
@[expose] public section
noncomputable section
namespace Cert.OutWeight.Ref
open Cert.Reference11Ideal Cert.Reference11Ideal.Gen Cert.Reference11Ideal.Value Idealize.ShloMosaic Idealize.ShloMosaic.TcCoe Idealize.SL.Sem
open Cert.OutProj (beside beside_cases)
open Cert.OutWeight (back spot)
set_option maxRecDepth 16384

variable (m : (ℓ : Loc nD τ sig) → Buf (Elt Ideal) ℓ) (c : Dev nD)

def X (i : Fin 4096) (k : Fin 1024) : EReal := m (c.tc.loc main_arg0) (ix2 i k)
def Ya (i : Fin 4096) (k : Fin 256) : EReal := m (c.tc.loc main_arg1) (ix2 i k)
def Yb (i : Fin 4096) (k : Fin 256) : EReal := m (c.tc.loc main_arg2) (ix2 i k)
def Yc (i : Fin 4096) (k : Fin 256) : EReal := m (c.tc.loc main_arg3) (ix2 i k)
def Yd (i : Fin 4096) (k : Fin 256) : EReal := m (c.tc.loc main_arg4) (ix2 i k)
def W (j k : Fin 1024) : EReal := m (c.tc.loc main_arg5) (ix2 j k)
def Dy (b : Fin 4) (i : Fin 4096) (k : Fin 256) : EReal := back (X m c i) (W m c) (spot b k)
def Dw (i : Fin 4096) (j k : Fin 1024) : EReal := beside ![Ya m c i, Yb m c i, Yc m c i, Yd m c i] j * X m c i k

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)

/-- The reference's run: its five results. -/
theorem run_values (ρ : Dev nD → PrngReg) :
    θ_run defs (onTc (τ := τ) (main (F := Ideal))) ⟨m, fun _ => 0, ρ⟩ fun r => ∀ c : Dev nD,
      r.2.mem (c.tc.loc main_v5) = (fun i : S4096x256.Idx => Dy m c 0 (i 0) (i 1))
      ∧ r.2.mem (c.tc.loc main_v6) = (fun i : S4096x256.Idx => Dy m c 1 (i 0) (i 1))
      ∧ r.2.mem (c.tc.loc main_v7) = (fun i : S4096x256.Idx => Dy m c 2 (i 0) (i 1))
      ∧ r.2.mem (c.tc.loc main_v8) = (fun i : S4096x256.Idx => Dy m c 3 (i 0) (i 1))
      ∧ r.2.mem (c.tc.loc main_v3) = (fun i : S1024x1024.Idx => ∑ r : Fin 4096, Dw m c r (i 0) (i 1)) ∧ Kept m c r.2 := by
  refine (θ_run defs _ _).mono (fun r h c => ?_) (run m ρ)
  obtain ⟨h0, h1, h2, h3, h4, h5⟩ := h c
  refine ⟨h0.trans (funext fun i => ?_), h1.trans (funext fun i => ?_), h2.trans (funext fun i => ?_), h3.trans (funext fun i => ?_),
    h4.trans (funext fun i => ?_), h5⟩
  · obtain ⟨r, k, rfl⟩ : ∃ (r : Fin 4096) (k : Fin 256), i = (ix2 r k : S4096x256.Idx) := ⟨i 0, i 1, eq_ix2 (n0 := 4096) (n1 := 256) i⟩
    pointwise
    exact Finset.sum_congr rfl fun j _ => congrArg (X m c r j * W m c · j) (Fin.ext (by simp [spot]))
  · obtain ⟨r, k, rfl⟩ : ∃ (r : Fin 4096) (k : Fin 256), i = (ix2 r k : S4096x256.Idx) := ⟨i 0, i 1, eq_ix2 (n0 := 4096) (n1 := 256) i⟩
    pointwise
    exact Finset.sum_congr rfl fun j _ => congrArg (X m c r j * W m c · j) (Fin.ext (by simp [spot]))
  · obtain ⟨r, k, rfl⟩ : ∃ (r : Fin 4096) (k : Fin 256), i = (ix2 r k : S4096x256.Idx) := ⟨i 0, i 1, eq_ix2 (n0 := 4096) (n1 := 256) i⟩
    pointwise
    exact Finset.sum_congr rfl fun j _ => congrArg (X m c r j * W m c · j) (Fin.ext (by simp [spot]))
  · obtain ⟨r, k, rfl⟩ : ∃ (r : Fin 4096) (k : Fin 256), i = (ix2 r k : S4096x256.Idx) := ⟨i 0, i 1, eq_ix2 (n0 := 4096) (n1 := 256) i⟩
    pointwise
    exact Finset.sum_congr rfl fun j _ => congrArg (X m c r j * W m c · j) (Fin.ext (by simp [spot]))
  · obtain ⟨j, k, rfl⟩ : ∃ (j k : Fin 1024), i = (ix2 j k : S1024x1024.Idx) := ⟨i 0, i 1, eq_ix2 (n0 := 1024) (n1 := 1024) i⟩
    change _ = ∑ r : Fin 4096, Dw m c r j k
    unfold Dw
    pointwise
    refine Finset.sum_congr rfl fun r _ => (mul_comm _ _).trans (congrArg (· * _) ?_)
    refine beside_cases _ _ _ _ j _ (fun h => ?_) (fun h n0 => ?_) (fun h n0 n1 => ?_) (fun h n0 n1 n2 => ?_)
    all_goals (simp only [*, dite_true, dite_false, if_true]; rfl)

/-- The reference leaves its arguments and the semaphores alone. -/
theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2.2.2.2.2, sem_eq_zero_of_no_sems (by decide) r.2⟩) (run_values m ρ)
end Cert.OutWeight.Ref

open Idealize.ShloMosaic Idealize.ShloMosaic.TcCoe Idealize.SL.Sem in
/-- The call computes the gradients of the branches' outputs and of the weights. -/
theorem Cert.OutWeight.value : Cert.algebraic_Kernel11Ideal_Reference11Ideal := by
  intro m g m' g' _ hag
  have e0 (c) : Cert.OutWeight.Ref.X m' c = X m c := by funext i k; exact congrFun (hag c).1 (ix2 i k)
  have e1 (c) : Cert.OutWeight.Ref.Ya m' c = Ya m c := by funext i k; exact congrFun (hag c).2.1 (ix2 i k)
  have e2 (c) : Cert.OutWeight.Ref.Yb m' c = Yb m c := by funext i k; exact congrFun (hag c).2.2.1 (ix2 i k)
  have e3 (c) : Cert.OutWeight.Ref.Yc m' c = Yc m c := by funext i k; exact congrFun (hag c).2.2.2.1 (ix2 i k)
  have e4 (c) : Cert.OutWeight.Ref.Yd m' c = Yd m c := by funext i k; exact congrFun (hag c).2.2.2.2.1 (ix2 i k)
  have e5 (c) : Cert.OutWeight.Ref.W m' c = W m c := by funext i k; exact congrFun (hag c).2.2.2.2.2 (ix2 i k)
  have hr := Cert.OutWeight.Ref.run_values m' g'
  simp only [Cert.OutWeight.Ref.Dy, Cert.OutWeight.Ref.Dw, e0, e1, e2, e3, e4, e5] at hr
  exact ⟨_, _, _, _, _, run_values m g, hr⟩
-- ==== Proof.Tail.lean ====
module

public import proofs.«01_k».proof.Defs
public import proofs.«01_k».proof.Proof.Adam
public import proofs.«01_k».proof.Proof.Gen.Kernel12Ideal.Frame
public import Idealize.ShloMosaic.Lib.Pipeline.Value
public import Idealize.ShloMosaic.Lib.Claim
public import Idealize.ShloMosaic.Lib.StableHlo.RunRead

/-!
The optimiser's call for the norms' scales, which share one packed array: as functions of the arguments.
-/

@[expose] public section
noncomputable section
namespace Cert.Tail
open Cert.Kernel12Ideal Cert.Kernel12Ideal.Gen Idealize.ShloMosaic Idealize.ShloMosaic.TcCoe Idealize.SL.Sem
open Cert.Adam (first second change)
set_option maxRecDepth 16384

/-- An entry of the packed array: 32 rows of the layers' scales, 8 of the last norm's. -/
def entry (n : Fin 4 → Fin 1024 → EReal) (f : Fin 1024 → EReal) (r : Fin 40) (k : Fin 128) : EReal :=
  if h : r.val < 32 then n ⟨(r.val * 128 + k.val) / 1024, by omega⟩ ⟨(r.val * 128 + k.val) % 1024, by omega⟩
  else f ⟨(r.val - 32) * 128 + k.val, by omega⟩

/-- Nothing is padded: both pieces fill their rows. -/
theorem entry_eq (n : Fin 4 → Fin 1024 → EReal) (f : Fin 1024 → EReal) (r : Fin 40) (k : Fin 128) (z : EReal) :
    (if h : r.val < 32 then
      if h' : r.val * 128 + k.val < 4096 then n ⟨(r.val * 128 + k.val) / 1024, by omega⟩ ⟨(r.val * 128 + k.val) % 1024, by omega⟩ else z
    else if h' : (r.val - 32) * 128 + k.val < 1024 then f ⟨(r.val - 32) * 128 + k.val, h'⟩ else z) = entry n f r k := by
  unfold entry
  split_ifs <;> first | rfl | (exfalso; omega)

/-- Packing goes along with sums over the devices. -/
theorem entry_sum (n : Fin 8 → Fin 4 → Fin 1024 → EReal) (f : Fin 8 → Fin 1024 → EReal) (r : Fin 40) (k : Fin 128) :
    ∑ d, entry (n d) (f d) r k = entry (fun l j => ∑ d, n d l j) (fun j => ∑ d, f d j) r k := by
  unfold entry
  split_ifs <;> rfl

section payloads
variable (P : Vec Ideal S8x40x128 .f32) (w m v : Vec Ideal S40x128 .f32) (r : Fin 40) (k : Fin 128)
/-- The devices' gradients, added up. -/
theorem grad_at : out0_4 (F := Ideal) P w m v (ix2 r k) = ∑ d, P (ix3 d r k) := by
  unfold out0_4
  frame_out
  unfold_payloads
  pointwise
  rw [Fin.sum_univ_eight]
theorem first_at : out0_6 (F := Ideal) P w m v (ix2 r k) = first (∑ d, P (ix3 d r k)) (m (ix2 r k)) := by
  unfold out0_6
  frame_out
  unfold_payloads
  pointwise
  rw [Fin.sum_univ_eight]
  rfl
theorem second_at : out0_7 (F := Ideal) P w m v (ix2 r k) = second (∑ d, P (ix3 d r k)) (v (ix2 r k)) := by
  unfold out0_7
  frame_out
  unfold_payloads
  pointwise
  rw [Fin.sum_univ_eight]
  rfl
theorem change_at : out0_5 (F := Ideal) P w m v (ix2 r k)
    = change (w (ix2 r k)) (first (∑ d, P (ix3 d r k)) (m (ix2 r k))) (second (∑ d, P (ix3 d r k)) (v (ix2 r k))) := by
  unfold out0_5
  frame_out
  unfold_payloads
  pointwise
  rw [Fin.sum_univ_eight]
  rfl
end payloads

variable (m : (ℓ : Loc nD τ sig) → Buf (Elt Ideal) ℓ) (c : Dev nD)

/-- For the layers' norms and the last one: the devices' gradients, the scales and the two moments. -/
def NP (d : Fin 8) (l : Fin 4) (j : Fin 1024) : EReal := m (c, Proc.tc.devRef main_arg0) (ix3 d l j)
def FP (d : Fin 8) (j : Fin 1024) : EReal := m (c, Proc.tc.devRef main_arg1) (ix2 d j)
def NW (l : Fin 4) (j : Fin 1024) : EReal := m (c, Proc.tc.devRef main_arg2) (ix2 l j)
def NM (l : Fin 4) (j : Fin 1024) : EReal := m (c, Proc.tc.devRef main_arg3) (ix2 l j)
def NV (l : Fin 4) (j : Fin 1024) : EReal := m (c, Proc.tc.devRef main_arg4) (ix2 l j)
def FW (j : Fin 1024) : EReal := m (c, Proc.tc.devRef main_arg5) (ix1 j)
def FM (j : Fin 1024) : EReal := m (c, Proc.tc.devRef main_arg6) (ix1 j)
def FV (j : Fin 1024) : EReal := m (c, Proc.tc.devRef main_arg7) (ix1 j)

theorem idx0 : ∀ t : Fin cfg0.N, (win0_0.index t 0 = 0 ∧ win0_0.index t 1 = 0 ∧ win0_0.index t 2 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel

theorem blkP (t : Fin cfg0.N) (d : Fin 8) (r : Fin 40) (k : Fin 128) : iblk m c 0 t (ix3 d r k) = entry (NP m c d) (FP m c d) r k := by
  refine Eq.trans ?_ (entry_eq _ _ r k (FloatOps.sitofp (F := Ideal) FTy.f32 (0#32)))
  unfold NP FP
  blk_simp [iblk]
  have e : (win0_0.blk t).view.emb (ix3 d r k) = (ix3 d r k : S8x40x128.Idx) := by
    blk_ext [idx0 t] <;> (have := idx0 t; omega)
  rw [e]
  unfold V V0
  after_reads_simp [hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16, hostOps0_17, hostOps0_18, hostOps0_19, hostOps0_20,
      hostOps0_21, hostOps0_22, hostOps0_23, List.flatten_cons, List.flatten_nil, List.cons_append, List.nil_append, List.append_nil]
  simp only [StableHlo.TRef.ofBuf, StableHlo.TRef.toBuf, cast_eq]
  pointwise
  after_reads_simp
  simp only [StableHlo.TRef.ofBuf, StableHlo.TRef.toBuf, cast_eq]
  pointwise

theorem blkW (t : Fin cfg0.N) (r : Fin 40) (k : Fin 128) : iblk m c 1 t (ix2 r k) = entry (NW m c) (FW m c) r k := by
  refine Eq.trans ?_ (entry_eq _ _ r k (FloatOps.sitofp (F := Ideal) FTy.f32 (0#32)))
  unfold NW FW
  blk_simp [iblk]
  have e : (win0_1.blk t).view.emb (ix2 r k) = (ix2 r k : S40x128.Idx) := by
    blk_ext [idx0 t] <;> (have := idx0 t; omega)
  rw [e]
  unfold V V0
  after_reads_simp [hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16, hostOps0_17, hostOps0_18, hostOps0_19, hostOps0_20,
      hostOps0_21, hostOps0_22, hostOps0_23, List.flatten_cons, List.flatten_nil, List.cons_append, List.nil_append, List.append_nil]
  simp only [StableHlo.TRef.ofBuf, StableHlo.TRef.toBuf, cast_eq]
  pointwise
  after_reads_simp
  simp only [StableHlo.TRef.ofBuf, StableHlo.TRef.toBuf, cast_eq]
  pointwise

theorem blkM (t : Fin cfg0.N) (r : Fin 40) (k : Fin 128) : iblk m c 2 t (ix2 r k) = entry (NM m c) (FM m c) r k := by
  refine Eq.trans ?_ (entry_eq _ _ r k (FloatOps.sitofp (F := Ideal) FTy.f32 (0#32)))
  unfold NM FM
  blk_simp [iblk]
  have e : (win0_2.blk t).view.emb (ix2 r k) = (ix2 r k : S40x128.Idx) := by
    blk_ext [idx0 t] <;> (have := idx0 t; omega)
  rw [e]
  unfold V V0
  after_reads_simp [hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16, hostOps0_17, hostOps0_18, hostOps0_19, hostOps0_20,
      hostOps0_21, hostOps0_22, hostOps0_23, List.flatten_cons, List.flatten_nil, List.cons_append, List.nil_append, List.append_nil]
  simp only [StableHlo.TRef.ofBuf, StableHlo.TRef.toBuf, cast_eq]
  pointwise
  after_reads_simp
  simp only [StableHlo.TRef.ofBuf, StableHlo.TRef.toBuf, cast_eq]
  pointwise

theorem blkV (t : Fin cfg0.N) (r : Fin 40) (k : Fin 128) : iblk m c 3 t (ix2 r k) = entry (NV m c) (FV m c) r k := by
  refine Eq.trans ?_ (entry_eq _ _ r k (FloatOps.sitofp (F := Ideal) FTy.f32 (0#32)))
  unfold NV FV
  blk_simp [iblk]
  have e : (win0_3.blk t).view.emb (ix2 r k) = (ix2 r k : S40x128.Idx) := by
    blk_ext [idx0 t] <;> (have := idx0 t; omega)
  rw [e]
  unfold V V0
  after_reads_simp [hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16, hostOps0_17, hostOps0_18, hostOps0_19, hostOps0_20,
      hostOps0_21, hostOps0_22, hostOps0_23, List.flatten_cons, List.flatten_nil, List.cons_append, List.nil_append, List.append_nil]
  simp only [StableHlo.TRef.ofBuf, StableHlo.TRef.toBuf, cast_eq]
  pointwise
  after_reads_simp
  simp only [StableHlo.TRef.ofBuf, StableHlo.TRef.toBuf, cast_eq]
  pointwise

/-- The four results for the layers' norms, and for the last. -/
def NG (l : Fin 4) (j : Fin 1024) : EReal := ∑ d, NP m c d l j
def FG (j : Fin 1024) : EReal := ∑ d, FP m c d j
def NFirst (l : Fin 4) (j : Fin 1024) : EReal := first (NG m c l j) (NM m c l j)
def FFirst (j : Fin 1024) : EReal := first (FG m c j) (FM m c j)
def NSecond (l : Fin 4) (j : Fin 1024) : EReal := second (NG m c l j) (NV m c l j)
def FSecond (j : Fin 1024) : EReal := second (FG m c j) (FV m c j)
def NChange (l : Fin 4) (j : Fin 1024) : EReal := change (NW m c l j) (NFirst m c l j) (NSecond m c l j)
def FChange (j : Fin 1024) : EReal := change (FW m c j) (FFirst m c j) (FSecond m c j)

/-- What the body makes of packed blocks. -/
theorem of_packed (P : Vec Ideal S8x40x128 .f32) (w a v : Vec Ideal S40x128 .f32) (r : Fin 40) (k : Fin 128)
    (hP : ∀ d, P (ix3 d r k) = entry (NP m c d) (FP m c d) r k) (hw : w (ix2 r k) = entry (NW m c) (FW m c) r k)
    (ha : a (ix2 r k) = entry (NM m c) (FM m c) r k) (hv : v (ix2 r k) = entry (NV m c) (FV m c) r k) :
    out0_4 P w a v (ix2 r k) = entry (NG m c) (FG m c) r k ∧ out0_5 P w a v (ix2 r k) = entry (NChange m c) (FChange m c) r k
    ∧ out0_6 P w a v (ix2 r k) = entry (NFirst m c) (FFirst m c) r k ∧ out0_7 P w a v (ix2 r k) = entry (NSecond m c) (FSecond m c) r k := by
  have g : ∑ d, P (ix3 d r k) = entry (NG m c) (FG m c) r k :=
    (Finset.sum_congr rfl fun d _ => hP d).trans (entry_sum (NP m c) (FP m c) r k)
  refine ⟨(grad_at ..).trans g, (change_at ..).trans ?_, (first_at ..).trans ?_, (second_at ..).trans ?_⟩
  all_goals
    simp only [g, hw, ha, hv]
    unfold entry
    split_ifs <;> rfl

theorem outs (t : Fin cfg0.N) (r : Fin 40) (k : Fin 128) :
    out0_4 (iblk m c 0 t) (iblk m c 1 t) (iblk m c 2 t) (iblk m c 3 t) (ix2 r k) = entry (NG m c) (FG m c) r k
    ∧ out0_5 (iblk m c 0 t) (iblk m c 1 t) (iblk m c 2 t) (iblk m c 3 t) (ix2 r k) = entry (NChange m c) (FChange m c) r k
    ∧ out0_6 (iblk m c 0 t) (iblk m c 1 t) (iblk m c 2 t) (iblk m c 3 t) (ix2 r k) = entry (NFirst m c) (FFirst m c) r k
    ∧ out0_7 (iblk m c 0 t) (iblk m c 1 t) (iblk m c 2 t) (iblk m c 3 t) (ix2 r k) = entry (NSecond m c) (FSecond m c) r k :=
  of_packed m c _ _ _ _ r k (fun d => blkP m c t d r k) (blkW m c t r k) (blkM m c t r k) (blkV m c t r k)

theorem final4 : (dats m 0 c).arrAt 4 cfg0.N = fun i : S40x128.Idx => entry (NG m c) (FG m c) (i 0) (i 1) := by
  refine (dats m 0 c).arrAt_eq_of_covers 4 _ (by decide +kernel) fun t hf y => ?_
  blk_simp
  obtain ⟨r, k, rfl⟩ : ∃ (r : Fin 40) (k : Fin 128), y = (ix2 r k : S40x128.Idx) := ⟨y 0, y 1, eq_ix2 (n0 := 40) (n1 := 128) y⟩
  have e : (win0_4.blk t).view.emb (ix2 r k) = (ix2 r k : S40x128.Idx) := by
    blk_ext [idx0 t] <;> (have := idx0 t; omega)
  rw [e, after0_4]
  exact (outs m c t r k).1

theorem final5 : (dats m 0 c).arrAt 5 cfg0.N = fun i : S40x128.Idx => entry (NChange m c) (FChange m c) (i 0) (i 1) := by
  refine (dats m 0 c).arrAt_eq_of_covers 5 _ (by decide +kernel) fun t hf y => ?_
  blk_simp
  obtain ⟨r, k, rfl⟩ : ∃ (r : Fin 40) (k : Fin 128), y = (ix2 r k : S40x128.Idx) := ⟨y 0, y 1, eq_ix2 (n0 := 40) (n1 := 128) y⟩
  have e : (win0_5.blk t).view.emb (ix2 r k) = (ix2 r k : S40x128.Idx) := by
    blk_ext [idx0 t] <;> (have := idx0 t; omega)
  rw [e, after0_5]
  exact (outs m c t r k).2.1

theorem final6 : (dats m 0 c).arrAt 6 cfg0.N = fun i : S40x128.Idx => entry (NFirst m c) (FFirst m c) (i 0) (i 1) := by
  refine (dats m 0 c).arrAt_eq_of_covers 6 _ (by decide +kernel) fun t hf y => ?_
  blk_simp
  obtain ⟨r, k, rfl⟩ : ∃ (r : Fin 40) (k : Fin 128), y = (ix2 r k : S40x128.Idx) := ⟨y 0, y 1, eq_ix2 (n0 := 40) (n1 := 128) y⟩
  have e : (win0_6.blk t).view.emb (ix2 r k) = (ix2 r k : S40x128.Idx) := by
    blk_ext [idx0 t] <;> (have := idx0 t; omega)
  rw [e, after0_6]
  exact (outs m c t r k).2.2.1

theorem final7 : (dats m 0 c).arrAt 7 cfg0.N = fun i : S40x128.Idx => entry (NSecond m c) (FSecond m c) (i 0) (i 1) := by
  refine (dats m 0 c).arrAt_eq_of_covers 7 _ (by decide +kernel) fun t hf y => ?_
  blk_simp
  obtain ⟨r, k, rfl⟩ : ∃ (r : Fin 40) (k : Fin 128), y = (ix2 r k : S40x128.Idx) := ⟨y 0, y 1, eq_ix2 (n0 := 40) (n1 := 128) y⟩
  have e : (win0_7.blk t).view.emb (ix2 r k) = (ix2 r k : S40x128.Idx) := by
    blk_ext [idx0 t] <;> (have := idx0 t; omega)
  rw [e, after0_7]
  exact (outs m c t r k).2.2.2

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
  ∧ s.mem (c.tc.loc main_arg6) = m (c.tc.loc main_arg6) ∧ s.mem (c.tc.loc main_arg7) = m (c.tc.loc main_arg7)

/-- Unpacking finds an entry where packing put it. -/
theorem entry_layer (n : Fin 4 → Fin 1024 → EReal) (f : Fin 1024 → EReal) (l : Fin 4) (j : Fin 1024) :
    entry n f ⟨l.val * 8 + j.val / 128, by omega⟩ ⟨j.val % 128, by omega⟩ = n l j := by
  unfold entry
  rw [dif_pos (by dsimp only; omega)]
  exact congrArg₂ n (Fin.ext (by dsimp only; omega)) (Fin.ext (by dsimp only; omega))
theorem entry_last (n : Fin 4 → Fin 1024 → EReal) (f : Fin 1024 → EReal) (j : Fin 1024) :
    entry n f ⟨32 + j.val / 128, by omega⟩ ⟨j.val % 128, by omega⟩ = f j := by
  unfold entry
  rw [dif_neg (by dsimp only; omega)]
  exact congrArg f (Fin.ext (by dsimp only; omega))

/-- What the call leaves before its results are unpacked. -/
abbrev left : Valuation τ sig (Elt Ideal) := Pipeline.withArrays spec0 c (V0 m c) fun w => (dats m 0 c).arrAt w cfg0.N
theorem arrays_distinct : Function.Injective (Pipeline.arrRef spec0) := by decide
theorem left_out (w : Fin cfg0.W) : left m c (Proc.devRef .tc (Pipeline.arrRef spec0 w)) = (dats m 0 c).arrAt w cfg0.N :=
  Pipeline.withArrays_arr spec0 arrays_distinct c _ _ w
theorem left4 : left m c (Proc.devRef .tc main_v28_0) = fun i : S40x128.Idx => entry (NG m c) (FG m c) (i 0) (i 1) :=
  (left_out m c 4).trans (final4 m c)
theorem left5 : left m c (Proc.devRef .tc main_v28_1) = fun i : S40x128.Idx => entry (NChange m c) (FChange m c) (i 0) (i 1) :=
  (left_out m c 5).trans (final5 m c)
theorem left6 : left m c (Proc.devRef .tc main_v28_2) = fun i : S40x128.Idx => entry (NFirst m c) (FFirst m c) (i 0) (i 1) :=
  (left_out m c 6).trans (final6 m c)
theorem left7 : left m c (Proc.devRef .tc main_v28_3) = fun i : S40x128.Idx => entry (NSecond m c) (FSecond m c) (i 0) (i 1) :=
  (left_out m c 7).trans (final7 m c)

/-- An unpacked entry's place among the packed rows. -/
theorem layer_at (y : Vec Ideal S40x128 .f32) (l : Fin 4) (j : Fin 1024) :
    shapeCast S4x1024 (shapeCast S4096 (extractStridedSlice S32x128 ![0, 0] y slices_S40x128_S32x128_0_0) shapeCasts_S32x128_S4096)
      shapeCasts_S4096_S4x1024 (ix2 l j) = y (ix2 ⟨l.val * 8 + j.val / 128, by omega⟩ ⟨j.val % 128, by omega⟩) := by
  pointwise
theorem last_at (y : Vec Ideal S40x128 .f32) (j : Fin 1024) :
    shapeCast S1024 (extractStridedSlice S8x128 ![32, 0] y slices_S40x128_S8x128_32_0) shapeCasts_S8x128_S1024 (ix1 j)
      = y (ix2 ⟨32 + j.val / 128, by omega⟩ ⟨j.val % 128, by omega⟩) := by
  pointwise

/-- The kernel run: its eight results as functions of the arguments, the arguments unchanged. -/
theorem run_values (ρ : Dev nD → PrngReg) :
    θ_run defs (onTc (τ := τ) (main (F := Ideal))) ⟨m, fun _ => 0, ρ⟩ fun r => ∀ c : Dev nD,
      r.2.mem (c.tc.loc main_v31) = (fun i : S4x1024.Idx => NG m c (i 0) (i 1))
      ∧ r.2.mem (c.tc.loc main_v33) = (fun i : S1024.Idx => FG m c (i 0))
      ∧ r.2.mem (c.tc.loc main_v36) = (fun i : S4x1024.Idx => NChange m c (i 0) (i 1))
      ∧ r.2.mem (c.tc.loc main_v38) = (fun i : S1024.Idx => FChange m c (i 0))
      ∧ r.2.mem (c.tc.loc main_v41) = (fun i : S4x1024.Idx => NFirst m c (i 0) (i 1))
      ∧ r.2.mem (c.tc.loc main_v43) = (fun i : S1024.Idx => FFirst m c (i 0))
      ∧ r.2.mem (c.tc.loc main_v46) = (fun i : S4x1024.Idx => NSecond m c (i 0) (i 1))
      ∧ r.2.mem (c.tc.loc main_v48) = (fun i : S1024.Idx => FSecond m c (i 0)) ∧ Kept m c r.2 := by
  run_from (run_main m ρ) & (unchanged m ρ)
  all_goals
    refine Eq.trans (b := StableHlo.after hostOps1 (left m c) (Proc.devRef .tc _)) rfl ?_
    after_results
    funext i
  · obtain ⟨l, j, rfl⟩ : ∃ (l : Fin 4) (j : Fin 1024), i = (ix2 l j : S4x1024.Idx) := ⟨i 0, i 1, eq_ix2 (n0 := 4) (n1 := 1024) i⟩
    exact (layer_at _ l j).trans ((congrFun (left4 m c) _).trans (entry_layer (NG m c) (FG m c) l j))
  · obtain ⟨j, rfl⟩ : ∃ j : Fin 1024, i = (ix1 j : S1024.Idx) := ⟨i 0, eq_ix1 (n0 := 1024) i⟩
    exact (last_at _ j).trans ((congrFun (left4 m c) _).trans (entry_last (NG m c) (FG m c) j))
  · obtain ⟨l, j, rfl⟩ : ∃ (l : Fin 4) (j : Fin 1024), i = (ix2 l j : S4x1024.Idx) := ⟨i 0, i 1, eq_ix2 (n0 := 4) (n1 := 1024) i⟩
    exact (layer_at _ l j).trans ((congrFun (left5 m c) _).trans (entry_layer (NChange m c) (FChange m c) l j))
  · obtain ⟨j, rfl⟩ : ∃ j : Fin 1024, i = (ix1 j : S1024.Idx) := ⟨i 0, eq_ix1 (n0 := 1024) i⟩
    exact (last_at _ j).trans ((congrFun (left5 m c) _).trans (entry_last (NChange m c) (FChange m c) j))
  · obtain ⟨l, j, rfl⟩ : ∃ (l : Fin 4) (j : Fin 1024), i = (ix2 l j : S4x1024.Idx) := ⟨i 0, i 1, eq_ix2 (n0 := 4) (n1 := 1024) i⟩
    exact (layer_at _ l j).trans ((congrFun (left6 m c) _).trans (entry_layer (NFirst m c) (FFirst m c) l j))
  · obtain ⟨j, rfl⟩ : ∃ j : Fin 1024, i = (ix1 j : S1024.Idx) := ⟨i 0, eq_ix1 (n0 := 1024) i⟩
    exact (last_at _ j).trans ((congrFun (left6 m c) _).trans (entry_last (NFirst m c) (FFirst m c) j))
  · obtain ⟨l, j, rfl⟩ : ∃ (l : Fin 4) (j : Fin 1024), i = (ix2 l j : S4x1024.Idx) := ⟨i 0, i 1, eq_ix2 (n0 := 4) (n1 := 1024) i⟩
    exact (layer_at _ l j).trans ((congrFun (left7 m c) _).trans (entry_layer (NSecond m c) (FSecond m c) l j))
  · obtain ⟨j, rfl⟩ : ∃ j : Fin 1024, i = (ix1 j : S1024.Idx) := ⟨i 0, eq_ix1 (n0 := 1024) i⟩
    exact (last_at _ j).trans ((congrFun (left7 m c) _).trans (entry_last (NSecond m c) (FSecond m c) j))
end Cert.Tail
-- ==== Proof.TailRef.lean ====
module

public import proofs.«01_k».proof.Defs
public import proofs.«01_k».proof.Proof.Tail
public import proofs.«01_k».proof.Proof.Gen.Reference12Ideal.Run
public import proofs.«01_k».proof.Proof.Gen.Reference12Ideal.Read

/-!
The reference of the optimiser's step for the norms' scales: its four results as the same functions of the arguments, and
the two programs' agreement.
-/

@[expose] public section
noncomputable section
namespace Cert.Tail.Ref
open Cert.Reference12Ideal Cert.Reference12Ideal.Gen Cert.Reference12Ideal.Value Cert.Reference12Ideal.Read Idealize.ShloMosaic Idealize.ShloMosaic.TcCoe Idealize.SL.Sem
open Cert.Adam (first second change)
set_option maxRecDepth 16384

variable (m : (ℓ : Loc nD τ sig) → Buf (Elt Ideal) ℓ) (c : Dev nD)

def NP (d : Fin 8) (l : Fin 4) (j : Fin 1024) : EReal := m (c.tc.loc main_arg0) (ix3 d l j)
def FP (d : Fin 8) (j : Fin 1024) : EReal := m (c.tc.loc main_arg1) (ix2 d j)
def NW (l : Fin 4) (j : Fin 1024) : EReal := m (c.tc.loc main_arg2) (ix2 l j)
def NM (l : Fin 4) (j : Fin 1024) : EReal := m (c.tc.loc main_arg3) (ix2 l j)
def NV (l : Fin 4) (j : Fin 1024) : EReal := m (c.tc.loc main_arg4) (ix2 l j)
def FW (j : Fin 1024) : EReal := m (c.tc.loc main_arg5) (ix1 j)
def FM (j : Fin 1024) : EReal := m (c.tc.loc main_arg6) (ix1 j)
def FV (j : Fin 1024) : EReal := m (c.tc.loc main_arg7) (ix1 j)
def NG (l : Fin 4) (j : Fin 1024) : EReal := ∑ d, NP m c d l j
def FG (j : Fin 1024) : EReal := ∑ d, FP m c d j
def NFirst (l : Fin 4) (j : Fin 1024) : EReal := first (NG m c l j) (NM m c l j)
def FFirst (j : Fin 1024) : EReal := first (FG m c j) (FM m c j)
def NSecond (l : Fin 4) (j : Fin 1024) : EReal := second (NG m c l j) (NV m c l j)
def FSecond (j : Fin 1024) : EReal := second (FG m c j) (FV m c j)
def NChange (l : Fin 4) (j : Fin 1024) : EReal := change (NW m c l j) (NFirst m c l j) (NSecond m c l j)
def FChange (j : Fin 1024) : EReal := change (FW m c j) (FFirst m c j) (FSecond m c j)

/-- The arguments are unchanged. -/
abbrev Kept (s : MemSt nD τ sig (Elt Ideal)) : Prop :=
  s.mem (c.tc.loc main_arg0) = m (c.tc.loc main_arg0) ∧ s.mem (c.tc.loc main_arg1) = m (c.tc.loc main_arg1)
  ∧ s.mem (c.tc.loc main_arg2) = m (c.tc.loc main_arg2) ∧ s.mem (c.tc.loc main_arg3) = m (c.tc.loc main_arg3)
  ∧ s.mem (c.tc.loc main_arg4) = m (c.tc.loc main_arg4) ∧ s.mem (c.tc.loc main_arg5) = m (c.tc.loc main_arg5)
  ∧ s.mem (c.tc.loc main_arg6) = m (c.tc.loc main_arg6) ∧ s.mem (c.tc.loc main_arg7) = m (c.tc.loc main_arg7)

/-- The reference's run: its eight results. -/
theorem run_values (ρ : Dev nD → PrngReg) :
    θ_run defs (onTc (τ := τ) (main (F := Ideal))) ⟨m, fun _ => 0, ρ⟩ fun r => ∀ c : Dev nD,
      r.2.mem (c.tc.loc main_v0) = (fun i : S4x1024.Idx => NG m c (i 0) (i 1))
      ∧ r.2.mem (c.tc.loc main_v1) = (fun i : S1024.Idx => FG m c (i 0))
      ∧ r.2.mem (c.tc.loc main_v25) = (fun i : S4x1024.Idx => NChange m c (i 0) (i 1))
      ∧ r.2.mem (c.tc.loc main_v49) = (fun i : S1024.Idx => FChange m c (i 0))
      ∧ r.2.mem (c.tc.loc main_v6) = (fun i : S4x1024.Idx => NFirst m c (i 0) (i 1))
      ∧ r.2.mem (c.tc.loc main_v30) = (fun i : S1024.Idx => FFirst m c (i 0))
      ∧ r.2.mem (c.tc.loc main_v12) = (fun i : S4x1024.Idx => NSecond m c (i 0) (i 1))
      ∧ r.2.mem (c.tc.loc main_v36) = (fun i : S1024.Idx => FSecond m c (i 0)) ∧ Kept m c r.2 := by
  refine (θ_run defs _ _).mono (fun r h c => ?_) (run m ρ)
  obtain ⟨h0, h1, h2, h3, h4, h5, h6, h7, h8⟩ := h c
  refine ⟨h0.trans (funext fun i => ?_), h1.trans (funext fun i => ?_), h2.trans (funext fun i => ?_), h3.trans (funext fun i => ?_),
    h4.trans (funext fun i => ?_), h5.trans (funext fun i => ?_), h6.trans (funext fun i => ?_), h7.trans (funext fun i => ?_), h8⟩
  all_goals
    first
    | obtain ⟨l, j, rfl⟩ : ∃ (l : Fin 4) (j : Fin 1024), i = (ix2 l j : S4x1024.Idx) := ⟨i 0, i 1, eq_ix2 (n0 := 4) (n1 := 1024) i⟩
    | obtain ⟨j, rfl⟩ : ∃ j : Fin 1024, i = (ix1 j : S1024.Idx) := ⟨i 0, eq_ix1 (n0 := 1024) i⟩
    pointwise
    try rfl

/-- The reference leaves its arguments and the semaphores alone. -/
theorem frame (ρ : Dev nD → PrngReg) :
    θ_run defs (onTc (τ := τ) (main (F := Ideal))) ⟨m, fun _ => 0, ρ⟩ fun r => (∀ c : Dev nD, Kept m c r.2) ∧ r.2.sem = fun _ => 0 :=
  (θ_run _ _ _).mono (fun r h => ⟨fun c => (h c).2.2.2.2.2.2.2.2, sem_eq_zero_of_no_sems (by decide) r.2⟩) (run_values m ρ)
end Cert.Tail.Ref

open Idealize.ShloMosaic Idealize.ShloMosaic.TcCoe Idealize.SL.Sem in
/-- The call adds up the devices' gradients of the norms' scales and takes the optimiser's step. -/
theorem Cert.Tail.value : Cert.algebraic_Kernel12Ideal_Reference12Ideal := by
  intro m g m' g' _ hag
  have e0 (c) : Cert.Tail.Ref.NP m' c = NP m c := by funext d l j; exact congrFun (hag c).1 (ix3 d l j)
  have e1 (c) : Cert.Tail.Ref.FP m' c = FP m c := by funext d j; exact congrFun (hag c).2.1 (ix2 d j)
  have e2 (c) : Cert.Tail.Ref.NW m' c = NW m c := by funext l j; exact congrFun (hag c).2.2.1 (ix2 l j)
  have e3 (c) : Cert.Tail.Ref.NM m' c = NM m c := by funext l j; exact congrFun (hag c).2.2.2.1 (ix2 l j)
  have e4 (c) : Cert.Tail.Ref.NV m' c = NV m c := by funext l j; exact congrFun (hag c).2.2.2.2.1 (ix2 l j)
  have e5 (c) : Cert.Tail.Ref.FW m' c = FW m c := by funext j; exact congrFun (hag c).2.2.2.2.2.1 (ix1 j)
  have e6 (c) : Cert.Tail.Ref.FM m' c = FM m c := by funext j; exact congrFun (hag c).2.2.2.2.2.2.1 (ix1 j)
  have e7 (c) : Cert.Tail.Ref.FV m' c = FV m c := by funext j; exact congrFun (hag c).2.2.2.2.2.2.2 (ix1 j)
  have hr := Cert.Tail.Ref.run_values m' g'
  have n0 (c) : Cert.Tail.Ref.NG m' c = NG m c := by unfold Cert.Tail.Ref.NG NG; rw [e0]
  have n1 (c) : Cert.Tail.Ref.FG m' c = FG m c := by unfold Cert.Tail.Ref.FG FG; rw [e1]
  have n2 (c) : Cert.Tail.Ref.NFirst m' c = NFirst m c := by unfold Cert.Tail.Ref.NFirst NFirst; rw [n0, e3]
  have n3 (c) : Cert.Tail.Ref.FFirst m' c = FFirst m c := by unfold Cert.Tail.Ref.FFirst FFirst; rw [n1, e6]
  have n4 (c) : Cert.Tail.Ref.NSecond m' c = NSecond m c := by unfold Cert.Tail.Ref.NSecond NSecond; rw [n0, e4]
  have n5 (c) : Cert.Tail.Ref.FSecond m' c = FSecond m c := by unfold Cert.Tail.Ref.FSecond FSecond; rw [n1, e7]
  have n6 (c) : Cert.Tail.Ref.NChange m' c = NChange m c := by unfold Cert.Tail.Ref.NChange NChange; rw [n2, n4, e2]
  have n7 (c) : Cert.Tail.Ref.FChange m' c = FChange m c := by unfold Cert.Tail.Ref.FChange FChange; rw [n3, n5, e5]
  simp only [n0, n1, n2, n3, n4, n5, n6, n7] at hr
  exact ⟨_, _, _, _, _, _, _, _, run_values m g, hr⟩
-- ==== Proof.Gather.lean ====
module
public import proofs.«01_k».proof.Defs
public import proofs.«01_k».proof.Proof.NormBwd
public import proofs.«01_k».proof.Proof.Gen.Kernel13Ideal.Value
public import proofs.«01_k».proof.Proof.Gen.Reference13Ideal.Run
public import proofs.«01_k».proof.Proof.Gen.Reference13Ideal.Read
/-!
The gathered input weights: eight shards of 417 columns laid out as one row of packed columns.
-/
@[expose] public section
noncomputable section
namespace Cert.Gather
open Idealize.ShloMosaic Idealize.ShloMosaic.TcCoe Idealize.SL.Sem
open Cert.NormBwd (packed column column_val)
set_option maxRecDepth 16384

/-- A row of the whole matrix: its column `q` is column `q % 417` of shard `q / 417`. -/
def whole (s : Fin 8 → Fin 417 → EReal) (q : Fin 3336) : EReal := s ⟨q.val / 417, by omega⟩ ⟨q.val % 417, by omega⟩

/-- An element of a shard, the shard and the column given as numbers. -/
theorem at_shard (s : Fin 8 → Fin 417 → EReal) (q : Fin 3336) (k : Fin 8) (j : Fin 417) (h : q.val = 417 * k.val + j.val) : s k j = whole s q := by
  unfold whole
  congr 1 <;> (apply Fin.ext; dsimp only; omega)

/-- Column `q` of the shards side by side, searched from the first shard. -/
def search (s : Fin 8 → Fin 417 → EReal) (q : ℕ) (hq : q < 3336) : EReal :=
  if h0 : q < 417 then s 0 ⟨q, h0⟩ else
  if h1 : q - 417 < 417 then s 1 ⟨q - 417, h1⟩ else
  if h2 : q - 417 - 417 < 417 then s 2 ⟨q - 417 - 417, h2⟩ else
  if h3 : q - 417 - 417 - 417 < 417 then s 3 ⟨q - 417 - 417 - 417, h3⟩ else
  if h4 : q - 417 - 417 - 417 - 417 < 417 then s 4 ⟨q - 417 - 417 - 417 - 417, h4⟩ else
  if h5 : q - 417 - 417 - 417 - 417 - 417 < 417 then s 5 ⟨q - 417 - 417 - 417 - 417 - 417, h5⟩ else
  if h6 : q - 417 - 417 - 417 - 417 - 417 - 417 < 417 then s 6 ⟨q - 417 - 417 - 417 - 417 - 417 - 417, h6⟩ else
  s 7 ⟨q - 417 - 417 - 417 - 417 - 417 - 417 - 417, by omega⟩
theorem search_eq (s : Fin 8 → Fin 417 → EReal) (q : ℕ) (hq : q < 3336) : search s q hq = whole s ⟨q, hq⟩ := by
  unfold search
  split_ifs <;> exact at_shard s ⟨q, hq⟩ _ _ (by dsimp; omega)

/-- The three runs of searched columns and the padding make the packed row. -/
theorem packed_search (s : Fin 8 → Fin 417 → EReal) (p : Fin 3456) :
    (if h : p.val < 3072 then search s p.val (by omega)
      else if h : p.val - 3072 < 256 then search s (3080 + (p.val - 3072)) (by omega)
      else if h : p.val - 3072 - 256 < 8 then search s (3072 + (p.val - 3072 - 256)) (by omega)
      else 0) = packed (whole s) p := by
  have e := fun hp => column_val ⟨p.val, hp⟩
  unfold packed
  simp only [search_eq]
  split_ifs <;> first
    | rfl
    | (exfalso; omega)
    | (refine congrArg (whole s) (Fin.ext ?_); rw [e]; dsimp only; split_ifs <;> omega)

section kernel
open Cert.Kernel13Ideal Cert.Kernel13Ideal.Gen
variable (m : (ℓ : Loc nD τ sig) → Buf (Elt Ideal) ℓ) (c : Dev nD)

/-- The shards, row by row. -/
def Shards (i : Fin 1024) (k : Fin 8) (j : Fin 417) : EReal := m (c, Proc.tc.devRef main_arg0) (ix3 k i j)

theorem pay (x0 x1 x2 x3 x4 x5 x6 x7 : FVec Ideal S1x256x417 .bf16) (r : Fin 256) (p : Fin 3456) :
    k0_pay1 (F := Ideal) x0 x1 x2 x3 x4 x5 x6 x7 (ix2 r p)
      = packed (whole fun k j => (![x0, x1, x2, x3, x4, x5, x6, x7] k : FVec Ideal S1x256x417 .bf16) (ix3 0 r j)) p := by
  unfold k0_pay1
  pointwise
  exact packed_search (fun k j => (![x0, x1, x2, x3, x4, x5, x6, x7] k : FVec Ideal S1x256x417 .bf16) (ix3 0 r j)) p

def row (t : Fin cfg0.N) (r : Fin 256) : Fin 1024 := ⟨256 * t.val + r.val, by have h : t.val < 4 := t.isLt; omega⟩

theorem idx0 : ∀ t : Fin cfg0.N, (win0_0.index t 0 = 0 ∧ win0_0.index t 1 = t.val ∧ win0_0.index t 2 = 0)
    ∧ (win0_1.index t 0 = t.val ∧ win0_1.index t 1 = 0) := by decide +kernel

theorem blk (t : Fin cfg0.N) (k : Fin 8) (r : Fin 256) (j : Fin 417) : iblk m c 0 t (ix3 k r j) = Shards m c (row t r) k j := by
  unfold Shards
  blk_simp [iblk]
  entry_read
  blk_ext [idx0 t, row] <;> (have := idx0 t; simp only [row]; omega)

theorem final : (dats m 0 c).arrAt 1 cfg0.N = fun i : S1024x3456.Idx => packed (whole (Shards m c (i 0))) (i 1) := by
  refine (dats m 0 c).arrAt_eq_of_covers 1 _ (by decide +kernel) fun t hf y => ?_
  blk_simp
  obtain ⟨r, p, rfl⟩ : ∃ (r : Fin 256) (p : Fin 3456), y = (ix2 r p : S256x3456.Idx) := ⟨y 0, y 1, eq_ix2 (n0 := 256) (n1 := 3456) y⟩
  have e : (win0_1.blk t).view.emb (ix2 r p) = (ix2 (row t r) p : S1024x3456.Idx) := by
    blk_ext [idx0 t, row] <;> (have := idx0 t; simp only [row]; omega)
  rw [after0_1, e]
  unfold out0_1
  frame_out
  refine (pay ..).trans ?_
  have s (k : Fin 8) (j : Fin 417) := blk m c t k r j
  refine congrArg (fun f => packed (whole f) p) (funext fun k => funext fun j => ?_)
  refine Eq.trans ?_ (s k j)
  fin_cases k <;> exact View.ld_unit_apply_of (iblk m c 0 t) _ _ _ _ _ fun a => by fin_cases a <;> (dsimp; try omega)

theorem run_values (ρ : Dev nD → PrngReg) :
    θ_run defs (onTc (τ := τ) (main (F := Ideal))) ⟨m, fun _ => 0, ρ⟩ fun r => ∀ c : Dev nD,
      r.2.mem (c.tc.loc main_v0) = (fun i : S1024x3456.Idx => packed (whole (Shards m c (i 0))) (i 1))
      ∧ r.2.mem (c.tc.loc main_arg0) = m (c.tc.loc main_arg0) :=
  (θ_run defs _ _).mono (fun _ h c => ⟨(h c).1.trans (final m c), (h c).2⟩) (Value.run_blocks m ρ)
end kernel

namespace Ref
open Cert.Reference13Ideal Cert.Reference13Ideal.Gen Cert.Reference13Ideal.Value
variable (m : (ℓ : Loc nD τ sig) → Buf (Elt Ideal) ℓ) (c : Dev nD)

def Shards (i : Fin 1024) (k : Fin 8) (j : Fin 417) : EReal := m (c.tc.loc main_arg0) (ix3 k i j)

theorem run_values (ρ : Dev nD → PrngReg) :
    θ_run defs (onTc (τ := τ) (main (F := Ideal))) ⟨m, fun _ => 0, ρ⟩ fun r => ∀ c : Dev nD,
      r.2.mem (c.tc.loc main_v21) = (fun i : S1024x3456.Idx => packed (whole (Shards m c (i 0))) (i 1))
      ∧ r.2.mem (c.tc.loc main_arg0) = m (c.tc.loc main_arg0) := by
  refine (θ_run defs _ _).mono (fun r h c => ⟨(h c).1.trans (funext fun i => ?_), (h c).2⟩) (run m ρ)
  obtain ⟨r, p, rfl⟩ : ∃ (r : Fin 1024) (p : Fin 3456), i = (ix2 r p : S1024x3456.Idx) := ⟨i 0, i 1, eq_ix2 (n0 := 1024) (n1 := 3456) i⟩
  change _ = packed (whole (Shards m c r)) p
  clear h
  unfold res_main_v21
  pointwise
  exact packed_search (Shards m c r) p

theorem frame (ρ : Dev nD → PrngReg) :
    θ_run defs (onTc (τ := τ) (main (F := Ideal))) ⟨m, fun _ => 0, ρ⟩ fun r =>
      (∀ c : Dev nD, r.2.mem (c.tc.loc main_arg0) = m (c.tc.loc main_arg0)) ∧ r.2.sem = fun _ => 0 :=
  (θ_run _ _ _).mono (fun r h => ⟨fun c => (h c).2, sem_eq_zero_of_no_sems (by decide) r.2⟩) (run_values m ρ)
end Ref

/-- The call lays the shards out as the packed rows of the whole matrix. -/
theorem value : Cert.algebraic_Kernel13Ideal_Reference13Ideal := by
  intro m g m' g' _ hag
  have e (c) : Ref.Shards m' c = Shards m c := by funext i k j; exact congrFun (hag c) (ix3 k i j)
  have hr := Ref.run_values m' g'
  simp only [e] at hr
  exact ⟨_, run_values m g, hr⟩
end Cert.Gather
-- ==== Proof.Scatter.lean ====
module
public import proofs.«01_k».proof.Defs
public import proofs.«01_k».proof.Proof.NormBwd
public import proofs.«01_k».proof.Proof.Gen.Kernel14Ideal.Value
public import proofs.«01_k».proof.Proof.Gen.Reference14Ideal.Run
public import proofs.«01_k».proof.Proof.Gen.Reference14Ideal.Read
/-!
The input weights' gradient: its packed columns put back in order and split into eight shards of 417 columns.
-/
@[expose] public section
noncomputable section
namespace Cert.Scatter
open Idealize.ShloMosaic Idealize.ShloMosaic.TcCoe Idealize.SL.Sem
open Cert.NormBwd (position position_val)
set_option maxRecDepth 16384

/-- Column `j` of shard `k`: column `417 k + j` of the matrix, read where the packed row holds it. -/
def shard (f : Fin 3456 → EReal) (k : Fin 8) (j : Fin 417) : EReal :=
  f ⟨(position ⟨417 * k.val + j.val, by omega⟩).val, by have := (position ⟨417 * k.val + j.val, by omega⟩).isLt; omega⟩

theorem at_position (f : Fin 3456 → EReal) (k : Fin 8) (j : Fin 417) (p : Fin 3456) (q : ℕ) (hq : q = 417 * k.val + j.val)
    (h : p.val = if q < 3072 then q else if q < 3080 then q + 256 else q - 8) : f p = shard f k j := by
  subst hq
  exact congrArg f (Fin.ext (h.trans (position_val ⟨417 * k.val + j.val, by omega⟩).symm))

/-- A column read by the three runs of packed columns. -/
theorem by_runs (f : Fin 3456 → EReal) (k : Fin 8) (j : Fin 417) (q : ℕ) (hq : q = 417 * k.val + j.val) :
    (if h : q < 3072 then f ⟨q, by omega⟩ else if h : q - 3072 < 8 then f ⟨3328 + (q - 3072), by omega⟩
      else f ⟨3072 + (q - 3072 - 8), by omega⟩) = shard f k j := by
  split_ifs <;> exact at_position f k j _ q hq (by dsimp only; split_ifs <;> omega)

section kernel
open Cert.Kernel14Ideal Cert.Kernel14Ideal.Gen
variable (m : (ℓ : Loc nD τ sig) → Buf (Elt Ideal) ℓ) (c : Dev nD)

/-- The gradient's packed rows. -/
def Grad (i : Fin 1024) (p : Fin 3456) : EReal := m (c, Proc.tc.devRef main_arg0) (ix2 i p)

/-- The row with its columns in order. -/
theorem pay (x : FVec Ideal S256x3456 .f32) (r : Fin 256) (k : Fin 8) (j : Fin 417) (q : Fin 3336) (hq : q.val = 417 * k.val + j.val) :
    k0_pay4 (F := Ideal) x (ix2 r q) = shard (fun p => x (ix2 r p)) k j := by
  unfold k0_pay4
  pointwise
  split_ifs <;> first
    | (exfalso; omega)
    | exact at_position (fun p => x (ix2 r p)) k j _ q.val hq (by dsimp only; split_ifs <;> omega)

def row (t : Fin cfg0.N) (r : Fin 256) : Fin 1024 := ⟨256 * t.val + r.val, by have h : t.val < 4 := t.isLt; omega⟩

theorem idx0 : ∀ t : Fin cfg0.N, (win0_0.index t 0 = t.val ∧ win0_0.index t 1 = 0)
    ∧ (win0_1.index t 0 = 0 ∧ win0_1.index t 1 = t.val ∧ win0_1.index t 2 = 0) := by decide +kernel

theorem blk (t : Fin cfg0.N) (r : Fin 256) (p : Fin 3456) : iblk m c 0 t (ix2 r p) = Grad m c (row t r) p := by
  unfold Grad
  blk_simp [iblk]
  entry_read
  blk_ext [idx0 t, row] <;> (have := idx0 t; simp only [row]; omega)

/-- The eight pieces of a block, read at an element. -/
theorem block (x : FVec Ideal S256x3456 .f32) (k : Fin 8) (r : Fin 256) (j : Fin 417) :
    out0_1 (F := Ideal) x (ix3 k r j) = shard (fun p => x (ix2 r p)) k j := by
  unfold out0_1
  refine (Value.canon1_eq _ _).trans ?_
  frame_out
  have e : Value.ix1_0 (ix3 k r j) = (ix2 r ⟨417 * k.val + j.val, by omega⟩ : S256x3336.Idx) := by
    blk_ext [Value.ix1_0] <;> omega
  refine Eq.trans (congrArg (k0_pay4 (F := Ideal) _) e) ?_
  exact pay _ r k j _ rfl

theorem final : (dats m 0 c).arrAt 1 cfg0.N = fun i : S8x1024x417.Idx => shard (Grad m c (i 1)) (i 0) (i 2) := by
  refine (dats m 0 c).arrAt_eq_of_covers 1 _ (by decide +kernel) fun t hf y => ?_
  blk_simp
  obtain ⟨k, r, j, rfl⟩ : ∃ (k : Fin 8) (r : Fin 256) (j : Fin 417), y = (ix3 k r j : S8x256x417.Idx) :=
    ⟨y 0, y 1, y 2, eq_ix3 (n0 := 8) (n1 := 256) (n2 := 417) y⟩
  have e : (win0_1.blk t).view.emb (ix3 k r j) = (ix3 k (row t r) j : S8x1024x417.Idx) := by
    blk_ext [idx0 t, row] <;> (have := idx0 t; simp only [row]; omega)
  rw [after0_1, e]
  refine (block ..).trans ?_
  simp only [blk]
  rfl

theorem run_values (ρ : Dev nD → PrngReg) :
    θ_run defs (onTc (τ := τ) (main (F := Ideal))) ⟨m, fun _ => 0, ρ⟩ fun r => ∀ c : Dev nD,
      r.2.mem (c.tc.loc main_v0) = (fun i : S8x1024x417.Idx => shard (Grad m c (i 1)) (i 0) (i 2))
      ∧ r.2.mem (c.tc.loc main_arg0) = m (c.tc.loc main_arg0) :=
  (θ_run defs _ _).mono (fun _ h c => ⟨(h c).1.trans (final m c), (h c).2⟩) (Value.run_blocks m ρ)
end kernel

namespace Ref
open Cert.Reference14Ideal Cert.Reference14Ideal.Gen Cert.Reference14Ideal.Value
variable (m : (ℓ : Loc nD τ sig) → Buf (Elt Ideal) ℓ) (c : Dev nD)

def Grad (i : Fin 1024) (p : Fin 3456) : EReal := m (c.tc.loc main_arg0) (ix2 i p)

theorem run_values (ρ : Dev nD → PrngReg) :
    θ_run defs (onTc (τ := τ) (main (F := Ideal))) ⟨m, fun _ => 0, ρ⟩ fun r => ∀ c : Dev nD,
      r.2.mem (c.tc.loc main_v21) = (fun i : S8x1024x417.Idx => shard (Grad m c (i 1)) (i 0) (i 2))
      ∧ r.2.mem (c.tc.loc main_arg0) = m (c.tc.loc main_arg0) := by
  refine (θ_run defs _ _).mono (fun r h c => ⟨(h c).1.trans (funext fun i => ?_), (h c).2⟩) (run m ρ)
  obtain ⟨k, r, j, rfl⟩ : ∃ (k : Fin 8) (r : Fin 1024) (j : Fin 417), i = (ix3 k r j : S8x1024x417.Idx) :=
    ⟨i 0, i 1, i 2, eq_ix3 (n0 := 8) (n1 := 1024) (n2 := 417) i⟩
  change _ = shard (Grad m c r) k j
  clear h
  unfold res_main_v21
  pointwise
  by_cases h0 : k.val < 1
  · rw [dif_pos h0]
    exact by_runs (Grad m c r) k j _ (by omega)
  rw [dif_neg h0]
  by_cases h1 : k.val - 1 < 1
  · rw [dif_pos h1]
    exact by_runs (Grad m c r) k j _ (by omega)
  rw [dif_neg h1]
  by_cases h2 : k.val - 1 - 1 < 1
  · rw [dif_pos h2]
    exact by_runs (Grad m c r) k j _ (by omega)
  rw [dif_neg h2]
  by_cases h3 : k.val - 1 - 1 - 1 < 1
  · rw [dif_pos h3]
    exact by_runs (Grad m c r) k j _ (by omega)
  rw [dif_neg h3]
  by_cases h4 : k.val - 1 - 1 - 1 - 1 < 1
  · rw [dif_pos h4]
    exact by_runs (Grad m c r) k j _ (by omega)
  rw [dif_neg h4]
  by_cases h5 : k.val - 1 - 1 - 1 - 1 - 1 < 1
  · rw [dif_pos h5]
    exact by_runs (Grad m c r) k j _ (by omega)
  rw [dif_neg h5]
  by_cases h6 : k.val - 1 - 1 - 1 - 1 - 1 - 1 < 1
  · rw [dif_pos h6]
    exact by_runs (Grad m c r) k j _ (by omega)
  rw [dif_neg h6]
  exact by_runs (Grad m c r) k j _ (by omega)

theorem frame (ρ : Dev nD → PrngReg) :
    θ_run defs (onTc (τ := τ) (main (F := Ideal))) ⟨m, fun _ => 0, ρ⟩ fun r =>
      (∀ c : Dev nD, r.2.mem (c.tc.loc main_arg0) = m (c.tc.loc main_arg0)) ∧ r.2.sem = fun _ => 0 :=
  (θ_run _ _ _).mono (fun r h => ⟨fun c => (h c).2, sem_eq_zero_of_no_sems (by decide) r.2⟩) (run_values m ρ)
end Ref

/-- The call splits the reordered gradient into the shards. -/
theorem value : Cert.algebraic_Kernel14Ideal_Reference14Ideal := by
  intro m g m' g' _ hag
  have e (c) : Ref.Grad m' c = Grad m c := by funext i p; exact congrFun (hag c) (ix2 i p)
  have hr := Ref.run_values m' g'
  simp only [e] at hr
  exact ⟨_, run_values m g, hr⟩
end Cert.Scatter
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Loss
public import proofs.«01_k».proof.Proof.NormBwdRef
public import proofs.«01_k».proof.Proof.LossRef
public import proofs.«01_k».proof.Proof.DnPreClaim
public import proofs.«01_k».proof.Proof.S5PrepClaim
public import proofs.«01_k».proof.Proof.DnFwdRef
public import proofs.«01_k».proof.Proof.InProjRef
public import proofs.«01_k».proof.Proof.AcFwdRef
public import proofs.«01_k».proof.Proof.OutProjRef
public import proofs.«01_k».proof.Proof.AdamRef
public import proofs.«01_k».proof.Proof.InWeight
public import proofs.«01_k».proof.Proof.InWeightRef
public import proofs.«01_k».proof.Proof.OutWeight
public import proofs.«01_k».proof.Proof.OutWeightRef
public import proofs.«01_k».proof.Proof.Tail
public import proofs.«01_k».proof.Proof.TailRef
public import proofs.«01_k».proof.Proof.Gather
public import proofs.«01_k».proof.Proof.Scatter
public import Idealize.ShloMosaic.Adequacy
public import Idealize.ShloMosaic.Init

@[expose] public section

noncomputable section

namespace Cert.Proof

open Idealize.ShloMosaic Idealize.SL.Sem Cert.Kernel

/-- The loss head's reference keeps its arguments; it declares no semaphore. -/
theorem frame_reference : Cert.quiescent_ReferenceIdeal := fun m ρ _ =>
  (θ_run _ _ _).mono (fun r h => ⟨fun c => (h c).2.2.2, sem_eq_zero_of_no_sems (by decide) r.2⟩) (Cert.LossRef.run_values m ρ)

/-- The loss head computes the loss and its two gradients. -/
theorem loss_value : Cert.algebraic_KernelIdeal_ReferenceIdeal := by
  intro m g m' g' _ hag
  have hX (c) : Cert.LossRef.X m' c = Cert.Loss.X m c := by
    funext i k; exact congrFun (hag c).1 (ix3 0 i k)
  have hG (c) : Cert.LossRef.G m' c = Cert.Loss.G m c := by
    funext k; exact congrFun (hag c).2.1 (ix1 k)
  have hY (c) : Cert.LossRef.Y m' c = Cert.Loss.Y m c := by
    funext i k; exact congrFun (hag c).2.2 (ix3 0 i k)
  have hr := Cert.LossRef.run_values m' g'
  simp only [hX, hG, hY] at hr
  exact ⟨_, _, _, Cert.Loss.run_values m g, hr⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.DnPre.pre_facts, Cert.S5Prep.pre_facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, fun m ρ _ => Cert.Kernel2Ideal.Gen.frame m ρ,
  fun m ρ _ => Cert.DnPre.Ref.frame m ρ, fun m ρ _ => Cert.DnPre.Ref.frame m ρ,
  fun m ρ _ => Cert.Kernel3.Gen.frame m ρ, fun m ρ _ => Cert.Kernel3Ideal.Gen.frame m ρ, fun m ρ _ => Cert.NormBwd.Ref.frame m ρ,
  fun m ρ _ => Cert.Kernel4.Gen.frame m ρ, fun m ρ _ => Cert.Kernel4Ideal.Gen.frame m ρ, fun m ρ _ => Cert.Kernel4Ideal.Gen.frame m ρ,
  fun m ρ _ => Cert.S5Prep.Ref.frame m ρ, fun m ρ _ => Cert.S5Prep.Ref.frame m ρ,
  fun m ρ _ => Cert.Kernel5.Gen.frame m ρ, fun m ρ _ => Cert.Kernel5Ideal.Gen.frame m ρ, fun m ρ _ => Cert.DnFwd.Ref.frame m ρ,
  fun m ρ _ => Cert.Kernel6.Gen.frame m ρ, fun m ρ _ => Cert.Kernel6Ideal.Gen.frame m ρ, fun m ρ _ => Cert.InProj.Ref.frame m ρ,
  fun m ρ _ => Cert.Kernel7.Gen.frame m ρ, fun m ρ _ => Cert.Kernel7Ideal.Gen.frame m ρ, fun m ρ _ => Cert.AcFwd.Ref.frame m ρ,
  fun m ρ _ => Cert.Kernel8.Gen.frame m ρ, fun m ρ _ => Cert.Kernel8Ideal.Gen.frame m ρ, fun m ρ _ => Cert.OutProj.Ref.frame m ρ,
  fun m ρ _ => Cert.Kernel9.Gen.frame m ρ, fun m ρ _ => Cert.Kernel9Ideal.Gen.frame m ρ, fun m ρ _ => Cert.Adam.Ref.frame m ρ,
  fun m ρ _ => Cert.Kernel10.Gen.frame m ρ, fun m ρ _ => Cert.Kernel10Ideal.Gen.frame m ρ, fun m ρ _ => Cert.InWeight.Ref.frame m ρ,
  fun m ρ _ => Cert.Kernel11.Gen.frame m ρ, fun m ρ _ => Cert.Kernel11Ideal.Gen.frame m ρ, fun m ρ _ => Cert.OutWeight.Ref.frame m ρ,
  fun m ρ _ => Cert.Kernel12.Gen.frame m ρ, fun m ρ _ => Cert.Kernel12Ideal.Gen.frame m ρ, fun m ρ _ => Cert.Tail.Ref.frame m ρ,
  fun m ρ _ => Cert.Kernel13.Gen.frame m ρ, fun m ρ _ => Cert.Kernel13Ideal.Gen.frame m ρ, fun m ρ _ => Cert.Gather.Ref.frame m ρ,
  fun m ρ _ => Cert.Kernel14.Gen.frame m ρ, fun m ρ _ => Cert.Kernel14Ideal.Gen.frame m ρ, fun m ρ _ => Cert.Scatter.Ref.frame m ρ,
  trivial, loss_value, trivial, @Cert.DnPre.value Cert.DnPre.pre_facts, trivial, Cert.NormBwd.value,
  trivial, @Cert.S5Prep.value Cert.S5Prep.pre_facts,
  trivial, Cert.DnFwd.value, trivial, Cert.InProj.value, trivial, Cert.AcFwd.value, trivial, Cert.OutProj.value, trivial, Cert.Adam.value,
  trivial, Cert.InWeight.value, trivial, Cert.OutWeight.value, trivial, Cert.Tail.value,
  trivial, Cert.Gather.value, trivial, Cert.Scatter.value⟩

end Cert.Proof

end
